-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down [hPre_offsets_nonneg : Cert.Pre_offsets_nonneg.Facts] (m : (ℓ : Loc Cert.Down.nD Cert.Down.τ Cert.Down.sig) → Buf (Elt Bits) ℓ) : Prop :=
  ∀ c : Dev Cert.Down.nD,
    (Cert.Pre_offsets_nonneg.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_offsets_nonneg : Cert.Pre_offsets_nonneg.Facts] (m : (ℓ : Loc Cert.DownIdeal.nD Cert.DownIdeal.τ Cert.DownIdeal.sig) → Buf (Elt Ideal) ℓ) : Prop :=
  ∀ c : Dev Cert.DownIdeal.nD,
    (Cert.Pre_offsets_nonneg.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_offsets_nonneg [hPre_offsets_nonneg : Cert.Pre_offsets_nonneg.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_offsets_nonneg.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_GateUp [hPre_groups_inside : Cert.Pre_groups_inside.Facts] (m : (ℓ : Loc Cert.GateUp.nD Cert.GateUp.τ Cert.GateUp.sig) → Buf (Elt Bits) ℓ) : Prop :=
  ∀ c : Dev Cert.GateUp.nD,
    (Cert.Pre_groups_inside.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5)) (m ((c.tc : Thread Cert.GateUp.nD Cert.GateUp.τ).loc Cert.GateUp.main_arg6))) = (fun _ => 1#1)

def Pre_GateUpIdeal [hPre_groups_inside : Cert.Pre_groups_inside.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_groups_inside.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6))) = (fun _ => 1#1)

def Pre_GateUpReferenceIdeal (m : (ℓ : Loc Cert.GateUpReferenceIdeal.nD Cert.GateUpReferenceIdeal.τ Cert.GateUpReferenceIdeal.sig) → Buf (Elt Ideal) ℓ) : Prop :=
  True

def Pre_GateUpReferenceIdeal_groups_inside [hPre_groups_inside : Cert.Pre_groups_inside.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_groups_inside.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5)) (m ((c.tc : Thread Cert.GateUpReferenceIdeal.nD Cert.GateUpReferenceIdeal.τ).loc Cert.GateUpReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] [hPre_offsets_nonneg : Cert.Pre_offsets_nonneg.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_offsets_nonneg : Cert.Pre_offsets_nonneg.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_offsets_nonneg [hDownReferenceIdeal : Cert.DownReferenceIdeal.Facts] [hPre_offsets_nonneg : Cert.Pre_offsets_nonneg.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_offsets_nonneg m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_GateUp [hGateUp : Cert.GateUp.Facts] [hPre_groups_inside : Cert.Pre_groups_inside.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] [hPre_groups_inside : Cert.Pre_groups_inside.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6))
      ∧ r.2.sem = fun _ => 0)

def quiescent_GateUpReferenceIdeal_pre_groups_inside [hGateUpReferenceIdeal : Cert.GateUpReferenceIdeal.Facts] [hPre_groups_inside : Cert.Pre_groups_inside.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal_groups_inside m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal [hDownIdeal : Cert.DownIdeal.Facts] [hDownReferenceIdeal : Cert.DownReferenceIdeal.Facts] [hPre_offsets_nonneg : Cert.Pre_offsets_nonneg.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v14)) (v1 : (c : Dev Cert.DownIdeal.nD) → Buf (Elt Ideal) ((c.tc : Thread Cert.DownIdeal.nD Cert.DownIdeal.τ).loc Cert.DownIdeal.main_v15)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v14) = v0 c
          ∧ r.2.mem ((c.tc : Thread Cert.DownIdeal.nD Cert.DownIdeal.τ).loc Cert.DownIdeal.main_v15) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v62) = v0 c
          ∧ r.2.mem ((c.tc : Thread Cert.DownReferenceIdeal.nD Cert.DownReferenceIdeal.τ).loc Cert.DownReferenceIdeal.main_v63) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_GateUp_GateUpIdeal : Prop :=
  True

def algebraic_GateUpIdeal_GateUpReferenceIdeal [hGateUpIdeal : Cert.GateUpIdeal.Facts] [hGateUpReferenceIdeal : Cert.GateUpReferenceIdeal.Facts] [hPre_groups_inside : Cert.Pre_groups_inside.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)
      ∧ m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v12_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v12_2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v48) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5)
          ∧ r.2.mem ((c.tc : Thread Cert.GateUpReferenceIdeal.nD Cert.GateUpReferenceIdeal.τ).loc Cert.GateUpReferenceIdeal.main_arg6) = m' ((c.tc : Thread Cert.GateUpReferenceIdeal.nD Cert.GateUpReferenceIdeal.τ).loc Cert.GateUpReferenceIdeal.main_arg6))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hPre_offsets_nonneg : Cert.Pre_offsets_nonneg.Facts) (hPre_groups_inside : Cert.Pre_groups_inside.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown) (hPre_offsets_nonneg := hPre_offsets_nonneg)
    ∧ quiescent_DownIdeal (hDownIdeal := hDownIdeal) (hPre_offsets_nonneg := hPre_offsets_nonneg)
    ∧ quiescent_DownReferenceIdeal (hDownReferenceIdeal := hDownReferenceIdeal)
    ∧ quiescent_DownReferenceIdeal_pre_offsets_nonneg (hDownReferenceIdeal := hDownReferenceIdeal) (hPre_offsets_nonneg := hPre_offsets_nonneg)
    ∧ quiescent_GateUp (hGateUp := hGateUp) (hPre_groups_inside := hPre_groups_inside)
    ∧ quiescent_GateUpIdeal (hGateUpIdeal := hGateUpIdeal) (hPre_groups_inside := hPre_groups_inside)
    ∧ quiescent_GateUpReferenceIdeal (hGateUpReferenceIdeal := hGateUpReferenceIdeal)
    ∧ quiescent_GateUpReferenceIdeal_pre_groups_inside (hGateUpReferenceIdeal := hGateUpReferenceIdeal) (hPre_groups_inside := hPre_groups_inside)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal) (hPre_offsets_nonneg := hPre_offsets_nonneg)
    ∧ preserves_GateUp_GateUpIdeal
    ∧ algebraic_GateUpIdeal_GateUpReferenceIdeal (hGateUpIdeal := hGateUpIdeal) (hGateUpReferenceIdeal := hGateUpReferenceIdeal) (hPre_groups_inside := hPre_groups_inside)
-- ==== Pre_groups_inside.lean ====
abbrev S8 : Shape := ⟨1, ![8]⟩
abbrev S2560x6144 : Shape := ⟨2, ![2560, 6144]⟩
abbrev S2560 : Shape := ⟨1, ![2560]⟩
abbrev S8x6144x2048 : Shape := ⟨3, ![8, 6144, 2048]⟩
abbrev S8x2048 : Shape := ⟨2, ![8, 2048]⟩
abbrev S_ : Shape := ⟨0, ![]⟩

class Facts : Prop where
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S8 : S_.BroadcastsInDim S8 (![] : Fin 0 → Fin S8.rank)

variable [Facts]

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn {F : FTy → Type} [FloatOps F] (main_arg0 : IVec S8 32) (main_arg1 : FVec F S2560x6144 .fp8e4m3) (main_arg2 : FVec F S2560 .f32) (main_arg3 : FVec F S8x6144x2048 .fp8e4m3) (main_arg4 : FVec F S8x2048 .f32) (main_arg5 : FVec F S8x6144x2048 .fp8e4m3) (main_arg6 : FVec F S8x2048 .f32) : IVec S8 1 :=
  let main_v0 : IVec S8 32 := fn_cumsum (F := F) main_arg0
  let main_v1 : IVec S8 32 := subi main_v0 main_arg0
  let main_c : IVec S_ 32 := constantI S_ 32 0#32
  let main_v2 : IVec S8 32 := broadcastInDim S8 ![] bcast_S_S8 main_c
  let main_v3 : IVec S8 1 := cmpi .sge main_v1 main_v2
  let main_c_0 : IVec S_ 32 := constantI S_ 32 2560#32
  let main_v4 : IVec S8 32 := broadcastInDim S8 ![] bcast_S_S8 main_c_0
  let main_v5 : IVec S8 32 := subi main_v4 main_v1
  let main_v6 : IVec S8 1 := cmpi .sle main_arg0 main_v5
  let main_v7 : IVec S8 1 := andi main_v3 main_v6
  main_v7
-- ==== Pre_offsets_nonneg.lean ====
abbrev S8 : Shape := ⟨1, ![8]⟩
abbrev S2560x2048 : Shape := ⟨2, ![2560, 2048]⟩
abbrev S2560x128 : Shape := ⟨2, ![2560, 128]⟩
abbrev S8x36x256x256 : Shape := ⟨4, ![8, 36, 256, 256]⟩
abbrev S_ : Shape := ⟨0, ![]⟩

class Facts : Prop where
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S_S8 : S_.BroadcastsInDim S8 (![] : Fin 0 → Fin S8.rank)

variable [Facts]

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn {F : FTy → Type} [FloatOps F] (main_arg0 : IVec S8 32) (main_arg1 : FVec F S2560x2048 .fp8e4m3) (main_arg2 : FVec F S2560x128 .f32) (main_arg3 : FVec F S8x36x256x256 .f32) (main_arg4 : IVec S8 32) : IVec S8 1 :=
  let main_v0 : IVec S8 32 := fn_cumsum (F := F) main_arg0
  let main_v1 : IVec S8 32 := subi main_v0 main_arg0
  let main_c : IVec S_ 32 := constantI S_ 32 0#32
  let main_v2 : IVec S8 32 := broadcastInDim S8 ![] bcast_S_S8 main_c
  let main_v3 : IVec S8 1 := cmpi .sge main_v1 main_v2
  main_v3
-- ==== Kernel.lean ====
abbrev S2560x6144 : Shape := ⟨2, ![2560, 6144]⟩
abbrev S2560 : Shape := ⟨1, ![2560]⟩
abbrev S300x256x256 : Shape := ⟨3, ![300, 256, 256]⟩
abbrev S1 : Shape := ⟨1, ![1]⟩
abbrev S300 : Shape := ⟨1, ![300]⟩
abbrev S_ : Shape := ⟨0, ![]⟩
abbrev S2560x1 : Shape := ⟨2, ![2560, 1]⟩
abbrev S2 : Shape := ⟨1, ![2]⟩
abbrev S1x6144 : Shape := ⟨2, ![1, 6144]⟩
abbrev S4x256x256 : Shape := ⟨3, ![4, 256, 256]⟩
abbrev S256x2560 : Shape := ⟨2, ![256, 2560]⟩
abbrev S1x256 : Shape := ⟨2, ![1, 256]⟩
abbrev S256x1 : Shape := ⟨2, ![256, 1]⟩
abbrev S256x256 : Shape := ⟨2, ![256, 256]⟩
abbrev S256 : Shape := ⟨1, ![256]⟩
abbrev S2560x256 : Shape := ⟨2, ![2560, 256]⟩
abbrev S1x256x256 : Shape := ⟨3, ![1, 256, 256]⟩

abbrev nBuf : Space → Nat
  | .hbm => 20
  | .vmem => 8
  | .smem => 3
  | _ => 0

abbrev bufTy : (tb : Table) → Fin (tcTables nBuf tb) → BufTy
  | .hbm, ⟨0, _⟩ => ⟨S2560x6144, .fp8e4m3⟩
  | .hbm, ⟨1, _⟩ => ⟨S2560, .f32⟩
  | .hbm, ⟨2, _⟩ => ⟨S300x256x256, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2560x1, .f32⟩
  | .hbm, ⟨8, _⟩ => ⟨S_, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S2, .f32⟩
  | .hbm, ⟨18, _⟩ => ⟨S300x256x256, .f32⟩
  | .hbm, ⟨19, _⟩ => ⟨S1x6144, .f32⟩
  | .local _ .vmem, ⟨0, _⟩ => ⟨S2560x6144, .fp8e4m3⟩
  | .local _ .vmem, ⟨1, _⟩ => ⟨S2560x1, .f32⟩
  | .local _ .vmem, ⟨2, _⟩ => ⟨S4x256x256, .f32⟩
  | .local _ .vmem, ⟨3, _⟩ => ⟨S4x256x256, .f32⟩
  | .local _ .vmem, ⟨4, _⟩ => ⟨S4x256x256, .f32⟩
  | .local _ .vmem, ⟨5, _⟩ => ⟨S4x256x256, .f32⟩
  | .local _ .vmem, ⟨6, _⟩ => ⟨S1x6144, .f32⟩
  | .local _ .vmem, ⟨7, _⟩ => ⟨S256x2560, .bf16⟩
  | .local _ .smem, ⟨0, _⟩ => ⟨S300, .i32⟩
  | .local _ .smem, ⟨1, _⟩ => ⟨S300, .i32⟩
  | .local _ .smem, ⟨2, _⟩ => ⟨S2, .f32⟩
  | _, _ => ⟨S2560x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg0_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![75], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k0_mult1 (v3 : BitVec 32) : BitVec 32 :=
  let c256_i32 : BitVec 32 := 256#32
  let v6 : BitVec 32 := Scalar.muli v3 c256_i32
  v6

def k0_chk1 (v3 : BitVec 32) : Prop :=
  (256 ∣ (k0_mult1 v3).toNat)
theorem k0_mult1_dvd : ∀ (v3 : BitVec 32) (k0_hw1 : k0_chk1 v3), 256 ∣ (k0_mult1 v3).toNat := fun v3 k0_hw1 => k0_hw1

def k0_mult2 (v5 : BitVec 32) : BitVec 32 :=
  let c256_i32_0 : BitVec 32 := 256#32
  let v8 : BitVec 32 := Scalar.muli v5 c256_i32_0
  v8

def k0_off2 (v3 : BitVec 32) : Fin 2 → Nat :=
  let c0_60 : Index := 0#32
  let c256_i32 : BitVec 32 := 256#32
  let v6 : BitVec 32 := Scalar.muli v3 c256_i32
  let v7 : BitVec 32 := v6
  let v123 : Index := Scalar.indexCast v7
  ![0, v123.toNat]
def k0_cond1 (v3 : BitVec 32) (v5 : BitVec 32) : BitVec 1 :=
  let v10 : BitVec 1 := Scalar.cmpi .eq v3 v5
  let v11 : BitVec 32 := Scalar.extui v10
  let c0_i32_1 : BitVec 32 := 0#32
  let v12 : BitVec 1 := Scalar.cmpi .ne v11 c0_i32_1
  v12

def k0_off3 (v3 : BitVec 32) : Fin 2 → Nat :=
  let c256_65 : Index := 256#32
  let c256_i32 : BitVec 32 := 256#32
  let v6 : BitVec 32 := Scalar.muli v3 c256_i32
  let v7 : BitVec 32 := v6
  let v142 : Index := Scalar.indexCast v7
  ![256, v142.toNat]
def k0_off4 (v3 : BitVec 32) : Fin 2 → Nat :=
  let c512_70 : Index := 512#32
  let c256_i32 : BitVec 32 := 256#32
  let v6 : BitVec 32 := Scalar.muli v3 c256_i32
  let v7 : BitVec 32 := v6
  let v161 : Index := Scalar.indexCast v7
  ![512, v161.toNat]
def k0_off5 (v3 : BitVec 32) : Fin 2 → Nat :=
  let c768_75 : Index := 768#32
  let c256_i32 : BitVec 32 := 256#32
  let v6 : BitVec 32 := Scalar.muli v3 c256_i32
  let v7 : BitVec 32 := v6
  let v180 : Index := Scalar.indexCast v7
  ![768, v180.toNat]
def k0_off6 (v3 : BitVec 32) : Fin 2 → Nat :=
  let c1024_80 : Index := 1024#32
  let c256_i32 : BitVec 32 := 256#32
  let v6 : BitVec 32 := Scalar.muli v3 c256_i32
  let v7 : BitVec 32 := v6
  let v199 : Index := Scalar.indexCast v7
  ![1024, v199.toNat]
def k0_off7 (v3 : BitVec 32) : Fin 2 → Nat :=
  let c1280_85 : Index := 1280#32
  let c256_i32 : BitVec 32 := 256#32
  let v6 : BitVec 32 := Scalar.muli v3 c256_i32
  let v7 : BitVec 32 := v6
  let v218 : Index := Scalar.indexCast v7
  ![1280, v218.toNat]
def k0_off8 (v3 : BitVec 32) : Fin 2 → Nat :=
  let c1536_90 : Index := 1536#32
  let c256_i32 : BitVec 32 := 256#32
  let v6 : BitVec 32 := Scalar.muli v3 c256_i32
  let v7 : BitVec 32 := v6
  let v237 : Index := Scalar.indexCast v7
  ![1536, v237.toNat]
def k0_off9 (v3 : BitVec 32) : Fin 2 → Nat :=
  let c1792_95 : Index := 1792#32
  let c256_i32 : BitVec 32 := 256#32
  let v6 : BitVec 32 := Scalar.muli v3 c256_i32
  let v7 : BitVec 32 := v6
  let v256 : Index := Scalar.indexCast v7
  ![1792, v256.toNat]
def k0_off10 (v3 : BitVec 32) : Fin 2 → Nat :=
  let c2048_100 : Index := 2048#32
  let c256_i32 : BitVec 32 := 256#32
  let v6 : BitVec 32 := Scalar.muli v3 c256_i32
  let v7 : BitVec 32 := v6
  let v275 : Index := Scalar.indexCast v7
  ![2048, v275.toNat]
def k0_off11 (v3 : BitVec 32) : Fin 2 → Nat :=
  let c2304_105 : Index := 2304#32
  let c256_i32 : BitVec 32 := 256#32
  let v6 : BitVec 32 := Scalar.muli v3 c256_i32
  let v7 : BitVec 32 := v6
  let v294 : Index := Scalar.indexCast v7
  ![2304, v294.toNat]
def k0_off12 (v3 : BitVec 32) : Fin 2 → Nat :=
  let c0_110 : Index := 0#32
  let c256_i32 : BitVec 32 := 256#32
  let v6 : BitVec 32 := Scalar.muli v3 c256_i32
  let v7 : BitVec 32 := v6
  let v313 : Index := Scalar.indexCast v7
  ![0, v313.toNat]
def k0_off13 (v5 : BitVec 32) : Fin 2 → Nat :=
  let c0_3 : Index := 0#32
  let c256_i32_0 : BitVec 32 := 256#32
  let v8 : BitVec 32 := Scalar.muli v5 c256_i32_0
  let v9 : BitVec 32 := v8
  let v14 : Index := Scalar.indexCast v9
  ![0, v14.toNat]

def k0_chk2 (v3 : BitVec 32) (v5 : BitVec 32) : Prop :=
  (256 ∣ (k0_mult2 v5).toNat) ∧
  (∀ (k0_h1 : k0_cond1 v3 v5 = 1#1), ∀ a, (k0_off2 v3) a + S256x256.size a ≤ S2560x6144.size a) ∧
  (∀ (k0_h1 : k0_cond1 v3 v5 = 1#1), ∀ a, (k0_off3 v3) a + S256x256.size a ≤ S2560x6144.size a) ∧
  (∀ (k0_h1 : k0_cond1 v3 v5 = 1#1), ∀ a, (k0_off4 v3) a + S256x256.size a ≤ S2560x6144.size a) ∧
  (∀ (k0_h1 : k0_cond1 v3 v5 = 1#1), ∀ a, (k0_off5 v3) a + S256x256.size a ≤ S2560x6144.size a) ∧
  (∀ (k0_h1 : k0_cond1 v3 v5 = 1#1), ∀ a, (k0_off6 v3) a + S256x256.size a ≤ S2560x6144.size a) ∧
  (∀ (k0_h1 : k0_cond1 v3 v5 = 1#1), ∀ a, (k0_off7 v3) a + S256x256.size a ≤ S2560x6144.size a) ∧
  (∀ (k0_h1 : k0_cond1 v3 v5 = 1#1), ∀ a, (k0_off8 v3) a + S256x256.size a ≤ S2560x6144.size a) ∧
  (∀ (k0_h1 : k0_cond1 v3 v5 = 1#1), ∀ a, (k0_off9 v3) a + S256x256.size a ≤ S2560x6144.size a) ∧
  (∀ (k0_h1 : k0_cond1 v3 v5 = 1#1), ∀ a, (k0_off10 v3) a + S256x256.size a ≤ S2560x6144.size a) ∧
  (∀ (k0_h1 : k0_cond1 v3 v5 = 1#1), ∀ a, (k0_off11 v3) a + S256x256.size a ≤ S2560x6144.size a) ∧
  (∀ (k0_h1 : k0_cond1 v3 v5 = 1#1), ∀ a, (k0_off12 v3) a + S1x256.size a ≤ S1x6144.size a) ∧
  (∀ a, (k0_off13 v5) a + S2560x256.size a ≤ S2560x6144.size a)
theorem k0_mult2_dvd : ∀ (v3 : BitVec 32) (v5 : BitVec 32) (k0_hw2 : k0_chk2 v3 v5), 256 ∣ (k0_mult2 v5).toNat := fun v3 v5 k0_hw2 => k0_hw2.1
theorem k0_off2_inb : ∀ (v3 : BitVec 32) (v5 : BitVec 32) (k0_hw2 : k0_chk2 v3 v5), ∀ (k0_h1 : k0_cond1 v3 v5 = 1#1), ∀ a, (k0_off2 v3) a + S256x256.size a ≤ S2560x6144.size a := fun v3 v5 k0_hw2 k0_h1 => k0_hw2.2.1 k0_h1
theorem k0_off3_inb : ∀ (v3 : BitVec 32) (v5 : BitVec 32) (k0_hw2 : k0_chk2 v3 v5), ∀ (k0_h1 : k0_cond1 v3 v5 = 1#1), ∀ a, (k0_off3 v3) a + S256x256.size a ≤ S2560x6144.size a := fun v3 v5 k0_hw2 k0_h1 => k0_hw2.2.2.1 k0_h1
theorem k0_off4_inb : ∀ (v3 : BitVec 32) (v5 : BitVec 32) (k0_hw2 : k0_chk2 v3 v5), ∀ (k0_h1 : k0_cond1 v3 v5 = 1#1), ∀ a, (k0_off4 v3) a + S256x256.size a ≤ S2560x6144.size a := fun v3 v5 k0_hw2 k0_h1 => k0_hw2.2.2.2.1 k0_h1
theorem k0_off5_inb : ∀ (v3 : BitVec 32) (v5 : BitVec 32) (k0_hw2 : k0_chk2 v3 v5), ∀ (k0_h1 : k0_cond1 v3 v5 = 1#1), ∀ a, (k0_off5 v3) a + S256x256.size a ≤ S2560x6144.size a := fun v3 v5 k0_hw2 k0_h1 => k0_hw2.2.2.2.2.1 k0_h1
theorem k0_off6_inb : ∀ (v3 : BitVec 32) (v5 : BitVec 32) (k0_hw2 : k0_chk2 v3 v5), ∀ (k0_h1 : k0_cond1 v3 v5 = 1#1), ∀ a, (k0_off6 v3) a + S256x256.size a ≤ S2560x6144.size a := fun v3 v5 k0_hw2 k0_h1 => k0_hw2.2.2.2.2.2.1 k0_h1
theorem k0_off7_inb : ∀ (v3 : BitVec 32) (v5 : BitVec 32) (k0_hw2 : k0_chk2 v3 v5), ∀ (k0_h1 : k0_cond1 v3 v5 = 1#1), ∀ a, (k0_off7 v3) a + S256x256.size a ≤ S2560x6144.size a := fun v3 v5 k0_hw2 k0_h1 => k0_hw2.2.2.2.2.2.2.1 k0_h1
theorem k0_off8_inb : ∀ (v3 : BitVec 32) (v5 : BitVec 32) (k0_hw2 : k0_chk2 v3 v5), ∀ (k0_h1 : k0_cond1 v3 v5 = 1#1), ∀ a, (k0_off8 v3) a + S256x256.size a ≤ S2560x6144.size a := fun v3 v5 k0_hw2 k0_h1 => k0_hw2.2.2.2.2.2.2.2.1 k0_h1
theorem k0_off9_inb : ∀ (v3 : BitVec 32) (v5 : BitVec 32) (k0_hw2 : k0_chk2 v3 v5), ∀ (k0_h1 : k0_cond1 v3 v5 = 1#1), ∀ a, (k0_off9 v3) a + S256x256.size a ≤ S2560x6144.size a := fun v3 v5 k0_hw2 k0_h1 => k0_hw2.2.2.2.2.2.2.2.2.1 k0_h1
theorem k0_off10_inb : ∀ (v3 : BitVec 32) (v5 : BitVec 32) (k0_hw2 : k0_chk2 v3 v5), ∀ (k0_h1 : k0_cond1 v3 v5 = 1#1), ∀ a, (k0_off10 v3) a + S256x256.size a ≤ S2560x6144.size a := fun v3 v5 k0_hw2 k0_h1 => k0_hw2.2.2.2.2.2.2.2.2.2.1 k0_h1
theorem k0_off11_inb : ∀ (v3 : BitVec 32) (v5 : BitVec 32) (k0_hw2 : k0_chk2 v3 v5), ∀ (k0_h1 : k0_cond1 v3 v5 = 1#1), ∀ a, (k0_off11 v3) a + S256x256.size a ≤ S2560x6144.size a := fun v3 v5 k0_hw2 k0_h1 => k0_hw2.2.2.2.2.2.2.2.2.2.2.1 k0_h1
theorem k0_off12_inb : ∀ (v3 : BitVec 32) (v5 : BitVec 32) (k0_hw2 : k0_chk2 v3 v5), ∀ (k0_h1 : k0_cond1 v3 v5 = 1#1), ∀ a, (k0_off12 v3) a + S1x256.size a ≤ S1x6144.size a := fun v3 v5 k0_hw2 k0_h1 => k0_hw2.2.2.2.2.2.2.2.2.2.2.2.1 k0_h1
theorem k0_off13_inb : ∀ (v3 : BitVec 32) (v5 : BitVec 32) (k0_hw2 : k0_chk2 v3 v5), ∀ a, (k0_off13 v5) a + S2560x256.size a ≤ S2560x6144.size a := fun v3 v5 k0_hw2 => k0_hw2.2.2.2.2.2.2.2.2.2.2.2.2

def k0_off14 (i : grid0.Coords) : Fin 1 → Nat :=
  let arg0 : BitVec 32 := BitVec.ofNat 32 (i 0).val
  let c4_i32_11 : BitVec 32 := 4#32
  let v30 : BitVec 32 := Scalar.muli arg0 c4_i32_11
  let c1_i32 : BitVec 32 := 1#32
  let v31 : BitVec 32 := Scalar.addi v30 c1_i32
  let v32 : Index := Scalar.indexCast v31
  ![v32.toNat]
def k0_mult3 (v33 : BitVec 32) : BitVec 32 :=
  let c256_i32_12 : BitVec 32 := 256#32
  let v36 : BitVec 32 := Scalar.muli v33 c256_i32_12
  v36

def k0_chk3 (v33 : BitVec 32) : Prop :=
  (256 ∣ (k0_mult3 v33).toNat)
theorem k0_mult3_dvd : ∀ (v33 : BitVec 32) (k0_hw3 : k0_chk3 v33), 256 ∣ (k0_mult3 v33).toNat := fun v33 k0_hw3 => k0_hw3

def k0_mult4 (v35 : BitVec 32) : BitVec 32 :=
  let c256_i32_13 : BitVec 32 := 256#32
  let v38 : BitVec 32 := Scalar.muli v35 c256_i32_13
  v38

def k0_off15 (v33 : BitVec 32) : Fin 2 → Nat :=
  let c0_60 : Index := 0#32
  let c256_i32_12 : BitVec 32 := 256#32
  let v36 : BitVec 32 := Scalar.muli v33 c256_i32_12
  let v37 : BitVec 32 := v36
  let v123 : Index := Scalar.indexCast v37
  ![0, v123.toNat]
def k0_cond2 (v33 : BitVec 32) (v35 : BitVec 32) : BitVec 1 :=
  let v40 : BitVec 1 := Scalar.cmpi .eq v33 v35
  let v41 : BitVec 32 := Scalar.extui v40
  let c0_i32_14 : BitVec 32 := 0#32
  let v42 : BitVec 1 := Scalar.cmpi .ne v41 c0_i32_14
  v42

def k0_off16 (v33 : BitVec 32) : Fin 2 → Nat :=
  let c256_65 : Index := 256#32
  let c256_i32_12 : BitVec 32 := 256#32
  let v36 : BitVec 32 := Scalar.muli v33 c256_i32_12
  let v37 : BitVec 32 := v36
  let v142 : Index := Scalar.indexCast v37
  ![256, v142.toNat]
def k0_off17 (v33 : BitVec 32) : Fin 2 → Nat :=
  let c512_70 : Index := 512#32
  let c256_i32_12 : BitVec 32 := 256#32
  let v36 : BitVec 32 := Scalar.muli v33 c256_i32_12
  let v37 : BitVec 32 := v36
  let v161 : Index := Scalar.indexCast v37
  ![512, v161.toNat]
def k0_off18 (v33 : BitVec 32) : Fin 2 → Nat :=
  let c768_75 : Index := 768#32
  let c256_i32_12 : BitVec 32 := 256#32
  let v36 : BitVec 32 := Scalar.muli v33 c256_i32_12
  let v37 : BitVec 32 := v36
  let v180 : Index := Scalar.indexCast v37
  ![768, v180.toNat]
def k0_off19 (v33 : BitVec 32) : Fin 2 → Nat :=
  let c1024_80 : Index := 1024#32
  let c256_i32_12 : BitVec 32 := 256#32
  let v36 : BitVec 32 := Scalar.muli v33 c256_i32_12
  let v37 : BitVec 32 := v36
  let v199 : Index := Scalar.indexCast v37
  ![1024, v199.toNat]
def k0_off20 (v33 : BitVec 32) : Fin 2 → Nat :=
  let c1280_85 : Index := 1280#32
  let c256_i32_12 : BitVec 32 := 256#32
  let v36 : BitVec 32 := Scalar.muli v33 c256_i32_12
  let v37 : BitVec 32 := v36
  let v218 : Index := Scalar.indexCast v37
  ![1280, v218.toNat]
def k0_off21 (v33 : BitVec 32) : Fin 2 → Nat :=
  let c1536_90 : Index := 1536#32
  let c256_i32_12 : BitVec 32 := 256#32
  let v36 : BitVec 32 := Scalar.muli v33 c256_i32_12
  let v37 : BitVec 32 := v36
  let v237 : Index := Scalar.indexCast v37
  ![1536, v237.toNat]
def k0_off22 (v33 : BitVec 32) : Fin 2 → Nat :=
  let c1792_95 : Index := 1792#32
  let c256_i32_12 : BitVec 32 := 256#32
  let v36 : BitVec 32 := Scalar.muli v33 c256_i32_12
  let v37 : BitVec 32 := v36
  let v256 : Index := Scalar.indexCast v37
  ![1792, v256.toNat]
def k0_off23 (v33 : BitVec 32) : Fin 2 → Nat :=
  let c2048_100 : Index := 2048#32
  let c256_i32_12 : BitVec 32 := 256#32
  let v36 : BitVec 32 := Scalar.muli v33 c256_i32_12
  let v37 : BitVec 32 := v36
  let v275 : Index := Scalar.indexCast v37
  ![2048, v275.toNat]
def k0_off24 (v33 : BitVec 32) : Fin 2 → Nat :=
  let c2304_105 : Index := 2304#32
  let c256_i32_12 : BitVec 32 := 256#32
  let v36 : BitVec 32 := Scalar.muli v33 c256_i32_12
  let v37 : BitVec 32 := v36
  let v294 : Index := Scalar.indexCast v37
  ![2304, v294.toNat]
def k0_off25 (v33 : BitVec 32) : Fin 2 → Nat :=
  let c0_110 : Index := 0#32
  let c256_i32_12 : BitVec 32 := 256#32
  let v36 : BitVec 32 := Scalar.muli v33 c256_i32_12
  let v37 : BitVec 32 := v36
  let v313 : Index := Scalar.indexCast v37
  ![0, v313.toNat]
def k0_off26 (v35 : BitVec 32) : Fin 2 → Nat :=
  let c0_17 : Index := 0#32
  let c256_i32_13 : BitVec 32 := 256#32
  let v38 : BitVec 32 := Scalar.muli v35 c256_i32_13
  let v39 : BitVec 32 := v38
  let v44 : Index := Scalar.indexCast v39
  ![0, v44.toNat]

def k0_chk4 (v33 : BitVec 32) (v35 : BitVec 32) : Prop :=
  (256 ∣ (k0_mult4 v35).toNat) ∧
  (∀ (k0_h2 : k0_cond2 v33 v35 = 1#1), ∀ a, (k0_off15 v33) a + S256x256.size a ≤ S2560x6144.size a) ∧
  (∀ (k0_h2 : k0_cond2 v33 v35 = 1#1), ∀ a, (k0_off16 v33) a + S256x256.size a ≤ S2560x6144.size a) ∧
  (∀ (k0_h2 : k0_cond2 v33 v35 = 1#1), ∀ a, (k0_off17 v33) a + S256x256.size a ≤ S2560x6144.size a) ∧
  (∀ (k0_h2 : k0_cond2 v33 v35 = 1#1), ∀ a, (k0_off18 v33) a + S256x256.size a ≤ S2560x6144.size a) ∧
  (∀ (k0_h2 : k0_cond2 v33 v35 = 1#1), ∀ a, (k0_off19 v33) a + S256x256.size a ≤ S2560x6144.size a) ∧
  (∀ (k0_h2 : k0_cond2 v33 v35 = 1#1), ∀ a, (k0_off20 v33) a + S256x256.size a ≤ S2560x6144.size a) ∧
  (∀ (k0_h2 : k0_cond2 v33 v35 = 1#1), ∀ a, (k0_off21 v33) a + S256x256.size a ≤ S2560x6144.size a) ∧
  (∀ (k0_h2 : k0_cond2 v33 v35 = 1#1), ∀ a, (k0_off22 v33) a + S256x256.size a ≤ S2560x6144.size a) ∧
  (∀ (k0_h2 : k0_cond2 v33 v35 = 1#1), ∀ a, (k0_off23 v33) a + S256x256.size a ≤ S2560x6144.size a) ∧
  (∀ (k0_h2 : k0_cond2 v33 v35 = 1#1), ∀ a, (k0_off24 v33) a + S256x256.size a ≤ S2560x6144.size a) ∧
  (∀ (k0_h2 : k0_cond2 v33 v35 = 1#1), ∀ a, (k0_off25 v33) a + S1x256.size a ≤ S1x6144.size a) ∧
  (∀ a, (k0_off26 v35) a + S2560x256.size a ≤ S2560x6144.size a)
theorem k0_mult4_dvd : ∀ (v33 : BitVec 32) (v35 : BitVec 32) (k0_hw4 : k0_chk4 v33 v35), 256 ∣ (k0_mult4 v35).toNat := fun v33 v35 k0_hw4 => k0_hw4.1
theorem k0_off15_inb : ∀ (v33 : BitVec 32) (v35 : BitVec 32) (k0_hw4 : k0_chk4 v33 v35), ∀ (k0_h2 : k0_cond2 v33 v35 = 1#1), ∀ a, (k0_off15 v33) a + S256x256.size a ≤ S2560x6144.size a := fun v33 v35 k0_hw4 k0_h2 => k0_hw4.2.1 k0_h2
theorem k0_off16_inb : ∀ (v33 : BitVec 32) (v35 : BitVec 32) (k0_hw4 : k0_chk4 v33 v35), ∀ (k0_h2 : k0_cond2 v33 v35 = 1#1), ∀ a, (k0_off16 v33) a + S256x256.size a ≤ S2560x6144.size a := fun v33 v35 k0_hw4 k0_h2 => k0_hw4.2.2.1 k0_h2
theorem k0_off17_inb : ∀ (v33 : BitVec 32) (v35 : BitVec 32) (k0_hw4 : k0_chk4 v33 v35), ∀ (k0_h2 : k0_cond2 v33 v35 = 1#1), ∀ a, (k0_off17 v33) a + S256x256.size a ≤ S2560x6144.size a := fun v33 v35 k0_hw4 k0_h2 => k0_hw4.2.2.2.1 k0_h2
theorem k0_off18_inb : ∀ (v33 : BitVec 32) (v35 : BitVec 32) (k0_hw4 : k0_chk4 v33 v35), ∀ (k0_h2 : k0_cond2 v33 v35 = 1#1), ∀ a, (k0_off18 v33) a + S256x256.size a ≤ S2560x6144.size a := fun v33 v35 k0_hw4 k0_h2 => k0_hw4.2.2.2.2.1 k0_h2
theorem k0_off19_inb : ∀ (v33 : BitVec 32) (v35 : BitVec 32) (k0_hw4 : k0_chk4 v33 v35), ∀ (k0_h2 : k0_cond2 v33 v35 = 1#1), ∀ a, (k0_off19 v33) a + S256x256.size a ≤ S2560x6144.size a := fun v33 v35 k0_hw4 k0_h2 => k0_hw4.2.2.2.2.2.1 k0_h2
theorem k0_off20_inb : ∀ (v33 : BitVec 32) (v35 : BitVec 32) (k0_hw4 : k0_chk4 v33 v35), ∀ (k0_h2 : k0_cond2 v33 v35 = 1#1), ∀ a, (k0_off20 v33) a + S256x256.size a ≤ S2560x6144.size a := fun v33 v35 k0_hw4 k0_h2 => k0_hw4.2.2.2.2.2.2.1 k0_h2
theorem k0_off21_inb : ∀ (v33 : BitVec 32) (v35 : BitVec 32) (k0_hw4 : k0_chk4 v33 v35), ∀ (k0_h2 : k0_cond2 v33 v35 = 1#1), ∀ a, (k0_off21 v33) a + S256x256.size a ≤ S2560x6144.size a := fun v33 v35 k0_hw4 k0_h2 => k0_hw4.2.2.2.2.2.2.2.1 k0_h2
theorem k0_off22_inb : ∀ (v33 : BitVec 32) (v35 : BitVec 32) (k0_hw4 : k0_chk4 v33 v35), ∀ (k0_h2 : k0_cond2 v33 v35 = 1#1), ∀ a, (k0_off22 v33) a + S256x256.size a ≤ S2560x6144.size a := fun v33 v35 k0_hw4 k0_h2 => k0_hw4.2.2.2.2.2.2.2.2.1 k0_h2
theorem k0_off23_inb : ∀ (v33 : BitVec 32) (v35 : BitVec 32) (k0_hw4 : k0_chk4 v33 v35), ∀ (k0_h2 : k0_cond2 v33 v35 = 1#1), ∀ a, (k0_off23 v33) a + S256x256.size a ≤ S2560x6144.size a := fun v33 v35 k0_hw4 k0_h2 => k0_hw4.2.2.2.2.2.2.2.2.2.1 k0_h2
theorem k0_off24_inb : ∀ (v33 : BitVec 32) (v35 : BitVec 32) (k0_hw4 : k0_chk4 v33 v35), ∀ (k0_h2 : k0_cond2 v33 v35 = 1#1), ∀ a, (k0_off24 v33) a + S256x256.size a ≤ S2560x6144.size a := fun v33 v35 k0_hw4 k0_h2 => k0_hw4.2.2.2.2.2.2.2.2.2.2.1 k0_h2
theorem k0_off25_inb : ∀ (v33 : BitVec 32) (v35 : BitVec 32) (k0_hw4 : k0_chk4 v33 v35), ∀ (k0_h2 : k0_cond2 v33 v35 = 1#1), ∀ a, (k0_off25 v33) a + S1x256.size a ≤ S1x6144.size a := fun v33 v35 k0_hw4 k0_h2 => k0_hw4.2.2.2.2.2.2.2.2.2.2.2.1 k0_h2
theorem k0_off26_inb : ∀ (v33 : BitVec 32) (v35 : BitVec 32) (k0_hw4 : k0_chk4 v33 v35), ∀ a, (k0_off26 v35) a + S2560x256.size a ≤ S2560x6144.size a := fun v33 v35 k0_hw4 => k0_hw4.2.2.2.2.2.2.2.2.2.2.2.2

def k0_off27 (i : grid0.Coords) : Fin 1 → Nat :=
  let arg0 : BitVec 32 := BitVec.ofNat 32 (i 0).val
  let c4_i32_27 : BitVec 32 := 4#32
  let v60 : BitVec 32 := Scalar.muli arg0 c4_i32_27
  let c2_i32 : BitVec 32 := 2#32
  let v61 : BitVec 32 := Scalar.addi v60 c2_i32
  let v62 : Index := Scalar.indexCast v61
  ![v62.toNat]
def k0_mult5 (v63 : BitVec 32) : BitVec 32 :=
  let c256_i32_28 : BitVec 32 := 256#32
  let v66 : BitVec 32 := Scalar.muli v63 c256_i32_28
  v66

def k0_chk5 (v63 : BitVec 32) : Prop :=
  (256 ∣ (k0_mult5 v63).toNat)
theorem k0_mult5_dvd : ∀ (v63 : BitVec 32) (k0_hw5 : k0_chk5 v63), 256 ∣ (k0_mult5 v63).toNat := fun v63 k0_hw5 => k0_hw5

def k0_mult6 (v65 : BitVec 32) : BitVec 32 :=
  let c256_i32_29 : BitVec 32 := 256#32
  let v68 : BitVec 32 := Scalar.muli v65 c256_i32_29
  v68

def k0_off28 (v63 : BitVec 32) : Fin 2 → Nat :=
  let c0_60 : Index := 0#32
  let c256_i32_28 : BitVec 32 := 256#32
  let v66 : BitVec 32 := Scalar.muli v63 c256_i32_28
  let v67 : BitVec 32 := v66
  let v123 : Index := Scalar.indexCast v67
  ![0, v123.toNat]
def k0_cond3 (v63 : BitVec 32) (v65 : BitVec 32) : BitVec 1 :=
  let v70 : BitVec 1 := Scalar.cmpi .eq v63 v65
  let v71 : BitVec 32 := Scalar.extui v70
  let c0_i32_30 : BitVec 32 := 0#32
  let v72 : BitVec 1 := Scalar.cmpi .ne v71 c0_i32_30
  v72

def k0_off29 (v63 : BitVec 32) : Fin 2 → Nat :=
  let c256_65 : Index := 256#32
  let c256_i32_28 : BitVec 32 := 256#32
  let v66 : BitVec 32 := Scalar.muli v63 c256_i32_28
  let v67 : BitVec 32 := v66
  let v142 : Index := Scalar.indexCast v67
  ![256, v142.toNat]
def k0_off30 (v63 : BitVec 32) : Fin 2 → Nat :=
  let c512_70 : Index := 512#32
  let c256_i32_28 : BitVec 32 := 256#32
  let v66 : BitVec 32 := Scalar.muli v63 c256_i32_28
  let v67 : BitVec 32 := v66
  let v161 : Index := Scalar.indexCast v67
  ![512, v161.toNat]
def k0_off31 (v63 : BitVec 32) : Fin 2 → Nat :=
  let c768_75 : Index := 768#32
  let c256_i32_28 : BitVec 32 := 256#32
  let v66 : BitVec 32 := Scalar.muli v63 c256_i32_28
  let v67 : BitVec 32 := v66
  let v180 : Index := Scalar.indexCast v67
  ![768, v180.toNat]
def k0_off32 (v63 : BitVec 32) : Fin 2 → Nat :=
  let c1024_80 : Index := 1024#32
  let c256_i32_28 : BitVec 32 := 256#32
  let v66 : BitVec 32 := Scalar.muli v63 c256_i32_28
  let v67 : BitVec 32 := v66
  let v199 : Index := Scalar.indexCast v67
  ![1024, v199.toNat]
def k0_off33 (v63 : BitVec 32) : Fin 2 → Nat :=
  let c1280_85 : Index := 1280#32
  let c256_i32_28 : BitVec 32 := 256#32
  let v66 : BitVec 32 := Scalar.muli v63 c256_i32_28
  let v67 : BitVec 32 := v66
  let v218 : Index := Scalar.indexCast v67
  ![1280, v218.toNat]
def k0_off34 (v63 : BitVec 32) : Fin 2 → Nat :=
  let c1536_90 : Index := 1536#32
  let c256_i32_28 : BitVec 32 := 256#32
  let v66 : BitVec 32 := Scalar.muli v63 c256_i32_28
  let v67 : BitVec 32 := v66
  let v237 : Index := Scalar.indexCast v67
  ![1536, v237.toNat]
def k0_off35 (v63 : BitVec 32) : Fin 2 → Nat :=
  let c1792_95 : Index := 1792#32
  let c256_i32_28 : BitVec 32 := 256#32
  let v66 : BitVec 32 := Scalar.muli v63 c256_i32_28
  let v67 : BitVec 32 := v66
  let v256 : Index := Scalar.indexCast v67
  ![1792, v256.toNat]
def k0_off36 (v63 : BitVec 32) : Fin 2 → Nat :=
  let c2048_100 : Index := 2048#32
  let c256_i32_28 : BitVec 32 := 256#32
  let v66 : BitVec 32 := Scalar.muli v63 c256_i32_28
  let v67 : BitVec 32 := v66
  let v275 : Index := Scalar.indexCast v67
  ![2048, v275.toNat]
def k0_off37 (v63 : BitVec 32) : Fin 2 → Nat :=
  let c2304_105 : Index := 2304#32
  let c256_i32_28 : BitVec 32 := 256#32
  let v66 : BitVec 32 := Scalar.muli v63 c256_i32_28
  let v67 : BitVec 32 := v66
  let v294 : Index := Scalar.indexCast v67
  ![2304, v294.toNat]
def k0_off38 (v63 : BitVec 32) : Fin 2 → Nat :=
  let c0_110 : Index := 0#32
  let c256_i32_28 : BitVec 32 := 256#32
  let v66 : BitVec 32 := Scalar.muli v63 c256_i32_28
  let v67 : BitVec 32 := v66
  let v313 : Index := Scalar.indexCast v67
  ![0, v313.toNat]
def k0_off39 (v65 : BitVec 32) : Fin 2 → Nat :=
  let c0_33 : Index := 0#32
  let c256_i32_29 : BitVec 32 := 256#32
  let v68 : BitVec 32 := Scalar.muli v65 c256_i32_29
  let v69 : BitVec 32 := v68
  let v74 : Index := Scalar.indexCast v69
  ![0, v74.toNat]

def k0_chk6 (v63 : BitVec 32) (v65 : BitVec 32) : Prop :=
  (256 ∣ (k0_mult6 v65).toNat) ∧
  (∀ (k0_h3 : k0_cond3 v63 v65 = 1#1), ∀ a, (k0_off28 v63) a + S256x256.size a ≤ S2560x6144.size a) ∧
  (∀ (k0_h3 : k0_cond3 v63 v65 = 1#1), ∀ a, (k0_off29 v63) a + S256x256.size a ≤ S2560x6144.size a) ∧
  (∀ (k0_h3 : k0_cond3 v63 v65 = 1#1), ∀ a, (k0_off30 v63) a + S256x256.size a ≤ S2560x6144.size a) ∧
  (∀ (k0_h3 : k0_cond3 v63 v65 = 1#1), ∀ a, (k0_off31 v63) a + S256x256.size a ≤ S2560x6144.size a) ∧
  (∀ (k0_h3 : k0_cond3 v63 v65 = 1#1), ∀ a, (k0_off32 v63) a + S256x256.size a ≤ S2560x6144.size a) ∧
  (∀ (k0_h3 : k0_cond3 v63 v65 = 1#1), ∀ a, (k0_off33 v63) a + S256x256.size a ≤ S2560x6144.size a) ∧
  (∀ (k0_h3 : k0_cond3 v63 v65 = 1#1), ∀ a, (k0_off34 v63) a + S256x256.size a ≤ S2560x6144.size a) ∧
  (∀ (k0_h3 : k0_cond3 v63 v65 = 1#1), ∀ a, (k0_off35 v63) a + S256x256.size a ≤ S2560x6144.size a) ∧
  (∀ (k0_h3 : k0_cond3 v63 v65 = 1#1), ∀ a, (k0_off36 v63) a + S256x256.size a ≤ S2560x6144.size a) ∧
  (∀ (k0_h3 : k0_cond3 v63 v65 = 1#1), ∀ a, (k0_off37 v63) a + S256x256.size a ≤ S2560x6144.size a) ∧
  (∀ (k0_h3 : k0_cond3 v63 v65 = 1#1), ∀ a, (k0_off38 v63) a + S1x256.size a ≤ S1x6144.size a) ∧
  (∀ a, (k0_off39 v65) a + S2560x256.size a ≤ S2560x6144.size a)
theorem k0_mult6_dvd : ∀ (v63 : BitVec 32) (v65 : BitVec 32) (k0_hw6 : k0_chk6 v63 v65), 256 ∣ (k0_mult6 v65).toNat := fun v63 v65 k0_hw6 => k0_hw6.1
theorem k0_off28_inb : ∀ (v63 : BitVec 32) (v65 : BitVec 32) (k0_hw6 : k0_chk6 v63 v65), ∀ (k0_h3 : k0_cond3 v63 v65 = 1#1), ∀ a, (k0_off28 v63) a + S256x256.size a ≤ S2560x6144.size a := fun v63 v65 k0_hw6 k0_h3 => k0_hw6.2.1 k0_h3
theorem k0_off29_inb : ∀ (v63 : BitVec 32) (v65 : BitVec 32) (k0_hw6 : k0_chk6 v63 v65), ∀ (k0_h3 : k0_cond3 v63 v65 = 1#1), ∀ a, (k0_off29 v63) a + S256x256.size a ≤ S2560x6144.size a := fun v63 v65 k0_hw6 k0_h3 => k0_hw6.2.2.1 k0_h3
theorem k0_off30_inb : ∀ (v63 : BitVec 32) (v65 : BitVec 32) (k0_hw6 : k0_chk6 v63 v65), ∀ (k0_h3 : k0_cond3 v63 v65 = 1#1), ∀ a, (k0_off30 v63) a + S256x256.size a ≤ S2560x6144.size a := fun v63 v65 k0_hw6 k0_h3 => k0_hw6.2.2.2.1 k0_h3
theorem k0_off31_inb : ∀ (v63 : BitVec 32) (v65 : BitVec 32) (k0_hw6 : k0_chk6 v63 v65), ∀ (k0_h3 : k0_cond3 v63 v65 = 1#1), ∀ a, (k0_off31 v63) a + S256x256.size a ≤ S2560x6144.size a := fun v63 v65 k0_hw6 k0_h3 => k0_hw6.2.2.2.2.1 k0_h3
theorem k0_off32_inb : ∀ (v63 : BitVec 32) (v65 : BitVec 32) (k0_hw6 : k0_chk6 v63 v65), ∀ (k0_h3 : k0_cond3 v63 v65 = 1#1), ∀ a, (k0_off32 v63) a + S256x256.size a ≤ S2560x6144.size a := fun v63 v65 k0_hw6 k0_h3 => k0_hw6.2.2.2.2.2.1 k0_h3
theorem k0_off33_inb : ∀ (v63 : BitVec 32) (v65 : BitVec 32) (k0_hw6 : k0_chk6 v63 v65), ∀ (k0_h3 : k0_cond3 v63 v65 = 1#1), ∀ a, (k0_off33 v63) a + S256x256.size a ≤ S2560x6144.size a := fun v63 v65 k0_hw6 k0_h3 => k0_hw6.2.2.2.2.2.2.1 k0_h3
theorem k0_off34_inb : ∀ (v63 : BitVec 32) (v65 : BitVec 32) (k0_hw6 : k0_chk6 v63 v65), ∀ (k0_h3 : k0_cond3 v63 v65 = 1#1), ∀ a, (k0_off34 v63) a + S256x256.size a ≤ S2560x6144.size a := fun v63 v65 k0_hw6 k0_h3 => k0_hw6.2.2.2.2.2.2.2.1 k0_h3
theorem k0_off35_inb : ∀ (v63 : BitVec 32) (v65 : BitVec 32) (k0_hw6 : k0_chk6 v63 v65), ∀ (k0_h3 : k0_cond3 v63 v65 = 1#1), ∀ a, (k0_off35 v63) a + S256x256.size a ≤ S2560x6144.size a := fun v63 v65 k0_hw6 k0_h3 => k0_hw6.2.2.2.2.2.2.2.2.1 k0_h3
theorem k0_off36_inb : ∀ (v63 : BitVec 32) (v65 : BitVec 32) (k0_hw6 : k0_chk6 v63 v65), ∀ (k0_h3 : k0_cond3 v63 v65 = 1#1), ∀ a, (k0_off36 v63) a + S256x256.size a ≤ S2560x6144.size a := fun v63 v65 k0_hw6 k0_h3 => k0_hw6.2.2.2.2.2.2.2.2.2.1 k0_h3
theorem k0_off37_inb : ∀ (v63 : BitVec 32) (v65 : BitVec 32) (k0_hw6 : k0_chk6 v63 v65), ∀ (k0_h3 : k0_cond3 v63 v65 = 1#1), ∀ a, (k0_off37 v63) a + S256x256.size a ≤ S2560x6144.size a := fun v63 v65 k0_hw6 k0_h3 => k0_hw6.2.2.2.2.2.2.2.2.2.2.1 k0_h3
theorem k0_off38_inb : ∀ (v63 : BitVec 32) (v65 : BitVec 32) (k0_hw6 : k0_chk6 v63 v65), ∀ (k0_h3 : k0_cond3 v63 v65 = 1#1), ∀ a, (k0_off38 v63) a + S1x256.size a ≤ S1x6144.size a := fun v63 v65 k0_hw6 k0_h3 => k0_hw6.2.2.2.2.2.2.2.2.2.2.2.1 k0_h3
theorem k0_off39_inb : ∀ (v63 : BitVec 32) (v65 : BitVec 32) (k0_hw6 : k0_chk6 v63 v65), ∀ a, (k0_off39 v65) a + S2560x256.size a ≤ S2560x6144.size a := fun v63 v65 k0_hw6 => k0_hw6.2.2.2.2.2.2.2.2.2.2.2.2

def k0_off40 (i : grid0.Coords) : Fin 1 → Nat :=
  let arg0 : BitVec 32 := BitVec.ofNat 32 (i 0).val
  let c4_i32_42 : BitVec 32 := 4#32
  let v90 : BitVec 32 := Scalar.muli arg0 c4_i32_42
  let c3_i32 : BitVec 32 := 3#32
  let v91 : BitVec 32 := Scalar.addi v90 c3_i32
  let v92 : Index := Scalar.indexCast v91
  ![v92.toNat]
def k0_mult7 (v93 : BitVec 32) : BitVec 32 :=
  let c256_i32_43 : BitVec 32 := 256#32
  let v96 : BitVec 32 := Scalar.muli v93 c256_i32_43
  v96

def k0_chk7 (v93 : BitVec 32) : Prop :=
  (256 ∣ (k0_mult7 v93).toNat)
theorem k0_mult7_dvd : ∀ (v93 : BitVec 32) (k0_hw7 : k0_chk7 v93), 256 ∣ (k0_mult7 v93).toNat := fun v93 k0_hw7 => k0_hw7

def k0_mult8 (v95 : BitVec 32) : BitVec 32 :=
  let c256_i32_44 : BitVec 32 := 256#32
  let v98 : BitVec 32 := Scalar.muli v95 c256_i32_44
  v98

def k0_off41 (v93 : BitVec 32) : Fin 2 → Nat :=
  let c0_60 : Index := 0#32
  let c256_i32_43 : BitVec 32 := 256#32
  let v96 : BitVec 32 := Scalar.muli v93 c256_i32_43
  let v97 : BitVec 32 := v96
  let v123 : Index := Scalar.indexCast v97
  ![0, v123.toNat]
def k0_cond4 (v93 : BitVec 32) (v95 : BitVec 32) : BitVec 1 :=
  let v100 : BitVec 1 := Scalar.cmpi .eq v93 v95
  let v101 : BitVec 32 := Scalar.extui v100
  let c0_i32_45 : BitVec 32 := 0#32
  let v102 : BitVec 1 := Scalar.cmpi .ne v101 c0_i32_45
  v102

def k0_off42 (v93 : BitVec 32) : Fin 2 → Nat :=
  let c256_65 : Index := 256#32
  let c256_i32_43 : BitVec 32 := 256#32
  let v96 : BitVec 32 := Scalar.muli v93 c256_i32_43
  let v97 : BitVec 32 := v96
  let v142 : Index := Scalar.indexCast v97
  ![256, v142.toNat]
def k0_off43 (v93 : BitVec 32) : Fin 2 → Nat :=
  let c512_70 : Index := 512#32
  let c256_i32_43 : BitVec 32 := 256#32
  let v96 : BitVec 32 := Scalar.muli v93 c256_i32_43
  let v97 : BitVec 32 := v96
  let v161 : Index := Scalar.indexCast v97
  ![512, v161.toNat]
def k0_off44 (v93 : BitVec 32) : Fin 2 → Nat :=
  let c768_75 : Index := 768#32
  let c256_i32_43 : BitVec 32 := 256#32
  let v96 : BitVec 32 := Scalar.muli v93 c256_i32_43
  let v97 : BitVec 32 := v96
  let v180 : Index := Scalar.indexCast v97
  ![768, v180.toNat]
def k0_off45 (v93 : BitVec 32) : Fin 2 → Nat :=
  let c1024_80 : Index := 1024#32
  let c256_i32_43 : BitVec 32 := 256#32
  let v96 : BitVec 32 := Scalar.muli v93 c256_i32_43
  let v97 : BitVec 32 := v96
  let v199 : Index := Scalar.indexCast v97
  ![1024, v199.toNat]
def k0_off46 (v93 : BitVec 32) : Fin 2 → Nat :=
  let c1280_85 : Index := 1280#32
  let c256_i32_43 : BitVec 32 := 256#32
  let v96 : BitVec 32 := Scalar.muli v93 c256_i32_43
  let v97 : BitVec 32 := v96
  let v218 : Index := Scalar.indexCast v97
  ![1280, v218.toNat]
def k0_off47 (v93 : BitVec 32) : Fin 2 → Nat :=
  let c1536_90 : Index := 1536#32
  let c256_i32_43 : BitVec 32 := 256#32
  let v96 : BitVec 32 := Scalar.muli v93 c256_i32_43
  let v97 : BitVec 32 := v96
  let v237 : Index := Scalar.indexCast v97
  ![1536, v237.toNat]
def k0_off48 (v93 : BitVec 32) : Fin 2 → Nat :=
  let c1792_95 : Index := 1792#32
  let c256_i32_43 : BitVec 32 := 256#32
  let v96 : BitVec 32 := Scalar.muli v93 c256_i32_43
  let v97 : BitVec 32 := v96
  let v256 : Index := Scalar.indexCast v97
  ![1792, v256.toNat]
def k0_off49 (v93 : BitVec 32) : Fin 2 → Nat :=
  let c2048_100 : Index := 2048#32
  let c256_i32_43 : BitVec 32 := 256#32
  let v96 : BitVec 32 := Scalar.muli v93 c256_i32_43
  let v97 : BitVec 32 := v96
  let v275 : Index := Scalar.indexCast v97
  ![2048, v275.toNat]
def k0_off50 (v93 : BitVec 32) : Fin 2 → Nat :=
  let c2304_105 : Index := 2304#32
  let c256_i32_43 : BitVec 32 := 256#32
  let v96 : BitVec 32 := Scalar.muli v93 c256_i32_43
  let v97 : BitVec 32 := v96
  let v294 : Index := Scalar.indexCast v97
  ![2304, v294.toNat]
def k0_off51 (v93 : BitVec 32) : Fin 2 → Nat :=
  let c0_110 : Index := 0#32
  let c256_i32_43 : BitVec 32 := 256#32
  let v96 : BitVec 32 := Scalar.muli v93 c256_i32_43
  let v97 : BitVec 32 := v96
  let v313 : Index := Scalar.indexCast v97
  ![0, v313.toNat]
def k0_off52 (v95 : BitVec 32) : Fin 2 → Nat :=
  let c0_48 : Index := 0#32
  let c256_i32_44 : BitVec 32 := 256#32
  let v98 : BitVec 32 := Scalar.muli v95 c256_i32_44
  let v99 : BitVec 32 := v98
  let v104 : Index := Scalar.indexCast v99
  ![0, v104.toNat]

def k0_chk8 (v93 : BitVec 32) (v95 : BitVec 32) : Prop :=
  (256 ∣ (k0_mult8 v95).toNat) ∧
  (∀ (k0_h4 : k0_cond4 v93 v95 = 1#1), ∀ a, (k0_off41 v93) a + S256x256.size a ≤ S2560x6144.size a) ∧
  (∀ (k0_h4 : k0_cond4 v93 v95 = 1#1), ∀ a, (k0_off42 v93) a + S256x256.size a ≤ S2560x6144.size a) ∧
  (∀ (k0_h4 : k0_cond4 v93 v95 = 1#1), ∀ a, (k0_off43 v93) a + S256x256.size a ≤ S2560x6144.size a) ∧
  (∀ (k0_h4 : k0_cond4 v93 v95 = 1#1), ∀ a, (k0_off44 v93) a + S256x256.size a ≤ S2560x6144.size a) ∧
  (∀ (k0_h4 : k0_cond4 v93 v95 = 1#1), ∀ a, (k0_off45 v93) a + S256x256.size a ≤ S2560x6144.size a) ∧
  (∀ (k0_h4 : k0_cond4 v93 v95 = 1#1), ∀ a, (k0_off46 v93) a + S256x256.size a ≤ S2560x6144.size a) ∧
  (∀ (k0_h4 : k0_cond4 v93 v95 = 1#1), ∀ a, (k0_off47 v93) a + S256x256.size a ≤ S2560x6144.size a) ∧
  (∀ (k0_h4 : k0_cond4 v93 v95 = 1#1), ∀ a, (k0_off48 v93) a + S256x256.size a ≤ S2560x6144.size a) ∧
  (∀ (k0_h4 : k0_cond4 v93 v95 = 1#1), ∀ a, (k0_off49 v93) a + S256x256.size a ≤ S2560x6144.size a) ∧
  (∀ (k0_h4 : k0_cond4 v93 v95 = 1#1), ∀ a, (k0_off50 v93) a + S256x256.size a ≤ S2560x6144.size a) ∧
  (∀ (k0_h4 : k0_cond4 v93 v95 = 1#1), ∀ a, (k0_off51 v93) a + S1x256.size a ≤ S1x6144.size a) ∧
  (∀ a, (k0_off52 v95) a + S2560x256.size a ≤ S2560x6144.size a)
theorem k0_mult8_dvd : ∀ (v93 : BitVec 32) (v95 : BitVec 32) (k0_hw8 : k0_chk8 v93 v95), 256 ∣ (k0_mult8 v95).toNat := fun v93 v95 k0_hw8 => k0_hw8.1
theorem k0_off41_inb : ∀ (v93 : BitVec 32) (v95 : BitVec 32) (k0_hw8 : k0_chk8 v93 v95), ∀ (k0_h4 : k0_cond4 v93 v95 = 1#1), ∀ a, (k0_off41 v93) a + S256x256.size a ≤ S2560x6144.size a := fun v93 v95 k0_hw8 k0_h4 => k0_hw8.2.1 k0_h4
theorem k0_off42_inb : ∀ (v93 : BitVec 32) (v95 : BitVec 32) (k0_hw8 : k0_chk8 v93 v95), ∀ (k0_h4 : k0_cond4 v93 v95 = 1#1), ∀ a, (k0_off42 v93) a + S256x256.size a ≤ S2560x6144.size a := fun v93 v95 k0_hw8 k0_h4 => k0_hw8.2.2.1 k0_h4
theorem k0_off43_inb : ∀ (v93 : BitVec 32) (v95 : BitVec 32) (k0_hw8 : k0_chk8 v93 v95), ∀ (k0_h4 : k0_cond4 v93 v95 = 1#1), ∀ a, (k0_off43 v93) a + S256x256.size a ≤ S2560x6144.size a := fun v93 v95 k0_hw8 k0_h4 => k0_hw8.2.2.2.1 k0_h4
theorem k0_off44_inb : ∀ (v93 : BitVec 32) (v95 : BitVec 32) (k0_hw8 : k0_chk8 v93 v95), ∀ (k0_h4 : k0_cond4 v93 v95 = 1#1), ∀ a, (k0_off44 v93) a + S256x256.size a ≤ S2560x6144.size a := fun v93 v95 k0_hw8 k0_h4 => k0_hw8.2.2.2.2.1 k0_h4
theorem k0_off45_inb : ∀ (v93 : BitVec 32) (v95 : BitVec 32) (k0_hw8 : k0_chk8 v93 v95), ∀ (k0_h4 : k0_cond4 v93 v95 = 1#1), ∀ a, (k0_off45 v93) a + S256x256.size a ≤ S2560x6144.size a := fun v93 v95 k0_hw8 k0_h4 => k0_hw8.2.2.2.2.2.1 k0_h4
theorem k0_off46_inb : ∀ (v93 : BitVec 32) (v95 : BitVec 32) (k0_hw8 : k0_chk8 v93 v95), ∀ (k0_h4 : k0_cond4 v93 v95 = 1#1), ∀ a, (k0_off46 v93) a + S256x256.size a ≤ S2560x6144.size a := fun v93 v95 k0_hw8 k0_h4 => k0_hw8.2.2.2.2.2.2.1 k0_h4
theorem k0_off47_inb : ∀ (v93 : BitVec 32) (v95 : BitVec 32) (k0_hw8 : k0_chk8 v93 v95), ∀ (k0_h4 : k0_cond4 v93 v95 = 1#1), ∀ a, (k0_off47 v93) a + S256x256.size a ≤ S2560x6144.size a := fun v93 v95 k0_hw8 k0_h4 => k0_hw8.2.2.2.2.2.2.2.1 k0_h4
theorem k0_off48_inb : ∀ (v93 : BitVec 32) (v95 : BitVec 32) (k0_hw8 : k0_chk8 v93 v95), ∀ (k0_h4 : k0_cond4 v93 v95 = 1#1), ∀ a, (k0_off48 v93) a + S256x256.size a ≤ S2560x6144.size a := fun v93 v95 k0_hw8 k0_h4 => k0_hw8.2.2.2.2.2.2.2.2.1 k0_h4
theorem k0_off49_inb : ∀ (v93 : BitVec 32) (v95 : BitVec 32) (k0_hw8 : k0_chk8 v93 v95), ∀ (k0_h4 : k0_cond4 v93 v95 = 1#1), ∀ a, (k0_off49 v93) a + S256x256.size a ≤ S2560x6144.size a := fun v93 v95 k0_hw8 k0_h4 => k0_hw8.2.2.2.2.2.2.2.2.2.1 k0_h4
theorem k0_off50_inb : ∀ (v93 : BitVec 32) (v95 : BitVec 32) (k0_hw8 : k0_chk8 v93 v95), ∀ (k0_h4 : k0_cond4 v93 v95 = 1#1), ∀ a, (k0_off50 v93) a + S256x256.size a ≤ S2560x6144.size a := fun v93 v95 k0_hw8 k0_h4 => k0_hw8.2.2.2.2.2.2.2.2.2.2.1 k0_h4
theorem k0_off51_inb : ∀ (v93 : BitVec 32) (v95 : BitVec 32) (k0_hw8 : k0_chk8 v93 v95), ∀ (k0_h4 : k0_cond4 v93 v95 = 1#1), ∀ a, (k0_off51 v93) a + S1x256.size a ≤ S1x6144.size a := fun v93 v95 k0_hw8 k0_h4 => k0_hw8.2.2.2.2.2.2.2.2.2.2.2.1 k0_h4
theorem k0_off52_inb : ∀ (v93 : BitVec 32) (v95 : BitVec 32) (k0_hw8 : k0_chk8 v93 v95), ∀ a, (k0_off52 v95) a + S2560x256.size a ≤ S2560x6144.size a := fun v93 v95 k0_hw8 => k0_hw8.2.2.2.2.2.2.2.2.2.2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2560x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2560x6144 : Shape := ⟨2, ![2560, 6144]⟩
abbrev S2560 : Shape := ⟨1, ![2560]⟩
abbrev S300x256x256 : Shape := ⟨3, ![300, 256, 256]⟩
abbrev S1 : Shape := ⟨1, ![1]⟩
abbrev S300 : Shape := ⟨1, ![300]⟩
abbrev S2560x1 : Shape := ⟨2, ![2560, 1]⟩
abbrev S6144x6144 : Shape := ⟨2, ![6144, 6144]⟩
abbrev S24x256x24x256 : Shape := ⟨4, ![24, 256, 24, 256]⟩
abbrev S24x24x256x256 : Shape := ⟨4, ![24, 24, 256, 256]⟩
abbrev S_ : Shape := ⟨0, ![]⟩
abbrev S300x1 : Shape := ⟨2, ![300, 1]⟩
abbrev S300x2 : Shape := ⟨2, ![300, 2]⟩
abbrev S6144 : Shape := ⟨1, ![6144]⟩
abbrev S1x6144 : Shape := ⟨2, ![1, 6144]⟩

abbrev nBuf : Space → Nat
  | .hbm => 55
  | .vmem => 2
  | .smem => 0
  | _ => 0

abbrev bufTy : (tb : Table) → Fin (tcTables nBuf tb) → BufTy
  | .hbm, ⟨0, _⟩ => ⟨S2560x6144, .fp8e4m3⟩
  | .hbm, ⟨1, _⟩ => ⟨S2560, .f32⟩
  | .hbm, ⟨2, _⟩ => ⟨S300x256x256, .f32⟩
  | .hbm, ⟨3, _⟩ => ⟨S1, .i32⟩
  | .hbm, ⟨4, _⟩ => ⟨S300, .i32⟩
  | .hbm, ⟨5, _⟩ => ⟨S300, .i1⟩
  | .hbm, ⟨6, _⟩ => ⟨S300, .i32⟩
  | .hbm, ⟨7, _⟩ => ⟨S300, .i1⟩
  | .hbm, ⟨8, _⟩ => ⟨S2560x6144, .f32⟩
  | .hbm, ⟨9, _⟩ => ⟨S2560, .f32⟩
  | .hbm, ⟨10, _⟩ => ⟨S2560x1, .f32⟩
  | .hbm, ⟨11, _⟩ => ⟨S2560x6144, .f32⟩
  | .hbm, ⟨12, _⟩ => ⟨S2560x6144, .f32⟩
  | .hbm, ⟨13, _⟩ => ⟨S2560x6144, .bf16⟩
  | .hbm, ⟨14, _⟩ => ⟨S2560x6144, .bf16⟩
  | .hbm, ⟨15, _⟩ => ⟨S6144x6144, .f32⟩
  | .hbm, ⟨16, _⟩ => ⟨S24x256x24x256, .f32⟩
  | .hbm, ⟨17, _⟩ => ⟨S24x24x256x256, .f32⟩
  | .hbm, ⟨18, _⟩ => ⟨S_, .i32⟩
  | .hbm, ⟨19, _⟩ => ⟨S300, .i32⟩
  | .hbm, ⟨20, _⟩ => ⟨S300, .i32⟩
  | .hbm, ⟨21, _⟩ => ⟨S300, .i32⟩
  | .hbm, ⟨22, _⟩ => ⟨S_, .i32⟩
  | .hbm, ⟨23, _⟩ => ⟨S300, .i32⟩
  | .hbm, ⟨24, _⟩ => ⟨S300, .i32⟩
  | .hbm, ⟨25, _⟩ => ⟨S300, .i32⟩
  | .hbm, ⟨26, _⟩ => ⟨S300x1, .i32⟩
  | .hbm, ⟨27, _⟩ => ⟨S300x1, .i32⟩
  | .hbm, ⟨28, _⟩ => ⟨S300x2, .i32⟩
  | .hbm, ⟨29, _⟩ => ⟨S300x256x256, .f32⟩
  | .hbm, ⟨30, _⟩ => ⟨S_, .i32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S300x256x256, .f32⟩
  | .hbm, ⟨36, _⟩ => ⟨S300x256x256, .f32⟩
  | .hbm, ⟨37, _⟩ => ⟨S_, .f32⟩
  | .hbm, ⟨38, _⟩ => ⟨S_, .f32⟩
  | .hbm, ⟨39, _⟩ => ⟨S300x256x256, .f32⟩
  | .hbm, ⟨40, _⟩ => ⟨S300x256x256, .f32⟩
  | .hbm, ⟨41, _⟩ => ⟨S300x256x256, .f32⟩
  | .hbm, ⟨42, _⟩ => ⟨S2560x1, .f32⟩
  | .hbm, ⟨43, _⟩ => ⟨S2560x6144, .f32⟩
  | .hbm, ⟨44, _⟩ => ⟨S2560x6144, .f32⟩
  | .hbm, ⟨45, _⟩ => ⟨S2560x6144, .f32⟩
  | .hbm, ⟨46, _⟩ => ⟨S_, .f32⟩
  | .hbm, ⟨47, _⟩ => ⟨S6144, .f32⟩
  | .hbm, ⟨48, _⟩ => ⟨S1x6144, .f32⟩
  | .hbm, ⟨49, _⟩ => ⟨S_, .f32⟩
  | .hbm, ⟨50, _⟩ => ⟨S1x6144, .f32⟩
  | .hbm, ⟨51, _⟩ => ⟨S1x6144, .f32⟩
  | .hbm, ⟨52, _⟩ => ⟨S_, .i32⟩
  | .hbm, ⟨53, _⟩ => ⟨S1, .i32⟩
  | .hbm, ⟨54, _⟩ => ⟨S1, .i32⟩
  | .local _ .vmem, ⟨0, _⟩ => ⟨S2560x6144, .fp8e4m3⟩
  | .local _ .vmem, ⟨1, _⟩ => ⟨S2560x6144, .f32⟩
  | _, _ => ⟨S2560x6144, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2560x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Down.lean ====
abbrev S8 : Shape := ⟨1, ![8]⟩
abbrev S2560x2048 : Shape := ⟨2, ![2560, 2048]⟩
abbrev S2560x128 : Shape := ⟨2, ![2560, 128]⟩
abbrev S8x36x256x256 : Shape := ⟨4, ![8, 36, 256, 256]⟩
abbrev S36 : Shape := ⟨1, ![36]⟩
abbrev S_ : Shape := ⟨0, ![]⟩
abbrev S1x4x256x256 : Shape := ⟨4, ![1, 4, 256, 256]⟩
abbrev S1 : Shape := ⟨1, ![1]⟩
abbrev S256x256 : Shape := ⟨2, ![256, 256]⟩
abbrev S256x1 : Shape := ⟨2, ![256, 1]⟩
abbrev S1x1x256x256 : Shape := ⟨4, ![1, 1, 256, 256]⟩

abbrev nBuf : Space → Nat
  | .hbm => 24
  | .vmem => 6
  | .smem => 6
  | _ => 0

abbrev bufTy : (tb : Table) → Fin (tcTables nBuf tb) → BufTy
  | .hbm, ⟨0, _⟩ => ⟨S8, .i32⟩
  | .hbm, ⟨1, _⟩ => ⟨S2560x2048, .fp8e4m3⟩
  | .hbm, ⟨2, _⟩ => ⟨S2560x128, .f32⟩
  | .hbm, ⟨3, _⟩ => ⟨S8x36x256x256, .f32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x36x256x256, .f32⟩
  | .hbm, ⟨23, _⟩ => ⟨S8, .i32⟩
  | .local _ .vmem, ⟨0, _⟩ => ⟨S2560x2048, .fp8e4m3⟩
  | .local _ .vmem, ⟨1, _⟩ => ⟨S2560x128, .f32⟩
  | .local _ .vmem, ⟨2, _⟩ => ⟨S1x4x256x256, .f32⟩
  | .local _ .vmem, ⟨3, _⟩ => ⟨S1x4x256x256, .f32⟩
  | .local _ .vmem, ⟨4, _⟩ => ⟨S1x4x256x256, .f32⟩
  | .local _ .vmem, ⟨5, _⟩ => ⟨S1x4x256x256, .f32⟩
  | .local _ .smem, ⟨0, _⟩ => ⟨S36, .i32⟩
  | .local _ .smem, ⟨1, _⟩ => ⟨S36, .i32⟩
  | .local _ .smem, ⟨2, _⟩ => ⟨S8, .i32⟩
  | .local _ .smem, ⟨3, _⟩ => ⟨S8, .i32⟩
  | .local _ .smem, ⟨4, _⟩ => ⟨S8, .f32⟩
  | .local _ .smem, ⟨5, _⟩ => ⟨S8, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.smem, 0, rfl⟩
abbrev main_c_0 : Ref sig .tc := ⟨.smem, 1, rfl⟩
abbrev main_v1 : Ref sig .tc := ⟨.smem, 2, rfl⟩
abbrev main_v7 : Ref sig .tc := ⟨.smem, 3, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 4, rfl⟩
abbrev cc0_stg1_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 9], ![false, false]⟩

abbrev pre0 : Pipeline.Prefetch sig := ⟨4, ![main_c.idx, main_c_0.idx, main_v1.idx, main_v7.idx], fun | 0 => main_c.names | 1 => main_c_0.names | 2 => main_v1.names | 3 => main_v7.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg1 : BitVec 32 := BitVec.ofNat 32 (i 1).val
  let c4_i32 : BitVec 32 := 4#32
  let v44 : BitVec 32 := Scalar.muli arg1 c4_i32
  let c0_i32_14 : BitVec 32 := 0#32
  let v45 : BitVec 32 := Scalar.addi v44 c0_i32_14
  let v46 : Index := Scalar.indexCast v45
  ![v46.toNat]
def k0_mult1 (v47 : BitVec 32) : BitVec 32 :=
  let c256_i32_15 : BitVec 32 := 256#32
  let v48 : BitVec 32 := Scalar.muli v47 c256_i32_15
  v48

def k0_off3 (i : grid0.Coords) : Fin 1 → Nat :=
  let arg1 : BitVec 32 := BitVec.ofNat 32 (i 1).val
  let c4_i32 : BitVec 32 := 4#32
  let v44 : BitVec 32 := Scalar.muli arg1 c4_i32
  let c0_i32_14 : BitVec 32 := 0#32
  let v45 : BitVec 32 := Scalar.addi v44 c0_i32_14
  let v50 : Index := Scalar.indexCast v45
  ![v50.toNat]
def k0_mult2 (v51 : BitVec 32) : BitVec 32 :=
  let c256_i32_16 : BitVec 32 := 256#32
  let v52 : BitVec 32 := Scalar.muli v51 c256_i32_16
  v52

@[reducible] def k0_t1_loop (v1 : BitVec 32) (v3 : BitVec 32) : Scf.Loop 32 :=
  let c0_i32_17 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v55 : BitVec 32 := Scalar.subi v43 c0_i32_17
  let c1_i32_18 : BitVec 32 := 1#32
  let v57 : BitVec 32 := Scalar.divsi v55 c1_i32_18
  let v58 : BitVec 32 := Scalar.muli v57 c1_i32_18
  let v59 : BitVec 32 := Scalar.addi c0_i32_17 v58
  let c1_i32_19 : BitVec 32 := 1#32
  ⟨c0_i32_17, v59, c1_i32_19⟩

def k0_mult3 (v1 : BitVec 32) (v3 : BitVec 32) (k0_t1 : Fin (k0_t1_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let c1_i32_19 : BitVec 32 := 1#32
  let arg12 : BitVec 32 := Scf.iv c0_i32_17 c1_i32_19 k0_t1
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off4 (v1 : BitVec 32) (v3 : BitVec 32) (k0_t1 : Fin (k0_t1_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let c1_i32_19 : BitVec 32 := 1#32
  let arg12 : BitVec 32 := Scf.iv c0_i32_17 c1_i32_19 k0_t1
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off5 (v1 : BitVec 32) (v3 : BitVec 32) (v47 : BitVec 32) (k0_t1 : Fin (k0_t1_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let c1_i32_19 : BitVec 32 := 1#32
  let arg12 : BitVec 32 := Scf.iv c0_i32_17 c1_i32_19 k0_t1
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_15 : BitVec 32 := 256#32
  let v48 : BitVec 32 := Scalar.muli v47 c256_i32_15
  let v49 : BitVec 32 := v48
  let v189 : Index := Scalar.indexCast v49
  ![v188.toNat, v189.toNat]
def k0_off6 (v1 : BitVec 32) (v3 : BitVec 32) (v51 : BitVec 32) (k0_t1 : Fin (k0_t1_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let c1_i32_19 : BitVec 32 := 1#32
  let arg12 : BitVec 32 := Scf.iv c0_i32_17 c1_i32_19 k0_t1
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_16 : BitVec 32 := 256#32
  let v52 : BitVec 32 := Scalar.muli v51 c256_i32_16
  let v53 : BitVec 32 := v52
  let v198 : Index := Scalar.indexCast v53
  ![v197.toNat, v198.toNat]
@[reducible] def k0_t2_loop (v1 : BitVec 32) (v3 : BitVec 32) : Scf.Loop 32 :=
  let c0_i32_17 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v55 : BitVec 32 := Scalar.subi v43 c0_i32_17
  let c1_i32_18 : BitVec 32 := 1#32
  let v57 : BitVec 32 := Scalar.divsi v55 c1_i32_18
  let v58 : BitVec 32 := Scalar.muli v57 c1_i32_18
  let v59 : BitVec 32 := Scalar.addi c0_i32_17 v58
  let v56 : BitVec 32 := Scalar.addi c0_i32_17 v55
  let c1_i32_20 : BitVec 32 := 1#32
  ⟨v59, v56, c1_i32_20⟩
def k0_mult4 (v1 : BitVec 32) (v3 : BitVec 32) (k0_t2 : Fin (k0_t2_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v55 : BitVec 32 := Scalar.subi v43 c0_i32_17
  let c1_i32_18 : BitVec 32 := 1#32
  let v57 : BitVec 32 := Scalar.divsi v55 c1_i32_18
  let v58 : BitVec 32 := Scalar.muli v57 c1_i32_18
  let v59 : BitVec 32 := Scalar.addi c0_i32_17 v58
  let c1_i32_20 : BitVec 32 := 1#32
  let arg12 : BitVec 32 := Scf.iv v59 c1_i32_20 k0_t2
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off7 (v1 : BitVec 32) (v3 : BitVec 32) (k0_t2 : Fin (k0_t2_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v55 : BitVec 32 := Scalar.subi v43 c0_i32_17
  let c1_i32_18 : BitVec 32 := 1#32
  let v57 : BitVec 32 := Scalar.divsi v55 c1_i32_18
  let v58 : BitVec 32 := Scalar.muli v57 c1_i32_18
  let v59 : BitVec 32 := Scalar.addi c0_i32_17 v58
  let c1_i32_20 : BitVec 32 := 1#32
  let arg12 : BitVec 32 := Scf.iv v59 c1_i32_20 k0_t2
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off8 (v1 : BitVec 32) (v3 : BitVec 32) (v47 : BitVec 32) (k0_t2 : Fin (k0_t2_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v55 : BitVec 32 := Scalar.subi v43 c0_i32_17
  let c1_i32_18 : BitVec 32 := 1#32
  let v57 : BitVec 32 := Scalar.divsi v55 c1_i32_18
  let v58 : BitVec 32 := Scalar.muli v57 c1_i32_18
  let v59 : BitVec 32 := Scalar.addi c0_i32_17 v58
  let c1_i32_20 : BitVec 32 := 1#32
  let arg12 : BitVec 32 := Scf.iv v59 c1_i32_20 k0_t2
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_15 : BitVec 32 := 256#32
  let v48 : BitVec 32 := Scalar.muli v47 c256_i32_15
  let v49 : BitVec 32 := v48
  let v189 : Index := Scalar.indexCast v49
  ![v188.toNat, v189.toNat]

def k0_chk1 (v1 : BitVec 32) (v3 : BitVec 32) (v47 : BitVec 32) : Prop :=
  (256 ∣ (k0_mult1 v47).toNat) ∧
  (∀ k0_t1 : Fin (k0_t1_loop v1 v3).trips, ∀ a, (k0_off5 v1 v3 v47 k0_t1) a + S256x256.size a ≤ S2560x2048.size a) ∧
  (∀ k0_t2 : Fin (k0_t2_loop v1 v3).trips, ∀ a, (k0_off8 v1 v3 v47 k0_t2) a + S256x256.size a ≤ S2560x2048.size a)
theorem k0_mult1_dvd : ∀ (v1 : BitVec 32) (v3 : BitVec 32) (v47 : BitVec 32) (k0_hw1 : k0_chk1 v1 v3 v47), 256 ∣ (k0_mult1 v47).toNat := fun v1 v3 v47 k0_hw1 => k0_hw1.1
theorem k0_off5_inb : ∀ (v1 : BitVec 32) (v3 : BitVec 32) (v47 : BitVec 32) (k0_hw1 : k0_chk1 v1 v3 v47) (k0_t1 : Fin (k0_t1_loop v1 v3).trips), ∀ a, (k0_off5 v1 v3 v47 k0_t1) a + S256x256.size a ≤ S2560x2048.size a := fun v1 v3 v47 k0_hw1 k0_t1 => k0_hw1.2.1 k0_t1
theorem k0_off8_inb : ∀ (v1 : BitVec 32) (v3 : BitVec 32) (v47 : BitVec 32) (k0_hw1 : k0_chk1 v1 v3 v47) (k0_t2 : Fin (k0_t2_loop v1 v3).trips), ∀ a, (k0_off8 v1 v3 v47 k0_t2) a + S256x256.size a ≤ S2560x2048.size a := fun v1 v3 v47 k0_hw1 k0_t2 => k0_hw1.2.2 k0_t2

def k0_off9 (v1 : BitVec 32) (v3 : BitVec 32) (v51 : BitVec 32) (k0_t2 : Fin (k0_t2_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_17 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v55 : BitVec 32 := Scalar.subi v43 c0_i32_17
  let c1_i32_18 : BitVec 32 := 1#32
  let v57 : BitVec 32 := Scalar.divsi v55 c1_i32_18
  let v58 : BitVec 32 := Scalar.muli v57 c1_i32_18
  let v59 : BitVec 32 := Scalar.addi c0_i32_17 v58
  let c1_i32_20 : BitVec 32 := 1#32
  let arg12 : BitVec 32 := Scf.iv v59 c1_i32_20 k0_t2
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_16 : BitVec 32 := 256#32
  let v52 : BitVec 32 := Scalar.muli v51 c256_i32_16
  let v53 : BitVec 32 := v52
  let v198 : Index := Scalar.indexCast v53
  ![v197.toNat, v198.toNat]

def k0_chk2 (v1 : BitVec 32) (v3 : BitVec 32) (v51 : BitVec 32) : Prop :=
  (256 ∣ (k0_mult2 v51).toNat) ∧
  (∀ k0_t1 : Fin (k0_t1_loop v1 v3).trips, ∀ a, (k0_off6 v1 v3 v51 k0_t1) a + S256x256.size a ≤ S2560x2048.size a) ∧
  (∀ k0_t2 : Fin (k0_t2_loop v1 v3).trips, ∀ a, (k0_off9 v1 v3 v51 k0_t2) a + S256x256.size a ≤ S2560x2048.size a)
theorem k0_mult2_dvd : ∀ (v1 : BitVec 32) (v3 : BitVec 32) (v51 : BitVec 32) (k0_hw2 : k0_chk2 v1 v3 v51), 256 ∣ (k0_mult2 v51).toNat := fun v1 v3 v51 k0_hw2 => k0_hw2.1
theorem k0_off6_inb : ∀ (v1 : BitVec 32) (v3 : BitVec 32) (v51 : BitVec 32) (k0_hw2 : k0_chk2 v1 v3 v51) (k0_t1 : Fin (k0_t1_loop v1 v3).trips), ∀ a, (k0_off6 v1 v3 v51 k0_t1) a + S256x256.size a ≤ S2560x2048.size a := fun v1 v3 v51 k0_hw2 k0_t1 => k0_hw2.2.1 k0_t1
theorem k0_off9_inb : ∀ (v1 : BitVec 32) (v3 : BitVec 32) (v51 : BitVec 32) (k0_hw2 : k0_chk2 v1 v3 v51) (k0_t2 : Fin (k0_t2_loop v1 v3).trips), ∀ a, (k0_off9 v1 v3 v51 k0_t2) a + S256x256.size a ≤ S2560x2048.size a := fun v1 v3 v51 k0_hw2 k0_t2 => k0_hw2.2.2 k0_t2

def k0_off10 (i : grid0.Coords) : Fin 1 → Nat :=
  let arg0 : BitVec 32 := BitVec.ofNat 32 (i 0).val
  let v64 : Index := Scalar.indexCast arg0
  ![v64.toNat]
def k0_off11 (i : grid0.Coords) : Fin 1 → Nat :=
  let arg1 : BitVec 32 := BitVec.ofNat 32 (i 1).val
  let c4_i32_28 : BitVec 32 := 4#32
  let v76 : BitVec 32 := Scalar.muli arg1 c4_i32_28
  let c1_i32_29 : BitVec 32 := 1#32
  let v77 : BitVec 32 := Scalar.addi v76 c1_i32_29
  let v78 : Index := Scalar.indexCast v77
  ![v78.toNat]
def k0_mult5 (v79 : BitVec 32) : BitVec 32 :=
  let c256_i32_30 : BitVec 32 := 256#32
  let v80 : BitVec 32 := Scalar.muli v79 c256_i32_30
  v80

def k0_off12 (i : grid0.Coords) : Fin 1 → Nat :=
  let arg1 : BitVec 32 := BitVec.ofNat 32 (i 1).val
  let c4_i32_28 : BitVec 32 := 4#32
  let v76 : BitVec 32 := Scalar.muli arg1 c4_i32_28
  let c1_i32_29 : BitVec 32 := 1#32
  let v77 : BitVec 32 := Scalar.addi v76 c1_i32_29
  let v82 : Index := Scalar.indexCast v77
  ![v82.toNat]
def k0_mult6 (v83 : BitVec 32) : BitVec 32 :=
  let c256_i32_31 : BitVec 32 := 256#32
  let v84 : BitVec 32 := Scalar.muli v83 c256_i32_31
  v84

@[reducible] def k0_t3_loop (v1 : BitVec 32) (v3 : BitVec 32) : Scf.Loop 32 :=
  let c0_i32_33 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v87 : BitVec 32 := Scalar.subi v43 c0_i32_33
  let c1_i32_34 : BitVec 32 := 1#32
  let v89 : BitVec 32 := Scalar.divsi v87 c1_i32_34
  let v90 : BitVec 32 := Scalar.muli v89 c1_i32_34
  let v91 : BitVec 32 := Scalar.addi c0_i32_33 v90
  let c1_i32_35 : BitVec 32 := 1#32
  ⟨c0_i32_33, v91, c1_i32_35⟩
def k0_mult7 (v1 : BitVec 32) (v3 : BitVec 32) (k0_t3 : Fin (k0_t3_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let c1_i32_35 : BitVec 32 := 1#32
  let arg12 : BitVec 32 := Scf.iv c0_i32_33 c1_i32_35 k0_t3
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off13 (v1 : BitVec 32) (v3 : BitVec 32) (k0_t3 : Fin (k0_t3_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let c1_i32_35 : BitVec 32 := 1#32
  let arg12 : BitVec 32 := Scf.iv c0_i32_33 c1_i32_35 k0_t3
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off14 (v1 : BitVec 32) (v3 : BitVec 32) (v79 : BitVec 32) (k0_t3 : Fin (k0_t3_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let c1_i32_35 : BitVec 32 := 1#32
  let arg12 : BitVec 32 := Scf.iv c0_i32_33 c1_i32_35 k0_t3
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_30 : BitVec 32 := 256#32
  let v80 : BitVec 32 := Scalar.muli v79 c256_i32_30
  let v81 : BitVec 32 := v80
  let v189 : Index := Scalar.indexCast v81
  ![v188.toNat, v189.toNat]
def k0_off15 (v1 : BitVec 32) (v3 : BitVec 32) (v83 : BitVec 32) (k0_t3 : Fin (k0_t3_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let c1_i32_35 : BitVec 32 := 1#32
  let arg12 : BitVec 32 := Scf.iv c0_i32_33 c1_i32_35 k0_t3
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_31 : BitVec 32 := 256#32
  let v84 : BitVec 32 := Scalar.muli v83 c256_i32_31
  let v85 : BitVec 32 := v84
  let v198 : Index := Scalar.indexCast v85
  ![v197.toNat, v198.toNat]
@[reducible] def k0_t4_loop (v1 : BitVec 32) (v3 : BitVec 32) : Scf.Loop 32 :=
  let c0_i32_33 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v87 : BitVec 32 := Scalar.subi v43 c0_i32_33
  let c1_i32_34 : BitVec 32 := 1#32
  let v89 : BitVec 32 := Scalar.divsi v87 c1_i32_34
  let v90 : BitVec 32 := Scalar.muli v89 c1_i32_34
  let v91 : BitVec 32 := Scalar.addi c0_i32_33 v90
  let v88 : BitVec 32 := Scalar.addi c0_i32_33 v87
  let c1_i32_36 : BitVec 32 := 1#32
  ⟨v91, v88, c1_i32_36⟩
def k0_mult8 (v1 : BitVec 32) (v3 : BitVec 32) (k0_t4 : Fin (k0_t4_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v87 : BitVec 32 := Scalar.subi v43 c0_i32_33
  let c1_i32_34 : BitVec 32 := 1#32
  let v89 : BitVec 32 := Scalar.divsi v87 c1_i32_34
  let v90 : BitVec 32 := Scalar.muli v89 c1_i32_34
  let v91 : BitVec 32 := Scalar.addi c0_i32_33 v90
  let c1_i32_36 : BitVec 32 := 1#32
  let arg12 : BitVec 32 := Scf.iv v91 c1_i32_36 k0_t4
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off16 (v1 : BitVec 32) (v3 : BitVec 32) (k0_t4 : Fin (k0_t4_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v87 : BitVec 32 := Scalar.subi v43 c0_i32_33
  let c1_i32_34 : BitVec 32 := 1#32
  let v89 : BitVec 32 := Scalar.divsi v87 c1_i32_34
  let v90 : BitVec 32 := Scalar.muli v89 c1_i32_34
  let v91 : BitVec 32 := Scalar.addi c0_i32_33 v90
  let c1_i32_36 : BitVec 32 := 1#32
  let arg12 : BitVec 32 := Scf.iv v91 c1_i32_36 k0_t4
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off17 (v1 : BitVec 32) (v3 : BitVec 32) (v79 : BitVec 32) (k0_t4 : Fin (k0_t4_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v87 : BitVec 32 := Scalar.subi v43 c0_i32_33
  let c1_i32_34 : BitVec 32 := 1#32
  let v89 : BitVec 32 := Scalar.divsi v87 c1_i32_34
  let v90 : BitVec 32 := Scalar.muli v89 c1_i32_34
  let v91 : BitVec 32 := Scalar.addi c0_i32_33 v90
  let c1_i32_36 : BitVec 32 := 1#32
  let arg12 : BitVec 32 := Scf.iv v91 c1_i32_36 k0_t4
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_30 : BitVec 32 := 256#32
  let v80 : BitVec 32 := Scalar.muli v79 c256_i32_30
  let v81 : BitVec 32 := v80
  let v189 : Index := Scalar.indexCast v81
  ![v188.toNat, v189.toNat]

def k0_chk4 (v1 : BitVec 32) (v3 : BitVec 32) (v79 : BitVec 32) : Prop :=
  (256 ∣ (k0_mult5 v79).toNat) ∧
  (∀ k0_t3 : Fin (k0_t3_loop v1 v3).trips, ∀ a, (k0_off14 v1 v3 v79 k0_t3) a + S256x256.size a ≤ S2560x2048.size a) ∧
  (∀ k0_t4 : Fin (k0_t4_loop v1 v3).trips, ∀ a, (k0_off17 v1 v3 v79 k0_t4) a + S256x256.size a ≤ S2560x2048.size a)
theorem k0_mult5_dvd : ∀ (v1 : BitVec 32) (v3 : BitVec 32) (v79 : BitVec 32) (k0_hw4 : k0_chk4 v1 v3 v79), 256 ∣ (k0_mult5 v79).toNat := fun v1 v3 v79 k0_hw4 => k0_hw4.1
theorem k0_off14_inb : ∀ (v1 : BitVec 32) (v3 : BitVec 32) (v79 : BitVec 32) (k0_hw4 : k0_chk4 v1 v3 v79) (k0_t3 : Fin (k0_t3_loop v1 v3).trips), ∀ a, (k0_off14 v1 v3 v79 k0_t3) a + S256x256.size a ≤ S2560x2048.size a := fun v1 v3 v79 k0_hw4 k0_t3 => k0_hw4.2.1 k0_t3
theorem k0_off17_inb : ∀ (v1 : BitVec 32) (v3 : BitVec 32) (v79 : BitVec 32) (k0_hw4 : k0_chk4 v1 v3 v79) (k0_t4 : Fin (k0_t4_loop v1 v3).trips), ∀ a, (k0_off17 v1 v3 v79 k0_t4) a + S256x256.size a ≤ S2560x2048.size a := fun v1 v3 v79 k0_hw4 k0_t4 => k0_hw4.2.2 k0_t4

def k0_off18 (v1 : BitVec 32) (v3 : BitVec 32) (v83 : BitVec 32) (k0_t4 : Fin (k0_t4_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_33 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v87 : BitVec 32 := Scalar.subi v43 c0_i32_33
  let c1_i32_34 : BitVec 32 := 1#32
  let v89 : BitVec 32 := Scalar.divsi v87 c1_i32_34
  let v90 : BitVec 32 := Scalar.muli v89 c1_i32_34
  let v91 : BitVec 32 := Scalar.addi c0_i32_33 v90
  let c1_i32_36 : BitVec 32 := 1#32
  let arg12 : BitVec 32 := Scf.iv v91 c1_i32_36 k0_t4
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_31 : BitVec 32 := 256#32
  let v84 : BitVec 32 := Scalar.muli v83 c256_i32_31
  let v85 : BitVec 32 := v84
  let v198 : Index := Scalar.indexCast v85
  ![v197.toNat, v198.toNat]

def k0_chk5 (v1 : BitVec 32) (v3 : BitVec 32) (v83 : BitVec 32) : Prop :=
  (256 ∣ (k0_mult6 v83).toNat) ∧
  (∀ k0_t3 : Fin (k0_t3_loop v1 v3).trips, ∀ a, (k0_off15 v1 v3 v83 k0_t3) a + S256x256.size a ≤ S2560x2048.size a) ∧
  (∀ k0_t4 : Fin (k0_t4_loop v1 v3).trips, ∀ a, (k0_off18 v1 v3 v83 k0_t4) a + S256x256.size a ≤ S2560x2048.size a)
theorem k0_mult6_dvd : ∀ (v1 : BitVec 32) (v3 : BitVec 32) (v83 : BitVec 32) (k0_hw5 : k0_chk5 v1 v3 v83), 256 ∣ (k0_mult6 v83).toNat := fun v1 v3 v83 k0_hw5 => k0_hw5.1
theorem k0_off15_inb : ∀ (v1 : BitVec 32) (v3 : BitVec 32) (v83 : BitVec 32) (k0_hw5 : k0_chk5 v1 v3 v83) (k0_t3 : Fin (k0_t3_loop v1 v3).trips), ∀ a, (k0_off15 v1 v3 v83 k0_t3) a + S256x256.size a ≤ S2560x2048.size a := fun v1 v3 v83 k0_hw5 k0_t3 => k0_hw5.2.1 k0_t3
theorem k0_off18_inb : ∀ (v1 : BitVec 32) (v3 : BitVec 32) (v83 : BitVec 32) (k0_hw5 : k0_chk5 v1 v3 v83) (k0_t4 : Fin (k0_t4_loop v1 v3).trips), ∀ a, (k0_off18 v1 v3 v83 k0_t4) a + S256x256.size a ≤ S2560x2048.size a := fun v1 v3 v83 k0_hw5 k0_t4 => k0_hw5.2.2 k0_t4

def k0_off19 (i : grid0.Coords) : Fin 1 → Nat :=
  let arg0 : BitVec 32 := BitVec.ofNat 32 (i 0).val
  let v96 : Index := Scalar.indexCast arg0
  ![v96.toNat]
def k0_off20 (i : grid0.Coords) : Fin 1 → Nat :=
  let arg1 : BitVec 32 := BitVec.ofNat 32 (i 1).val
  let c4_i32_44 : BitVec 32 := 4#32
  let v108 : BitVec 32 := Scalar.muli arg1 c4_i32_44
  let c2_i32 : BitVec 32 := 2#32
  let v109 : BitVec 32 := Scalar.addi v108 c2_i32
  let v110 : Index := Scalar.indexCast v109
  ![v110.toNat]
def k0_mult9 (v111 : BitVec 32) : BitVec 32 :=
  let c256_i32_45 : BitVec 32 := 256#32
  let v112 : BitVec 32 := Scalar.muli v111 c256_i32_45
  v112

def k0_off21 (i : grid0.Coords) : Fin 1 → Nat :=
  let arg1 : BitVec 32 := BitVec.ofNat 32 (i 1).val
  let c4_i32_44 : BitVec 32 := 4#32
  let v108 : BitVec 32 := Scalar.muli arg1 c4_i32_44
  let c2_i32 : BitVec 32 := 2#32
  let v109 : BitVec 32 := Scalar.addi v108 c2_i32
  let v114 : Index := Scalar.indexCast v109
  ![v114.toNat]
def k0_mult10 (v115 : BitVec 32) : BitVec 32 :=
  let c256_i32_46 : BitVec 32 := 256#32
  let v116 : BitVec 32 := Scalar.muli v115 c256_i32_46
  v116

@[reducible] def k0_t5_loop (v1 : BitVec 32) (v3 : BitVec 32) : Scf.Loop 32 :=
  let c0_i32_48 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v119 : BitVec 32 := Scalar.subi v43 c0_i32_48
  let c1_i32_49 : BitVec 32 := 1#32
  let v121 : BitVec 32 := Scalar.divsi v119 c1_i32_49
  let v122 : BitVec 32 := Scalar.muli v121 c1_i32_49
  let v123 : BitVec 32 := Scalar.addi c0_i32_48 v122
  let c1_i32_50 : BitVec 32 := 1#32
  ⟨c0_i32_48, v123, c1_i32_50⟩
def k0_mult11 (v1 : BitVec 32) (v3 : BitVec 32) (k0_t5 : Fin (k0_t5_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let c1_i32_50 : BitVec 32 := 1#32
  let arg12 : BitVec 32 := Scf.iv c0_i32_48 c1_i32_50 k0_t5
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off22 (v1 : BitVec 32) (v3 : BitVec 32) (k0_t5 : Fin (k0_t5_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let c1_i32_50 : BitVec 32 := 1#32
  let arg12 : BitVec 32 := Scf.iv c0_i32_48 c1_i32_50 k0_t5
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off23 (v1 : BitVec 32) (v3 : BitVec 32) (v111 : BitVec 32) (k0_t5 : Fin (k0_t5_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let c1_i32_50 : BitVec 32 := 1#32
  let arg12 : BitVec 32 := Scf.iv c0_i32_48 c1_i32_50 k0_t5
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_45 : BitVec 32 := 256#32
  let v112 : BitVec 32 := Scalar.muli v111 c256_i32_45
  let v113 : BitVec 32 := v112
  let v189 : Index := Scalar.indexCast v113
  ![v188.toNat, v189.toNat]
def k0_off24 (v1 : BitVec 32) (v3 : BitVec 32) (v115 : BitVec 32) (k0_t5 : Fin (k0_t5_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let c1_i32_50 : BitVec 32 := 1#32
  let arg12 : BitVec 32 := Scf.iv c0_i32_48 c1_i32_50 k0_t5
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_46 : BitVec 32 := 256#32
  let v116 : BitVec 32 := Scalar.muli v115 c256_i32_46
  let v117 : BitVec 32 := v116
  let v198 : Index := Scalar.indexCast v117
  ![v197.toNat, v198.toNat]
@[reducible] def k0_t6_loop (v1 : BitVec 32) (v3 : BitVec 32) : Scf.Loop 32 :=
  let c0_i32_48 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v119 : BitVec 32 := Scalar.subi v43 c0_i32_48
  let c1_i32_49 : BitVec 32 := 1#32
  let v121 : BitVec 32 := Scalar.divsi v119 c1_i32_49
  let v122 : BitVec 32 := Scalar.muli v121 c1_i32_49
  let v123 : BitVec 32 := Scalar.addi c0_i32_48 v122
  let v120 : BitVec 32 := Scalar.addi c0_i32_48 v119
  let c1_i32_51 : BitVec 32 := 1#32
  ⟨v123, v120, c1_i32_51⟩
def k0_mult12 (v1 : BitVec 32) (v3 : BitVec 32) (k0_t6 : Fin (k0_t6_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v119 : BitVec 32 := Scalar.subi v43 c0_i32_48
  let c1_i32_49 : BitVec 32 := 1#32
  let v121 : BitVec 32 := Scalar.divsi v119 c1_i32_49
  let v122 : BitVec 32 := Scalar.muli v121 c1_i32_49
  let v123 : BitVec 32 := Scalar.addi c0_i32_48 v122
  let c1_i32_51 : BitVec 32 := 1#32
  let arg12 : BitVec 32 := Scf.iv v123 c1_i32_51 k0_t6
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off25 (v1 : BitVec 32) (v3 : BitVec 32) (k0_t6 : Fin (k0_t6_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v119 : BitVec 32 := Scalar.subi v43 c0_i32_48
  let c1_i32_49 : BitVec 32 := 1#32
  let v121 : BitVec 32 := Scalar.divsi v119 c1_i32_49
  let v122 : BitVec 32 := Scalar.muli v121 c1_i32_49
  let v123 : BitVec 32 := Scalar.addi c0_i32_48 v122
  let c1_i32_51 : BitVec 32 := 1#32
  let arg12 : BitVec 32 := Scf.iv v123 c1_i32_51 k0_t6
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off26 (v1 : BitVec 32) (v3 : BitVec 32) (v111 : BitVec 32) (k0_t6 : Fin (k0_t6_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v119 : BitVec 32 := Scalar.subi v43 c0_i32_48
  let c1_i32_49 : BitVec 32 := 1#32
  let v121 : BitVec 32 := Scalar.divsi v119 c1_i32_49
  let v122 : BitVec 32 := Scalar.muli v121 c1_i32_49
  let v123 : BitVec 32 := Scalar.addi c0_i32_48 v122
  let c1_i32_51 : BitVec 32 := 1#32
  let arg12 : BitVec 32 := Scf.iv v123 c1_i32_51 k0_t6
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_45 : BitVec 32 := 256#32
  let v112 : BitVec 32 := Scalar.muli v111 c256_i32_45
  let v113 : BitVec 32 := v112
  let v189 : Index := Scalar.indexCast v113
  ![v188.toNat, v189.toNat]

def k0_chk6 (v1 : BitVec 32) (v3 : BitVec 32) (v111 : BitVec 32) : Prop :=
  (256 ∣ (k0_mult9 v111).toNat) ∧
  (∀ k0_t5 : Fin (k0_t5_loop v1 v3).trips, ∀ a, (k0_off23 v1 v3 v111 k0_t5) a + S256x256.size a ≤ S2560x2048.size a) ∧
  (∀ k0_t6 : Fin (k0_t6_loop v1 v3).trips, ∀ a, (k0_off26 v1 v3 v111 k0_t6) a + S256x256.size a ≤ S2560x2048.size a)
theorem k0_mult9_dvd : ∀ (v1 : BitVec 32) (v3 : BitVec 32) (v111 : BitVec 32) (k0_hw6 : k0_chk6 v1 v3 v111), 256 ∣ (k0_mult9 v111).toNat := fun v1 v3 v111 k0_hw6 => k0_hw6.1
theorem k0_off23_inb : ∀ (v1 : BitVec 32) (v3 : BitVec 32) (v111 : BitVec 32) (k0_hw6 : k0_chk6 v1 v3 v111) (k0_t5 : Fin (k0_t5_loop v1 v3).trips), ∀ a, (k0_off23 v1 v3 v111 k0_t5) a + S256x256.size a ≤ S2560x2048.size a := fun v1 v3 v111 k0_hw6 k0_t5 => k0_hw6.2.1 k0_t5
theorem k0_off26_inb : ∀ (v1 : BitVec 32) (v3 : BitVec 32) (v111 : BitVec 32) (k0_hw6 : k0_chk6 v1 v3 v111) (k0_t6 : Fin (k0_t6_loop v1 v3).trips), ∀ a, (k0_off26 v1 v3 v111 k0_t6) a + S256x256.size a ≤ S2560x2048.size a := fun v1 v3 v111 k0_hw6 k0_t6 => k0_hw6.2.2 k0_t6

def k0_off27 (v1 : BitVec 32) (v3 : BitVec 32) (v115 : BitVec 32) (k0_t6 : Fin (k0_t6_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_48 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v119 : BitVec 32 := Scalar.subi v43 c0_i32_48
  let c1_i32_49 : BitVec 32 := 1#32
  let v121 : BitVec 32 := Scalar.divsi v119 c1_i32_49
  let v122 : BitVec 32 := Scalar.muli v121 c1_i32_49
  let v123 : BitVec 32 := Scalar.addi c0_i32_48 v122
  let c1_i32_51 : BitVec 32 := 1#32
  let arg12 : BitVec 32 := Scf.iv v123 c1_i32_51 k0_t6
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_46 : BitVec 32 := 256#32
  let v116 : BitVec 32 := Scalar.muli v115 c256_i32_46
  let v117 : BitVec 32 := v116
  let v198 : Index := Scalar.indexCast v117
  ![v197.toNat, v198.toNat]

def k0_chk7 (v1 : BitVec 32) (v3 : BitVec 32) (v115 : BitVec 32) : Prop :=
  (256 ∣ (k0_mult10 v115).toNat) ∧
  (∀ k0_t5 : Fin (k0_t5_loop v1 v3).trips, ∀ a, (k0_off24 v1 v3 v115 k0_t5) a + S256x256.size a ≤ S2560x2048.size a) ∧
  (∀ k0_t6 : Fin (k0_t6_loop v1 v3).trips, ∀ a, (k0_off27 v1 v3 v115 k0_t6) a + S256x256.size a ≤ S2560x2048.size a)
theorem k0_mult10_dvd : ∀ (v1 : BitVec 32) (v3 : BitVec 32) (v115 : BitVec 32) (k0_hw7 : k0_chk7 v1 v3 v115), 256 ∣ (k0_mult10 v115).toNat := fun v1 v3 v115 k0_hw7 => k0_hw7.1
theorem k0_off24_inb : ∀ (v1 : BitVec 32) (v3 : BitVec 32) (v115 : BitVec 32) (k0_hw7 : k0_chk7 v1 v3 v115) (k0_t5 : Fin (k0_t5_loop v1 v3).trips), ∀ a, (k0_off24 v1 v3 v115 k0_t5) a + S256x256.size a ≤ S2560x2048.size a := fun v1 v3 v115 k0_hw7 k0_t5 => k0_hw7.2.1 k0_t5
theorem k0_off27_inb : ∀ (v1 : BitVec 32) (v3 : BitVec 32) (v115 : BitVec 32) (k0_hw7 : k0_chk7 v1 v3 v115) (k0_t6 : Fin (k0_t6_loop v1 v3).trips), ∀ a, (k0_off27 v1 v3 v115 k0_t6) a + S256x256.size a ≤ S2560x2048.size a := fun v1 v3 v115 k0_hw7 k0_t6 => k0_hw7.2.2 k0_t6

def k0_off28 (i : grid0.Coords) : Fin 1 → Nat :=
  let arg0 : BitVec 32 := BitVec.ofNat 32 (i 0).val
  let v128 : Index := Scalar.indexCast arg0
  ![v128.toNat]
def k0_off29 (i : grid0.Coords) : Fin 1 → Nat :=
  let arg1 : BitVec 32 := BitVec.ofNat 32 (i 1).val
  let c4_i32_59 : BitVec 32 := 4#32
  let v140 : BitVec 32 := Scalar.muli arg1 c4_i32_59
  let c3_i32 : BitVec 32 := 3#32
  let v141 : BitVec 32 := Scalar.addi v140 c3_i32
  let v142 : Index := Scalar.indexCast v141
  ![v142.toNat]
def k0_mult13 (v143 : BitVec 32) : BitVec 32 :=
  let c256_i32_60 : BitVec 32 := 256#32
  let v144 : BitVec 32 := Scalar.muli v143 c256_i32_60
  v144

def k0_off30 (i : grid0.Coords) : Fin 1 → Nat :=
  let arg1 : BitVec 32 := BitVec.ofNat 32 (i 1).val
  let c4_i32_59 : BitVec 32 := 4#32
  let v140 : BitVec 32 := Scalar.muli arg1 c4_i32_59
  let c3_i32 : BitVec 32 := 3#32
  let v141 : BitVec 32 := Scalar.addi v140 c3_i32
  let v146 : Index := Scalar.indexCast v141
  ![v146.toNat]
def k0_mult14 (v147 : BitVec 32) : BitVec 32 :=
  let c256_i32_61 : BitVec 32 := 256#32
  let v148 : BitVec 32 := Scalar.muli v147 c256_i32_61
  v148

@[reducible] def k0_t7_loop (v1 : BitVec 32) (v3 : BitVec 32) : Scf.Loop 32 :=
  let c0_i32_63 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v151 : BitVec 32 := Scalar.subi v43 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_65 : BitVec 32 := 1#32
  ⟨c0_i32_63, v155, c1_i32_65⟩
def k0_mult15 (v1 : BitVec 32) (v3 : BitVec 32) (k0_t7 : Fin (k0_t7_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let c1_i32_65 : BitVec 32 := 1#32
  let arg12 : BitVec 32 := Scf.iv c0_i32_63 c1_i32_65 k0_t7
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off31 (v1 : BitVec 32) (v3 : BitVec 32) (k0_t7 : Fin (k0_t7_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let c1_i32_65 : BitVec 32 := 1#32
  let arg12 : BitVec 32 := Scf.iv c0_i32_63 c1_i32_65 k0_t7
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]
def k0_off32 (v1 : BitVec 32) (v3 : BitVec 32) (v143 : BitVec 32) (k0_t7 : Fin (k0_t7_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let c1_i32_65 : BitVec 32 := 1#32
  let arg12 : BitVec 32 := Scf.iv c0_i32_63 c1_i32_65 k0_t7
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_60 : BitVec 32 := 256#32
  let v144 : BitVec 32 := Scalar.muli v143 c256_i32_60
  let v145 : BitVec 32 := v144
  let v189 : Index := Scalar.indexCast v145
  ![v188.toNat, v189.toNat]
def k0_off33 (v1 : BitVec 32) (v3 : BitVec 32) (v147 : BitVec 32) (k0_t7 : Fin (k0_t7_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let c1_i32_65 : BitVec 32 := 1#32
  let arg12 : BitVec 32 := Scf.iv c0_i32_63 c1_i32_65 k0_t7
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_61 : BitVec 32 := 256#32
  let v148 : BitVec 32 := Scalar.muli v147 c256_i32_61
  let v149 : BitVec 32 := v148
  let v198 : Index := Scalar.indexCast v149
  ![v197.toNat, v198.toNat]
@[reducible] def k0_t8_loop (v1 : BitVec 32) (v3 : BitVec 32) : Scf.Loop 32 :=
  let c0_i32_63 : BitVec 32 := 0#32
  let v22 : BitVec 1 := Scalar.cmpi .sgt v3 v1
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v151 : BitVec 32 := Scalar.subi v43 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let v152 : BitVec 32 := Scalar.addi c0_i32_63 v151
  let c1_i32_66 : BitVec 32 := 1#32
  ⟨v155, v152, c1_i32_66⟩
def k0_mult16 (v1 : BitVec 32) (v3 : BitVec 32) (k0_t8 : Fin (k0_t8_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v151 : BitVec 32 := Scalar.subi v43 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t8
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  v174
def k0_off34 (v1 : BitVec 32) (v3 : BitVec 32) (k0_t8 : Fin (k0_t8_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v151 : BitVec 32 := Scalar.subi v43 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t8
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v185 : Index := Scalar.indexCast v175
  let c0_75 : Index := 0#32
  ![v185.toNat, 0]

def k0_chk3 (v1 : BitVec 32) (v3 : BitVec 32) : Prop :=
  ((k0_t1_loop v1 v3).OK) ∧
  (∀ k0_t1 : Fin (k0_t1_loop v1 v3).trips, 32 ∣ (k0_mult3 v1 v3 k0_t1).toNat) ∧
  (∀ k0_t1 : Fin (k0_t1_loop v1 v3).trips, ∀ a, (k0_off4 v1 v3 k0_t1) a + S256x1.size a ≤ S2560x128.size a) ∧
  ((k0_t2_loop v1 v3).OK) ∧
  (∀ k0_t2 : Fin (k0_t2_loop v1 v3).trips, 32 ∣ (k0_mult4 v1 v3 k0_t2).toNat) ∧
  (∀ k0_t2 : Fin (k0_t2_loop v1 v3).trips, ∀ a, (k0_off7 v1 v3 k0_t2) a + S256x1.size a ≤ S2560x128.size a) ∧
  ((k0_t3_loop v1 v3).OK) ∧
  (∀ k0_t3 : Fin (k0_t3_loop v1 v3).trips, 32 ∣ (k0_mult7 v1 v3 k0_t3).toNat) ∧
  (∀ k0_t3 : Fin (k0_t3_loop v1 v3).trips, ∀ a, (k0_off13 v1 v3 k0_t3) a + S256x1.size a ≤ S2560x128.size a) ∧
  ((k0_t4_loop v1 v3).OK) ∧
  (∀ k0_t4 : Fin (k0_t4_loop v1 v3).trips, 32 ∣ (k0_mult8 v1 v3 k0_t4).toNat) ∧
  (∀ k0_t4 : Fin (k0_t4_loop v1 v3).trips, ∀ a, (k0_off16 v1 v3 k0_t4) a + S256x1.size a ≤ S2560x128.size a) ∧
  ((k0_t5_loop v1 v3).OK) ∧
  (∀ k0_t5 : Fin (k0_t5_loop v1 v3).trips, 32 ∣ (k0_mult11 v1 v3 k0_t5).toNat) ∧
  (∀ k0_t5 : Fin (k0_t5_loop v1 v3).trips, ∀ a, (k0_off22 v1 v3 k0_t5) a + S256x1.size a ≤ S2560x128.size a) ∧
  ((k0_t6_loop v1 v3).OK) ∧
  (∀ k0_t6 : Fin (k0_t6_loop v1 v3).trips, 32 ∣ (k0_mult12 v1 v3 k0_t6).toNat) ∧
  (∀ k0_t6 : Fin (k0_t6_loop v1 v3).trips, ∀ a, (k0_off25 v1 v3 k0_t6) a + S256x1.size a ≤ S2560x128.size a) ∧
  ((k0_t7_loop v1 v3).OK) ∧
  (∀ k0_t7 : Fin (k0_t7_loop v1 v3).trips, 32 ∣ (k0_mult15 v1 v3 k0_t7).toNat) ∧
  (∀ k0_t7 : Fin (k0_t7_loop v1 v3).trips, ∀ a, (k0_off31 v1 v3 k0_t7) a + S256x1.size a ≤ S2560x128.size a) ∧
  ((k0_t8_loop v1 v3).OK) ∧
  (∀ k0_t8 : Fin (k0_t8_loop v1 v3).trips, 32 ∣ (k0_mult16 v1 v3 k0_t8).toNat) ∧
  (∀ k0_t8 : Fin (k0_t8_loop v1 v3).trips, ∀ a, (k0_off34 v1 v3 k0_t8) a + S256x1.size a ≤ S2560x128.size a)
theorem k0_t1_ok : ∀ (v1 : BitVec 32) (v3 : BitVec 32) (k0_hw3 : k0_chk3 v1 v3), (k0_t1_loop v1 v3).OK := fun v1 v3 k0_hw3 => k0_hw3.1
theorem k0_mult3_dvd : ∀ (v1 : BitVec 32) (v3 : BitVec 32) (k0_hw3 : k0_chk3 v1 v3) (k0_t1 : Fin (k0_t1_loop v1 v3).trips), 32 ∣ (k0_mult3 v1 v3 k0_t1).toNat := fun v1 v3 k0_hw3 k0_t1 => k0_hw3.2.1 k0_t1
theorem k0_off4_inb : ∀ (v1 : BitVec 32) (v3 : BitVec 32) (k0_hw3 : k0_chk3 v1 v3) (k0_t1 : Fin (k0_t1_loop v1 v3).trips), ∀ a, (k0_off4 v1 v3 k0_t1) a + S256x1.size a ≤ S2560x128.size a := fun v1 v3 k0_hw3 k0_t1 => k0_hw3.2.2.1 k0_t1
theorem k0_t2_ok : ∀ (v1 : BitVec 32) (v3 : BitVec 32) (k0_hw3 : k0_chk3 v1 v3), (k0_t2_loop v1 v3).OK := fun v1 v3 k0_hw3 => k0_hw3.2.2.2.1
theorem k0_mult4_dvd : ∀ (v1 : BitVec 32) (v3 : BitVec 32) (k0_hw3 : k0_chk3 v1 v3) (k0_t2 : Fin (k0_t2_loop v1 v3).trips), 32 ∣ (k0_mult4 v1 v3 k0_t2).toNat := fun v1 v3 k0_hw3 k0_t2 => k0_hw3.2.2.2.2.1 k0_t2
theorem k0_off7_inb : ∀ (v1 : BitVec 32) (v3 : BitVec 32) (k0_hw3 : k0_chk3 v1 v3) (k0_t2 : Fin (k0_t2_loop v1 v3).trips), ∀ a, (k0_off7 v1 v3 k0_t2) a + S256x1.size a ≤ S2560x128.size a := fun v1 v3 k0_hw3 k0_t2 => k0_hw3.2.2.2.2.2.1 k0_t2
theorem k0_t3_ok : ∀ (v1 : BitVec 32) (v3 : BitVec 32) (k0_hw3 : k0_chk3 v1 v3), (k0_t3_loop v1 v3).OK := fun v1 v3 k0_hw3 => k0_hw3.2.2.2.2.2.2.1
theorem k0_mult7_dvd : ∀ (v1 : BitVec 32) (v3 : BitVec 32) (k0_hw3 : k0_chk3 v1 v3) (k0_t3 : Fin (k0_t3_loop v1 v3).trips), 32 ∣ (k0_mult7 v1 v3 k0_t3).toNat := fun v1 v3 k0_hw3 k0_t3 => k0_hw3.2.2.2.2.2.2.2.1 k0_t3
theorem k0_off13_inb : ∀ (v1 : BitVec 32) (v3 : BitVec 32) (k0_hw3 : k0_chk3 v1 v3) (k0_t3 : Fin (k0_t3_loop v1 v3).trips), ∀ a, (k0_off13 v1 v3 k0_t3) a + S256x1.size a ≤ S2560x128.size a := fun v1 v3 k0_hw3 k0_t3 => k0_hw3.2.2.2.2.2.2.2.2.1 k0_t3
theorem k0_t4_ok : ∀ (v1 : BitVec 32) (v3 : BitVec 32) (k0_hw3 : k0_chk3 v1 v3), (k0_t4_loop v1 v3).OK := fun v1 v3 k0_hw3 => k0_hw3.2.2.2.2.2.2.2.2.2.1
theorem k0_mult8_dvd : ∀ (v1 : BitVec 32) (v3 : BitVec 32) (k0_hw3 : k0_chk3 v1 v3) (k0_t4 : Fin (k0_t4_loop v1 v3).trips), 32 ∣ (k0_mult8 v1 v3 k0_t4).toNat := fun v1 v3 k0_hw3 k0_t4 => k0_hw3.2.2.2.2.2.2.2.2.2.2.1 k0_t4
theorem k0_off16_inb : ∀ (v1 : BitVec 32) (v3 : BitVec 32) (k0_hw3 : k0_chk3 v1 v3) (k0_t4 : Fin (k0_t4_loop v1 v3).trips), ∀ a, (k0_off16 v1 v3 k0_t4) a + S256x1.size a ≤ S2560x128.size a := fun v1 v3 k0_hw3 k0_t4 => k0_hw3.2.2.2.2.2.2.2.2.2.2.2.1 k0_t4
theorem k0_t5_ok : ∀ (v1 : BitVec 32) (v3 : BitVec 32) (k0_hw3 : k0_chk3 v1 v3), (k0_t5_loop v1 v3).OK := fun v1 v3 k0_hw3 => k0_hw3.2.2.2.2.2.2.2.2.2.2.2.2.1
theorem k0_mult11_dvd : ∀ (v1 : BitVec 32) (v3 : BitVec 32) (k0_hw3 : k0_chk3 v1 v3) (k0_t5 : Fin (k0_t5_loop v1 v3).trips), 32 ∣ (k0_mult11 v1 v3 k0_t5).toNat := fun v1 v3 k0_hw3 k0_t5 => k0_hw3.2.2.2.2.2.2.2.2.2.2.2.2.2.1 k0_t5
theorem k0_off22_inb : ∀ (v1 : BitVec 32) (v3 : BitVec 32) (k0_hw3 : k0_chk3 v1 v3) (k0_t5 : Fin (k0_t5_loop v1 v3).trips), ∀ a, (k0_off22 v1 v3 k0_t5) a + S256x1.size a ≤ S2560x128.size a := fun v1 v3 k0_hw3 k0_t5 => k0_hw3.2.2.2.2.2.2.2.2.2.2.2.2.2.2.1 k0_t5
theorem k0_t6_ok : ∀ (v1 : BitVec 32) (v3 : BitVec 32) (k0_hw3 : k0_chk3 v1 v3), (k0_t6_loop v1 v3).OK := fun v1 v3 k0_hw3 => k0_hw3.2.2.2.2.2.2.2.2.2.2.2.2.2.2.2.1
theorem k0_mult12_dvd : ∀ (v1 : BitVec 32) (v3 : BitVec 32) (k0_hw3 : k0_chk3 v1 v3) (k0_t6 : Fin (k0_t6_loop v1 v3).trips), 32 ∣ (k0_mult12 v1 v3 k0_t6).toNat := fun v1 v3 k0_hw3 k0_t6 => k0_hw3.2.2.2.2.2.2.2.2.2.2.2.2.2.2.2.2.1 k0_t6
theorem k0_off25_inb : ∀ (v1 : BitVec 32) (v3 : BitVec 32) (k0_hw3 : k0_chk3 v1 v3) (k0_t6 : Fin (k0_t6_loop v1 v3).trips), ∀ a, (k0_off25 v1 v3 k0_t6) a + S256x1.size a ≤ S2560x128.size a := fun v1 v3 k0_hw3 k0_t6 => k0_hw3.2.2.2.2.2.2.2.2.2.2.2.2.2.2.2.2.2.1 k0_t6
theorem k0_t7_ok : ∀ (v1 : BitVec 32) (v3 : BitVec 32) (k0_hw3 : k0_chk3 v1 v3), (k0_t7_loop v1 v3).OK := fun v1 v3 k0_hw3 => k0_hw3.2.2.2.2.2.2.2.2.2.2.2.2.2.2.2.2.2.2.1
theorem k0_mult15_dvd : ∀ (v1 : BitVec 32) (v3 : BitVec 32) (k0_hw3 : k0_chk3 v1 v3) (k0_t7 : Fin (k0_t7_loop v1 v3).trips), 32 ∣ (k0_mult15 v1 v3 k0_t7).toNat := fun v1 v3 k0_hw3 k0_t7 => k0_hw3.2.2.2.2.2.2.2.2.2.2.2.2.2.2.2.2.2.2.2.1 k0_t7
theorem k0_off31_inb : ∀ (v1 : BitVec 32) (v3 : BitVec 32) (k0_hw3 : k0_chk3 v1 v3) (k0_t7 : Fin (k0_t7_loop v1 v3).trips), ∀ a, (k0_off31 v1 v3 k0_t7) a + S256x1.size a ≤ S2560x128.size a := fun v1 v3 k0_hw3 k0_t7 => k0_hw3.2.2.2.2.2.2.2.2.2.2.2.2.2.2.2.2.2.2.2.2.1 k0_t7
theorem k0_t8_ok : ∀ (v1 : BitVec 32) (v3 : BitVec 32) (k0_hw3 : k0_chk3 v1 v3), (k0_t8_loop v1 v3).OK := fun v1 v3 k0_hw3 => k0_hw3.2.2.2.2.2.2.2.2.2.2.2.2.2.2.2.2.2.2.2.2.2.1
theorem k0_mult16_dvd : ∀ (v1 : BitVec 32) (v3 : BitVec 32) (k0_hw3 : k0_chk3 v1 v3) (k0_t8 : Fin (k0_t8_loop v1 v3).trips), 32 ∣ (k0_mult16 v1 v3 k0_t8).toNat := fun v1 v3 k0_hw3 k0_t8 => k0_hw3.2.2.2.2.2.2.2.2.2.2.2.2.2.2.2.2.2.2.2.2.2.2.1 k0_t8
theorem k0_off34_inb : ∀ (v1 : BitVec 32) (v3 : BitVec 32) (k0_hw3 : k0_chk3 v1 v3) (k0_t8 : Fin (k0_t8_loop v1 v3).trips), ∀ a, (k0_off34 v1 v3 k0_t8) a + S256x1.size a ≤ S2560x128.size a := fun v1 v3 k0_hw3 k0_t8 => k0_hw3.2.2.2.2.2.2.2.2.2.2.2.2.2.2.2.2.2.2.2.2.2.2.2 k0_t8

def k0_off35 (v1 : BitVec 32) (v3 : BitVec 32) (v143 : BitVec 32) (k0_t8 : Fin (k0_t8_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v151 : BitVec 32 := Scalar.subi v43 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t8
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v188 : Index := Scalar.indexCast v175
  let c256_i32_60 : BitVec 32 := 256#32
  let v144 : BitVec 32 := Scalar.muli v143 c256_i32_60
  let v145 : BitVec 32 := v144
  let v189 : Index := Scalar.indexCast v145
  ![v188.toNat, v189.toNat]

def k0_chk8 (v1 : BitVec 32) (v3 : BitVec 32) (v143 : BitVec 32) : Prop :=
  (256 ∣ (k0_mult13 v143).toNat) ∧
  (∀ k0_t7 : Fin (k0_t7_loop v1 v3).trips, ∀ a, (k0_off32 v1 v3 v143 k0_t7) a + S256x256.size a ≤ S2560x2048.size a) ∧
  (∀ k0_t8 : Fin (k0_t8_loop v1 v3).trips, ∀ a, (k0_off35 v1 v3 v143 k0_t8) a + S256x256.size a ≤ S2560x2048.size a)
theorem k0_mult13_dvd : ∀ (v1 : BitVec 32) (v3 : BitVec 32) (v143 : BitVec 32) (k0_hw8 : k0_chk8 v1 v3 v143), 256 ∣ (k0_mult13 v143).toNat := fun v1 v3 v143 k0_hw8 => k0_hw8.1
theorem k0_off32_inb : ∀ (v1 : BitVec 32) (v3 : BitVec 32) (v143 : BitVec 32) (k0_hw8 : k0_chk8 v1 v3 v143) (k0_t7 : Fin (k0_t7_loop v1 v3).trips), ∀ a, (k0_off32 v1 v3 v143 k0_t7) a + S256x256.size a ≤ S2560x2048.size a := fun v1 v3 v143 k0_hw8 k0_t7 => k0_hw8.2.1 k0_t7
theorem k0_off35_inb : ∀ (v1 : BitVec 32) (v3 : BitVec 32) (v143 : BitVec 32) (k0_hw8 : k0_chk8 v1 v3 v143) (k0_t8 : Fin (k0_t8_loop v1 v3).trips), ∀ a, (k0_off35 v1 v3 v143 k0_t8) a + S256x256.size a ≤ S2560x2048.size a := fun v1 v3 v143 k0_hw8 k0_t8 => k0_hw8.2.2 k0_t8

def k0_off36 (v1 : BitVec 32) (v3 : BitVec 32) (v147 : BitVec 32) (k0_t8 : Fin (k0_t8_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_63 : BitVec 32 := 0#32
  let v22 : BitVec 1 := Scalar.cmpi .sgt v3 v1
  let v23 : BitVec 32 := Scalar.subi v3 v21
  let c256_i32 : BitVec 32 := 256#32
  let v24 : BitVec 32 := Scalar.addi v23 c256_i32
  let c1_i32_5 : BitVec 32 := 1#32
  let v25 : BitVec 32 := Scalar.subi v24 c1_i32_5
  let c0_i32_7 : BitVec 32 := 0#32
  let v27 : BitVec 1 := Scalar.cmpi .sgt v25 c0_i32_7
  let v28 : BitVec 32 := Scalar.extui v27
  let c0_i32_8 : BitVec 32 := 0#32
  let v29 : BitVec 1 := Scalar.cmpi .slt v25 c0_i32_8
  let v30 : BitVec 32 := Scalar.extui v29
  let v31 : BitVec 32 := Scalar.subi v28 v30
  let c256_i32_6 : BitVec 32 := 256#32
  let c0_i32_9 : BitVec 32 := 0#32
  let v32 : BitVec 1 := Scalar.cmpi .sgt c256_i32_6 c0_i32_9
  let v33 : BitVec 32 := Scalar.extui v32
  let c0_i32_10 : BitVec 32 := 0#32
  let v34 : BitVec 1 := Scalar.cmpi .slt c256_i32_6 c0_i32_10
  let v35 : BitVec 32 := Scalar.extui v34
  let v36 : BitVec 32 := Scalar.subi v33 v35
  let v37 : BitVec 1 := Scalar.cmpi .ne v31 v36
  let v38 : BitVec 32 := Scalar.remsi v25 c256_i32_6
  let c0_i32_11 : BitVec 32 := 0#32
  let v39 : BitVec 1 := Scalar.cmpi .ne v38 c0_i32_11
  let v40 : BitVec 1 := Scalar.andi v37 v39
  let v26 : BitVec 32 := Scalar.divsi v25 c256_i32_6
  let c1_i32_12 : BitVec 32 := 1#32
  let v41 : BitVec 32 := Scalar.subi v26 c1_i32_12
  let v42 : BitVec 32 := Scalar.select v40 v41 v26
  let c0_i32_13 : BitVec 32 := 0#32
  let v43 : BitVec 32 := Scalar.select v22 v42 c0_i32_13
  let v151 : BitVec 32 := Scalar.subi v43 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t8
  let c256_i32_74 : BitVec 32 := 256#32
  let v172 : BitVec 32 := Scalar.muli arg12 c256_i32_74
  let v173 : BitVec 32 := Scalar.addi v21 v172
  let c2304_i32 : BitVec 32 := 2304#32
  let v174 : BitVec 32 := Scalar.minsi v173 c2304_i32
  let v175 : BitVec 32 := v174
  let v197 : Index := Scalar.indexCast v175
  let c256_i32_61 : BitVec 32 := 256#32
  let v148 : BitVec 32 := Scalar.muli v147 c256_i32_61
  let v149 : BitVec 32 := v148
  let v198 : Index := Scalar.indexCast v149
  ![v197.toNat, v198.toNat]

def k0_chk9 (v1 : BitVec 32) (v3 : BitVec 32) (v147 : BitVec 32) : Prop :=
  (256 ∣ (k0_mult14 v147).toNat) ∧
  (∀ k0_t7 : Fin (k0_t7_loop v1 v3).trips, ∀ a, (k0_off33 v1 v3 v147 k0_t7) a + S256x256.size a ≤ S2560x2048.size a) ∧
  (∀ k0_t8 : Fin (k0_t8_loop v1 v3).trips, ∀ a, (k0_off36 v1 v3 v147 k0_t8) a + S256x256.size a ≤ S2560x2048.size a)
theorem k0_mult14_dvd : ∀ (v1 : BitVec 32) (v3 : BitVec 32) (v147 : BitVec 32) (k0_hw9 : k0_chk9 v1 v3 v147), 256 ∣ (k0_mult14 v147).toNat := fun v1 v3 v147 k0_hw9 => k0_hw9.1
theorem k0_off33_inb : ∀ (v1 : BitVec 32) (v3 : BitVec 32) (v147 : BitVec 32) (k0_hw9 : k0_chk9 v1 v3 v147) (k0_t7 : Fin (k0_t7_loop v1 v3).trips), ∀ a, (k0_off33 v1 v3 v147 k0_t7) a + S256x256.size a ≤ S2560x2048.size a := fun v1 v3 v147 k0_hw9 k0_t7 => k0_hw9.2.1 k0_t7
theorem k0_off36_inb : ∀ (v1 : BitVec 32) (v3 : BitVec 32) (v147 : BitVec 32) (k0_hw9 : k0_chk9 v1 v3 v147) (k0_t8 : Fin (k0_t8_loop v1 v3).trips), ∀ a, (k0_off36 v1 v3 v147 k0_t8) a + S256x256.size a ≤ S2560x2048.size a := fun v1 v3 v147 k0_hw9 k0_t8 => k0_hw9.2.2 k0_t8

def k0_off37 (i : grid0.Coords) : Fin 1 → Nat :=
  let arg0 : BitVec 32 := BitVec.ofNat 32 (i 0).val
  let v160 : Index := Scalar.indexCast arg0
  ![v160.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S8 : Shape := ⟨1, ![8]⟩
abbrev S2560x2048 : Shape := ⟨2, ![2560, 2048]⟩
abbrev S2560x128 : Shape := ⟨2, ![2560, 128]⟩
abbrev S8x36x256x256 : Shape := ⟨4, ![8, 36, 256, 256]⟩
abbrev S36 : Shape := ⟨1, ![36]⟩
abbrev S2560x1 : Shape := ⟨2, ![2560, 1]⟩
abbrev S2560 : Shape := ⟨1, ![2560]⟩
abbrev S_ : Shape := ⟨0, ![]⟩
abbrev S8x1 : Shape := ⟨2, ![8, 1]⟩
abbrev S1x2560 : Shape := ⟨2, ![1, 2560]⟩
abbrev S8x2560 : Shape := ⟨2, ![8, 2560]⟩
abbrev S8x2560x1 : Shape := ⟨3, ![8, 2560, 1]⟩
abbrev S8x2560x2048 : Shape := ⟨3, ![8, 2560, 2048]⟩
abbrev S8x2048x2048 : Shape := ⟨3, ![8, 2048, 2048]⟩
abbrev S8x8x256x8x256 : Shape := ⟨5, ![8, 8, 256, 8, 256]⟩
abbrev S8x8x8x256x256 : Shape := ⟨5, ![8, 8, 8, 256, 256]⟩
abbrev S36x1 : Shape := ⟨2, ![36, 1]⟩
abbrev S36x2 : Shape := ⟨2, ![36, 2]⟩
abbrev S8x1x1x1 : Shape := ⟨4, ![8, 1, 1, 1]⟩

abbrev nBuf : Space → Nat
  | .hbm => 85
  | .vmem => 2
  | .smem => 0
  | _ => 0

abbrev bufTy : (tb : Table) → Fin (tcTables nBuf tb) → BufTy
  | .hbm, ⟨0, _⟩ => ⟨S8, .i32⟩
  | .hbm, ⟨1, _⟩ => ⟨S2560x2048, .fp8e4m3⟩
  | .hbm, ⟨2, _⟩ => ⟨S2560x128, .f32⟩
  | .hbm, ⟨3, _⟩ => ⟨S8x36x256x256, .f32⟩
  | .hbm, ⟨4, _⟩ => ⟨S8, .i32⟩
  | .hbm, ⟨5, _⟩ => ⟨S36, .i32⟩
  | .hbm, ⟨6, _⟩ => ⟨S36, .i1⟩
  | .hbm, ⟨7, _⟩ => ⟨S36, .i32⟩
  | .hbm, ⟨8, _⟩ => ⟨S36, .i1⟩
  | .hbm, ⟨9, _⟩ => ⟨S2560x2048, .f32⟩
  | .hbm, ⟨10, _⟩ => ⟨S2560x1, .f32⟩
  | .hbm, ⟨11, _⟩ => ⟨S2560, .f32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8x1, .i32⟩
  | .hbm, ⟨17, _⟩ => ⟨S_, .i32⟩
  | .hbm, ⟨18, _⟩ => ⟨S8x1, .i32⟩
  | .hbm, ⟨19, _⟩ => ⟨S8x1, .i32⟩
  | .hbm, ⟨20, _⟩ => ⟨S2560, .i32⟩
  | .hbm, ⟨21, _⟩ => ⟨S1x2560, .i32⟩
  | .hbm, ⟨22, _⟩ => ⟨S8x2560, .i32⟩
  | .hbm, ⟨23, _⟩ => ⟨S8x2560, .i32⟩
  | .hbm, ⟨24, _⟩ => ⟨S8x2560, .i1⟩
  | .hbm, ⟨25, _⟩ => ⟨S_, .i32⟩
  | .hbm, ⟨26, _⟩ => ⟨S8x1, .i32⟩
  | .hbm, ⟨27, _⟩ => ⟨S8x1, .i32⟩
  | .hbm, ⟨28, _⟩ => ⟨S8x2560, .i32⟩
  | .hbm, ⟨29, _⟩ => ⟨S8x2560, .i32⟩
  | .hbm, ⟨30, _⟩ => ⟨S8x2560, .i1⟩
  | .hbm, ⟨31, _⟩ => ⟨S8x2560, .i1⟩
  | .hbm, ⟨32, _⟩ => ⟨S8x2560, .i32⟩
  | .hbm, ⟨33, _⟩ => ⟨S8x2560, .i32⟩
  | .hbm, ⟨34, _⟩ => ⟨S8x2560, .i1⟩
  | .hbm, ⟨35, _⟩ => ⟨S8x2560, .i1⟩
  | .hbm, ⟨36, _⟩ => ⟨S8x1, .i32⟩
  | .hbm, ⟨37, _⟩ => ⟨S8x1, .i32⟩
  | .hbm, ⟨38, _⟩ => ⟨S8x2560, .i32⟩
  | .hbm, ⟨39, _⟩ => ⟨S8x2560, .i32⟩
  | .hbm, ⟨40, _⟩ => ⟨S8x2560, .i1⟩
  | .hbm, ⟨41, _⟩ => ⟨S8x2560, .i1⟩
  | .hbm, ⟨42, _⟩ => ⟨S8x2560x1, .i1⟩
  | .hbm, ⟨43, _⟩ => ⟨S2560, .f32⟩
  | .hbm, ⟨44, _⟩ => ⟨S2560x1, .f32⟩
  | .hbm, ⟨45, _⟩ => ⟨S2560x2048, .f32⟩
  | .hbm, ⟨46, _⟩ => ⟨S2560x2048, .f32⟩
  | .hbm, ⟨47, _⟩ => ⟨S_, .f32⟩
  | .hbm, ⟨48, _⟩ => ⟨S_, .f32⟩
  | .hbm, ⟨49, _⟩ => ⟨S8x2560x2048, .i1⟩
  | .hbm, ⟨50, _⟩ => ⟨S8x2560x2048, .f32⟩
  | .hbm, ⟨51, _⟩ => ⟨S8x2560x2048, .f32⟩
  | .hbm, ⟨52, _⟩ => ⟨S8x2560x2048, .f32⟩
  | .hbm, ⟨53, _⟩ => ⟨S8x2560x2048, .bf16⟩
  | .hbm, ⟨54, _⟩ => ⟨S2560x2048, .bf16⟩
  | .hbm, ⟨55, _⟩ => ⟨S8x2048x2048, .f32⟩
  | .hbm, ⟨56, _⟩ => ⟨S8x8x256x8x256, .f32⟩
  | .hbm, ⟨57, _⟩ => ⟨S8x8x8x256x256, .f32⟩
  | .hbm, ⟨58, _⟩ => ⟨S_, .i32⟩
  | .hbm, ⟨59, _⟩ => ⟨S36, .i32⟩
  | .hbm, ⟨60, _⟩ => ⟨S36, .i32⟩
  | .hbm, ⟨61, _⟩ => ⟨S36, .i32⟩
  | .hbm, ⟨62, _⟩ => ⟨S_, .i32⟩
  | .hbm, ⟨63, _⟩ => ⟨S36, .i32⟩
  | .hbm, ⟨64, _⟩ => ⟨S36, .i32⟩
  | .hbm, ⟨65, _⟩ => ⟨S36, .i32⟩
  | .hbm, ⟨66, _⟩ => ⟨S36x1, .i32⟩
  | .hbm, ⟨67, _⟩ => ⟨S36x1, .i32⟩
  | .hbm, ⟨68, _⟩ => ⟨S36x2, .i32⟩
  | .hbm, ⟨69, _⟩ => ⟨S8x36x256x256, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S8x1x1x1, .f32⟩
  | .hbm, ⟨75, _⟩ => ⟨S8x36x256x256, .f32⟩
  | .hbm, ⟨76, _⟩ => ⟨S8x36x256x256, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S8x1x1x1, .f32⟩
  | .hbm, ⟨81, _⟩ => ⟨S8x36x256x256, .f32⟩
  | .hbm, ⟨82, _⟩ => ⟨S8x36x256x256, .f32⟩
  | .hbm, ⟨83, _⟩ => ⟨S8x36x256x256, .f32⟩
  | .hbm, ⟨84, _⟩ => ⟨S8, .i32⟩
  | .local _ .vmem, ⟨0, _⟩ => ⟨S2560x2048, .fp8e4m3⟩
  | .local _ .vmem, ⟨1, _⟩ => ⟨S2560x2048, .f32⟩
  | _, _ => ⟨S8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_call0_c : Ref sig .tc := ⟨.hbm, 12, rfl⟩
abbrev main_call0_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2560x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== GateUp.lean ====
abbrev S8 : Shape := ⟨1, ![8]⟩
abbrev S2560x6144 : Shape := ⟨2, ![2560, 6144]⟩
abbrev S2560 : Shape := ⟨1, ![2560]⟩
abbrev S8x6144x2048 : Shape := ⟨3, ![8, 6144, 2048]⟩
abbrev S8x2048 : Shape := ⟨2, ![8, 2048]⟩
abbrev S_ : Shape := ⟨0, ![]⟩
abbrev S2560x1 : Shape := ⟨2, ![2560, 1]⟩
abbrev S2560x2048 : Shape := ⟨2, ![2560, 2048]⟩
abbrev S2560x128 : Shape := ⟨2, ![2560, 128]⟩
abbrev S1x6144x256 : Shape := ⟨3, ![1, 6144, 256]⟩
abbrev S1 : Shape := ⟨1, ![1]⟩
abbrev S1x256 : Shape := ⟨2, ![1, 256]⟩
abbrev S128x6144 : Shape := ⟨2, ![128, 6144]⟩
abbrev S128x1 : Shape := ⟨2, ![128, 1]⟩
abbrev S6144x256 : Shape := ⟨2, ![6144, 256]⟩
abbrev S128x256 : Shape := ⟨2, ![128, 256]⟩
abbrev S256 : Shape := ⟨1, ![256]⟩
abbrev S32x2048 : Shape := ⟨2, ![32, 2048]⟩
abbrev S32 : Shape := ⟨1, ![32]⟩
abbrev S32x1 : Shape := ⟨2, ![32, 1]⟩
abbrev S32x256 : Shape := ⟨2, ![32, 256]⟩
abbrev S32x128 : Shape := ⟨2, ![32, 128]⟩

abbrev nBuf : Space → Nat
  | .hbm => 33
  | .vmem => 12
  | .smem => 3
  | _ => 0

abbrev bufTy : (tb : Table) → Fin (tcTables nBuf tb) → BufTy
  | .hbm, ⟨0, _⟩ => ⟨S2560x6144, .fp8e4m3⟩
  | .hbm, ⟨1, _⟩ => ⟨S2560, .f32⟩
  | .hbm, ⟨2, _⟩ => ⟨S8x6144x2048, .fp8e4m3⟩
  | .hbm, ⟨3, _⟩ => ⟨S8x2048, .f32⟩
  | .hbm, ⟨4, _⟩ => ⟨S8x6144x2048, .fp8e4m3⟩
  | .hbm, ⟨5, _⟩ => ⟨S8x2048, .f32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S2560x1, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i1⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S8, .i32⟩
  | .hbm, ⟨30, _⟩ => ⟨S2560x2048, .fp8e4m3⟩
  | .hbm, ⟨31, _⟩ => ⟨S2560x128, .f32⟩
  | .hbm, ⟨32, _⟩ => ⟨S8x2048, .f32⟩
  | .local _ .vmem, ⟨0, _⟩ => ⟨S2560x6144, .fp8e4m3⟩
  | .local _ .vmem, ⟨1, _⟩ => ⟨S2560x1, .f32⟩
  | .local _ .vmem, ⟨2, _⟩ => ⟨S1x6144x256, .fp8e4m3⟩
  | .local _ .vmem, ⟨3, _⟩ => ⟨S1x6144x256, .fp8e4m3⟩
  | .local _ .vmem, ⟨4, _⟩ => ⟨S8x2048, .f32⟩
  | .local _ .vmem, ⟨5, _⟩ => ⟨S1x6144x256, .fp8e4m3⟩
  | .local _ .vmem, ⟨6, _⟩ => ⟨S1x6144x256, .fp8e4m3⟩
  | .local _ .vmem, ⟨7, _⟩ => ⟨S8x2048, .f32⟩
  | .local _ .vmem, ⟨8, _⟩ => ⟨S2560x2048, .fp8e4m3⟩
  | .local _ .vmem, ⟨9, _⟩ => ⟨S2560x128, .f32⟩
  | .local _ .vmem, ⟨10, _⟩ => ⟨S8x2048, .f32⟩
  | .local _ .vmem, ⟨11, _⟩ => ⟨S2560x2048, .f32⟩
  | .local _ .smem, ⟨0, _⟩ => ⟨S8, .i32⟩
  | .local _ .smem, ⟨1, _⟩ => ⟨S8, .i32⟩
  | .local _ .smem, ⟨2, _⟩ => ⟨S8, .i32⟩
  | _, _ => ⟨S2560x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_call2_c : Ref sig .tc := ⟨.hbm, 18, rfl⟩
abbrev main_call2_v0 : Ref sig .tc := ⟨.hbm, 19, rfl⟩
abbrev main_v7 : Ref sig .tc := ⟨.hbm, 20, rfl⟩
abbrev main_call3_v0 : Ref sig .tc := ⟨.hbm, 21, rfl⟩
abbrev main_call3_c : Ref sig .tc := ⟨.hbm, 22, rfl⟩
abbrev main_call3_c_0 : Ref sig .tc := ⟨.hbm, 23, rfl⟩
abbrev main_call3_v1_0 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_call4_v0 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v1 : Ref sig .tc := ⟨.smem, 0, rfl⟩
abbrev main_arg0 : Ref sig .tc := ⟨.smem, 1, rfl⟩
abbrev main_v11 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![8, 8], ![false, false]⟩

abbrev pre0 : Pipeline.Prefetch sig := ⟨3, ![main_v1.idx, main_arg0.idx, main_v11.idx], fun | 0 => main_v1.names | 1 => main_arg0.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c256_i32 : BitVec 32 := 256#32
  let v45 : BitVec 32 := Scalar.muli arg1 c256_i32
  v45
def k0_off2 (i : grid0.Coords) : Fin 2 → Nat :=
  let arg0 : BitVec 32 := BitVec.ofNat 32 (i 0).val
  let v47 : Index := Scalar.indexCast arg0
  let arg1 : BitVec 32 := BitVec.ofNat 32 (i 1).val
  let c256_i32 : BitVec 32 := 256#32
  let v45 : BitVec 32 := Scalar.muli arg1 c256_i32
  let v46 : BitVec 32 := v45
  let v48 : Index := Scalar.indexCast v46
  ![v47.toNat, v48.toNat]
@[reducible] def k0_t1_loop (v1 : BitVec 32) (v3 : BitVec 32) : Scf.Loop 32 :=
  let c0_i32_15 : BitVec 32 := 0#32
  let c0_i32_5 : BitVec 32 := 0#32
  let v22 : BitVec 1 := Scalar.cmpi .sgt v3 c0_i32_5
  let v23 : BitVec 32 := Scalar.addi v1 v3
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v24 : BitVec 32 := Scalar.subi v23 v21
  let c128_i32 : BitVec 32 := 128#32
  let v25 : BitVec 32 := Scalar.addi v24 c128_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c128_i32_7 : BitVec 32 := 128#32
  let c0_i32_10 : BitVec 32 := 0#32
  let v33 : BitVec 1 := Scalar.cmpi .sgt c128_i32_7 c0_i32_10
  let v34 : BitVec 32 := Scalar.extui v33
  let c0_i32_11 : BitVec 32 := 0#32
  let v35 : BitVec 1 := Scalar.cmpi .slt c128_i32_7 c0_i32_11
  let v36 : BitVec 32 := Scalar.extui v35
  let v37 : BitVec 32 := Scalar.subi v34 v36
  let v38 : BitVec 1 := Scalar.cmpi .ne v32 v37
  let v39 : BitVec 32 := Scalar.remsi v26 c128_i32_7
  let c0_i32_12 : BitVec 32 := 0#32
  let v40 : BitVec 1 := Scalar.cmpi .ne v39 c0_i32_12
  let v41 : BitVec 1 := Scalar.andi v38 v40
  let v27 : BitVec 32 := Scalar.divsi v26 c128_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v22 v43 c0_i32_14
  let v54 : BitVec 32 := Scalar.subi v44 c0_i32_15
  let c1_i32_16 : BitVec 32 := 1#32
  let v56 : BitVec 32 := Scalar.divsi v54 c1_i32_16
  let v57 : BitVec 32 := Scalar.muli v56 c1_i32_16
  let v58 : BitVec 32 := Scalar.addi c0_i32_15 v57
  let c1_i32_17 : BitVec 32 := 1#32
  ⟨c0_i32_15, v58, c1_i32_17⟩

def k0_mult2 (v1 : BitVec 32) (v3 : BitVec 32) (k0_t1 : Fin (k0_t1_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c1_i32_17 : BitVec 32 := 1#32
  let arg15 : BitVec 32 := Scf.iv c0_i32_15 c1_i32_17 k0_t1
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  v73
def k0_off3 (v1 : BitVec 32) (v3 : BitVec 32) (k0_t1 : Fin (k0_t1_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c1_i32_17 : BitVec 32 := 1#32
  let arg15 : BitVec 32 := Scf.iv c0_i32_15 c1_i32_17 k0_t1
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  let v74 : BitVec 32 := v73
  let v78 : Index := Scalar.indexCast v74
  let c0 : Index := 0#32
  ![v78.toNat, 0]
def k0_off4 (v1 : BitVec 32) (v3 : BitVec 32) (k0_t1 : Fin (k0_t1_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c1_i32_17 : BitVec 32 := 1#32
  let arg15 : BitVec 32 := Scf.iv c0_i32_15 c1_i32_17 k0_t1
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  let v74 : BitVec 32 := v73
  let v80 : Index := Scalar.indexCast v74
  let c0_23 : Index := 0#32
  ![v80.toNat, 0]
def k0_off5 (i : grid0.Coords) (v1 : BitVec 32) (v3 : BitVec 32) (k0_t1 : Fin (k0_t1_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c1_i32_17 : BitVec 32 := 1#32
  let arg15 : BitVec 32 := Scf.iv c0_i32_15 c1_i32_17 k0_t1
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  let v74 : BitVec 32 := v73
  let v103 : Index := Scalar.indexCast v74
  let arg1 : BitVec 32 := BitVec.ofNat 32 (i 1).val
  let c256_i32 : BitVec 32 := 256#32
  let v45 : BitVec 32 := Scalar.muli arg1 c256_i32
  let v46 : BitVec 32 := v45
  let v104 : Index := Scalar.indexCast v46
  ![v103.toNat, v104.toNat]
@[reducible] def k0_t2_loop (v1 : BitVec 32) (v3 : BitVec 32) : Scf.Loop 32 :=
  let c0_i32_15 : BitVec 32 := 0#32
  let c0_i32_5 : BitVec 32 := 0#32
  let v22 : BitVec 1 := Scalar.cmpi .sgt v3 c0_i32_5
  let v23 : BitVec 32 := Scalar.addi v1 v3
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v24 : BitVec 32 := Scalar.subi v23 v21
  let c128_i32 : BitVec 32 := 128#32
  let v25 : BitVec 32 := Scalar.addi v24 c128_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c128_i32_7 : BitVec 32 := 128#32
  let c0_i32_10 : BitVec 32 := 0#32
  let v33 : BitVec 1 := Scalar.cmpi .sgt c128_i32_7 c0_i32_10
  let v34 : BitVec 32 := Scalar.extui v33
  let c0_i32_11 : BitVec 32 := 0#32
  let v35 : BitVec 1 := Scalar.cmpi .slt c128_i32_7 c0_i32_11
  let v36 : BitVec 32 := Scalar.extui v35
  let v37 : BitVec 32 := Scalar.subi v34 v36
  let v38 : BitVec 1 := Scalar.cmpi .ne v32 v37
  let v39 : BitVec 32 := Scalar.remsi v26 c128_i32_7
  let c0_i32_12 : BitVec 32 := 0#32
  let v40 : BitVec 1 := Scalar.cmpi .ne v39 c0_i32_12
  let v41 : BitVec 1 := Scalar.andi v38 v40
  let v27 : BitVec 32 := Scalar.divsi v26 c128_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v22 v43 c0_i32_14
  let v54 : BitVec 32 := Scalar.subi v44 c0_i32_15
  let c1_i32_16 : BitVec 32 := 1#32
  let v56 : BitVec 32 := Scalar.divsi v54 c1_i32_16
  let v57 : BitVec 32 := Scalar.muli v56 c1_i32_16
  let v58 : BitVec 32 := Scalar.addi c0_i32_15 v57
  let v55 : BitVec 32 := Scalar.addi c0_i32_15 v54
  let c1_i32_18 : BitVec 32 := 1#32
  ⟨v58, v55, c1_i32_18⟩
def k0_mult3 (v1 : BitVec 32) (v3 : BitVec 32) (k0_t2 : Fin (k0_t2_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c0_i32_5 : BitVec 32 := 0#32
  let v22 : BitVec 1 := Scalar.cmpi .sgt v3 c0_i32_5
  let v23 : BitVec 32 := Scalar.addi v1 v3
  let v24 : BitVec 32 := Scalar.subi v23 v21
  let c128_i32 : BitVec 32 := 128#32
  let v25 : BitVec 32 := Scalar.addi v24 c128_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c128_i32_7 : BitVec 32 := 128#32
  let c0_i32_10 : BitVec 32 := 0#32
  let v33 : BitVec 1 := Scalar.cmpi .sgt c128_i32_7 c0_i32_10
  let v34 : BitVec 32 := Scalar.extui v33
  let c0_i32_11 : BitVec 32 := 0#32
  let v35 : BitVec 1 := Scalar.cmpi .slt c128_i32_7 c0_i32_11
  let v36 : BitVec 32 := Scalar.extui v35
  let v37 : BitVec 32 := Scalar.subi v34 v36
  let v38 : BitVec 1 := Scalar.cmpi .ne v32 v37
  let v39 : BitVec 32 := Scalar.remsi v26 c128_i32_7
  let c0_i32_12 : BitVec 32 := 0#32
  let v40 : BitVec 1 := Scalar.cmpi .ne v39 c0_i32_12
  let v41 : BitVec 1 := Scalar.andi v38 v40
  let v27 : BitVec 32 := Scalar.divsi v26 c128_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v22 v43 c0_i32_14
  let v54 : BitVec 32 := Scalar.subi v44 c0_i32_15
  let c1_i32_16 : BitVec 32 := 1#32
  let v56 : BitVec 32 := Scalar.divsi v54 c1_i32_16
  let v57 : BitVec 32 := Scalar.muli v56 c1_i32_16
  let v58 : BitVec 32 := Scalar.addi c0_i32_15 v57
  let c1_i32_18 : BitVec 32 := 1#32
  let arg15 : BitVec 32 := Scf.iv v58 c1_i32_18 k0_t2
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  v73
def k0_off6 (v1 : BitVec 32) (v3 : BitVec 32) (k0_t2 : Fin (k0_t2_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c0_i32_5 : BitVec 32 := 0#32
  let v22 : BitVec 1 := Scalar.cmpi .sgt v3 c0_i32_5
  let v23 : BitVec 32 := Scalar.addi v1 v3
  let v24 : BitVec 32 := Scalar.subi v23 v21
  let c128_i32 : BitVec 32 := 128#32
  let v25 : BitVec 32 := Scalar.addi v24 c128_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c128_i32_7 : BitVec 32 := 128#32
  let c0_i32_10 : BitVec 32 := 0#32
  let v33 : BitVec 1 := Scalar.cmpi .sgt c128_i32_7 c0_i32_10
  let v34 : BitVec 32 := Scalar.extui v33
  let c0_i32_11 : BitVec 32 := 0#32
  let v35 : BitVec 1 := Scalar.cmpi .slt c128_i32_7 c0_i32_11
  let v36 : BitVec 32 := Scalar.extui v35
  let v37 : BitVec 32 := Scalar.subi v34 v36
  let v38 : BitVec 1 := Scalar.cmpi .ne v32 v37
  let v39 : BitVec 32 := Scalar.remsi v26 c128_i32_7
  let c0_i32_12 : BitVec 32 := 0#32
  let v40 : BitVec 1 := Scalar.cmpi .ne v39 c0_i32_12
  let v41 : BitVec 1 := Scalar.andi v38 v40
  let v27 : BitVec 32 := Scalar.divsi v26 c128_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v22 v43 c0_i32_14
  let v54 : BitVec 32 := Scalar.subi v44 c0_i32_15
  let c1_i32_16 : BitVec 32 := 1#32
  let v56 : BitVec 32 := Scalar.divsi v54 c1_i32_16
  let v57 : BitVec 32 := Scalar.muli v56 c1_i32_16
  let v58 : BitVec 32 := Scalar.addi c0_i32_15 v57
  let c1_i32_18 : BitVec 32 := 1#32
  let arg15 : BitVec 32 := Scf.iv v58 c1_i32_18 k0_t2
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  let v74 : BitVec 32 := v73
  let v78 : Index := Scalar.indexCast v74
  let c0 : Index := 0#32
  ![v78.toNat, 0]
def k0_off7 (v1 : BitVec 32) (v3 : BitVec 32) (k0_t2 : Fin (k0_t2_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c0_i32_5 : BitVec 32 := 0#32
  let v22 : BitVec 1 := Scalar.cmpi .sgt v3 c0_i32_5
  let v23 : BitVec 32 := Scalar.addi v1 v3
  let v24 : BitVec 32 := Scalar.subi v23 v21
  let c128_i32 : BitVec 32 := 128#32
  let v25 : BitVec 32 := Scalar.addi v24 c128_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c128_i32_7 : BitVec 32 := 128#32
  let c0_i32_10 : BitVec 32 := 0#32
  let v33 : BitVec 1 := Scalar.cmpi .sgt c128_i32_7 c0_i32_10
  let v34 : BitVec 32 := Scalar.extui v33
  let c0_i32_11 : BitVec 32 := 0#32
  let v35 : BitVec 1 := Scalar.cmpi .slt c128_i32_7 c0_i32_11
  let v36 : BitVec 32 := Scalar.extui v35
  let v37 : BitVec 32 := Scalar.subi v34 v36
  let v38 : BitVec 1 := Scalar.cmpi .ne v32 v37
  let v39 : BitVec 32 := Scalar.remsi v26 c128_i32_7
  let c0_i32_12 : BitVec 32 := 0#32
  let v40 : BitVec 1 := Scalar.cmpi .ne v39 c0_i32_12
  let v41 : BitVec 1 := Scalar.andi v38 v40
  let v27 : BitVec 32 := Scalar.divsi v26 c128_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v22 v43 c0_i32_14
  let v54 : BitVec 32 := Scalar.subi v44 c0_i32_15
  let c1_i32_16 : BitVec 32 := 1#32
  let v56 : BitVec 32 := Scalar.divsi v54 c1_i32_16
  let v57 : BitVec 32 := Scalar.muli v56 c1_i32_16
  let v58 : BitVec 32 := Scalar.addi c0_i32_15 v57
  let c1_i32_18 : BitVec 32 := 1#32
  let arg15 : BitVec 32 := Scf.iv v58 c1_i32_18 k0_t2
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  let v74 : BitVec 32 := v73
  let v80 : Index := Scalar.indexCast v74
  let c0_23 : Index := 0#32
  ![v80.toNat, 0]
def k0_off8 (i : grid0.Coords) (v1 : BitVec 32) (v3 : BitVec 32) (k0_t2 : Fin (k0_t2_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_15 : BitVec 32 := 0#32
  let c0_i32_5 : BitVec 32 := 0#32
  let v22 : BitVec 1 := Scalar.cmpi .sgt v3 c0_i32_5
  let v23 : BitVec 32 := Scalar.addi v1 v3
  let v24 : BitVec 32 := Scalar.subi v23 v21
  let c128_i32 : BitVec 32 := 128#32
  let v25 : BitVec 32 := Scalar.addi v24 c128_i32
  let c1_i32_6 : BitVec 32 := 1#32
  let v26 : BitVec 32 := Scalar.subi v25 c1_i32_6
  let c0_i32_8 : BitVec 32 := 0#32
  let v28 : BitVec 1 := Scalar.cmpi .sgt v26 c0_i32_8
  let v29 : BitVec 32 := Scalar.extui v28
  let c0_i32_9 : BitVec 32 := 0#32
  let v30 : BitVec 1 := Scalar.cmpi .slt v26 c0_i32_9
  let v31 : BitVec 32 := Scalar.extui v30
  let v32 : BitVec 32 := Scalar.subi v29 v31
  let c128_i32_7 : BitVec 32 := 128#32
  let c0_i32_10 : BitVec 32 := 0#32
  let v33 : BitVec 1 := Scalar.cmpi .sgt c128_i32_7 c0_i32_10
  let v34 : BitVec 32 := Scalar.extui v33
  let c0_i32_11 : BitVec 32 := 0#32
  let v35 : BitVec 1 := Scalar.cmpi .slt c128_i32_7 c0_i32_11
  let v36 : BitVec 32 := Scalar.extui v35
  let v37 : BitVec 32 := Scalar.subi v34 v36
  let v38 : BitVec 1 := Scalar.cmpi .ne v32 v37
  let v39 : BitVec 32 := Scalar.remsi v26 c128_i32_7
  let c0_i32_12 : BitVec 32 := 0#32
  let v40 : BitVec 1 := Scalar.cmpi .ne v39 c0_i32_12
  let v41 : BitVec 1 := Scalar.andi v38 v40
  let v27 : BitVec 32 := Scalar.divsi v26 c128_i32_7
  let c1_i32_13 : BitVec 32 := 1#32
  let v42 : BitVec 32 := Scalar.subi v27 c1_i32_13
  let v43 : BitVec 32 := Scalar.select v41 v42 v27
  let c0_i32_14 : BitVec 32 := 0#32
  let v44 : BitVec 32 := Scalar.select v22 v43 c0_i32_14
  let v54 : BitVec 32 := Scalar.subi v44 c0_i32_15
  let c1_i32_16 : BitVec 32 := 1#32
  let v56 : BitVec 32 := Scalar.divsi v54 c1_i32_16
  let v57 : BitVec 32 := Scalar.muli v56 c1_i32_16
  let v58 : BitVec 32 := Scalar.addi c0_i32_15 v57
  let c1_i32_18 : BitVec 32 := 1#32
  let arg15 : BitVec 32 := Scf.iv v58 c1_i32_18 k0_t2
  let c128_i32_21 : BitVec 32 := 128#32
  let v71 : BitVec 32 := Scalar.muli arg15 c128_i32_21
  let v72 : BitVec 32 := Scalar.addi v21 v71
  let c2432_i32 : BitVec 32 := 2432#32
  let v73 : BitVec 32 := Scalar.minsi v72 c2432_i32
  let v74 : BitVec 32 := v73
  let v103 : Index := Scalar.indexCast v74
  let arg1 : BitVec 32 := BitVec.ofNat 32 (i 1).val
  let c256_i32 : BitVec 32 := 256#32
  let v45 : BitVec 32 := Scalar.muli arg1 c256_i32
  let v46 : BitVec 32 := v45
  let v104 : Index := Scalar.indexCast v46
  ![v103.toNat, v104.toNat]
def k0_off9 (i : grid0.Coords) : Fin 2 → Nat :=
  let arg0 : BitVec 32 := BitVec.ofNat 32 (i 0).val
  let v65 : Index := Scalar.indexCast arg0
  let arg1 : BitVec 32 := BitVec.ofNat 32 (i 1).val
  let c256_i32 : BitVec 32 := 256#32
  let v45 : BitVec 32 := Scalar.muli arg1 c256_i32
  let v46 : BitVec 32 := v45
  let v66 : Index := Scalar.indexCast v46
  ![v65.toNat, v66.toNat]
def k0_cond1 (i : grid0.Coords) : BitVec 1 :=
  let arg1 : BitVec 32 := BitVec.ofNat 32 (i 1).val
  let c7_i32 : BitVec 32 := 7#32
  let v68 : BitVec 1 := Scalar.cmpi .eq arg1 c7_i32
  let v69 : BitVec 32 := Scalar.extui v68
  let c0_i32_20 : BitVec 32 := 0#32
  let v70 : BitVec 1 := Scalar.cmpi .ne v69 c0_i32_20
  v70

@[reducible] def k0_t3_loop (v1 : BitVec 32) (v3 : BitVec 32) : Scf.Loop 32 :=
  let c0_i32_32 : BitVec 32 := 0#32
  let c0_i32_21 : BitVec 32 := 0#32
  let v71 : BitVec 1 := Scalar.cmpi .sgt v3 c0_i32_21
  let v72 : BitVec 32 := Scalar.addi v1 v3
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v73 : BitVec 32 := Scalar.subi v72 v21
  let c32_i32_22 : BitVec 32 := 32#32
  let v74 : BitVec 32 := Scalar.addi v73 c32_i32_22
  let c1_i32_23 : BitVec 32 := 1#32
  let v75 : BitVec 32 := Scalar.subi v74 c1_i32_23
  let c0_i32_25 : BitVec 32 := 0#32
  let v77 : BitVec 1 := Scalar.cmpi .sgt v75 c0_i32_25
  let v78 : BitVec 32 := Scalar.extui v77
  let c0_i32_26 : BitVec 32 := 0#32
  let v79 : BitVec 1 := Scalar.cmpi .slt v75 c0_i32_26
  let v80 : BitVec 32 := Scalar.extui v79
  let v81 : BitVec 32 := Scalar.subi v78 v80
  let c32_i32_24 : BitVec 32 := 32#32
  let c0_i32_27 : BitVec 32 := 0#32
  let v82 : BitVec 1 := Scalar.cmpi .sgt c32_i32_24 c0_i32_27
  let v83 : BitVec 32 := Scalar.extui v82
  let c0_i32_28 : BitVec 32 := 0#32
  let v84 : BitVec 1 := Scalar.cmpi .slt c32_i32_24 c0_i32_28
  let v85 : BitVec 32 := Scalar.extui v84
  let v86 : BitVec 32 := Scalar.subi v83 v85
  let v87 : BitVec 1 := Scalar.cmpi .ne v81 v86
  let v88 : BitVec 32 := Scalar.remsi v75 c32_i32_24
  let c0_i32_29 : BitVec 32 := 0#32
  let v89 : BitVec 1 := Scalar.cmpi .ne v88 c0_i32_29
  let v90 : BitVec 1 := Scalar.andi v87 v89
  let v76 : BitVec 32 := Scalar.divsi v75 c32_i32_24
  let c1_i32_30 : BitVec 32 := 1#32
  let v91 : BitVec 32 := Scalar.subi v76 c1_i32_30
  let v92 : BitVec 32 := Scalar.select v90 v91 v76
  let c0_i32_31 : BitVec 32 := 0#32
  let v93 : BitVec 32 := Scalar.select v71 v92 c0_i32_31
  let v94 : BitVec 32 := Scalar.subi v93 c0_i32_32
  let c1_i32_34 : BitVec 32 := 1#32
  let v96 : BitVec 32 := Scalar.divsi v94 c1_i32_34
  let v97 : BitVec 32 := Scalar.muli v96 c1_i32_34
  let v98 : BitVec 32 := Scalar.addi c0_i32_32 v97
  let c1_i32_35 : BitVec 32 := 1#32
  ⟨c0_i32_32, v98, c1_i32_35⟩
def k0_mult4 (v1 : BitVec 32) (v3 : BitVec 32) (k0_t3 : Fin (k0_t3_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_32 : BitVec 32 := 0#32
  let c1_i32_35 : BitVec 32 := 1#32
  let arg15 : BitVec 32 := Scf.iv c0_i32_32 c1_i32_35 k0_t3
  let c32_i32_37 : BitVec 32 := 32#32
  let v101 : BitVec 32 := Scalar.muli arg15 c32_i32_37
  let v102 : BitVec 32 := Scalar.addi v21 v101
  v102
def k0_off10 (v1 : BitVec 32) (v3 : BitVec 32) (k0_t3 : Fin (k0_t3_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_32 : BitVec 32 := 0#32
  let c1_i32_35 : BitVec 32 := 1#32
  let arg15 : BitVec 32 := Scf.iv c0_i32_32 c1_i32_35 k0_t3
  let c32_i32_37 : BitVec 32 := 32#32
  let v101 : BitVec 32 := Scalar.muli arg15 c32_i32_37
  let v102 : BitVec 32 := Scalar.addi v21 v101
  let v103 : BitVec 32 := v102
  let v104 : Index := Scalar.indexCast v103
  let c0 : Index := 0#32
  ![v104.toNat, 0]
def k0_off11 (v1 : BitVec 32) (v3 : BitVec 32) (k0_t3 : Fin (k0_t3_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_32 : BitVec 32 := 0#32
  let c1_i32_35 : BitVec 32 := 1#32
  let arg15 : BitVec 32 := Scf.iv c0_i32_32 c1_i32_35 k0_t3
  let c32_i32_37 : BitVec 32 := 32#32
  let v101 : BitVec 32 := Scalar.muli arg15 c32_i32_37
  let v102 : BitVec 32 := Scalar.addi v21 v101
  let v103 : BitVec 32 := v102
  let v149 : Index := Scalar.indexCast v103
  let c0_49 : Index := 0#32
  ![v149.toNat, 0]
@[reducible] def k0_t4_loop (v1 : BitVec 32) (v3 : BitVec 32) : Scf.Loop 32 :=
  let c0_i32_32 : BitVec 32 := 0#32
  let c0_i32_21 : BitVec 32 := 0#32
  let v71 : BitVec 1 := Scalar.cmpi .sgt v3 c0_i32_21
  let v72 : BitVec 32 := Scalar.addi v1 v3
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let v73 : BitVec 32 := Scalar.subi v72 v21
  let c32_i32_22 : BitVec 32 := 32#32
  let v74 : BitVec 32 := Scalar.addi v73 c32_i32_22
  let c1_i32_23 : BitVec 32 := 1#32
  let v75 : BitVec 32 := Scalar.subi v74 c1_i32_23
  let c0_i32_25 : BitVec 32 := 0#32
  let v77 : BitVec 1 := Scalar.cmpi .sgt v75 c0_i32_25
  let v78 : BitVec 32 := Scalar.extui v77
  let c0_i32_26 : BitVec 32 := 0#32
  let v79 : BitVec 1 := Scalar.cmpi .slt v75 c0_i32_26
  let v80 : BitVec 32 := Scalar.extui v79
  let v81 : BitVec 32 := Scalar.subi v78 v80
  let c32_i32_24 : BitVec 32 := 32#32
  let c0_i32_27 : BitVec 32 := 0#32
  let v82 : BitVec 1 := Scalar.cmpi .sgt c32_i32_24 c0_i32_27
  let v83 : BitVec 32 := Scalar.extui v82
  let c0_i32_28 : BitVec 32 := 0#32
  let v84 : BitVec 1 := Scalar.cmpi .slt c32_i32_24 c0_i32_28
  let v85 : BitVec 32 := Scalar.extui v84
  let v86 : BitVec 32 := Scalar.subi v83 v85
  let v87 : BitVec 1 := Scalar.cmpi .ne v81 v86
  let v88 : BitVec 32 := Scalar.remsi v75 c32_i32_24
  let c0_i32_29 : BitVec 32 := 0#32
  let v89 : BitVec 1 := Scalar.cmpi .ne v88 c0_i32_29
  let v90 : BitVec 1 := Scalar.andi v87 v89
  let v76 : BitVec 32 := Scalar.divsi v75 c32_i32_24
  let c1_i32_30 : BitVec 32 := 1#32
  let v91 : BitVec 32 := Scalar.subi v76 c1_i32_30
  let v92 : BitVec 32 := Scalar.select v90 v91 v76
  let c0_i32_31 : BitVec 32 := 0#32
  let v93 : BitVec 32 := Scalar.select v71 v92 c0_i32_31
  let v94 : BitVec 32 := Scalar.subi v93 c0_i32_32
  let c1_i32_34 : BitVec 32 := 1#32
  let v96 : BitVec 32 := Scalar.divsi v94 c1_i32_34
  let v97 : BitVec 32 := Scalar.muli v96 c1_i32_34
  let v98 : BitVec 32 := Scalar.addi c0_i32_32 v97
  let v95 : BitVec 32 := Scalar.addi c0_i32_32 v94
  let c1_i32_36 : BitVec 32 := 1#32
  ⟨v98, v95, c1_i32_36⟩
def k0_mult5 (v1 : BitVec 32) (v3 : BitVec 32) (k0_t4 : Fin (k0_t4_loop v1 v3).trips) : BitVec 32 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_32 : BitVec 32 := 0#32
  let c0_i32_21 : BitVec 32 := 0#32
  let v71 : BitVec 1 := Scalar.cmpi .sgt v3 c0_i32_21
  let v72 : BitVec 32 := Scalar.addi v1 v3
  let v73 : BitVec 32 := Scalar.subi v72 v21
  let c32_i32_22 : BitVec 32 := 32#32
  let v74 : BitVec 32 := Scalar.addi v73 c32_i32_22
  let c1_i32_23 : BitVec 32 := 1#32
  let v75 : BitVec 32 := Scalar.subi v74 c1_i32_23
  let c0_i32_25 : BitVec 32 := 0#32
  let v77 : BitVec 1 := Scalar.cmpi .sgt v75 c0_i32_25
  let v78 : BitVec 32 := Scalar.extui v77
  let c0_i32_26 : BitVec 32 := 0#32
  let v79 : BitVec 1 := Scalar.cmpi .slt v75 c0_i32_26
  let v80 : BitVec 32 := Scalar.extui v79
  let v81 : BitVec 32 := Scalar.subi v78 v80
  let c32_i32_24 : BitVec 32 := 32#32
  let c0_i32_27 : BitVec 32 := 0#32
  let v82 : BitVec 1 := Scalar.cmpi .sgt c32_i32_24 c0_i32_27
  let v83 : BitVec 32 := Scalar.extui v82
  let c0_i32_28 : BitVec 32 := 0#32
  let v84 : BitVec 1 := Scalar.cmpi .slt c32_i32_24 c0_i32_28
  let v85 : BitVec 32 := Scalar.extui v84
  let v86 : BitVec 32 := Scalar.subi v83 v85
  let v87 : BitVec 1 := Scalar.cmpi .ne v81 v86
  let v88 : BitVec 32 := Scalar.remsi v75 c32_i32_24
  let c0_i32_29 : BitVec 32 := 0#32
  let v89 : BitVec 1 := Scalar.cmpi .ne v88 c0_i32_29
  let v90 : BitVec 1 := Scalar.andi v87 v89
  let v76 : BitVec 32 := Scalar.divsi v75 c32_i32_24
  let c1_i32_30 : BitVec 32 := 1#32
  let v91 : BitVec 32 := Scalar.subi v76 c1_i32_30
  let v92 : BitVec 32 := Scalar.select v90 v91 v76
  let c0_i32_31 : BitVec 32 := 0#32
  let v93 : BitVec 32 := Scalar.select v71 v92 c0_i32_31
  let v94 : BitVec 32 := Scalar.subi v93 c0_i32_32
  let c1_i32_34 : BitVec 32 := 1#32
  let v96 : BitVec 32 := Scalar.divsi v94 c1_i32_34
  let v97 : BitVec 32 := Scalar.muli v96 c1_i32_34
  let v98 : BitVec 32 := Scalar.addi c0_i32_32 v97
  let c1_i32_36 : BitVec 32 := 1#32
  let arg15 : BitVec 32 := Scf.iv v98 c1_i32_36 k0_t4
  let c32_i32_37 : BitVec 32 := 32#32
  let v101 : BitVec 32 := Scalar.muli arg15 c32_i32_37
  let v102 : BitVec 32 := Scalar.addi v21 v101
  v102
def k0_off12 (v1 : BitVec 32) (v3 : BitVec 32) (k0_t4 : Fin (k0_t4_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_32 : BitVec 32 := 0#32
  let c0_i32_21 : BitVec 32 := 0#32
  let v71 : BitVec 1 := Scalar.cmpi .sgt v3 c0_i32_21
  let v72 : BitVec 32 := Scalar.addi v1 v3
  let v73 : BitVec 32 := Scalar.subi v72 v21
  let c32_i32_22 : BitVec 32 := 32#32
  let v74 : BitVec 32 := Scalar.addi v73 c32_i32_22
  let c1_i32_23 : BitVec 32 := 1#32
  let v75 : BitVec 32 := Scalar.subi v74 c1_i32_23
  let c0_i32_25 : BitVec 32 := 0#32
  let v77 : BitVec 1 := Scalar.cmpi .sgt v75 c0_i32_25
  let v78 : BitVec 32 := Scalar.extui v77
  let c0_i32_26 : BitVec 32 := 0#32
  let v79 : BitVec 1 := Scalar.cmpi .slt v75 c0_i32_26
  let v80 : BitVec 32 := Scalar.extui v79
  let v81 : BitVec 32 := Scalar.subi v78 v80
  let c32_i32_24 : BitVec 32 := 32#32
  let c0_i32_27 : BitVec 32 := 0#32
  let v82 : BitVec 1 := Scalar.cmpi .sgt c32_i32_24 c0_i32_27
  let v83 : BitVec 32 := Scalar.extui v82
  let c0_i32_28 : BitVec 32 := 0#32
  let v84 : BitVec 1 := Scalar.cmpi .slt c32_i32_24 c0_i32_28
  let v85 : BitVec 32 := Scalar.extui v84
  let v86 : BitVec 32 := Scalar.subi v83 v85
  let v87 : BitVec 1 := Scalar.cmpi .ne v81 v86
  let v88 : BitVec 32 := Scalar.remsi v75 c32_i32_24
  let c0_i32_29 : BitVec 32 := 0#32
  let v89 : BitVec 1 := Scalar.cmpi .ne v88 c0_i32_29
  let v90 : BitVec 1 := Scalar.andi v87 v89
  let v76 : BitVec 32 := Scalar.divsi v75 c32_i32_24
  let c1_i32_30 : BitVec 32 := 1#32
  let v91 : BitVec 32 := Scalar.subi v76 c1_i32_30
  let v92 : BitVec 32 := Scalar.select v90 v91 v76
  let c0_i32_31 : BitVec 32 := 0#32
  let v93 : BitVec 32 := Scalar.select v71 v92 c0_i32_31
  let v94 : BitVec 32 := Scalar.subi v93 c0_i32_32
  let c1_i32_34 : BitVec 32 := 1#32
  let v96 : BitVec 32 := Scalar.divsi v94 c1_i32_34
  let v97 : BitVec 32 := Scalar.muli v96 c1_i32_34
  let v98 : BitVec 32 := Scalar.addi c0_i32_32 v97
  let c1_i32_36 : BitVec 32 := 1#32
  let arg15 : BitVec 32 := Scf.iv v98 c1_i32_36 k0_t4
  let c32_i32_37 : BitVec 32 := 32#32
  let v101 : BitVec 32 := Scalar.muli arg15 c32_i32_37
  let v102 : BitVec 32 := Scalar.addi v21 v101
  let v103 : BitVec 32 := v102
  let v104 : Index := Scalar.indexCast v103
  let c0 : Index := 0#32
  ![v104.toNat, 0]
def k0_off13 (v1 : BitVec 32) (v3 : BitVec 32) (k0_t4 : Fin (k0_t4_loop v1 v3).trips) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v1 c32_i32
  let c0_i32_3 : BitVec 32 := 0#32
  let v17 : BitVec 1 := Scalar.cmpi .ne v16 c0_i32_3
  let v18 : BitVec 1 := Scalar.andi v15 v17
  let v4 : BitVec 32 := Scalar.divsi v1 c32_i32
  let c1_i32 : BitVec 32 := 1#32
  let v19 : BitVec 32 := Scalar.subi v4 c1_i32
  let v20 : BitVec 32 := Scalar.select v18 v19 v4
  let c32_i32_4 : BitVec 32 := 32#32
  let v21 : BitVec 32 := Scalar.muli v20 c32_i32_4
  let c0_i32_32 : BitVec 32 := 0#32
  let c0_i32_21 : BitVec 32 := 0#32
  let v71 : BitVec 1 := Scalar.cmpi .sgt v3 c0_i32_21
  let v72 : BitVec 32 := Scalar.addi v1 v3
  let v73 : BitVec 32 := Scalar.subi v72 v21
  let c32_i32_22 : BitVec 32 := 32#32
  let v74 : BitVec 32 := Scalar.addi v73 c32_i32_22
  let c1_i32_23 : BitVec 32 := 1#32
  let v75 : BitVec 32 := Scalar.subi v74 c1_i32_23
  let c0_i32_25 : BitVec 32 := 0#32
  let v77 : BitVec 1 := Scalar.cmpi .sgt v75 c0_i32_25
  let v78 : BitVec 32 := Scalar.extui v77
  let c0_i32_26 : BitVec 32 := 0#32
  let v79 : BitVec 1 := Scalar.cmpi .slt v75 c0_i32_26
  let v80 : BitVec 32 := Scalar.extui v79
  let v81 : BitVec 32 := Scalar.subi v78 v80
  let c32_i32_24 : BitVec 32 := 32#32
  let c0_i32_27 : BitVec 32 := 0#32
  let v82 : BitVec 1 := Scalar.cmpi .sgt c32_i32_24 c0_i32_27
  let v83 : BitVec 32 := Scalar.extui v82
  let c0_i32_28 : BitVec 32 := 0#32
  let v84 : BitVec 1 := Scalar.cmpi .slt c32_i32_24 c0_i32_28
  let v85 : BitVec 32 := Scalar.extui v84
  let v86 : BitVec 32 := Scalar.subi v83 v85
  let v87 : BitVec 1 := Scalar.cmpi .ne v81 v86
  let v88 : BitVec 32 := Scalar.remsi v75 c32_i32_24
  let c0_i32_29 : BitVec 32 := 0#32
  let v89 : BitVec 1 := Scalar.cmpi .ne v88 c0_i32_29
  let v90 : BitVec 1 := Scalar.andi v87 v89
  let v76 : BitVec 32 := Scalar.divsi v75 c32_i32_24
  let c1_i32_30 : BitVec 32 := 1#32
  let v91 : BitVec 32 := Scalar.subi v76 c1_i32_30
  let v92 : BitVec 32 := Scalar.select v90 v91 v76
  let c0_i32_31 : BitVec 32 := 0#32
  let v93 : BitVec 32 := Scalar.select v71 v92 c0_i32_31
  let v94 : BitVec 32 := Scalar.subi v93 c0_i32_32
  let c1_i32_34 : BitVec 32 := 1#32
  let v96 : BitVec 32 := Scalar.divsi v94 c1_i32_34
  let v97 : BitVec 32 := Scalar.muli v96 c1_i32_34
  let v98 : BitVec 32 := Scalar.addi c0_i32_32 v97
  let c1_i32_36 : BitVec 32 := 1#32
  let arg15 : BitVec 32 := Scf.iv v98 c1_i32_36 k0_t4
  let c32_i32_37 : BitVec 32 := 32#32
  let v101 : BitVec 32 := Scalar.muli arg15 c32_i32_37
  let v102 : BitVec 32 := Scalar.addi v21 v101
  let v103 : BitVec 32 := v102
  let v149 : Index := Scalar.indexCast v103
  let c0_49 : Index := 0#32
  ![v149.toNat, 0]

def k0_chk1 (i : grid0.Coords) (v1 : BitVec 32) (v3 : BitVec 32) : Prop :=
  ((k0_t1_loop v1 v3).OK) ∧
  (∀ k0_t1 : Fin (k0_t1_loop v1 v3).trips, 32 ∣ (k0_mult2 v1 v3 k0_t1).toNat) ∧
  (∀ k0_t1 : Fin (k0_t1_loop v1 v3).trips, ∀ a, (k0_off3 v1 v3 k0_t1) a + S128x6144.size a ≤ S2560x6144.size a) ∧
  (∀ k0_t1 : Fin (k0_t1_loop v1 v3).trips, ∀ a, (k0_off4 v1 v3 k0_t1) a + S128x1.size a ≤ S2560x1.size a) ∧
  (∀ k0_t1 : Fin (k0_t1_loop v1 v3).trips, ∀ a, (k0_off5 i v1 v3 k0_t1) a + S128x256.size a ≤ S2560x2048.size a) ∧
  ((k0_t2_loop v1 v3).OK) ∧
  (∀ k0_t2 : Fin (k0_t2_loop v1 v3).trips, 32 ∣ (k0_mult3 v1 v3 k0_t2).toNat) ∧
  (∀ k0_t2 : Fin (k0_t2_loop v1 v3).trips, ∀ a, (k0_off6 v1 v3 k0_t2) a + S128x6144.size a ≤ S2560x6144.size a) ∧
  (∀ k0_t2 : Fin (k0_t2_loop v1 v3).trips, ∀ a, (k0_off7 v1 v3 k0_t2) a + S128x1.size a ≤ S2560x1.size a) ∧
  (∀ k0_t2 : Fin (k0_t2_loop v1 v3).trips, ∀ a, (k0_off8 i v1 v3 k0_t2) a + S128x256.size a ≤ S2560x2048.size a) ∧
  (∀ (k0_h1 : k0_cond1 i = 1#1), (k0_t3_loop v1 v3).OK) ∧
  (∀ k0_t3 : Fin (k0_t3_loop v1 v3).trips, ∀ (k0_h1 : k0_cond1 i = 1#1), 32 ∣ (k0_mult4 v1 v3 k0_t3).toNat) ∧
  (∀ k0_t3 : Fin (k0_t3_loop v1 v3).trips, ∀ (k0_h1 : k0_cond1 i = 1#1), ∀ a, (k0_off10 v1 v3 k0_t3) a + S32x2048.size a ≤ S2560x2048.size a) ∧
  (∀ k0_t3 : Fin (k0_t3_loop v1 v3).trips, ∀ (k0_h1 : k0_cond1 i = 1#1), ∀ (hinb : ∀ a, (k0_off10 v1 v3 k0_t3) a + S32x2048.size a ≤ S2560x2048.size a), (Rect.unit (s := S2560x2048) (k0_off10 v1 v3 k0_t3) S32x2048.size hinb).PackedRows (EltTy.packing .fp8e4m3)) ∧
  (∀ k0_t3 : Fin (k0_t3_loop v1 v3).trips, ∀ (k0_h1 : k0_cond1 i = 1#1), ∀ a, (k0_off11 v1 v3 k0_t3) a + S32x128.size a ≤ S2560x128.size a) ∧
  (∀ (k0_h1 : k0_cond1 i = 1#1), (k0_t4_loop v1 v3).OK) ∧
  (∀ k0_t4 : Fin (k0_t4_loop v1 v3).trips, ∀ (k0_h1 : k0_cond1 i = 1#1), 32 ∣ (k0_mult5 v1 v3 k0_t4).toNat) ∧
  (∀ k0_t4 : Fin (k0_t4_loop v1 v3).trips, ∀ (k0_h1 : k0_cond1 i = 1#1), ∀ a, (k0_off12 v1 v3 k0_t4) a + S32x2048.size a ≤ S2560x2048.size a) ∧
  (∀ k0_t4 : Fin (k0_t4_loop v1 v3).trips, ∀ (k0_h1 : k0_cond1 i = 1#1), ∀ (hinb : ∀ a, (k0_off12 v1 v3 k0_t4) a + S32x2048.size a ≤ S2560x2048.size a), (Rect.unit (s := S2560x2048) (k0_off12 v1 v3 k0_t4) S32x2048.size hinb).PackedRows (EltTy.packing .fp8e4m3)) ∧
  (∀ k0_t4 : Fin (k0_t4_loop v1 v3).trips, ∀ (k0_h1 : k0_cond1 i = 1#1), ∀ a, (k0_off13 v1 v3 k0_t4) a + S32x128.size a ≤ S2560x128.size a)
theorem k0_t1_ok : ∀ (i : grid0.Coords) (v1 : BitVec 32) (v3 : BitVec 32) (k0_hw1 : k0_chk1 i v1 v3), (k0_t1_loop v1 v3).OK := fun i v1 v3 k0_hw1 => k0_hw1.1
theorem k0_mult2_dvd : ∀ (i : grid0.Coords) (v1 : BitVec 32) (v3 : BitVec 32) (k0_hw1 : k0_chk1 i v1 v3) (k0_t1 : Fin (k0_t1_loop v1 v3).trips), 32 ∣ (k0_mult2 v1 v3 k0_t1).toNat := fun i v1 v3 k0_hw1 k0_t1 => k0_hw1.2.1 k0_t1
theorem k0_off3_inb : ∀ (i : grid0.Coords) (v1 : BitVec 32) (v3 : BitVec 32) (k0_hw1 : k0_chk1 i v1 v3) (k0_t1 : Fin (k0_t1_loop v1 v3).trips), ∀ a, (k0_off3 v1 v3 k0_t1) a + S128x6144.size a ≤ S2560x6144.size a := fun i v1 v3 k0_hw1 k0_t1 => k0_hw1.2.2.1 k0_t1
theorem k0_off4_inb : ∀ (i : grid0.Coords) (v1 : BitVec 32) (v3 : BitVec 32) (k0_hw1 : k0_chk1 i v1 v3) (k0_t1 : Fin (k0_t1_loop v1 v3).trips), ∀ a, (k0_off4 v1 v3 k0_t1) a + S128x1.size a ≤ S2560x1.size a := fun i v1 v3 k0_hw1 k0_t1 => k0_hw1.2.2.2.1 k0_t1
theorem k0_off5_inb : ∀ (i : grid0.Coords) (v1 : BitVec 32) (v3 : BitVec 32) (k0_hw1 : k0_chk1 i v1 v3) (k0_t1 : Fin (k0_t1_loop v1 v3).trips), ∀ a, (k0_off5 i v1 v3 k0_t1) a + S128x256.size a ≤ S2560x2048.size a := fun i v1 v3 k0_hw1 k0_t1 => k0_hw1.2.2.2.2.1 k0_t1
theorem k0_t2_ok : ∀ (i : grid0.Coords) (v1 : BitVec 32) (v3 : BitVec 32) (k0_hw1 : k0_chk1 i v1 v3), (k0_t2_loop v1 v3).OK := fun i v1 v3 k0_hw1 => k0_hw1.2.2.2.2.2.1
theorem k0_mult3_dvd : ∀ (i : grid0.Coords) (v1 : BitVec 32) (v3 : BitVec 32) (k0_hw1 : k0_chk1 i v1 v3) (k0_t2 : Fin (k0_t2_loop v1 v3).trips), 32 ∣ (k0_mult3 v1 v3 k0_t2).toNat := fun i v1 v3 k0_hw1 k0_t2 => k0_hw1.2.2.2.2.2.2.1 k0_t2
theorem k0_off6_inb : ∀ (i : grid0.Coords) (v1 : BitVec 32) (v3 : BitVec 32) (k0_hw1 : k0_chk1 i v1 v3) (k0_t2 : Fin (k0_t2_loop v1 v3).trips), ∀ a, (k0_off6 v1 v3 k0_t2) a + S128x6144.size a ≤ S2560x6144.size a := fun i v1 v3 k0_hw1 k0_t2 => k0_hw1.2.2.2.2.2.2.2.1 k0_t2
theorem k0_off7_inb : ∀ (i : grid0.Coords) (v1 : BitVec 32) (v3 : BitVec 32) (k0_hw1 : k0_chk1 i v1 v3) (k0_t2 : Fin (k0_t2_loop v1 v3).trips), ∀ a, (k0_off7 v1 v3 k0_t2) a + S128x1.size a ≤ S2560x1.size a := fun i v1 v3 k0_hw1 k0_t2 => k0_hw1.2.2.2.2.2.2.2.2.1 k0_t2
theorem k0_off8_inb : ∀ (i : grid0.Coords) (v1 : BitVec 32) (v3 : BitVec 32) (k0_hw1 : k0_chk1 i v1 v3) (k0_t2 : Fin (k0_t2_loop v1 v3).trips), ∀ a, (k0_off8 i v1 v3 k0_t2) a + S128x256.size a ≤ S2560x2048.size a := fun i v1 v3 k0_hw1 k0_t2 => k0_hw1.2.2.2.2.2.2.2.2.2.1 k0_t2
theorem k0_t3_ok : ∀ (i : grid0.Coords) (v1 : BitVec 32) (v3 : BitVec 32) (k0_hw1 : k0_chk1 i v1 v3), ∀ (k0_h1 : k0_cond1 i = 1#1), (k0_t3_loop v1 v3).OK := fun i v1 v3 k0_hw1 k0_h1 => k0_hw1.2.2.2.2.2.2.2.2.2.2.1 k0_h1
theorem k0_mult4_dvd : ∀ (i : grid0.Coords) (v1 : BitVec 32) (v3 : BitVec 32) (k0_hw1 : k0_chk1 i v1 v3) (k0_t3 : Fin (k0_t3_loop v1 v3).trips), ∀ (k0_h1 : k0_cond1 i = 1#1), 32 ∣ (k0_mult4 v1 v3 k0_t3).toNat := fun i v1 v3 k0_hw1 k0_t3 k0_h1 => k0_hw1.2.2.2.2.2.2.2.2.2.2.2.1 k0_t3 k0_h1
theorem k0_off10_inb : ∀ (i : grid0.Coords) (v1 : BitVec 32) (v3 : BitVec 32) (k0_hw1 : k0_chk1 i v1 v3) (k0_t3 : Fin (k0_t3_loop v1 v3).trips), ∀ (k0_h1 : k0_cond1 i = 1#1), ∀ a, (k0_off10 v1 v3 k0_t3) a + S32x2048.size a ≤ S2560x2048.size a := fun i v1 v3 k0_hw1 k0_t3 k0_h1 => k0_hw1.2.2.2.2.2.2.2.2.2.2.2.2.1 k0_t3 k0_h1
theorem k0_off10_packedfp8e4m3 : ∀ (i : grid0.Coords) (v1 : BitVec 32) (v3 : BitVec 32) (k0_hw1 : k0_chk1 i v1 v3) (k0_t3 : Fin (k0_t3_loop v1 v3).trips), ∀ (k0_h1 : k0_cond1 i = 1#1), (Rect.unit (s := S2560x2048) (k0_off10 v1 v3 k0_t3) S32x2048.size (k0_off10_inb i v1 v3 k0_hw1 k0_t3 k0_h1)).PackedRows (EltTy.packing .fp8e4m3) := fun i v1 v3 k0_hw1 k0_t3 k0_h1 => k0_hw1.2.2.2.2.2.2.2.2.2.2.2.2.2.1 k0_t3 k0_h1 (k0_off10_inb i v1 v3 k0_hw1 k0_t3 k0_h1)
theorem k0_off11_inb : ∀ (i : grid0.Coords) (v1 : BitVec 32) (v3 : BitVec 32) (k0_hw1 : k0_chk1 i v1 v3) (k0_t3 : Fin (k0_t3_loop v1 v3).trips), ∀ (k0_h1 : k0_cond1 i = 1#1), ∀ a, (k0_off11 v1 v3 k0_t3) a + S32x128.size a ≤ S2560x128.size a := fun i v1 v3 k0_hw1 k0_t3 k0_h1 => k0_hw1.2.2.2.2.2.2.2.2.2.2.2.2.2.2.1 k0_t3 k0_h1
theorem k0_t4_ok : ∀ (i : grid0.Coords) (v1 : BitVec 32) (v3 : BitVec 32) (k0_hw1 : k0_chk1 i v1 v3), ∀ (k0_h1 : k0_cond1 i = 1#1), (k0_t4_loop v1 v3).OK := fun i v1 v3 k0_hw1 k0_h1 => k0_hw1.2.2.2.2.2.2.2.2.2.2.2.2.2.2.2.1 k0_h1
theorem k0_mult5_dvd : ∀ (i : grid0.Coords) (v1 : BitVec 32) (v3 : BitVec 32) (k0_hw1 : k0_chk1 i v1 v3) (k0_t4 : Fin (k0_t4_loop v1 v3).trips), ∀ (k0_h1 : k0_cond1 i = 1#1), 32 ∣ (k0_mult5 v1 v3 k0_t4).toNat := fun i v1 v3 k0_hw1 k0_t4 k0_h1 => k0_hw1.2.2.2.2.2.2.2.2.2.2.2.2.2.2.2.2.1 k0_t4 k0_h1
theorem k0_off12_inb : ∀ (i : grid0.Coords) (v1 : BitVec 32) (v3 : BitVec 32) (k0_hw1 : k0_chk1 i v1 v3) (k0_t4 : Fin (k0_t4_loop v1 v3).trips), ∀ (k0_h1 : k0_cond1 i = 1#1), ∀ a, (k0_off12 v1 v3 k0_t4) a + S32x2048.size a ≤ S2560x2048.size a := fun i v1 v3 k0_hw1 k0_t4 k0_h1 => k0_hw1.2.2.2.2.2.2.2.2.2.2.2.2.2.2.2.2.2.1 k0_t4 k0_h1
theorem k0_off12_packedfp8e4m3 : ∀ (i : grid0.Coords) (v1 : BitVec 32) (v3 : BitVec 32) (k0_hw1 : k0_chk1 i v1 v3) (k0_t4 : Fin (k0_t4_loop v1 v3).trips), ∀ (k0_h1 : k0_cond1 i = 1#1), (Rect.unit (s := S2560x2048) (k0_off12 v1 v3 k0_t4) S32x2048.size (k0_off12_inb i v1 v3 k0_hw1 k0_t4 k0_h1)).PackedRows (EltTy.packing .fp8e4m3) := fun i v1 v3 k0_hw1 k0_t4 k0_h1 => k0_hw1.2.2.2.2.2.2.2.2.2.2.2.2.2.2.2.2.2.2.1 k0_t4 k0_h1 (k0_off12_inb i v1 v3 k0_hw1 k0_t4 k0_h1)
theorem k0_off13_inb : ∀ (i : grid0.Coords) (v1 : BitVec 32) (v3 : BitVec 32) (k0_hw1 : k0_chk1 i v1 v3) (k0_t4 : Fin (k0_t4_loop v1 v3).trips), ∀ (k0_h1 : k0_cond1 i = 1#1), ∀ a, (k0_off13 v1 v3 k0_t4) a + S32x128.size a ≤ S2560x128.size a := fun i v1 v3 k0_hw1 k0_t4 k0_h1 => k0_hw1.2.2.2.2.2.2.2.2.2.2.2.2.2.2.2.2.2.2.2 k0_t4 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let v5 : Index := Scalar.indexCast arg0
  let v6 : BitVec 32 := pf.at 2 (Rect.unit (s := S8) ![v5.toNat] S1.size (k0_off1_inb i)) numel1_S1
  let v7 : BitVec 1 := Scalar.cmpi .slt v6 arg0
  let c7_i32 : BitVec 32 := 7#32
  let c0_i32_0 : BitVec 32 := 0#32
  let v8 : BitVec 32 := Scalar.select v7 c7_i32 c0_i32_0
  let v9 : BitVec 32 := Scalar.select v4 arg1 v8
  let c0_i32_1 : BitVec 32 := 0#32
  let c0_i32_2 : BitVec 32 := 0#32
  ![v1.toNat, c0_i32_1.toNat, v9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let v5 : Index := Scalar.indexCast arg0
  let v6 : BitVec 32 := pf.at 2 (Rect.unit (s := S8) ![v5.toNat] S1.size (k0_off1_inb i)) numel1_S1
  let v7 : BitVec 1 := Scalar.cmpi .slt v6 arg0
  let c7_i32 : BitVec 32 := 7#32
  let c0_i32_0 : BitVec 32 := 0#32
  let v8 : BitVec 32 := Scalar.select v7 c7_i32 c0_i32_0
  let v9 : BitVec 32 := Scalar.select v4 arg1 v8
  let c0_i32_1 : BitVec 32 := 0#32
  let c0_i32_2 : BitVec 32 := 0#32
  ![v1.toNat, c0_i32_1.toNat, v9.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2560x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2560x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6144x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6144x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2560x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== GateUpReferenceIdeal.lean ====
abbrev S8 : Shape := ⟨1, ![8]⟩
abbrev S2560x6144 : Shape := ⟨2, ![2560, 6144]⟩
abbrev S2560 : Shape := ⟨1, ![2560]⟩
abbrev S8x6144x2048 : Shape := ⟨3, ![8, 6144, 2048]⟩
abbrev S8x2048 : Shape := ⟨2, ![8, 2048]⟩
abbrev S8x2048x2560 : Shape := ⟨3, ![8, 2048, 2560]⟩
abbrev S8x2560x2048 : Shape := ⟨3, ![8, 2560, 2048]⟩
abbrev S1x2560x1 : Shape := ⟨3, ![1, 2560, 1]⟩
abbrev S8x1x2048 : Shape := ⟨3, ![8, 1, 2048]⟩
abbrev S_ : Shape := ⟨0, ![]⟩
abbrev S8x1 : Shape := ⟨2, ![8, 1]⟩
abbrev S1x2560 : Shape := ⟨2, ![1, 2560]⟩
abbrev S8x2560 : Shape := ⟨2, ![8, 2560]⟩
abbrev S8x2560x1 : Shape := ⟨3, ![8, 2560, 1]⟩

abbrev nBuf : Space → Nat
  | .hbm => 68
  | .vmem => 6
  | .smem => 0
  | _ => 0

abbrev bufTy : (tb : Table) → Fin (tcTables nBuf tb) → BufTy
  | .hbm, ⟨0, _⟩ => ⟨S8, .i32⟩
  | .hbm, ⟨1, _⟩ => ⟨S2560x6144, .fp8e4m3⟩
  | .hbm, ⟨2, _⟩ => ⟨S2560, .f32⟩
  | .hbm, ⟨3, _⟩ => ⟨S8x6144x2048, .fp8e4m3⟩
  | .hbm, ⟨4, _⟩ => ⟨S8x2048, .f32⟩
  | .hbm, ⟨5, _⟩ => ⟨S8x6144x2048, .fp8e4m3⟩
  | .hbm, ⟨6, _⟩ => ⟨S8x2048, .f32⟩
  | .hbm, ⟨7, _⟩ => ⟨S2560x6144, .f32⟩
  | .hbm, ⟨8, _⟩ => ⟨S8x6144x2048, .f32⟩
  | .hbm, ⟨9, _⟩ => ⟨S8x6144x2048, .f32⟩
  | .hbm, ⟨10, _⟩ => ⟨S8x2048x2560, .f32⟩
  | .hbm, ⟨11, _⟩ => ⟨S8x2560x2048, .f32⟩
  | .hbm, ⟨12, _⟩ => ⟨S1x2560x1, .f32⟩
  | .hbm, ⟨13, _⟩ => ⟨S8x2560x2048, .f32⟩
  | .hbm, ⟨14, _⟩ => ⟨S8x2560x2048, .f32⟩
  | .hbm, ⟨15, _⟩ => ⟨S8x1x2048, .f32⟩
  | .hbm, ⟨16, _⟩ => ⟨S8x2560x2048, .f32⟩
  | .hbm, ⟨17, _⟩ => ⟨S8x2560x2048, .f32⟩
  | .hbm, ⟨18, _⟩ => ⟨S8x2048x2560, .f32⟩
  | .hbm, ⟨19, _⟩ => ⟨S8x2560x2048, .f32⟩
  | .hbm, ⟨20, _⟩ => ⟨S1x2560x1, .f32⟩
  | .hbm, ⟨21, _⟩ => ⟨S8x2560x2048, .f32⟩
  | .hbm, ⟨22, _⟩ => ⟨S8x2560x2048, .f32⟩
  | .hbm, ⟨23, _⟩ => ⟨S8x1x2048, .f32⟩
  | .hbm, ⟨24, _⟩ => ⟨S8x2560x2048, .f32⟩
  | .hbm, ⟨25, _⟩ => ⟨S8x2560x2048, .f32⟩
  | .hbm, ⟨26, _⟩ => ⟨S8x2560x2048, .f32⟩
  | .hbm, ⟨27, _⟩ => ⟨S8x2560x2048, .f32⟩
  | .hbm, ⟨28, _⟩ => ⟨S_, .f32⟩
  | .hbm, ⟨29, _⟩ => ⟨S8x2560x2048, .f32⟩
  | .hbm, ⟨30, _⟩ => ⟨S8x2560x2048, .f32⟩
  | .hbm, ⟨31, _⟩ => ⟨S_, .f32⟩
  | .hbm, ⟨32, _⟩ => ⟨S8x2560x2048, .f32⟩
  | .hbm, ⟨33, _⟩ => ⟨S8x2560x2048, .f32⟩
  | .hbm, ⟨34, _⟩ => ⟨S8x2560x2048, .f32⟩
  | .hbm, ⟨35, _⟩ => ⟨S8x2560x2048, .f32⟩
  | .hbm, ⟨36, _⟩ => ⟨S_, .i32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8x1, .i32⟩
  | .hbm, ⟨41, _⟩ => ⟨S2560, .i32⟩
  | .hbm, ⟨42, _⟩ => ⟨S1x2560, .i32⟩
  | .hbm, ⟨43, _⟩ => ⟨S8x2560, .i32⟩
  | .hbm, ⟨44, _⟩ => ⟨S8x2560, .i32⟩
  | .hbm, ⟨45, _⟩ => ⟨S8x2560, .i1⟩
  | .hbm, ⟨46, _⟩ => ⟨S8x1, .i32⟩
  | .hbm, ⟨47, _⟩ => ⟨S8x1, .i32⟩
  | .hbm, ⟨48, _⟩ => ⟨S8x2560, .i32⟩
  | .hbm, ⟨49, _⟩ => ⟨S8x2560, .i32⟩
  | .hbm, ⟨50, _⟩ => ⟨S8x2560, .i1⟩
  | .hbm, ⟨51, _⟩ => ⟨S8x2560, .i1⟩
  | .hbm, ⟨52, _⟩ => ⟨S8x2560x1, .i1⟩
  | .hbm, ⟨53, _⟩ => ⟨S8x2560x2048, .f32⟩
  | .hbm, ⟨54, _⟩ => ⟨S_, .f32⟩
  | .hbm, ⟨55, _⟩ => ⟨S_, .f32⟩
  | .hbm, ⟨56, _⟩ => ⟨S8x2560x2048, .i1⟩
  | .hbm, ⟨57, _⟩ => ⟨S8x2560x2048, .f32⟩
  | .hbm, ⟨58, _⟩ => ⟨S8x2560x2048, .f32⟩
  | .hbm, ⟨59, _⟩ => ⟨S_, .f32⟩
  | .hbm, ⟨60, _⟩ => ⟨S8x2048, .f32⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S8, .f32⟩
  | .hbm, ⟨65, _⟩ => ⟨S8x1, .f32⟩
  | .hbm, ⟨66, _⟩ => ⟨S8x2048, .f32⟩
  | .hbm, ⟨67, _⟩ => ⟨S8x2048, .f32⟩
  | .local _ .vmem, ⟨0, _⟩ => ⟨S2560x6144, .fp8e4m3⟩
  | .local _ .vmem, ⟨1, _⟩ => ⟨S8x6144x2048, .fp8e4m3⟩
  | .local _ .vmem, ⟨2, _⟩ => ⟨S8x6144x2048, .fp8e4m3⟩
  | .local _ .vmem, ⟨3, _⟩ => ⟨S2560x6144, .f32⟩
  | .local _ .vmem, ⟨4, _⟩ => ⟨S8x6144x2048, .f32⟩
  | .local _ .vmem, ⟨5, _⟩ => ⟨S8x6144x2048, .f32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_call0_c : Ref sig .tc := ⟨.hbm, 36, rfl⟩
abbrev main_call0_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v41 : Ref sig .tc := ⟨.hbm, 58, rfl⟩
abbrev main_cst_2 : Ref sig .tc := ⟨.hbm, 59, rfl⟩
abbrev main_v42 : Ref sig .tc := ⟨.hbm, 60, rfl⟩
abbrev main_c : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2560x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6144x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6144x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x6144x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x6144x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.HinIdeal.Vals.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Claim
public import Idealize.ShloMosaic.Lib.Tactic
public import Idealize.ShloMosaic.Lib.WordCmp
public import Idealize.ShloMosaic.Lib.VecWindow
public import Idealize.ShloMosaic.Lib.Pointwise.Index
public import Idealize.ShloMosaic.Lib.Writes

/-! What one grid step of the kernel computes, as functions of the arrays it reads: the transposed and
    scaled 256-column tile of `x`, the block row of column means, and one 256 by 256 block of the result. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One element of the transposed tile: the square of the row scale times the code, rounded to bf16. -/
def el (s : F .f32) (x : F .fp8e4m3) : F .bf16 :=
  FloatOps.truncf .bf16 bitsLt_bf16_f32 (FloatOps.mulf (FloatOps.mulf s s) (FloatOps.extf .f32 bitsLt_fp8e4m3_f32 x))

/-- The tile of block column `w`: row `a`, column `T` holds `el` of scale `T` and code `(T, 256 w + a)`. -/
def tile (S : Vec F S2560x1 .f32) (X : Vec F S2560x6144 .fp8e4m3) (w : ℕ) : Vec F S256x2560 .bf16 :=
  fun y => el (S (ix2 (n0 := 2560) (n1 := 1) ⟨(y 1).val, (y 1).isLt⟩ 0)) (X (ix2 (n0 := 2560) (n1 := 6144) ⟨(y 1).val, (y 1).isLt⟩ (Fin.ofNat 6144 (256 * w + (y 0).val))))

/-- Rows `256 c …` of the scales. -/
def sBlk (S : Vec F S2560x1 .f32) (c : ℕ) : Vec F S256x1 .f32 :=
  fun y => S (ix2 (n0 := 2560) (n1 := 1) (Fin.ofNat 2560 (256 * c + (y 0).val)) 0)

/-- The 256 by 256 block of `x` at block row `c` and block column `w`. -/
def xBlk (X : Vec F S2560x6144 .fp8e4m3) (c w : ℕ) : Vec F S256x256 .fp8e4m3 :=
  fun y => X (ix2 (n0 := 2560) (n1 := 6144) (Fin.ofNat 2560 (256 * c + (y 0).val)) (Fin.ofNat 6144 (256 * w + (y 1).val)))

/-- The 2560 by 256 block column `w` of `x`. -/
def xCol (X : Vec F S2560x6144 .fp8e4m3) (w : ℕ) : Vec F S2560x256 .fp8e4m3 :=
  fun y => X (ix2 (n0 := 2560) (n1 := 6144) ⟨(y 0).val, (y 0).isLt⟩ (Fin.ofNat 6144 (256 * w + (y 1).val)))

/-- Slab `k` of a block of four. -/
def slab (x : Vec F S4x256x256 .f32) (k : ℕ) : Vec F S1x256x256 .f32 :=
  fun y => x (ix3 (n0 := 4) (n1 := 256) (n2 := 256) (Fin.ofNat 4 k) ⟨(y 1).val, (y 1).isLt⟩ ⟨(y 2).val, (y 2).isLt⟩)

/-- The column sums of magnitudes over one 256-row block. -/
def colSum (s : Vec F S256x1 .f32) (x : Vec F S256x256 .fp8e4m3) : FVec F S1x256 .f32 :=
  shapeCast S1x256 (multiReduction .add [0] S256 (absf (mulf (extf .f32 x bitsLt_fp8e4m3_f32)
    (broadcastTo S256x256 (shapeCast S256x1 s shapeCasts_S256x1_S256x1) broadcasts_S256x1_S256x256))) 0x00000000#32 reduces_S256x256_S256 (.inl rfl) rfl) shapeCasts_S256_S1x256

/-- The sum of ten block sums in order, divided by 2560. -/
def meanOf (s : ℕ → Vec F S256x1 .f32) (x : ℕ → Vec F S256x256 .fp8e4m3) : FVec F S1x256 .f32 :=
  divf (addf (addf (addf (addf (addf (addf (addf (addf (addf (addf (broadcast S1x256 (Scalar.ofBits .f32 0x00000000#32))
    (colSum (s 0) (x 0))) (colSum (s 1) (x 1))) (colSum (s 2) (x 2))) (colSum (s 3) (x 3))) (colSum (s 4) (x 4)))
    (colSum (s 5) (x 5))) (colSum (s 6) (x 6))) (colSum (s 7) (x 7))) (colSum (s 8) (x 8))) (colSum (s 9) (x 9)))
    (broadcast S1x256 (Scalar.ofBits .f32 0x45200000#32))

/-- The column means of block column `w`. -/
def meanRow (S : Vec F S2560x1 .f32) (X : Vec F S2560x6144 .fp8e4m3) (w : ℕ) : FVec F S1x256 .f32 :=
  meanOf (sBlk S) (fun c => xBlk X c w)

/-- One block of the result: the old block scaled, plus the scaled product of the tile and block column `w`. -/
def outBlk (at_ : Vec F S256x2560 .bf16) (X : Vec F S2560x6144 .fp8e4m3) (w : ℕ) (old : Vec F S1x256x256 .f32) (co : Vec F S2 .f32) : FVec F S1x256x256 .f32 :=
  k0_pay141 at_ (xCol X w) old (co (ix1 (n0 := 2) 0)) (co (ix1 (n0 := 2) 1))

/-- The tile after a slot: recomputed on the diagonal, kept elsewhere. -/
def stepAt (a b : BitVec 32) (S : Vec F S2560x1 .f32) (X : Vec F S2560x6144 .fp8e4m3) (x : Vec F S256x2560 .bf16) : Vec F S256x2560 .bf16 :=
  if a = b then tile S X a.toNat else x

/-- The row of means after a slot: block column `a` written on the diagonal, unchanged elsewhere. -/
def stepMean (a b : BitVec 32) (S : Vec F S2560x1 .f32) (X : Vec F S2560x6144 .fp8e4m3) (M : Vec F S1x6144 .f32) : Vec F S1x6144 .f32 :=
  if a = b then VecWindow.put (s := S1x6144) M ![0, 256 * a.toNat] S1x256.size (meanRow S X a.toNat) else M

theorem cond_iff (a b : BitVec 32) : k0_cond1 a b = 1#1 ↔ a = b := by
  unfold k0_cond1 Scalar.cmpi Scalar.extui IntOp.cmpi
  by_cases h : a = b
  · subst h; simp
  · have e : (a == b) = false := by simpa using h
    rw [e]
    simp only [h, iff_false]
    decide

theorem col_toNat (w : BitVec 32) (hw : w.toNat < 24) : (Scalar.indexCast (Scalar.muli w 256#32)).toNat = 256 * w.toNat := by
  have e : (Scalar.indexCast (Scalar.muli w 256#32)).toNat = (w * 256#32).toNat := rfl
  rw [e, BitVec.toNat_mul]
  have : (256#32).toNat = 256 := rfl
  rw [this]; omega

theorem ld_sBlk (S : Vec F S2560x1 .f32) (c : ℕ) (off : Fin 2 → ℕ) (inb) (h : off = ![256 * c, 0]) :
    View.ld S (Rect.unit (s := S2560x1) off S256x1.size inb) = sBlk S c := by
  subst h
  funext y
  have h0 := inb 0
  have hy := (y 0).isLt
  have hy1 := (y 1).isLt
  refine congrArg S (funext fun a => Fin.ext ?_)
  match a with
  | ⟨0, _⟩ =>
    show 256 * c + 1 * (y 0).val = (256 * c + (y 0).val) % 2560
    change 256 * c + 256 ≤ 2560 at h0
    change (y 0).val < 256 at hy
    omega
  | ⟨1, _⟩ =>
    show 0 + 1 * (y 1).val = 0
    change (y 1).val < 1 at hy1
    omega

theorem ld_xBlk (X : Vec F S2560x6144 .fp8e4m3) (c w : ℕ) (off : Fin 2 → ℕ) (inb) (h : off = ![256 * c, 256 * w]) :
    View.ld X (Rect.unit (s := S2560x6144) off S256x256.size inb) = xBlk X c w := by
  subst h
  funext y
  have h0 := inb 0
  have h1 := inb 1
  have hy := (y 0).isLt
  have hy1 := (y 1).isLt
  refine congrArg X (funext fun a => Fin.ext ?_)
  match a with
  | ⟨0, _⟩ =>
    show 256 * c + 1 * (y 0).val = (256 * c + (y 0).val) % 2560
    change 256 * c + 256 ≤ 2560 at h0
    change (y 0).val < 256 at hy
    omega
  | ⟨1, _⟩ =>
    show 256 * w + 1 * (y 1).val = (256 * w + (y 1).val) % 6144
    change 256 * w + 256 ≤ 6144 at h1
    change (y 1).val < 256 at hy1
    omega

theorem ld_xCol (X : Vec F S2560x6144 .fp8e4m3) (w : ℕ) (off : Fin 2 → ℕ) (inb) (h : off = ![0, 256 * w]) :
    View.ld X (Rect.unit (s := S2560x6144) off S2560x256.size inb) = xCol X w := by
  subst h
  funext y
  have h1 := inb 1
  have hy1 := (y 1).isLt
  refine congrArg X (funext fun a => Fin.ext ?_)
  match a with
  | ⟨0, _⟩ =>
    show 0 + 1 * (y 0).val = (y 0).val
    omega
  | ⟨1, _⟩ =>
    show 256 * w + 1 * (y 1).val = (256 * w + (y 1).val) % 6144
    change 256 * w + 256 ≤ 6144 at h1
    change (y 1).val < 256 at hy1
    omega

theorem ld_slab (x : Vec F S4x256x256 .f32) (k : ℕ) (hk : k < 4) (inb) :
    View.ld x (Rect.unit (s := S4x256x256) ![k, 0, 0] S1x256x256.size inb) = slab x k := by
  funext y
  have hy := (y 0).isLt
  refine congrArg x (funext fun a => Fin.ext ?_)
  match a with
  | ⟨0, _⟩ =>
    show k + 1 * (y 0).val = k % 4
    change (y 0).val < 1 at hy
    omega
  | ⟨1, _⟩ =>
    show 0 + 1 * (y 1).val = (y 1).val
    omega
  | ⟨2, _⟩ =>
    show 0 + 1 * (y 2).val = (y 2).val
    omega

theorem pay4_apply (s : Vec F S256x1 .f32) (x : Vec F S256x256 .fp8e4m3) (y : S256x256.Idx) :
    k0_pay4 s x y = el (s (ix2 (n0 := 256) (n1 := 1) ⟨(y 1).val, (y 1).isLt⟩ 0)) (x (ix2 (n0 := 256) (n1 := 256) ⟨(y 1).val, (y 1).isLt⟩ ⟨(y 0).val, (y 0).isLt⟩)) := by
  unfold k0_pay4
  dsimp only
  rw [shapeCast_apply _ _ y y rfl]
  rw [transpose_apply [1, 0] _ transposes_S256x256_p1_0_S256x256 y (ix2 (n0 := 256) (n1 := 256) ⟨(y 1).val, (y 1).isLt⟩ ⟨(y 0).val, (y 0).isLt⟩) (fun b => by
    match b with
    | ⟨0, _⟩ => rfl
    | ⟨1, _⟩ => rfl)]
  unfold truncf mulf
  dsimp only
  rw [broadcastTo_apply _ broadcasts_S256x1_S256x256 _ (ix2 (n0 := 256) (n1 := 1) ⟨(y 1).val, (y 1).isLt⟩ 0) (fun a => by
    match a with
    | ⟨0, _⟩ => rfl
    | ⟨1, _⟩ => rfl)]
  unfold k0_pay2 k0_pay3 extf el
  dsimp only
  rw [shapeCast_apply _ _ _ (ix2 (n0 := 256) (n1 := 1) ⟨(y 1).val, (y 1).isLt⟩ 0) rfl]

theorem pay4_tile (S : Vec F S2560x1 .f32) (X : Vec F S2560x6144 .fp8e4m3) (w c : ℕ) (hc : c < 10) (inb) (x : S256x256.Idx) :
    k0_pay4 (sBlk S c) (xBlk X c w) x = tile S X w ((Rect.unit (s := S256x2560) ![0, 256 * c] S256x256.size inb).emb x) := by
  rw [pay4_apply]
  have hy := (x 0).isLt
  have hy1 := (x 1).isLt
  change (x 0).val < 256 at hy
  change (x 1).val < 256 at hy1
  unfold sBlk xBlk tile
  have e1 : (Fin.ofNat 2560 (256 * c + (x 1).val) : Fin 2560) = ⟨(((Rect.unit (s := S256x2560) ![0, 256 * c] S256x256.size inb).emb x) 1).val, (((Rect.unit (s := S256x2560) ![0, 256 * c] S256x256.size inb).emb x) 1).isLt⟩ := by
    apply Fin.ext
    show (256 * c + (x 1).val) % 2560 = 256 * c + 1 * (x 1).val
    omega
  have e0 : (Fin.ofNat 6144 (256 * w + (x 0).val) : Fin 6144) = Fin.ofNat 6144 (256 * w + (((Rect.unit (s := S256x2560) ![0, 256 * c] S256x256.size inb).emb x) 0).val) := by
    have : (((Rect.unit (s := S256x2560) ![0, 256 * c] S256x256.size inb).emb x) 0).val = (x 0).val := by
      show 0 + 1 * (x 0).val = _
      omega
    rw [this]
  rw [← e1, ← e0]
  rfl

/-- Ten stores of transposed blocks into the tile leave the tile. -/
theorem writes_tile {κ : Kind} {sp : Space} (v : View sig κ sp S256x2560 .bf16) (f : v.ty.Contents (Elt F)) (S : Vec F S2560x1 .f32) (X : Vec F S2560x6144 .fp8e4m3) (w : ℕ)
    (o0 : Fin 2 → ℕ) (o1 : Fin 2 → ℕ) (o2 : Fin 2 → ℕ) (o3 : Fin 2 → ℕ) (o4 : Fin 2 → ℕ) (o5 : Fin 2 → ℕ) (o6 : Fin 2 → ℕ) (o7 : Fin 2 → ℕ) (o8 : Fin 2 → ℕ) (o9 : Fin 2 → ℕ)
    (b0 : ∀ a, o0 a + S256x256.size a ≤ S2560x6144.size a)
    (b1 : ∀ a, o1 a + S256x256.size a ≤ S2560x6144.size a)
    (b2 : ∀ a, o2 a + S256x256.size a ≤ S2560x6144.size a)
    (b3 : ∀ a, o3 a + S256x256.size a ≤ S2560x6144.size a)
    (b4 : ∀ a, o4 a + S256x256.size a ≤ S2560x6144.size a)
    (b5 : ∀ a, o5 a + S256x256.size a ≤ S2560x6144.size a)
    (b6 : ∀ a, o6 a + S256x256.size a ≤ S2560x6144.size a)
    (b7 : ∀ a, o7 a + S256x256.size a ≤ S2560x6144.size a)
    (b8 : ∀ a, o8 a + S256x256.size a ≤ S2560x6144.size a)
    (b9 : ∀ a, o9 a + S256x256.size a ≤ S2560x6144.size a)
    (h0 : o0 = ![256 * 0, 256 * w])
    (h1 : o1 = ![256 * 1, 256 * w])
    (h2 : o2 = ![256 * 2, 256 * w])
    (h3 : o3 = ![256 * 3, 256 * w])
    (h4 : o4 = ![256 * 4, 256 * w])
    (h5 : o5 = ![256 * 5, 256 * w])
    (h6 : o6 = ![256 * 6, 256 * w])
    (h7 : o7 = ![256 * 7, 256 * w])
    (h8 : o8 = ![256 * 8, 256 * w])
    (h9 : o9 = ![256 * 9, 256 * w]) :
    v.read (Elt F) (v.writes (Elt F) f [
      ⟨Rect.unit (s := S256x2560) ![0, 2304] S256x256.size inb_S256x2560_S256x256_0_2304, k0_pay4 (View.ld S (Rect.unit (s := S2560x1) ![2304, 0] S256x1.size inb_S2560x1_S256x1_2304_0)) (View.ld X (Rect.unit (s := S2560x6144) o9 S256x256.size b9))⟩,
      ⟨Rect.unit (s := S256x2560) ![0, 2048] S256x256.size inb_S256x2560_S256x256_0_2048, k0_pay4 (View.ld S (Rect.unit (s := S2560x1) ![2048, 0] S256x1.size inb_S2560x1_S256x1_2048_0)) (View.ld X (Rect.unit (s := S2560x6144) o8 S256x256.size b8))⟩,
      ⟨Rect.unit (s := S256x2560) ![0, 1792] S256x256.size inb_S256x2560_S256x256_0_1792, k0_pay4 (View.ld S (Rect.unit (s := S2560x1) ![1792, 0] S256x1.size inb_S2560x1_S256x1_1792_0)) (View.ld X (Rect.unit (s := S2560x6144) o7 S256x256.size b7))⟩,
      ⟨Rect.unit (s := S256x2560) ![0, 1536] S256x256.size inb_S256x2560_S256x256_0_1536, k0_pay4 (View.ld S (Rect.unit (s := S2560x1) ![1536, 0] S256x1.size inb_S2560x1_S256x1_1536_0)) (View.ld X (Rect.unit (s := S2560x6144) o6 S256x256.size b6))⟩,
      ⟨Rect.unit (s := S256x2560) ![0, 1280] S256x256.size inb_S256x2560_S256x256_0_1280, k0_pay4 (View.ld S (Rect.unit (s := S2560x1) ![1280, 0] S256x1.size inb_S2560x1_S256x1_1280_0)) (View.ld X (Rect.unit (s := S2560x6144) o5 S256x256.size b5))⟩,
      ⟨Rect.unit (s := S256x2560) ![0, 1024] S256x256.size inb_S256x2560_S256x256_0_1024, k0_pay4 (View.ld S (Rect.unit (s := S2560x1) ![1024, 0] S256x1.size inb_S2560x1_S256x1_1024_0)) (View.ld X (Rect.unit (s := S2560x6144) o4 S256x256.size b4))⟩,
      ⟨Rect.unit (s := S256x2560) ![0, 768] S256x256.size inb_S256x2560_S256x256_0_768, k0_pay4 (View.ld S (Rect.unit (s := S2560x1) ![768, 0] S256x1.size inb_S2560x1_S256x1_768_0)) (View.ld X (Rect.unit (s := S2560x6144) o3 S256x256.size b3))⟩,
      ⟨Rect.unit (s := S256x2560) ![0, 512] S256x256.size inb_S256x2560_S256x256_0_512, k0_pay4 (View.ld S (Rect.unit (s := S2560x1) ![512, 0] S256x1.size inb_S2560x1_S256x1_512_0)) (View.ld X (Rect.unit (s := S2560x6144) o2 S256x256.size b2))⟩,
      ⟨Rect.unit (s := S256x2560) ![0, 256] S256x256.size inb_S256x2560_S256x256_0_256, k0_pay4 (View.ld S (Rect.unit (s := S2560x1) ![256, 0] S256x1.size inb_S2560x1_S256x1_256_0)) (View.ld X (Rect.unit (s := S2560x6144) o1 S256x256.size b1))⟩,
      ⟨Rect.unit (s := S256x2560) ![0, 0] S256x256.size inb_S256x2560_S256x256_0_0, k0_pay4 (View.ld S (Rect.unit (s := S2560x1) ![0, 0] S256x1.size inb_S2560x1_S256x1_0_0)) (View.ld X (Rect.unit (s := S2560x6144) o0 S256x256.size b0))⟩]) = tile S X w := by
  rw [ld_sBlk S 0 ![0, 0] _ rfl, ld_xBlk X 0 w o0 b0 h0, ld_sBlk S 1 ![256, 0] _ rfl, ld_xBlk X 1 w o1 b1 h1, ld_sBlk S 2 ![512, 0] _ rfl, ld_xBlk X 2 w o2 b2 h2, ld_sBlk S 3 ![768, 0] _ rfl, ld_xBlk X 3 w o3 b3 h3, ld_sBlk S 4 ![1024, 0] _ rfl, ld_xBlk X 4 w o4 b4 h4, ld_sBlk S 5 ![1280, 0] _ rfl, ld_xBlk X 5 w o5 b5 h5, ld_sBlk S 6 ![1536, 0] _ rfl, ld_xBlk X 6 w o6 b6 h6, ld_sBlk S 7 ![1792, 0] _ rfl, ld_xBlk X 7 w o7 b7 h7, ld_sBlk S 8 ![2048, 0] _ rfl, ld_xBlk X 8 w o8 b8 h8, ld_sBlk S 9 ![2304, 0] _ rfl, ld_xBlk X 9 w o9 b9 h9]
  funext y
  refine View.read_writes_apply_of_pieces v f (tile S X w) _ ?_ y (View.cover_of_tiled (s := S256x2560) _ S256x256.size (by rfl) y)
  intro p hp
  simp only [List.mem_cons, List.not_mem_nil, or_false] at hp
  rcases hp with rfl | rfl | rfl | rfl | rfl | rfl | rfl | rfl | rfl | rfl
  · exact fun x => pay4_tile S X w 9 (by decide) inb_S256x2560_S256x256_0_2304 x
  · exact fun x => pay4_tile S X w 8 (by decide) inb_S256x2560_S256x256_0_2048 x
  · exact fun x => pay4_tile S X w 7 (by decide) inb_S256x2560_S256x256_0_1792 x
  · exact fun x => pay4_tile S X w 6 (by decide) inb_S256x2560_S256x256_0_1536 x
  · exact fun x => pay4_tile S X w 5 (by decide) inb_S256x2560_S256x256_0_1280 x
  · exact fun x => pay4_tile S X w 4 (by decide) inb_S256x2560_S256x256_0_1024 x
  · exact fun x => pay4_tile S X w 3 (by decide) inb_S256x2560_S256x256_0_768 x
  · exact fun x => pay4_tile S X w 2 (by decide) inb_S256x2560_S256x256_0_512 x
  · exact fun x => pay4_tile S X w 1 (by decide) inb_S256x2560_S256x256_0_256 x
  · exact fun x => pay4_tile S X w 0 (by decide) inb_S256x2560_S256x256_0_0 x

/-- The ten block sums of loaded blocks, divided by 2560, are the row of means of block column `w`. -/
theorem meanOf_ld (S : Vec F S2560x1 .f32) (X : Vec F S2560x6144 .fp8e4m3) (w : ℕ)
    (o0 : Fin 2 → ℕ) (o1 : Fin 2 → ℕ) (o2 : Fin 2 → ℕ) (o3 : Fin 2 → ℕ) (o4 : Fin 2 → ℕ) (o5 : Fin 2 → ℕ) (o6 : Fin 2 → ℕ) (o7 : Fin 2 → ℕ) (o8 : Fin 2 → ℕ) (o9 : Fin 2 → ℕ)
    (b0 : ∀ a, o0 a + S256x256.size a ≤ S2560x6144.size a)
    (b1 : ∀ a, o1 a + S256x256.size a ≤ S2560x6144.size a)
    (b2 : ∀ a, o2 a + S256x256.size a ≤ S2560x6144.size a)
    (b3 : ∀ a, o3 a + S256x256.size a ≤ S2560x6144.size a)
    (b4 : ∀ a, o4 a + S256x256.size a ≤ S2560x6144.size a)
    (b5 : ∀ a, o5 a + S256x256.size a ≤ S2560x6144.size a)
    (b6 : ∀ a, o6 a + S256x256.size a ≤ S2560x6144.size a)
    (b7 : ∀ a, o7 a + S256x256.size a ≤ S2560x6144.size a)
    (b8 : ∀ a, o8 a + S256x256.size a ≤ S2560x6144.size a)
    (b9 : ∀ a, o9 a + S256x256.size a ≤ S2560x6144.size a)
    (h0 : o0 = ![256 * 0, 256 * w])
    (h1 : o1 = ![256 * 1, 256 * w])
    (h2 : o2 = ![256 * 2, 256 * w])
    (h3 : o3 = ![256 * 3, 256 * w])
    (h4 : o4 = ![256 * 4, 256 * w])
    (h5 : o5 = ![256 * 5, 256 * w])
    (h6 : o6 = ![256 * 6, 256 * w])
    (h7 : o7 = ![256 * 7, 256 * w])
    (h8 : o8 = ![256 * 8, 256 * w])
    (h9 : o9 = ![256 * 9, 256 * w]) :
    meanOf (fun c => match c with | 0 => (View.ld S (Rect.unit (s := S2560x1) ![0, 0] S256x1.size inb_S2560x1_S256x1_0_0)) | 1 => (View.ld S (Rect.unit (s := S2560x1) ![256, 0] S256x1.size inb_S2560x1_S256x1_256_0)) | 2 => (View.ld S (Rect.unit (s := S2560x1) ![512, 0] S256x1.size inb_S2560x1_S256x1_512_0)) | 3 => (View.ld S (Rect.unit (s := S2560x1) ![768, 0] S256x1.size inb_S2560x1_S256x1_768_0)) | 4 => (View.ld S (Rect.unit (s := S2560x1) ![1024, 0] S256x1.size inb_S2560x1_S256x1_1024_0)) | 5 => (View.ld S (Rect.unit (s := S2560x1) ![1280, 0] S256x1.size inb_S2560x1_S256x1_1280_0)) | 6 => (View.ld S (Rect.unit (s := S2560x1) ![1536, 0] S256x1.size inb_S2560x1_S256x1_1536_0)) | 7 => (View.ld S (Rect.unit (s := S2560x1) ![1792, 0] S256x1.size inb_S2560x1_S256x1_1792_0)) | 8 => (View.ld S (Rect.unit (s := S2560x1) ![2048, 0] S256x1.size inb_S2560x1_S256x1_2048_0)) | _ => (View.ld S (Rect.unit (s := S2560x1) ![2304, 0] S256x1.size inb_S2560x1_S256x1_2304_0)))
      (fun c => match c with | 0 => (View.ld X (Rect.unit (s := S2560x6144) o0 S256x256.size b0)) | 1 => (View.ld X (Rect.unit (s := S2560x6144) o1 S256x256.size b1)) | 2 => (View.ld X (Rect.unit (s := S2560x6144) o2 S256x256.size b2)) | 3 => (View.ld X (Rect.unit (s := S2560x6144) o3 S256x256.size b3)) | 4 => (View.ld X (Rect.unit (s := S2560x6144) o4 S256x256.size b4)) | 5 => (View.ld X (Rect.unit (s := S2560x6144) o5 S256x256.size b5)) | 6 => (View.ld X (Rect.unit (s := S2560x6144) o6 S256x256.size b6)) | 7 => (View.ld X (Rect.unit (s := S2560x6144) o7 S256x256.size b7)) | 8 => (View.ld X (Rect.unit (s := S2560x6144) o8 S256x256.size b8)) | _ => (View.ld X (Rect.unit (s := S2560x6144) o9 S256x256.size b9))) = meanRow S X w := by
  unfold meanOf meanRow meanOf
  dsimp only
  rw [ld_sBlk S 0 ![0, 0] _ rfl, ld_xBlk X 0 w o0 b0 h0, ld_sBlk S 1 ![256, 0] _ rfl, ld_xBlk X 1 w o1 b1 h1, ld_sBlk S 2 ![512, 0] _ rfl, ld_xBlk X 2 w o2 b2 h2, ld_sBlk S 3 ![768, 0] _ rfl, ld_xBlk X 3 w o3 b3 h3, ld_sBlk S 4 ![1024, 0] _ rfl, ld_xBlk X 4 w o4 b4 h4, ld_sBlk S 5 ![1280, 0] _ rfl, ld_xBlk X 5 w o5 b5 h5, ld_sBlk S 6 ![1536, 0] _ rfl, ld_xBlk X 6 w o6 b6 h6, ld_sBlk S 7 ![1792, 0] _ rfl, ld_xBlk X 7 w o7 b7 h7, ld_sBlk S 8 ![2048, 0] _ rfl, ld_xBlk X 8 w o8 b8 h8, ld_sBlk S 9 ![2304, 0] _ rfl, ld_xBlk X 9 w o9 b9 h9]
  rfl

end Cert.KernelIdeal.Hin
-- ==== Proof.HinIdeal.Words.lean ====
module

public import proofs.«01_k».proof.Proof.HinIdeal.Vals

/-! The side conditions the kernel's body states about the words it loads: they hold of words below 24. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word of a prefetched table at an offset. -/
def word (t : Vec F S300 .i32) (off : Fin 1 → ℕ) (h : ∀ a, off a + S1.size a ≤ S300.size a) : BitVec 32 :=
  View.ld t (Rect.unit (s := S300) off S1.size h) (Shape.Idx.first (numel1_S1 ▸ Nat.one_pos))

theorem off_eq (r : ℕ) (w : BitVec 32) (hw : w.toNat < 24) :
    (![r, (Scalar.indexCast (Scalar.muli w 256#32)).toNat] : Fin 2 → ℕ) = ![r, 256 * w.toNat] := by
  rw [col_toNat w hw]

theorem inb_x (r : ℕ) (hr : r + 256 ≤ 2560) (w : BitVec 32) (hw : w.toNat < 24) (a : Fin 2) :
    (![r, (Scalar.indexCast (Scalar.muli w 256#32)).toNat] : Fin 2 → ℕ) a + S256x256.size a ≤ S2560x6144.size a := by
  rw [off_eq r w hw]
  match a with
  | ⟨0, _⟩ => show r + 256 ≤ 2560; omega
  | ⟨1, _⟩ => show 256 * w.toNat + 256 ≤ 6144; omega

theorem inb_m (w : BitVec 32) (hw : w.toNat < 24) (a : Fin 2) :
    (![0, (Scalar.indexCast (Scalar.muli w 256#32)).toNat] : Fin 2 → ℕ) a + S1x256.size a ≤ S1x6144.size a := by
  rw [off_eq 0 w hw]
  match a with
  | ⟨0, _⟩ => show 0 + 1 ≤ 1; omega
  | ⟨1, _⟩ => show 256 * w.toNat + 256 ≤ 6144; omega

theorem inb_c (w : BitVec 32) (hw : w.toNat < 24) (a : Fin 2) :
    (![0, (Scalar.indexCast (Scalar.muli w 256#32)).toNat] : Fin 2 → ℕ) a + S2560x256.size a ≤ S2560x6144.size a := by
  rw [off_eq 0 w hw]
  match a with
  | ⟨0, _⟩ => show 0 + 2560 ≤ 2560; omega
  | ⟨1, _⟩ => show 256 * w.toNat + 256 ≤ 6144; omega

theorem dvd_w (w : BitVec 32) (hw : w.toNat < 24) : 256 ∣ (Scalar.muli w 256#32).toNat := by
  have := col_toNat w hw
  exact ⟨w.toNat, this⟩

theorem chk1_of (a : BitVec 32) (ha : a.toNat < 24) : k0_chk1 a := dvd_w a ha
theorem chk2_of (a b : BitVec 32) (ha : a.toNat < 24) (hb : b.toNat < 24) : k0_chk2 a b :=
  ⟨dvd_w b hb, fun _ => inb_x 0 (by decide) a ha, fun _ => inb_x 256 (by decide) a ha, fun _ => inb_x 512 (by decide) a ha, fun _ => inb_x 768 (by decide) a ha, fun _ => inb_x 1024 (by decide) a ha, fun _ => inb_x 1280 (by decide) a ha, fun _ => inb_x 1536 (by decide) a ha, fun _ => inb_x 1792 (by decide) a ha, fun _ => inb_x 2048 (by decide) a ha, fun _ => inb_x 2304 (by decide) a ha, fun _ => inb_m a ha, inb_c b hb⟩

theorem chk3_of (a : BitVec 32) (ha : a.toNat < 24) : k0_chk3 a := dvd_w a ha
theorem chk4_of (a b : BitVec 32) (ha : a.toNat < 24) (hb : b.toNat < 24) : k0_chk4 a b :=
  ⟨dvd_w b hb, fun _ => inb_x 0 (by decide) a ha, fun _ => inb_x 256 (by decide) a ha, fun _ => inb_x 512 (by decide) a ha, fun _ => inb_x 768 (by decide) a ha, fun _ => inb_x 1024 (by decide) a ha, fun _ => inb_x 1280 (by decide) a ha, fun _ => inb_x 1536 (by decide) a ha, fun _ => inb_x 1792 (by decide) a ha, fun _ => inb_x 2048 (by decide) a ha, fun _ => inb_x 2304 (by decide) a ha, fun _ => inb_m a ha, inb_c b hb⟩

theorem chk5_of (a : BitVec 32) (ha : a.toNat < 24) : k0_chk5 a := dvd_w a ha
theorem chk6_of (a b : BitVec 32) (ha : a.toNat < 24) (hb : b.toNat < 24) : k0_chk6 a b :=
  ⟨dvd_w b hb, fun _ => inb_x 0 (by decide) a ha, fun _ => inb_x 256 (by decide) a ha, fun _ => inb_x 512 (by decide) a ha, fun _ => inb_x 768 (by decide) a ha, fun _ => inb_x 1024 (by decide) a ha, fun _ => inb_x 1280 (by decide) a ha, fun _ => inb_x 1536 (by decide) a ha, fun _ => inb_x 1792 (by decide) a ha, fun _ => inb_x 2048 (by decide) a ha, fun _ => inb_x 2304 (by decide) a ha, fun _ => inb_m a ha, inb_c b hb⟩

theorem chk7_of (a : BitVec 32) (ha : a.toNat < 24) : k0_chk7 a := dvd_w a ha
theorem chk8_of (a b : BitVec 32) (ha : a.toNat < 24) (hb : b.toNat < 24) : k0_chk8 a b :=
  ⟨dvd_w b hb, fun _ => inb_x 0 (by decide) a ha, fun _ => inb_x 256 (by decide) a ha, fun _ => inb_x 512 (by decide) a ha, fun _ => inb_x 768 (by decide) a ha, fun _ => inb_x 1024 (by decide) a ha, fun _ => inb_x 1280 (by decide) a ha, fun _ => inb_x 1536 (by decide) a ha, fun _ => inb_x 1792 (by decide) a ha, fun _ => inb_x 2048 (by decide) a ha, fun _ => inb_x 2304 (by decide) a ha, fun _ => inb_m a ha, inb_c b hb⟩

theorem ld_whole (x : Vec F S256x2560 .bf16) (inb) :
    View.ld x (Rect.unit (s := S256x2560) ![0, 0] S256x2560.size inb) = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld_co0 (x : Vec F S2 .f32) (h) :
    View.ld x (Rect.unit (s := S2) ![0] S1.size inb_S2_S1_0) (Shape.Idx.first h) = x (ix1 (n0 := 2) 0) :=
  congrArg x (funext fun a => Fin.ext (by match a with | ⟨0, _⟩ => rfl))

theorem ld_co1 (x : Vec F S2 .f32) (h) :
    View.ld x (Rect.unit (s := S2) ![1] S1.size inb_S2_S1_1) (Shape.Idx.first h) = x (ix1 (n0 := 2) 1) :=
  congrArg x (funext fun a => Fin.ext (by match a with | ⟨0, _⟩ => rfl))

theorem S1pos : 0 < S1.numel := by decide

theorem rd_whole (v : View sig .tc .vmem S256x2560 .bf16) (f : v.ty.Contents (Elt F)) (inb) :
    View.readAt (Elt F) v (Rect.unit (s := S256x2560) ![0, 0] S256x2560.size inb).toLoadRect f = v.read (Elt F) f := ld_whole _ _

theorem rd_xCol (v : View sig .tc .vmem S2560x6144 .fp8e4m3) (f : v.ty.Contents (Elt F)) (w : ℕ) (o : Fin 2 → ℕ) (inb) (h : o = ![0, 256 * w]) :
    View.readAt (Elt F) v (Rect.unit (s := S2560x6144) o S2560x256.size inb).toLoadRect f = xCol (v.read (Elt F) f) w := ld_xCol _ w o inb h

theorem rd_slab (v : View sig .tc .vmem S4x256x256 .f32) (f : v.ty.Contents (Elt F)) (k : ℕ) (hk : k < 4) (inb) :
    View.readAt (Elt F) v (Rect.unit (s := S4x256x256) ![k, 0, 0] S1x256x256.size inb).toLoadRect f = slab (v.read (Elt F) f) k := ld_slab _ k hk inb

theorem rd_co0 (v : View sig .tc .smem S2 .f32) (f : v.ty.Contents (Elt F)) (h) :
    View.readAt (Elt F) v (Rect.unit (s := S2) ![0] S1.size inb_S2_S1_0).toLoadRect f (Shape.Idx.first h) = v.read (Elt F) f (ix1 (n0 := 2) 0) := ld_co0 _ h

theorem rd_co1 (v : View sig .tc .smem S2 .f32) (f : v.ty.Contents (Elt F)) (h) :
    View.readAt (Elt F) v (Rect.unit (s := S2) ![1] S1.size inb_S2_S1_1).toLoadRect f (Shape.Idx.first h) = v.read (Elt F) f (ix1 (n0 := 2) 1) := ld_co1 _ h

/-- The payload of a slot's store, of what the slot loads. -/
theorem out_congr {A at_ : Vec F S256x2560 .bf16} {B : Vec F S2560x256 .fp8e4m3} {X : Vec F S2560x6144 .fp8e4m3} {w : ℕ} {C old : Vec F S1x256x256 .f32} {d0 d1 : Elt F .f32} {co : Vec F S2 .f32}
    (hA : A = at_) (hB : B = xCol X w) (hC : C = old) (h0 : d0 = co (ix1 (n0 := 2) 0)) (h1 : d1 = co (ix1 (n0 := 2) 1)) :
    k0_pay141 A B C d0 d1 = outBlk at_ X w old co := by
  subst hA hB hC h0 h1
  rfl

end Cert.KernelIdeal.Hin
-- ==== Proof.HinIdeal.Slot1.lean ====
module

public import proofs.«01_k».proof.Proof.HinIdeal.Words

/-! The first slot of a grid step. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option maxHeartbeats 1000000 in
/-- The first slot of a grid step, and the load of the second slot's row word. -/
theorem slot1 (c : Dev nD) (E : Set ℕ) (i : grid0.Coords)
    (arg1 : Memref sig .tc .smem S300 .i32) (harg1 : arg1.IsWhole) (arg2 : Memref sig .tc .smem S300 .i32) (harg2 : arg2.IsWhole)
    (arg3 : Memref sig .tc .smem S2 .f32) (harg3 : arg3.IsWhole) (arg4 : Memref sig .tc .vmem S2560x6144 .fp8e4m3) (harg4 : arg4.IsWhole)
    (arg5 : Memref sig .tc .vmem S2560x1 .f32) (harg5 : arg5.IsWhole) (arg6 : Memref sig .tc .vmem S4x256x256 .f32) (harg6 : arg6.IsWhole)
    (arg7 : Memref sig .tc .vmem S4x256x256 .f32) (harg7 : arg7.IsWhole) (arg8 : Memref sig .tc .vmem S1x6144 .f32) (harg8 : arg8.IsWhole)
    (arg9 : Memref sig .tc .vmem S256x2560 .bf16) (harg9 : arg9.IsWhole)
    (t1 : Vec F S300 .i32) (t2 : Vec F S300 .i32) (q1 q2 : PosShare TreeShare) (x3 : Vec F S2 .f32) (x4 : Vec F S2560x6144 .fp8e4m3) (x5 : Vec F S2560x1 .f32)
    (x6 x7 : Vec F S4x256x256 .f32) (x8 : Vec F S1x6144 .f32) (x9 : Vec F S256x2560 .bf16)
    (ha1 : (word t1 (k0_off1 i) (k0_off1_inb i)).toNat < 24) (hb1 : (word t2 (k0_off1 i) (k0_off1_inb i)).toNat < 24) (ha2 : (word t1 (k0_off14 i) (k0_off14_inb i)).toNat < 24)
    (K : _ → sProp 𝕄) :
    iprop(owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∀ r, iprop(⌜r = ⟨BitVec.ofNat 32 (i 0).val, (word t1 (k0_off14 i) (k0_off14_inb i))⟩⌝
          ∗ owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare (VecWindow.put (s := S4x256x256) x7 ![0, 0, 0] S1x256x256.size (outBlk (stepAt (word t1 (k0_off1 i) (k0_off1_inb i)) (word t2 (k0_off1 i) (k0_off1_inb i)) x5 x4 x9) x4 (word t2 (k0_off1 i) (k0_off1_inb i)).toNat (slab x6 0) x3)) ∗ owns (c : Thread nD τ) arg8 fullShare (stepMean (word t1 (k0_off1 i) (k0_off1_inb i)) (word t2 (k0_off1 i) (k0_off1_inb i)) x5 x4 x8) ∗ owns (c : Thread nD τ) arg9 fullShare (stepAt (word t1 (k0_off1 i) (k0_off1_inb i)) (word t2 (k0_off1 i) (k0_off1_inb i)) x5 x4 x9))
          -∗ K r))
      ⊢ wp frame (wpE (defs₀ (F := F)) Variants.none c none) E (k0_part17 i arg1 harg1 arg2 harg2 arg3 harg3 arg4 harg4 arg5 harg5 arg6 harg6 arg7 harg7 arg8 harg8 arg9 harg9) K := by
  have hc1 := chk1_of _ ha1
  have hc2 := chk2_of _ _ ha1 hb1
  have hc3 := chk3_of _ ha2
  simp only [k0_part17_eq_skeleton]; unfold k0_part17_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  by_cases hC1 : k0_cond1 (word (arg1.view.read (Elt F) f1) (k0_off1 i) (k0_off1_inb i)) (word (arg2.view.read (Elt F) f2) (k0_off1 i) (k0_off1_inb i)) = 1#1
  · sl_exec (disch := first | exact hc1 | exact hc2 | exact hc3 | exact hC1)
    sl_step
    have hE := (cond_iff _ _).mp hC1
    unfold stepAt stepMean
    rw [if_pos hE, if_pos hE]
    have hT1 := fun f => writes_tile arg9.view f (arg5.view.read (Elt F) f5) (arg4.view.read (Elt F) f4) _ _ _ _ _ _ _ _ _ _ _ (hc2.2.1 hC1) (hc2.2.2.1 hC1) (hc2.2.2.2.1 hC1) (hc2.2.2.2.2.1 hC1) (hc2.2.2.2.2.2.1 hC1) (hc2.2.2.2.2.2.2.1 hC1) (hc2.2.2.2.2.2.2.2.1 hC1) (hc2.2.2.2.2.2.2.2.2.1 hC1) (hc2.2.2.2.2.2.2.2.2.2.1 hC1) (hc2.2.2.2.2.2.2.2.2.2.2.1 hC1)
      (off_eq 0 _ ha1) (off_eq 256 _ ha1) (off_eq 512 _ ha1) (off_eq 768 _ ha1) (off_eq 1024 _ ha1) (off_eq 1280 _ ha1) (off_eq 1536 _ ha1) (off_eq 1792 _ ha1) (off_eq 2048 _ ha1) (off_eq 2304 _ ha1)
    have hM1 := meanOf_ld (arg5.view.read (Elt F) f5) (arg4.view.read (Elt F) f4) _ _ _ _ _ _ _ _ _ _ _ (hc2.2.1 hC1) (hc2.2.2.1 hC1) (hc2.2.2.2.1 hC1) (hc2.2.2.2.2.1 hC1) (hc2.2.2.2.2.2.1 hC1) (hc2.2.2.2.2.2.2.1 hC1) (hc2.2.2.2.2.2.2.2.1 hC1) (hc2.2.2.2.2.2.2.2.2.1 hC1) (hc2.2.2.2.2.2.2.2.2.2.1 hC1) (hc2.2.2.2.2.2.2.2.2.2.2.1 hC1)
      (off_eq 0 _ ha1) (off_eq 256 _ ha1) (off_eq 512 _ ha1) (off_eq 768 _ ha1) (off_eq 1024 _ ha1) (off_eq 1280 _ ha1) (off_eq 1536 _ ha1) (off_eq 1792 _ ha1) (off_eq 2048 _ ha1) (off_eq 2304 _ ha1)
    iapply Hk
    isplitr; · ipureintro; rfl
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      refine (View.read_writes_cons_put _ _ _ _ _ rfl).trans ?_
      refine congrArg (VecWindow.put _ _ _) (out_congr ?_ ?_ ?_ ?_ ?_)
      · exact (rd_whole _ _ inb_S256x2560_S256x2560_0_0).trans (hT1 _)
      · exact rd_xCol _ _ _ _ _ (off_eq 0 _ hb1)
      · exact rd_slab _ _ 0 (by decide) _
      · exact rd_co0 _ _ S1pos
      · exact rd_co1 _ _ S1pos
    isplitl [H8]
    · iexists _; isplitr
      swap; · iexact H8
      ipureintro
      refine (View.read_writes_cons_put _ _ _ _ _ (off_eq 0 _ ha1)).trans ?_
      rw [← hM1]
      rfl
    iexists _; isplitr
    swap; · iexact H9
    ipureintro
    exact hT1 _
  · sl_exec (disch := first | exact hc1 | exact hc2 | exact hc3 | exact hC1)
    sl_step
    have hE := fun h => hC1 ((cond_iff _ _).mpr h)
    unfold stepAt stepMean
    rw [if_neg hE, if_neg hE]
    iapply Hk
    isplitr; · ipureintro; rfl
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      refine (View.read_writes_cons_put _ _ _ _ _ rfl).trans ?_
      refine congrArg (VecWindow.put _ _ _) (out_congr ?_ ?_ ?_ ?_ ?_)
      · exact rd_whole _ _ inb_S256x2560_S256x2560_0_0
      · exact rd_xCol _ _ _ _ _ (off_eq 0 _ hb1)
      · exact rd_slab _ _ 0 (by decide) _
      · exact rd_co0 _ _ S1pos
      · exact rd_co1 _ _ S1pos
    isplitl [H8]
    · iexists f8; isplitr; · ipureintro; rfl
      iexact H8
    iexists f9; isplitr; · ipureintro; rfl
    iexact H9

end Cert.KernelIdeal.Hin
-- ==== Proof.HinIdeal.Slot2.lean ====
module

public import proofs.«01_k».proof.Proof.HinIdeal.Words

/-! The second slot of a grid step. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option maxHeartbeats 1000000 in
/-- The second slot of a grid step, and the loads of the third slot's words. -/
theorem slot2 (c : Dev nD) (E : Set ℕ) (i : grid0.Coords)
    (arg1 : Memref sig .tc .smem S300 .i32) (harg1 : arg1.IsWhole) (arg2 : Memref sig .tc .smem S300 .i32) (harg2 : arg2.IsWhole)
    (arg3 : Memref sig .tc .smem S2 .f32) (harg3 : arg3.IsWhole) (arg4 : Memref sig .tc .vmem S2560x6144 .fp8e4m3) (harg4 : arg4.IsWhole)
    (arg5 : Memref sig .tc .vmem S2560x1 .f32) (harg5 : arg5.IsWhole) (arg6 : Memref sig .tc .vmem S4x256x256 .f32) (harg6 : arg6.IsWhole)
    (arg7 : Memref sig .tc .vmem S4x256x256 .f32) (harg7 : arg7.IsWhole) (arg8 : Memref sig .tc .vmem S1x6144 .f32) (harg8 : arg8.IsWhole)
    (arg9 : Memref sig .tc .vmem S256x2560 .bf16) (harg9 : arg9.IsWhole)
    (t1 : Vec F S300 .i32) (t2 : Vec F S300 .i32) (q1 q2 : PosShare TreeShare) (x3 : Vec F S2 .f32) (x4 : Vec F S2560x6144 .fp8e4m3) (x5 : Vec F S2560x1 .f32)
    (x6 x7 : Vec F S4x256x256 .f32) (x8 : Vec F S1x6144 .f32) (x9 : Vec F S256x2560 .bf16)
    (ha2 : (word t1 (k0_off14 i) (k0_off14_inb i)).toNat < 24) (hb2 : (word t2 (k0_off14 i) (k0_off14_inb i)).toNat < 24) (ha3 : (word t1 (k0_off27 i) (k0_off27_inb i)).toNat < 24) (hb3 : (word t2 (k0_off27 i) (k0_off27_inb i)).toNat < 24) (arg0 : BitVec 32)
    (K : _ → sProp 𝕄) :
    iprop(owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∀ r, iprop(⌜r = ⟨(word t1 (k0_off27 i) (k0_off27_inb i)), (word t2 (k0_off27 i) (k0_off27_inb i)), chk6_of _ _ ha3 hb3, Scalar.muli (word t1 (k0_off27 i) (k0_off27_inb i)) 256#32, Scalar.muli (word t2 (k0_off27 i) (k0_off27_inb i)) 256#32, Scalar.cmpi .eq (word t1 (k0_off27 i) (k0_off27_inb i)) (word t2 (k0_off27 i) (k0_off27_inb i))⟩⌝
          ∗ owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare (VecWindow.put (s := S4x256x256) x7 ![1, 0, 0] S1x256x256.size (outBlk (stepAt (word t1 (k0_off14 i) (k0_off14_inb i)) (word t2 (k0_off14 i) (k0_off14_inb i)) x5 x4 x9) x4 (word t2 (k0_off14 i) (k0_off14_inb i)).toNat (slab x6 1) x3)) ∗ owns (c : Thread nD τ) arg8 fullShare (stepMean (word t1 (k0_off14 i) (k0_off14_inb i)) (word t2 (k0_off14 i) (k0_off14_inb i)) x5 x4 x8) ∗ owns (c : Thread nD τ) arg9 fullShare (stepAt (word t1 (k0_off14 i) (k0_off14_inb i)) (word t2 (k0_off14 i) (k0_off14_inb i)) x5 x4 x9))
          -∗ K r))
      ⊢ wp frame (wpE (defs₀ (F := F)) Variants.none c none) E (k0_part18 i arg1 harg1 arg2 harg2 arg3 harg3 arg4 harg4 arg5 harg5 arg6 harg6 arg7 harg7 arg8 harg8 arg9 harg9 arg0 (word t1 (k0_off14 i) (k0_off14_inb i))) K := by
  have hc3 := chk3_of _ ha2
  have hc4 := chk4_of _ _ ha2 hb2
  have hc5 := chk5_of _ ha3
  have hc6 := chk6_of _ _ ha3 hb3
  simp only [k0_part18_eq_skeleton]; unfold k0_part18_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  by_cases hC2 : k0_cond2 (word (arg1.view.read (Elt F) f1) (k0_off14 i) (k0_off14_inb i)) (word (arg2.view.read (Elt F) f2) (k0_off14 i) (k0_off14_inb i)) = 1#1
  · sl_exec (disch := first | exact hc3 | exact hc4 | exact hc5 | exact hc6 | exact hC2)
    sl_step
    have hE := (cond_iff _ _).mp hC2
    unfold stepAt stepMean
    rw [if_pos hE, if_pos hE]
    have hT2 := fun f => writes_tile arg9.view f (arg5.view.read (Elt F) f5) (arg4.view.read (Elt F) f4) _ _ _ _ _ _ _ _ _ _ _ (hc4.2.1 hC2) (hc4.2.2.1 hC2) (hc4.2.2.2.1 hC2) (hc4.2.2.2.2.1 hC2) (hc4.2.2.2.2.2.1 hC2) (hc4.2.2.2.2.2.2.1 hC2) (hc4.2.2.2.2.2.2.2.1 hC2) (hc4.2.2.2.2.2.2.2.2.1 hC2) (hc4.2.2.2.2.2.2.2.2.2.1 hC2) (hc4.2.2.2.2.2.2.2.2.2.2.1 hC2)
      (off_eq 0 _ ha2) (off_eq 256 _ ha2) (off_eq 512 _ ha2) (off_eq 768 _ ha2) (off_eq 1024 _ ha2) (off_eq 1280 _ ha2) (off_eq 1536 _ ha2) (off_eq 1792 _ ha2) (off_eq 2048 _ ha2) (off_eq 2304 _ ha2)
    have hM2 := meanOf_ld (arg5.view.read (Elt F) f5) (arg4.view.read (Elt F) f4) _ _ _ _ _ _ _ _ _ _ _ (hc4.2.1 hC2) (hc4.2.2.1 hC2) (hc4.2.2.2.1 hC2) (hc4.2.2.2.2.1 hC2) (hc4.2.2.2.2.2.1 hC2) (hc4.2.2.2.2.2.2.1 hC2) (hc4.2.2.2.2.2.2.2.1 hC2) (hc4.2.2.2.2.2.2.2.2.1 hC2) (hc4.2.2.2.2.2.2.2.2.2.1 hC2) (hc4.2.2.2.2.2.2.2.2.2.2.1 hC2)
      (off_eq 0 _ ha2) (off_eq 256 _ ha2) (off_eq 512 _ ha2) (off_eq 768 _ ha2) (off_eq 1024 _ ha2) (off_eq 1280 _ ha2) (off_eq 1536 _ ha2) (off_eq 1792 _ ha2) (off_eq 2048 _ ha2) (off_eq 2304 _ ha2)
    iapply Hk
    isplitr; · ipureintro; rfl
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      refine (View.read_writes_cons_put _ _ _ _ _ rfl).trans ?_
      refine congrArg (VecWindow.put _ _ _) (out_congr ?_ ?_ ?_ ?_ ?_)
      · exact (rd_whole _ _ inb_S256x2560_S256x2560_0_0).trans (hT2 _)
      · exact rd_xCol _ _ _ _ _ (off_eq 0 _ hb2)
      · exact rd_slab _ _ 1 (by decide) _
      · exact rd_co0 _ _ S1pos
      · exact rd_co1 _ _ S1pos
    isplitl [H8]
    · iexists _; isplitr
      swap; · iexact H8
      ipureintro
      refine (View.read_writes_cons_put _ _ _ _ _ (off_eq 0 _ ha2)).trans ?_
      rw [← hM2]
      rfl
    iexists _; isplitr
    swap; · iexact H9
    ipureintro
    exact hT2 _
  · sl_exec (disch := first | exact hc3 | exact hc4 | exact hc5 | exact hc6 | exact hC2)
    sl_step
    have hE := fun h => hC2 ((cond_iff _ _).mpr h)
    unfold stepAt stepMean
    rw [if_neg hE, if_neg hE]
    iapply Hk
    isplitr; · ipureintro; rfl
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      refine (View.read_writes_cons_put _ _ _ _ _ rfl).trans ?_
      refine congrArg (VecWindow.put _ _ _) (out_congr ?_ ?_ ?_ ?_ ?_)
      · exact rd_whole _ _ inb_S256x2560_S256x2560_0_0
      · exact rd_xCol _ _ _ _ _ (off_eq 0 _ hb2)
      · exact rd_slab _ _ 1 (by decide) _
      · exact rd_co0 _ _ S1pos
      · exact rd_co1 _ _ S1pos
    isplitl [H8]
    · iexists f8; isplitr; · ipureintro; rfl
      iexact H8
    iexists f9; isplitr; · ipureintro; rfl
    iexact H9

end Cert.KernelIdeal.Hin
-- ==== Proof.HinIdeal.Slot3.lean ====
module

public import proofs.«01_k».proof.Proof.HinIdeal.Words

/-! The third slot of a grid step, and the fourth up to its product. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option maxHeartbeats 2000000 in
/-- The third slot of a grid step, and the fourth slot up to its product. -/
theorem slot34 (c : Dev nD) (E : Set ℕ) (i : grid0.Coords)
    (arg1 : Memref sig .tc .smem S300 .i32) (harg1 : arg1.IsWhole) (arg2 : Memref sig .tc .smem S300 .i32) (harg2 : arg2.IsWhole)
    (arg3 : Memref sig .tc .smem S2 .f32) (harg3 : arg3.IsWhole) (arg4 : Memref sig .tc .vmem S2560x6144 .fp8e4m3) (harg4 : arg4.IsWhole)
    (arg5 : Memref sig .tc .vmem S2560x1 .f32) (harg5 : arg5.IsWhole) (arg6 : Memref sig .tc .vmem S4x256x256 .f32) (harg6 : arg6.IsWhole)
    (arg7 : Memref sig .tc .vmem S4x256x256 .f32) (harg7 : arg7.IsWhole) (arg8 : Memref sig .tc .vmem S1x6144 .f32) (harg8 : arg8.IsWhole)
    (arg9 : Memref sig .tc .vmem S256x2560 .bf16) (harg9 : arg9.IsWhole)
    (t1 : Vec F S300 .i32) (t2 : Vec F S300 .i32) (q1 q2 : PosShare TreeShare) (x3 : Vec F S2 .f32) (x4 : Vec F S2560x6144 .fp8e4m3) (x5 : Vec F S2560x1 .f32)
    (x6 x7 : Vec F S4x256x256 .f32) (x8 : Vec F S1x6144 .f32) (x9 : Vec F S256x2560 .bf16)
    (ha3 : (word t1 (k0_off27 i) (k0_off27_inb i)).toNat < 24) (hb3 : (word t2 (k0_off27 i) (k0_off27_inb i)).toNat < 24) (ha4 : (word t1 (k0_off40 i) (k0_off40_inb i)).toNat < 24) (hb4 : (word t2 (k0_off40 i) (k0_off40_inb i)).toNat < 24) (arg0 : BitVec 32) (hw6) (v67 v69 : BitVec 32) (v70 : BitVec 1)
    (h67 : v67 = Scalar.muli (word t1 (k0_off27 i) (k0_off27_inb i)) 256#32)
    (K : _ → sProp 𝕄) :
    iprop(owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∀ r, iprop(⌜r = ⟨(word t1 (k0_off40 i) (k0_off40_inb i)), (word t2 (k0_off40 i) (k0_off40_inb i)), chk8_of _ _ ha4 hb4, (stepAt (word t1 (k0_off40 i) (k0_off40_inb i)) (word t2 (k0_off40 i) (k0_off40_inb i)) x5 x4 (stepAt (word t1 (k0_off27 i) (k0_off27_inb i)) (word t2 (k0_off27 i) (k0_off27_inb i)) x5 x4 x9))⟩⌝
          ∗ owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare (VecWindow.put (s := S4x256x256) x7 ![2, 0, 0] S1x256x256.size (outBlk (stepAt (word t1 (k0_off27 i) (k0_off27_inb i)) (word t2 (k0_off27 i) (k0_off27_inb i)) x5 x4 x9) x4 (word t2 (k0_off27 i) (k0_off27_inb i)).toNat (slab x6 2) x3)) ∗ owns (c : Thread nD τ) arg8 fullShare (stepMean (word t1 (k0_off40 i) (k0_off40_inb i)) (word t2 (k0_off40 i) (k0_off40_inb i)) x5 x4 (stepMean (word t1 (k0_off27 i) (k0_off27_inb i)) (word t2 (k0_off27 i) (k0_off27_inb i)) x5 x4 x8)) ∗ owns (c : Thread nD τ) arg9 fullShare (stepAt (word t1 (k0_off40 i) (k0_off40_inb i)) (word t2 (k0_off40 i) (k0_off40_inb i)) x5 x4 (stepAt (word t1 (k0_off27 i) (k0_off27_inb i)) (word t2 (k0_off27 i) (k0_off27_inb i)) x5 x4 x9)))
          -∗ K r))
      ⊢ wp frame (wpE (defs₀ (F := F)) Variants.none c none) E (k0_part19 i arg1 harg1 arg2 harg2 arg3 harg3 arg4 harg4 arg5 harg5 arg6 harg6 arg7 harg7 arg8 harg8 arg9 harg9 arg0 (word t1 (k0_off27 i) (k0_off27_inb i)) (word t2 (k0_off27 i) (k0_off27_inb i)) hw6 v67 v69 v70) K := by
  have hc5 := chk5_of _ ha3
  have hc6 := chk6_of _ _ ha3 hb3
  have hc7 := chk7_of _ ha4
  have hc8 := chk8_of _ _ ha4 hb4
  subst h67
  simp only [k0_part19_eq_skeleton]; unfold k0_part19_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  by_cases hC3 : k0_cond3 (word (arg1.view.read (Elt F) f1) (k0_off27 i) (k0_off27_inb i)) (word (arg2.view.read (Elt F) f2) (k0_off27 i) (k0_off27_inb i)) = 1#1
  · by_cases hC4 : k0_cond4 (word (arg1.view.read (Elt F) f1) (k0_off40 i) (k0_off40_inb i)) (word (arg2.view.read (Elt F) f2) (k0_off40 i) (k0_off40_inb i)) = 1#1
    · sl_exec (disch := first | exact hc5 | exact hc6 | exact hc7 | exact hc8 | exact hC3 | exact hC4)
      sl_step
      have hE3 := (cond_iff _ _).mp hC3
      have hE4 := (cond_iff _ _).mp hC4
      unfold stepAt stepMean
      simp only [if_pos hE3]
      simp only [if_pos hE4]
      have hT3 := fun f => writes_tile arg9.view f (arg5.view.read (Elt F) f5) (arg4.view.read (Elt F) f4) _ _ _ _ _ _ _ _ _ _ _ (hc6.2.1 hC3) (hc6.2.2.1 hC3) (hc6.2.2.2.1 hC3) (hc6.2.2.2.2.1 hC3) (hc6.2.2.2.2.2.1 hC3) (hc6.2.2.2.2.2.2.1 hC3) (hc6.2.2.2.2.2.2.2.1 hC3) (hc6.2.2.2.2.2.2.2.2.1 hC3) (hc6.2.2.2.2.2.2.2.2.2.1 hC3) (hc6.2.2.2.2.2.2.2.2.2.2.1 hC3)
        (off_eq 0 _ ha3) (off_eq 256 _ ha3) (off_eq 512 _ ha3) (off_eq 768 _ ha3) (off_eq 1024 _ ha3) (off_eq 1280 _ ha3) (off_eq 1536 _ ha3) (off_eq 1792 _ ha3) (off_eq 2048 _ ha3) (off_eq 2304 _ ha3)
      have hM3 := meanOf_ld (arg5.view.read (Elt F) f5) (arg4.view.read (Elt F) f4) _ _ _ _ _ _ _ _ _ _ _ (hc6.2.1 hC3) (hc6.2.2.1 hC3) (hc6.2.2.2.1 hC3) (hc6.2.2.2.2.1 hC3) (hc6.2.2.2.2.2.1 hC3) (hc6.2.2.2.2.2.2.1 hC3) (hc6.2.2.2.2.2.2.2.1 hC3) (hc6.2.2.2.2.2.2.2.2.1 hC3) (hc6.2.2.2.2.2.2.2.2.2.1 hC3) (hc6.2.2.2.2.2.2.2.2.2.2.1 hC3)
        (off_eq 0 _ ha3) (off_eq 256 _ ha3) (off_eq 512 _ ha3) (off_eq 768 _ ha3) (off_eq 1024 _ ha3) (off_eq 1280 _ ha3) (off_eq 1536 _ ha3) (off_eq 1792 _ ha3) (off_eq 2048 _ ha3) (off_eq 2304 _ ha3)
      have hT4 := fun f => writes_tile arg9.view f (arg5.view.read (Elt F) f5) (arg4.view.read (Elt F) f4) _ _ _ _ _ _ _ _ _ _ _ (hc8.2.1 hC4) (hc8.2.2.1 hC4) (hc8.2.2.2.1 hC4) (hc8.2.2.2.2.1 hC4) (hc8.2.2.2.2.2.1 hC4) (hc8.2.2.2.2.2.2.1 hC4) (hc8.2.2.2.2.2.2.2.1 hC4) (hc8.2.2.2.2.2.2.2.2.1 hC4) (hc8.2.2.2.2.2.2.2.2.2.1 hC4) (hc8.2.2.2.2.2.2.2.2.2.2.1 hC4)
        (off_eq 0 _ ha4) (off_eq 256 _ ha4) (off_eq 512 _ ha4) (off_eq 768 _ ha4) (off_eq 1024 _ ha4) (off_eq 1280 _ ha4) (off_eq 1536 _ ha4) (off_eq 1792 _ ha4) (off_eq 2048 _ ha4) (off_eq 2304 _ ha4)
      have hM4 := meanOf_ld (arg5.view.read (Elt F) f5) (arg4.view.read (Elt F) f4) _ _ _ _ _ _ _ _ _ _ _ (hc8.2.1 hC4) (hc8.2.2.1 hC4) (hc8.2.2.2.1 hC4) (hc8.2.2.2.2.1 hC4) (hc8.2.2.2.2.2.1 hC4) (hc8.2.2.2.2.2.2.1 hC4) (hc8.2.2.2.2.2.2.2.1 hC4) (hc8.2.2.2.2.2.2.2.2.1 hC4) (hc8.2.2.2.2.2.2.2.2.2.1 hC4) (hc8.2.2.2.2.2.2.2.2.2.2.1 hC4)
        (off_eq 0 _ ha4) (off_eq 256 _ ha4) (off_eq 512 _ ha4) (off_eq 768 _ ha4) (off_eq 1024 _ ha4) (off_eq 1280 _ ha4) (off_eq 1536 _ ha4) (off_eq 1792 _ ha4) (off_eq 2048 _ ha4) (off_eq 2304 _ ha4)
      iapply Hk
      isplitr; · ipureintro; exact congrArg (fun z => (⟨_, _, _, z⟩ : Σ' (v93 : Elt F .i32) (v95 : Elt F .i32) (k0_hw8 : k0_chk8 v93 v95), Vec F S256x2560 .bf16)) ((rd_whole _ _ inb_S256x2560_S256x2560_0_0).trans (hT4 _))
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H6]; · iexists f6; isplitr; · ipureintro; rfl
                      iexact H6
      isplitl [H7]
      · iexists _; isplitr
        swap; · iexact H7
        ipureintro
        refine (View.read_writes_cons_put _ _ _ _ _ rfl).trans ?_
        refine congrArg (VecWindow.put _ _ _) (out_congr ?_ ?_ ?_ ?_ ?_)
        · exact (rd_whole _ _ inb_S256x2560_S256x2560_0_0).trans (hT3 _)
        · exact rd_xCol _ _ _ _ _ (off_eq 0 _ hb3)
        · exact rd_slab _ _ 2 (by decide) _
        · exact rd_co0 _ _ S1pos
        · exact rd_co1 _ _ S1pos
      isplitl [H8]
      · iexists _; isplitr
        swap; · iexact H8
        ipureintro
        refine (View.read_writes_cons_put _ _ _ _ _ (off_eq 0 _ ha4)).trans ?_
        rw [← hM4]
        refine congr (congrArg (fun z => VecWindow.put (s := S1x6144) z ![0, 256 * _] S1x256.size) ?_) rfl
        refine (View.read_writes_cons_put _ _ _ _ _ (off_eq 0 _ ha3)).trans ?_
        rw [← hM3]
        rfl
      iexists _; isplitr
      swap; · iexact H9
      ipureintro
      exact hT4 _
    · sl_exec (disch := first | exact hc5 | exact hc6 | exact hc7 | exact hc8 | exact hC3 | exact hC4)
      sl_step
      have hE3 := (cond_iff _ _).mp hC3
      have hE4 := fun h => hC4 ((cond_iff _ _).mpr h)
      unfold stepAt stepMean
      simp only [if_pos hE3]
      simp only [if_neg hE4]
      have hT3 := fun f => writes_tile arg9.view f (arg5.view.read (Elt F) f5) (arg4.view.read (Elt F) f4) _ _ _ _ _ _ _ _ _ _ _ (hc6.2.1 hC3) (hc6.2.2.1 hC3) (hc6.2.2.2.1 hC3) (hc6.2.2.2.2.1 hC3) (hc6.2.2.2.2.2.1 hC3) (hc6.2.2.2.2.2.2.1 hC3) (hc6.2.2.2.2.2.2.2.1 hC3) (hc6.2.2.2.2.2.2.2.2.1 hC3) (hc6.2.2.2.2.2.2.2.2.2.1 hC3) (hc6.2.2.2.2.2.2.2.2.2.2.1 hC3)
        (off_eq 0 _ ha3) (off_eq 256 _ ha3) (off_eq 512 _ ha3) (off_eq 768 _ ha3) (off_eq 1024 _ ha3) (off_eq 1280 _ ha3) (off_eq 1536 _ ha3) (off_eq 1792 _ ha3) (off_eq 2048 _ ha3) (off_eq 2304 _ ha3)
      have hM3 := meanOf_ld (arg5.view.read (Elt F) f5) (arg4.view.read (Elt F) f4) _ _ _ _ _ _ _ _ _ _ _ (hc6.2.1 hC3) (hc6.2.2.1 hC3) (hc6.2.2.2.1 hC3) (hc6.2.2.2.2.1 hC3) (hc6.2.2.2.2.2.1 hC3) (hc6.2.2.2.2.2.2.1 hC3) (hc6.2.2.2.2.2.2.2.1 hC3) (hc6.2.2.2.2.2.2.2.2.1 hC3) (hc6.2.2.2.2.2.2.2.2.2.1 hC3) (hc6.2.2.2.2.2.2.2.2.2.2.1 hC3)
        (off_eq 0 _ ha3) (off_eq 256 _ ha3) (off_eq 512 _ ha3) (off_eq 768 _ ha3) (off_eq 1024 _ ha3) (off_eq 1280 _ ha3) (off_eq 1536 _ ha3) (off_eq 1792 _ ha3) (off_eq 2048 _ ha3) (off_eq 2304 _ ha3)
      iapply Hk
      isplitr; · ipureintro; exact congrArg (fun z => (⟨_, _, _, z⟩ : Σ' (v93 : Elt F .i32) (v95 : Elt F .i32) (k0_hw8 : k0_chk8 v93 v95), Vec F S256x2560 .bf16)) ((rd_whole _ _ inb_S256x2560_S256x2560_0_0).trans (hT3 _))
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H6]; · iexists f6; isplitr; · ipureintro; rfl
                      iexact H6
      isplitl [H7]
      · iexists _; isplitr
        swap; · iexact H7
        ipureintro
        refine (View.read_writes_cons_put _ _ _ _ _ rfl).trans ?_
        refine congrArg (VecWindow.put _ _ _) (out_congr ?_ ?_ ?_ ?_ ?_)
        · exact (rd_whole _ _ inb_S256x2560_S256x2560_0_0).trans (hT3 _)
        · exact rd_xCol _ _ _ _ _ (off_eq 0 _ hb3)
        · exact rd_slab _ _ 2 (by decide) _
        · exact rd_co0 _ _ S1pos
        · exact rd_co1 _ _ S1pos
      isplitl [H8]
      · iexists _; isplitr
        swap; · iexact H8
        ipureintro
        refine (View.read_writes_cons_put _ _ _ _ _ (off_eq 0 _ ha3)).trans ?_
        rw [← hM3]
        rfl
      iexists _; isplitr
      swap; · iexact H9
      ipureintro
      exact hT3 _
  · by_cases hC4 : k0_cond4 (word (arg1.view.read (Elt F) f1) (k0_off40 i) (k0_off40_inb i)) (word (arg2.view.read (Elt F) f2) (k0_off40 i) (k0_off40_inb i)) = 1#1
    · sl_exec (disch := first | exact hc5 | exact hc6 | exact hc7 | exact hc8 | exact hC3 | exact hC4)
      sl_step
      have hE3 := fun h => hC3 ((cond_iff _ _).mpr h)
      have hE4 := (cond_iff _ _).mp hC4
      unfold stepAt stepMean
      simp only [if_neg hE3]
      simp only [if_pos hE4]
      have hT4 := fun f => writes_tile arg9.view f (arg5.view.read (Elt F) f5) (arg4.view.read (Elt F) f4) _ _ _ _ _ _ _ _ _ _ _ (hc8.2.1 hC4) (hc8.2.2.1 hC4) (hc8.2.2.2.1 hC4) (hc8.2.2.2.2.1 hC4) (hc8.2.2.2.2.2.1 hC4) (hc8.2.2.2.2.2.2.1 hC4) (hc8.2.2.2.2.2.2.2.1 hC4) (hc8.2.2.2.2.2.2.2.2.1 hC4) (hc8.2.2.2.2.2.2.2.2.2.1 hC4) (hc8.2.2.2.2.2.2.2.2.2.2.1 hC4)
        (off_eq 0 _ ha4) (off_eq 256 _ ha4) (off_eq 512 _ ha4) (off_eq 768 _ ha4) (off_eq 1024 _ ha4) (off_eq 1280 _ ha4) (off_eq 1536 _ ha4) (off_eq 1792 _ ha4) (off_eq 2048 _ ha4) (off_eq 2304 _ ha4)
      have hM4 := meanOf_ld (arg5.view.read (Elt F) f5) (arg4.view.read (Elt F) f4) _ _ _ _ _ _ _ _ _ _ _ (hc8.2.1 hC4) (hc8.2.2.1 hC4) (hc8.2.2.2.1 hC4) (hc8.2.2.2.2.1 hC4) (hc8.2.2.2.2.2.1 hC4) (hc8.2.2.2.2.2.2.1 hC4) (hc8.2.2.2.2.2.2.2.1 hC4) (hc8.2.2.2.2.2.2.2.2.1 hC4) (hc8.2.2.2.2.2.2.2.2.2.1 hC4) (hc8.2.2.2.2.2.2.2.2.2.2.1 hC4)
        (off_eq 0 _ ha4) (off_eq 256 _ ha4) (off_eq 512 _ ha4) (off_eq 768 _ ha4) (off_eq 1024 _ ha4) (off_eq 1280 _ ha4) (off_eq 1536 _ ha4) (off_eq 1792 _ ha4) (off_eq 2048 _ ha4) (off_eq 2304 _ ha4)
      iapply Hk
      isplitr; · ipureintro; exact congrArg (fun z => (⟨_, _, _, z⟩ : Σ' (v93 : Elt F .i32) (v95 : Elt F .i32) (k0_hw8 : k0_chk8 v93 v95), Vec F S256x2560 .bf16)) ((rd_whole _ _ inb_S256x2560_S256x2560_0_0).trans (hT4 _))
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H6]; · iexists f6; isplitr; · ipureintro; rfl
                      iexact H6
      isplitl [H7]
      · iexists _; isplitr
        swap; · iexact H7
        ipureintro
        refine (View.read_writes_cons_put _ _ _ _ _ rfl).trans ?_
        refine congrArg (VecWindow.put _ _ _) (out_congr ?_ ?_ ?_ ?_ ?_)
        · exact rd_whole _ _ inb_S256x2560_S256x2560_0_0
        · exact rd_xCol _ _ _ _ _ (off_eq 0 _ hb3)
        · exact rd_slab _ _ 2 (by decide) _
        · exact rd_co0 _ _ S1pos
        · exact rd_co1 _ _ S1pos
      isplitl [H8]
      · iexists _; isplitr
        swap; · iexact H8
        ipureintro
        refine (View.read_writes_cons_put _ _ _ _ _ (off_eq 0 _ ha4)).trans ?_
        rw [← hM4]
        rfl
      iexists _; isplitr
      swap; · iexact H9
      ipureintro
      exact hT4 _
    · sl_exec (disch := first | exact hc5 | exact hc6 | exact hc7 | exact hc8 | exact hC3 | exact hC4)
      sl_step
      have hE3 := fun h => hC3 ((cond_iff _ _).mpr h)
      have hE4 := fun h => hC4 ((cond_iff _ _).mpr h)
      unfold stepAt stepMean
      simp only [if_neg hE3]
      simp only [if_neg hE4]
      iapply Hk
      isplitr; · ipureintro; exact congrArg (fun z => (⟨_, _, _, z⟩ : Σ' (v93 : Elt F .i32) (v95 : Elt F .i32) (k0_hw8 : k0_chk8 v93 v95), Vec F S256x2560 .bf16)) (rd_whole _ _ inb_S256x2560_S256x2560_0_0)
      isplitl [H1]; · iexists f1; isplitr; · ipureintro; rfl
                      iexact H1
      isplitl [H2]; · iexists f2; isplitr; · ipureintro; rfl
                      iexact H2
      isplitl [H3]; · iexists f3; isplitr; · ipureintro; rfl
                      iexact H3
      isplitl [H4]; · iexists f4; isplitr; · ipureintro; rfl
                      iexact H4
      isplitl [H5]; · iexists f5; isplitr; · ipureintro; rfl
                      iexact H5
      isplitl [H6]; · iexists f6; isplitr; · ipureintro; rfl
                      iexact H6
      isplitl [H7]
      · iexists _; isplitr
        swap; · iexact H7
        ipureintro
        refine (View.read_writes_cons_put _ _ _ _ _ rfl).trans ?_
        refine congrArg (VecWindow.put _ _ _) (out_congr ?_ ?_ ?_ ?_ ?_)
        · exact rd_whole _ _ inb_S256x2560_S256x2560_0_0
        · exact rd_xCol _ _ _ _ _ (off_eq 0 _ hb3)
        · exact rd_slab _ _ 2 (by decide) _
        · exact rd_co0 _ _ S1pos
        · exact rd_co1 _ _ S1pos
      isplitl [H8]
      · iexists f8; isplitr; · ipureintro; rfl
        iexact H8
      iexists f9; isplitr; · ipureintro; rfl
      iexact H9

end Cert.KernelIdeal.Hin
-- ==== Proof.HinIdeal.Body.lean ====
module

public import proofs.«01_k».proof.Proof.HinIdeal.Slot1
public import proofs.«01_k».proof.Proof.HinIdeal.Slot2
public import proofs.«01_k».proof.Proof.HinIdeal.Slot3

/-! One grid step. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- A block of four slabs. -/
def blk4 (b0 b1 b2 b3 : FVec F S1x256x256 .f32) : Vec F S4x256x256 .f32 :=
  fun y => (if (y 0).val = 0 then b0 else if (y 0).val = 1 then b1 else if (y 0).val = 2 then b2 else b3)
    (ix3 (n0 := 1) (n1 := 256) (n2 := 256) 0 ⟨(y 1).val, (y 1).isLt⟩ ⟨(y 2).val, (y 2).isLt⟩)

theorem put_slab (x : Vec F S4x256x256 .f32) (k : ℕ) (b : FVec F S1x256x256 .f32) (y : S4x256x256.Idx) :
    VecWindow.put (s := S4x256x256) x ![k, 0, 0] S1x256x256.size b y
      = if (y 0).val = k then b (ix3 (n0 := 1) (n1 := 256) (n2 := 256) 0 ⟨(y 1).val, (y 1).isLt⟩ ⟨(y 2).val, (y 2).isLt⟩) else x y := by
  unfold VecWindow.put
  have h1 := (y 1).isLt
  have h2 := (y 2).isLt
  change (y 1).val < 256 at h1
  change (y 2).val < 256 at h2
  by_cases hk : (y 0).val = k
  · rw [if_pos hk, dif_pos (fun a => by
      match a with
      | ⟨0, _⟩ => show k ≤ (y 0).val ∧ (y 0).val < k + 1; omega
      | ⟨1, _⟩ => show 0 ≤ (y 1).val ∧ (y 1).val < 0 + 256; omega
      | ⟨2, _⟩ => show 0 ≤ (y 2).val ∧ (y 2).val < 0 + 256; omega)]
    refine congrArg b (funext fun a => Fin.ext ?_)
    match a with
    | ⟨0, _⟩ => show (y 0).val - k = 0; omega
    | ⟨1, _⟩ => show (y 1).val - 0 = (y 1).val; omega
    | ⟨2, _⟩ => show (y 2).val - 0 = (y 2).val; omega
  · rw [if_neg hk, dif_neg (fun h => by
      have h0 := h 0
      change k ≤ (y 0).val ∧ (y 0).val < k + 1 at h0
      omega)]

theorem put4 (x : Vec F S4x256x256 .f32) (b0 b1 b2 b3 : FVec F S1x256x256 .f32) :
    VecWindow.put (s := S4x256x256) (VecWindow.put (s := S4x256x256) (VecWindow.put (s := S4x256x256) (VecWindow.put (s := S4x256x256) x ![0, 0, 0] S1x256x256.size b0)
      ![1, 0, 0] S1x256x256.size b1) ![2, 0, 0] S1x256x256.size b2) ![3, 0, 0] S1x256x256.size b3 = blk4 b0 b1 b2 b3 := by
  funext y
  have h0 := (y 0).isLt
  change (y 0).val < 4 at h0
  rw [put_slab, put_slab, put_slab, put_slab]
  unfold blk4
  split_ifs <;> first | rfl | omega

set_option maxHeartbeats 1000000 in
/-- One grid step: the four result slabs, the row of means and the tile it leaves. -/
theorem body_run (c : Dev nD) (E : Set ℕ) (i : grid0.Coords)
    (arg1 : Memref sig .tc .smem S300 .i32) (harg1 : arg1.IsWhole) (arg2 : Memref sig .tc .smem S300 .i32) (harg2 : arg2.IsWhole)
    (arg3 : Memref sig .tc .smem S2 .f32) (harg3 : arg3.IsWhole) (arg4 : Memref sig .tc .vmem S2560x6144 .fp8e4m3) (harg4 : arg4.IsWhole)
    (arg5 : Memref sig .tc .vmem S2560x1 .f32) (harg5 : arg5.IsWhole) (arg6 : Memref sig .tc .vmem S4x256x256 .f32) (harg6 : arg6.IsWhole)
    (arg7 : Memref sig .tc .vmem S4x256x256 .f32) (harg7 : arg7.IsWhole) (arg8 : Memref sig .tc .vmem S1x6144 .f32) (harg8 : arg8.IsWhole)
    (arg9 : Memref sig .tc .vmem S256x2560 .bf16) (harg9 : arg9.IsWhole)
    (t1 : Vec F S300 .i32) (t2 : Vec F S300 .i32) (q1 q2 : PosShare TreeShare) (x3 : Vec F S2 .f32) (x4 : Vec F S2560x6144 .fp8e4m3) (x5 : Vec F S2560x1 .f32)
    (x6 x7 : Vec F S4x256x256 .f32) (x8 : Vec F S1x6144 .f32) (x9 : Vec F S256x2560 .bf16)
    (ha1 : (word t1 (k0_off1 i) (k0_off1_inb i)).toNat < 24) (hb1 : (word t2 (k0_off1 i) (k0_off1_inb i)).toNat < 24) (ha2 : (word t1 (k0_off14 i) (k0_off14_inb i)).toNat < 24) (hb2 : (word t2 (k0_off14 i) (k0_off14_inb i)).toNat < 24) (ha3 : (word t1 (k0_off27 i) (k0_off27_inb i)).toNat < 24) (hb3 : (word t2 (k0_off27 i) (k0_off27_inb i)).toNat < 24) (ha4 : (word t1 (k0_off40 i) (k0_off40_inb i)).toNat < 24) (hb4 : (word t2 (k0_off40 i) (k0_off40_inb i)).toNat < 24)
    (K : PUnit → sProp 𝕄) :
    iprop(owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (iprop(owns (c : Thread nD τ) arg1 q1 t1 ∗ owns (c : Thread nD τ) arg2 q2 t2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare (blk4 (outBlk (stepAt (word t1 (k0_off1 i) (k0_off1_inb i)) (word t2 (k0_off1 i) (k0_off1_inb i)) x5 x4 x9) x4 (word t2 (k0_off1 i) (k0_off1_inb i)).toNat (slab x6 0) x3) (outBlk (stepAt (word t1 (k0_off14 i) (k0_off14_inb i)) (word t2 (k0_off14 i) (k0_off14_inb i)) x5 x4 (stepAt (word t1 (k0_off1 i) (k0_off1_inb i)) (word t2 (k0_off1 i) (k0_off1_inb i)) x5 x4 x9)) x4 (word t2 (k0_off14 i) (k0_off14_inb i)).toNat (slab x6 1) x3) (outBlk (stepAt (word t1 (k0_off27 i) (k0_off27_inb i)) (word t2 (k0_off27 i) (k0_off27_inb i)) x5 x4 (stepAt (word t1 (k0_off14 i) (k0_off14_inb i)) (word t2 (k0_off14 i) (k0_off14_inb i)) x5 x4 (stepAt (word t1 (k0_off1 i) (k0_off1_inb i)) (word t2 (k0_off1 i) (k0_off1_inb i)) x5 x4 x9))) x4 (word t2 (k0_off27 i) (k0_off27_inb i)).toNat (slab x6 2) x3) (outBlk (stepAt (word t1 (k0_off40 i) (k0_off40_inb i)) (word t2 (k0_off40 i) (k0_off40_inb i)) x5 x4 (stepAt (word t1 (k0_off27 i) (k0_off27_inb i)) (word t2 (k0_off27 i) (k0_off27_inb i)) x5 x4 (stepAt (word t1 (k0_off14 i) (k0_off14_inb i)) (word t2 (k0_off14 i) (k0_off14_inb i)) x5 x4 (stepAt (word t1 (k0_off1 i) (k0_off1_inb i)) (word t2 (k0_off1 i) (k0_off1_inb i)) x5 x4 x9)))) x4 (word t2 (k0_off40 i) (k0_off40_inb i)).toNat (slab x6 3) x3)) ∗ owns (c : Thread nD τ) arg8 fullShare (stepMean (word t1 (k0_off40 i) (k0_off40_inb i)) (word t2 (k0_off40 i) (k0_off40_inb i)) x5 x4 (stepMean (word t1 (k0_off27 i) (k0_off27_inb i)) (word t2 (k0_off27 i) (k0_off27_inb i)) x5 x4 (stepMean (word t1 (k0_off14 i) (k0_off14_inb i)) (word t2 (k0_off14 i) (k0_off14_inb i)) x5 x4 (stepMean (word t1 (k0_off1 i) (k0_off1_inb i)) (word t2 (k0_off1 i) (k0_off1_inb i)) x5 x4 x8)))) ∗ owns (c : Thread nD τ) arg9 fullShare (stepAt (word t1 (k0_off40 i) (k0_off40_inb i)) (word t2 (k0_off40 i) (k0_off40_inb i)) x5 x4 (stepAt (word t1 (k0_off27 i) (k0_off27_inb i)) (word t2 (k0_off27 i) (k0_off27_inb i)) x5 x4 (stepAt (word t1 (k0_off14 i) (k0_off14_inb i)) (word t2 (k0_off14 i) (k0_off14_inb i)) x5 x4 (stepAt (word t1 (k0_off1 i) (k0_off1_inb i)) (word t2 (k0_off1 i) (k0_off1_inb i)) x5 x4 x9)))))
          -∗ K ⟨⟩))
      ⊢ wp frame (wpE (defs₀ (F := F)) Variants.none c none) E (cc0_hin i arg1 harg1 arg2 harg2 arg3 harg3 arg4 harg4 arg5 harg5 arg6 harg6 arg7 harg7 arg8 harg8 arg9 harg9) K := by
  have hc7 := chk7_of _ ha4
  have hc8 := chk8_of _ _ ha4 hb4
  simp only [cc0_hin_eq_skeleton]; unfold cc0_hin_skel
  iintro ⟨H1, H2, H3, H4, H5, H6, H7, H8, H9, Hk⟩
  rw [wp_bind]
  iapply (slot1 c E i arg1 harg1 arg2 harg2 arg3 harg3 arg4 harg4 arg5 harg5 arg6 harg6 arg7 harg7 arg8 harg8 arg9 harg9 t1 t2 q1 q2 x3 x4 x5 x6 x7 x8 x9 ha1 hb1 ha2)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %r ⟨%hr, H1, H2, H3, H4, H5, H6, H7, H8, H9⟩
  subst hr
  dsimp only
  rw [wp_bind]
  iapply (slot2 c E i arg1 harg1 arg2 harg2 arg3 harg3 arg4 harg4 arg5 harg5 arg6 harg6 arg7 harg7 arg8 harg8 arg9 harg9 t1 t2 q1 q2 x3 x4 x5 x6 _ _ _ ha2 hb2 ha3 hb3 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %r ⟨%hr, H1, H2, H3, H4, H5, H6, H7, H8, H9⟩
  subst hr
  dsimp only
  rw [wp_bind]
  iapply (slot34 c E i arg1 harg1 arg2 harg2 arg3 harg3 arg4 harg4 arg5 harg5 arg6 harg6 arg7 harg7 arg8 harg8 arg9 harg9 t1 t2 q1 q2 x3 x4 x5 x6 _ _ _ ha3 hb3 ha4 hb4 _ _ _ _ _ rfl)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %r ⟨%hr, H1, H2, H3, H4, H5, H6, H7, H8, H9⟩
  subst hr
  dsimp only
  unfold owns
  icases H3 with ⟨%f3, %hf3, H3⟩
  icases H4 with ⟨%f4, %hf4, H4⟩
  icases H6 with ⟨%f6, %hf6, H6⟩
  icases H7 with ⟨%f7, %hf7, H7⟩
  sl_exec (disch := first | exact hc7 | exact hc8)
  sl_step
  iapply Hk
  isplitl [H1]; · iexact H1
  isplitl [H2]; · iexact H2
  isplitl [H3]; · iexists f3; isplitr; · ipureintro; exact hf3
                  iexact H3
  isplitl [H4]; · iexists f4; isplitr; · ipureintro; exact hf4
                  iexact H4
  isplitl [H5]; · iexact H5
  isplitl [H6]; · iexists f6; isplitr; · ipureintro; exact hf6
                  iexact H6
  isplitl [H7]
  · iexists _; isplitr
    swap; · iexact H7
    ipureintro
    refine (View.read_writes_cons_put _ _ _ _ _ rfl).trans ?_
    rw [View.writes_nil, hf7]
    refine Eq.trans ?_ (put4 x7 _ _ _ _)
    refine congrArg (VecWindow.put _ _ _) (out_congr rfl ?_ ?_ ?_ ?_)
    · subst hf4; exact rd_xCol _ _ _ _ _ (off_eq 0 _ hb4)
    · subst hf6; exact rd_slab _ _ 3 (by decide) _
    · subst hf3; exact rd_co0 _ _ S1pos
    · subst hf3; exact rd_co1 _ _ S1pos
  isplitl [H8]; · iexact H8
  iexact H9

end Cert.KernelIdeal.Hin
-- ==== Proof.HinIdeal.Tables.lean ====
module

public import proofs.«01_k».proof.Proof.HinIdeal.Body
public import Idealize.ShloMosaic.Lib.Pointwise.Reshape

/-! The two tables of block pairs: the facts used of their entries. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The block row of the pair visited at step `n`, -/
def ti (n : ℕ) : ℕ := (lit0 (Fin.ofNat 300 n)).toNat
/-- and its block column. -/
def tj (n : ℕ) : ℕ := (lit1 (Fin.ofNat 300 n)).toNat

theorem lit_lt : ∀ k : Fin 300, (lit0 k).toNat < 24 ∧ (lit1 k).toNat < 24 := by decide +kernel

theorem ti_lt (n : ℕ) : ti n < 24 := (lit_lt _).1
theorem tj_lt (n : ℕ) : tj n < 24 := (lit_lt _).2

theorem lit_step : ∀ k : Fin 300,
    if lit0 k = lit1 k then (lit0 k).toNat = if k.val = 0 then 0 else (lit0 (Fin.ofNat 300 (k.val - 1))).toNat + 1
    else 0 < k.val ∧ lit0 k = lit0 (Fin.ofNat 300 (k.val - 1)) := by decide +kernel

theorem lit_last : (lit0 (Fin.ofNat 300 299)).toNat = 23 := by decide +kernel

theorem ti_last : ti 299 = 23 := lit_last

/-- A table of words as the contents of its buffer. -/
def tbl (f : Fin 300 → BitVec 32) : Vec F S300 .i32 := fun i => f (S300.rowMajor i)

theorem word_tbl (f : Fin 300 → BitVec 32) (off : Fin 1 → ℕ) (h) : word (F := F) (tbl f) off h = f (Fin.ofNat 300 (off 0)) := by
  refine congrArg f (Fin.ext ?_)
  refine (rowMajor_val1 _).trans ?_
  have h0 := h 0
  change off 0 + 1 ≤ 300 at h0
  show off 0 + 1 * 0 = off 0 % 300
  omega

theorem step_word (t k : ℕ) (ht : t < 75) (hk : k < 4) :
    (Scalar.indexCast (Scalar.addi (Scalar.muli (BitVec.ofNat 32 t) 4#32) (BitVec.ofNat 32 k))).toNat = 4 * t + k := by
  show (BitVec.ofNat 32 t * 4#32 + BitVec.ofNat 32 k).toNat = _
  rw [BitVec.toNat_add, BitVec.toNat_mul, BitVec.toNat_ofNat, BitVec.toNat_ofNat, BitVec.toNat_ofNat]
  omega

theorem off1_val (i : grid0.Coords) : k0_off1 i 0 = 4 * (i 0).val + 0 := step_word (i 0).val 0 (i 0).isLt (by decide)
theorem off14_val (i : grid0.Coords) : k0_off14 i 0 = 4 * (i 0).val + 1 := step_word (i 0).val 1 (i 0).isLt (by decide)
theorem off27_val (i : grid0.Coords) : k0_off27 i 0 = 4 * (i 0).val + 2 := step_word (i 0).val 2 (i 0).isLt (by decide)
theorem off40_val (i : grid0.Coords) : k0_off40 i 0 = 4 * (i 0).val + 3 := step_word (i 0).val 3 (i 0).isLt (by decide)

/-- The tile held after step `n` is that of block column `ti n`, if before it was that of the step before. -/
theorem stepAt_eq (S : Vec F S2560x1 .f32) (X : Vec F S2560x6144 .fp8e4m3) (x : Vec F S256x2560 .bf16) (n : ℕ) (hn : n < 300)
    (h : 0 < n → x = tile S X (ti (n - 1))) :
    stepAt (lit0 (Fin.ofNat 300 n)) (lit1 (Fin.ofNat 300 n)) S X x = tile S X (ti n) := by
  unfold stepAt
  have hs := lit_step (Fin.ofNat 300 n)
  have hv : (Fin.ofNat 300 n).val = n := Nat.mod_eq_of_lt hn
  rw [hv] at hs
  by_cases e : lit0 (Fin.ofNat 300 n) = lit1 (Fin.ofNat 300 n)
  · rw [if_pos e]; rfl
  · rw [if_neg e] at hs ⊢
    rw [h hs.1]
    unfold ti
    rw [hs.2]

/-- The first `m` block columns of `M` are the means. -/
def MeanUpTo (S : Vec F S2560x1 .f32) (X : Vec F S2560x6144 .fp8e4m3) (m : ℕ) (M : Vec F S1x6144 .f32) : Prop :=
  ∀ y : S1x6144.Idx, (y 1).val < 256 * m →
    M y = meanRow S X ((y 1).val / 256) (ix2 (n0 := 1) (n1 := 256) 0 ⟨(y 1).val % 256, Nat.mod_lt _ (by decide)⟩)

/-- The block columns of means written before step `n`. -/
def cnt (n : ℕ) : ℕ := if n = 0 then 0 else ti (n - 1) + 1

theorem stepMean_upTo (S : Vec F S2560x1 .f32) (X : Vec F S2560x6144 .fp8e4m3) (M : Vec F S1x6144 .f32) (n : ℕ) (hn : n < 300)
    (h : MeanUpTo S X (cnt n) M) :
    MeanUpTo S X (cnt (n + 1)) (stepMean (lit0 (Fin.ofNat 300 n)) (lit1 (Fin.ofNat 300 n)) S X M) := by
  have hs := lit_step (Fin.ofNat 300 n)
  have hv : (Fin.ofNat 300 n).val = n := Nat.mod_eq_of_lt hn
  rw [hv] at hs
  have hc : cnt (n + 1) = ti n + 1 := rfl
  rw [hc]
  unfold stepMean
  by_cases e : lit0 (Fin.ofNat 300 n) = lit1 (Fin.ofNat 300 n)
  · rw [if_pos e] at hs ⊢
    have hcn : cnt n = ti n := hs.symm
    intro y hy
    have h0 := (y 0).isLt
    change (y 0).val < 1 at h0
    unfold VecWindow.put
    change (if h : _ then _ else M y) = _
    by_cases hb : 256 * ti n ≤ (y 1).val
    · have hin : ∀ a, (![0, 256 * (lit0 (Fin.ofNat 300 n)).toNat] : Fin 2 → ℕ) a ≤ (y a).val ∧ (y a).val < (![0, 256 * (lit0 (Fin.ofNat 300 n)).toNat] : Fin 2 → ℕ) a + S1x256.size a := by
        intro a
        match a with
        | ⟨0, _⟩ => exact ⟨Nat.zero_le _, (by show (y 0).val < 0 + 1; omega)⟩
        | ⟨1, _⟩ => exact ⟨hb, (by show (y 1).val < 256 * ti n + 256; omega)⟩
      rw [dif_pos hin]
      have ew : (y 1).val / 256 = (lit0 (Fin.ofNat 300 n)).toNat := by
        change _ = ti n
        omega
      rw [ew]
      refine congrArg (meanRow S X _) (funext fun a => Fin.ext ?_)
      match a with
      | ⟨0, _⟩ => show (y 0).val - 0 = 0; omega
      | ⟨1, _⟩ => show (y 1).val - 256 * ti n = (y 1).val % 256; omega
    · have hout : ¬ ∀ a, (![0, 256 * (lit0 (Fin.ofNat 300 n)).toNat] : Fin 2 → ℕ) a ≤ (y a).val ∧ (y a).val < (![0, 256 * (lit0 (Fin.ofNat 300 n)).toNat] : Fin 2 → ℕ) a + S1x256.size a :=
        fun hall => hb (hall 1).1
      rw [dif_neg hout]
      exact h y (by rw [hcn]; omega)
  · rw [if_neg e] at hs ⊢
    have hcn : cnt n = ti n + 1 := by
      unfold cnt ti
      rw [if_neg (by omega), hs.2]
    rw [hcn] at h
    exact h

end Cert.KernelIdeal.Hin
-- ==== Proof.HinIdeal.Entry.lean ====
module

public import proofs.«01_k».proof.Proof.HinIdeal.Tables
public import Idealize.ShloMosaic.Lib.StableHlo.RunRead

/-! What the host operations leave when the region is entered. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- Core `c`'s buffers when the region is entered: the host operations have run. -/
abbrev V (c : Dev nD) (b : Ref sig .tc) : Buf (Elt F) ((c : Thread nD τ).loc b) :=
  StableHlo.after hostOps0 (fun b => m (c, b)) b

theorem not_written (b : Ref sig .tc) (hb : b ∉ [main_c, main_c_0, main_c_1, main_v0, main_v1, main_v2, main_v3, main_v4, main_cst, main_v5, main_v6, main_cst_2, main_v7, main_v8, main_v9, main_v10]) :
    ∀ op ∈ (hostOps0 (F := F)), Proc.devRef .tc b ∉ op.writes := by
  simp only [List.mem_cons, List.not_mem_nil, or_false, not_or] at hb
  refine List.forall_iff_forall_mem.mp ?_
  simp only [hostOps0, List.Forall, StableHlo.nullary_writes, StableHlo.unary_writes, StableHlo.binary_writes, StableHlo.reshape_writes, Finset.mem_singleton]
  obtain ⟨h0, h1, h2, h3, h4, h5, h6, h7, h8, h9, h10, h11, h12, h13, h14, h15⟩ := hb
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15⟩

theorem V_keep (c : Dev nD) (b : Ref sig .tc) (hb : b ∉ [main_c, main_c_0, main_c_1, main_v0, main_v1, main_v2, main_v3, main_v4, main_cst, main_v5, main_v6, main_cst_2, main_v7, main_v8, main_v9, main_v10]) :
    V m c b = m ((c : Thread nD τ).loc b) :=
  StableHlo.after_of_forall_not_mem (b := Proc.devRef .tc b) hostOps0 _ (not_written b hb)

theorem V_c (c : Dev nD) : V m c main_c = (tbl lit0 : Vec F S300 .i32) := by
  dsimp only [V]
  after_reads_simp
  rfl

theorem V_c_0 (c : Dev nD) : V m c main_c_0 = (tbl lit1 : Vec F S300 .i32) := by
  dsimp only [V]
  after_reads_simp
  rfl

theorem V_v1 (c : Dev nD) : V m c main_v1 = addi (m ((c : Thread nD τ).loc main_arg3)) (broadcastInDim S1 ![] bcast_S_S1 (constantI S_ 32 2560#32)) := by
  dsimp only [V]
  after_reads_simp

theorem V_v2 (c : Dev nD) : V m c main_v2 = broadcastInDim S2560x1 ![0] bcast_S2560_S2560x1_0 (m ((c : Thread nD τ).loc main_arg1)) := by
  dsimp only [V]
  after_reads_simp

/-- The count of rows seen so far, as a float, -/
def nOld (n : Vec F S1 .i32) : Vec F S_ .f32 := sitofp .f32 (shapeCast S_ n shapeCasts_S1_S_)
/-- and after this call. -/
def nNew (n : Vec F S1 .i32) : Vec F S_ .f32 := addf (nOld n) (constant S_ .f32 0x45200000#32)

theorem V_v10 (c : Dev nD) : V m c main_v10 = concatenate S2 0
    [⟨S1, broadcastInDim S1 ![] bcast_S_S1 (Host.divf (nOld (m ((c : Thread nD τ).loc main_arg3))) (nNew (m ((c : Thread nD τ).loc main_arg3))))⟩,
     ⟨S1, broadcastInDim S1 ![] bcast_S_S1 (Host.divf (constant S_ .f32 0x40000000#32) (nNew (m ((c : Thread nD τ).loc main_arg3))))⟩] concatenates_S1_S1_S2_d0 := by
  dsimp only [V]
  after_reads_simp
  rfl

end Cert.KernelIdeal.Hin
-- ==== Proof.HinIdeal.Run.lean ====
module

public import proofs.«01_k».proof.Proof.HinIdeal.Entry
public import Idealize.ShloMosaic.Lib.Pipeline.DatRel
public import Idealize.ShloMosaic.Lib.Pipeline.Frame

/-! The pipeline's proof data. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' contents, -/
def pft : pre0.Contents (Elt F) :=
  fun | 0 => tbl lit0 | 1 => tbl lit1 | ⟨_ + 2, h⟩ => absurd h (Nat.not_lt.2 (Nat.le_add_left _ _))
/-- which the region's side condition admits. -/
def adm (p : Fin 1) : (pcfgs (F := F) p).Adm := ⟨pft, (ok0.eq_1 (pft (F := F))).mpr trivial⟩

/-- The pipeline at those contents. -/
abbrev pl : Pipeline.Cfg sig Λ₀ := cfg0 (F := F) (adm 0)

/-- The codes, -/
abbrev Xc (c : Dev nD) : Vec F S2560x6144 .fp8e4m3 := V m c main_arg0
/-- the row scales, -/
abbrev Sc (c : Dev nD) : Vec F S2560x1 .f32 := V m c main_v2
/-- the two coefficients -/
abbrev Cc (c : Dev nD) : Vec F S2 .f32 := V m c main_v10

/-- and the old block at point `t`. -/
abbrev oldB (c : Dev nD) (t : Fin (pl (F := F)).N) : Vec F S4x256x256 .f32 :=
  (((pl (F := F)).win 3).blk t).view.read (Elt F) (V m c (Pipeline.arrRef spec0 3))

/-- Slab `k` of the result at point `t`. -/
def outSlab (c : Dev nD) (t : Fin (pl (F := F)).N) (k : ℕ) : FVec F S1x256x256 .f32 :=
  outBlk (tile (Sc m c) (Xc m c) (ti (4 * t.val + k))) (Xc m c) (tj (4 * t.val + k)) (slab (oldB m c t) k) (Cc m c)

/-- The block of the result at point `t`. -/
def outB (c : Dev nD) (t : Fin (pl (F := F)).N) : Vec F S4x256x256 .f32 :=
  blk4 (outSlab m c t 0) (outSlab m c t 1) (outSlab m c t 2) (outSlab m c t 3)

/-- What the scratch tile holds before step `4 t`: the tile of the step before. -/
def Held (c : Dev nD) (n : ℕ) (f : Vec F S256x2560 .bf16) : Prop := 0 < n → f = tile (Sc m c) (Xc m c) (ti (n - 1))

/-- Between points: the scratch tile, the generator register and the tables. -/
def Inv (c : Dev nD) (n : ℕ) : sProp 𝕄 :=
  iprop((∃ f : Vec F S256x2560 .bf16, ⌜Held m c n f⌝ ∗ owns (c : Thread nD τ) (Memref.whole cc0_scratch0) fullShare f)
    ∗ (∃ r, prngReg c r) ∗ Pipeline.ΦT (U := UR sig nD τ) pre0 (pft (F := F)) c)

/-- The proof data: the arrays as the region finds them; each input's buffer at its block after the body, the result's at
    the block computed; nothing owed; full shares. Window 5 is held to a relation instead. -/
def dats (_ : Fin 1) (c : Dev nD) : Dat τ (Elt F) Unit ℕ (UR sig nD τ) ℕ (pl (F := F)) c where
  A w := V m c (Pipeline.arrRef spec0 w)
  after w t := match w with
    | ⟨0, _⟩ => (((pl (F := F)).win 0).blk t).view.read (Elt F) (V m c (Pipeline.arrRef spec0 0))
    | ⟨1, _⟩ => (((pl (F := F)).win 1).blk t).view.read (Elt F) (V m c (Pipeline.arrRef spec0 1))
    | ⟨2, _⟩ => (((pl (F := F)).win 2).blk t).view.read (Elt F) (V m c (Pipeline.arrRef spec0 2))
    | ⟨3, _⟩ => oldB m c t
    | ⟨4, _⟩ => outB m c t
    | ⟨5, _⟩ => (((pl (F := F)).win 5).blk t).view.read (Elt F) (V m c (Pipeline.arrRef spec0 5))
  Φ t := Inv m c (4 * t.val)
  q _ := fullShare
  owed _ := 0

/-- Window 5 is the one held to a relation. -/
def fgt (w : Fin (pl (F := F)).W) : Bool := decide (w.val = 5)

/-- After point `t` the block columns of means seen so far are written. -/
def Rl (c : Dev nD) (w : Fin (pl (F := F)).W) (t : Fin (pl (F := F)).N) : (((pl (F := F)).win w).block.Idx → Elt F ((pl (F := F)).win w).elt) → Prop :=
  match w with
  | ⟨5, _⟩ => fun X => MeanUpTo (Sc m c) (Xc m c) (cnt (4 * t.val + 4)) X
  | ⟨0, _⟩ => fun _ => True
  | ⟨1, _⟩ => fun _ => True
  | ⟨2, _⟩ => fun _ => True
  | ⟨3, _⟩ => fun _ => True
  | ⟨4, _⟩ => fun _ => True

theorem A_eq (c : Dev nD) (w : Fin (pl (F := F)).W) : (dats m 0 c).A w = V m c (Pipeline.arrRef spec0 w) := by
  dsimp only [dats]

theorem after_0 (c : Dev nD) (t : Fin (pl (F := F)).N) : (dats m 0 c).after 0 t = (((pl (F := F)).win 0).blk t).view.read (Elt F) (V m c (Pipeline.arrRef spec0 0)) := by dsimp only [dats]; rfl
theorem after_1 (c : Dev nD) (t : Fin (pl (F := F)).N) : (dats m 0 c).after 1 t = (((pl (F := F)).win 1).blk t).view.read (Elt F) (V m c (Pipeline.arrRef spec0 1)) := by dsimp only [dats]; rfl
theorem after_2 (c : Dev nD) (t : Fin (pl (F := F)).N) : (dats m 0 c).after 2 t = (((pl (F := F)).win 2).blk t).view.read (Elt F) (V m c (Pipeline.arrRef spec0 2)) := by dsimp only [dats]; rfl
theorem after_3 (c : Dev nD) (t : Fin (pl (F := F)).N) : (dats m 0 c).after 3 t = oldB m c t := by dsimp only [dats]; rfl
theorem after_4 (c : Dev nD) (t : Fin (pl (F := F)).N) : (dats m 0 c).after 4 t = outB m c t := by dsimp only [dats]; rfl

/-- A window whose block is its whole array at index zero reads the array. -/
theorem whole_0 (c : Dev nD) (t : Fin (pl (F := F)).N) : (((pl (F := F)).win 0).blk t).view.read (Elt F) (V m c (Pipeline.arrRef spec0 0)) = Cc m c := by
  funext y
  refine congrArg (Cc m c) (funext fun a => Fin.ext ?_)
  match a with
  | ⟨0, _⟩ => exact Window.rect_emb_val_of_index_zero ((pl (F := F)).win 0) t ⟨0, (by decide : 0 < 1)⟩ rfl y

theorem whole_1 (c : Dev nD) (t : Fin (pl (F := F)).N) : (((pl (F := F)).win 1).blk t).view.read (Elt F) (V m c (Pipeline.arrRef spec0 1)) = Xc m c := by
  funext y
  refine congrArg (Xc m c) (funext fun a => Fin.ext ?_)
  match a with
  | ⟨0, _⟩ => exact Window.rect_emb_val_of_index_zero ((pl (F := F)).win 1) t ⟨0, (by decide : 0 < 2)⟩ rfl y
  | ⟨1, _⟩ => exact Window.rect_emb_val_of_index_zero ((pl (F := F)).win 1) t ⟨1, (by decide : 1 < 2)⟩ rfl y

theorem whole_2 (c : Dev nD) (t : Fin (pl (F := F)).N) : (((pl (F := F)).win 2).blk t).view.read (Elt F) (V m c (Pipeline.arrRef spec0 2)) = Sc m c := by
  funext y
  refine congrArg (Sc m c) (funext fun a => Fin.ext ?_)
  match a with
  | ⟨0, _⟩ => exact Window.rect_emb_val_of_index_zero ((pl (F := F)).win 2) t ⟨0, (by decide : 0 < 2)⟩ rfl y
  | ⟨1, _⟩ => exact Window.rect_emb_val_of_index_zero ((pl (F := F)).win 2) t ⟨1, (by decide : 1 < 2)⟩ rfl y

theorem before_0 (c : Dev nD) (t : Fin (pl (F := F)).N) (d) : (dats m 0 c).before 0 t d = Cc m c :=
  ((dats m 0 c).before_in_eq_fetched 0 rfl (fun _ => rfl) (fun _ _ _ => rfl) (fun t => by rw [after_0]; rfl) t d).trans (whole_0 m c t)
theorem before_1 (c : Dev nD) (t : Fin (pl (F := F)).N) (d) : (dats m 0 c).before 1 t d = Xc m c :=
  ((dats m 0 c).before_in_eq_fetched 1 rfl (fun _ => rfl) (fun _ _ _ => rfl) (fun t => by rw [after_1]; rfl) t d).trans (whole_1 m c t)
theorem before_2 (c : Dev nD) (t : Fin (pl (F := F)).N) (d) : (dats m 0 c).before 2 t d = Sc m c :=
  ((dats m 0 c).before_in_eq_fetched 2 rfl (fun _ => rfl) (fun _ _ _ => rfl) (fun t => by rw [after_2]; rfl) t d).trans (whole_2 m c t)
theorem before_3 (c : Dev nD) (t : Fin (pl (F := F)).N) (d) : (dats m 0 c).before 3 t d = oldB m c t :=
  (dats m 0 c).before_in_eq_fetched 3 rfl (fun _ => rfl) (fun _ _ _ => rfl) (fun t => by rw [after_3]; rfl) t d

/-- A point's coordinate is its number. -/
theorem coord (t : Fin (pl (F := F)).N) : (grid0.coords t 0).val = t.val := by
  have h : t.val < 75 := lt_of_lt_of_eq t.isLt N_0
  rw [Pipeline.Grid.coords_val (G := grid0) (S := 1) (B := 75) t 0 (by decide) rfl]
  omega

end Cert.KernelIdeal.Hin
-- ==== Proof.HinIdeal.Oblig.lean ====
module

public import proofs.«01_k».proof.Proof.HinIdeal.Run

/-! The body at every point of the grid. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, window 5 held to its relation. -/
abbrev rdat (c : Dev nD) : Pipeline.RDat τ (Elt F) Unit ℕ (UR sig nD τ) ℕ (pl (F := F)) c := (dats m 0 c).toRRel fgt (Rl m c)

/-- What the body finds in window 5: the means of the block columns before this point. -/
theorem finds_5 (c : Dev nD) (t : Fin (pl (F := F)).N) (Y) (h : (rdat m c).Finds 5 t Y) : MeanUpTo (Sc m c) (Xc m c) (cnt (4 * t.val)) Y := by
  have hlt : t.val < 75 := lt_of_lt_of_eq t.isLt N_0
  by_cases ht : t.val = 0
  · rw [ht]
    intro y hy
    exact absurd hy (by show ¬ _ < 256 * 0; omega)
  · rcases ((rdat m c).finds_of_pos (w := 5) (t := t) rfl ht Y).mp h with hf | hl
    · have := (Pipeline.Window.flush_const (n := 75) (m := 74) ((pl (F := F)).win 5) rfl (fun _ _ => rfl) N_0 rfl _).mp hf
      dsimp only at this
      omega
    · have hR : MeanUpTo (Sc m c) (Xc m c) (cnt (4 * (t.val - 1) + 4)) Y := (dats m 0 c).toRRel_leaves (fgt := fgt) (Rl := Rl m c) (w := 5) rfl hl
      rw [show 4 * (t.val - 1) + 4 = 4 * t.val by omega] at hR
      exact hR

/-- The tables one by one. -/
theorem tables_eq (c : Dev nD) : (Pipeline.ΦT (U := UR sig nD τ) pre0 (pft (F := F)) c : sProp 𝕄)
    = iprop(owns (c : Thread nD τ) (Memref.whole main_c) fullShare.right (tbl lit0 : Vec F S300 .i32) ∗ owns (c : Thread nD τ) (Memref.whole main_c_0) fullShare.right (tbl lit1 : Vec F S300 .i32)) := by
  rw [owns_whole, owns_whole]
  exact bigSep_univ_eq_bigSepL [(0 : Fin 2), (1 : Fin 2)] (by decide) (by decide) _

/-! The windows' staging buffers at point `t`. -/
abbrev st_0 (t : Fin (pl (F := F)).N) : Memref sig .tc .smem S2 .f32 := spec0_0.stage ((pl (F := F)).slots t 0)
abbrev st_1 (t : Fin (pl (F := F)).N) : Memref sig .tc .vmem S2560x6144 .fp8e4m3 := spec0_1.stage ((pl (F := F)).slots t 1)
abbrev st_2 (t : Fin (pl (F := F)).N) : Memref sig .tc .vmem S2560x1 .f32 := spec0_2.stage ((pl (F := F)).slots t 2)
abbrev st_3 (t : Fin (pl (F := F)).N) : Memref sig .tc .vmem S4x256x256 .f32 := spec0_3.stage ((pl (F := F)).slots t 3)
abbrev st_4 (t : Fin (pl (F := F)).N) : Memref sig .tc .vmem S4x256x256 .f32 := spec0_4.stage ((pl (F := F)).slots t 4)
abbrev st_5 (t : Fin (pl (F := F)).N) : Memref sig .tc .vmem S1x6144 .f32 := spec0_5.stage ((pl (F := F)).slots t 5)

/-- What the body is called with, -/
def bodyPre (c : Dev nD) (t : Fin (pl (F := F)).N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ Y, ⌜(rdat m c).Finds 5 t Y⌝ ∗ owns (c : Thread nD τ) (st_5 t) fullShare Y))

/-- and what it returns. -/
def bodyPost (c : Dev nD) (t : Fin (pl (F := F)).N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ (∃ X, ⌜Rl m c 5 t X⌝ ∗ owns (c : Thread nD τ) (st_5 t) fullShare X))

/-- The body at point `t`. -/
abbrev bodyAt (t : Fin (pl (F := F)).N) : Prog (TpuEff nD τ sig (Elt F) Λ₀ .tc) PUnit :=
  cc0_hin (grid0.coords t) (Memref.whole main_c) (Memref.isWhole_whole _) (Memref.whole main_c_0) (Memref.isWhole_whole _)
    (st_0 t) (hstage0_0 (((pl (F := F)).slots t 0).cast nbuf0_0)) (st_1 t) (hstage0_1 (((pl (F := F)).slots t 1).cast nbuf0_1))
    (st_2 t) (hstage0_2 (((pl (F := F)).slots t 2).cast nbuf0_2)) (st_3 t) (hstage0_3 (((pl (F := F)).slots t 3).cast nbuf0_3))
    (st_4 t) (hstage0_4 (((pl (F := F)).slots t 4).cast nbuf0_4)) (st_5 t) (hstage0_5 (((pl (F := F)).slots t 5).cast nbuf0_5))
    (Memref.whole cc0_scratch0) (Memref.isWhole_whole _)

theorem defs₀_row (t : Fin (pl (F := F)).N) :
    defs₀ (F := F) .tc (pl (F := F)).body ((pl (F := F)).bodyArgs t ((pl (F := F)).slots t)) = bodyAt t := by
  unfold defs₀; rw [Defs.onTc_tc]

/-- The words of the four slots. -/
theorem word_1 (f : Fin 300 → BitVec 32) (t : Fin (pl (F := F)).N) : word (F := F) (tbl f) (k0_off1 (grid0.coords t)) (k0_off1_inb (grid0.coords t)) = f (Fin.ofNat 300 (4 * t.val)) := by
  rw [word_tbl, off1_val, coord]; rfl
theorem word_2 (f : Fin 300 → BitVec 32) (t : Fin (pl (F := F)).N) : word (F := F) (tbl f) (k0_off14 (grid0.coords t)) (k0_off14_inb (grid0.coords t)) = f (Fin.ofNat 300 (4 * t.val + 1)) := by
  rw [word_tbl, off14_val, coord]
theorem word_3 (f : Fin 300 → BitVec 32) (t : Fin (pl (F := F)).N) : word (F := F) (tbl f) (k0_off27 (grid0.coords t)) (k0_off27_inb (grid0.coords t)) = f (Fin.ofNat 300 (4 * t.val + 2)) := by
  rw [word_tbl, off27_val, coord]
theorem word_4 (f : Fin 300 → BitVec 32) (t : Fin (pl (F := F)).N) : word (F := F) (tbl f) (k0_off40 (grid0.coords t)) (k0_off40_inb (grid0.coords t)) = f (Fin.ofNat 300 (4 * t.val + 3)) := by
  rw [word_tbl, off40_val, coord]

theorem sound_body (c : Dev nD) (t : Fin (pl (F := F)).N) :
    bodyPre m c t ⊢ wp frame (wpE (defs₀ (F := F)) Variants.none c none) Set.univ (bodyAt t) (fun _ => bodyPost m c t) := by
  have hlt : t.val < 75 := lt_of_lt_of_eq t.isLt N_0
  unfold bodyPre bodyPost
  simp only [before_0, before_1, before_2, before_3]
  rw [after_0, after_1, after_2, after_3, after_4, whole_0, whole_1, whole_2,
    show (dats m 0 c).owesAt () t.succ = (dats m 0 c).owesAt () t.castSucc from rfl,
    show (dats m 0 c).Φ t.castSucc = Inv m c (4 * t.val) from rfl, show (dats m 0 c).Φ t.succ = Inv m c (4 * t.val + 4) from rfl]
  unfold Inv
  rw [tables_eq]
  iintro ⟨⟨⟨%f, %hf, H9⟩, Hp, HT1, HT2⟩, Ho, ⟨%d0, H0⟩, ⟨%d1, H1⟩, ⟨%d2, H2⟩, ⟨%d3, H3⟩, ⟨%d4, H4⟩, ⟨%Y, %hY, H5⟩⟩
  have hM := finds_5 m c t Y hY
  iapply (body_run c Set.univ (grid0.coords t) _ (Memref.isWhole_whole _) _ (Memref.isWhole_whole _) _ _ _ _ _ _ _ _ _ _ _ _ _ _ (tbl lit0) (tbl lit1) fullShare.right fullShare.right
    (Cc m c) (Xc m c) (Sc m c) (oldB m c t) _ Y f
    (by rw [word_1]; exact ti_lt _) (by rw [word_1]; exact tj_lt _) (by rw [word_2]; exact ti_lt _) (by rw [word_2]; exact tj_lt _)
    (by rw [word_3]; exact ti_lt _) (by rw [word_3]; exact tj_lt _) (by rw [word_4]; exact ti_lt _) (by rw [word_4]; exact tj_lt _) _)
  simp only [word_1, word_2, word_3, word_4]
  have e1 := stepAt_eq (Sc m c) (Xc m c) f (4 * t.val) (by omega) hf
  have e2 := stepAt_eq (Sc m c) (Xc m c) _ (4 * t.val + 1) (by omega) fun _ => e1
  have e3 := stepAt_eq (Sc m c) (Xc m c) _ (4 * t.val + 2) (by omega) fun _ => e2
  have e4 := stepAt_eq (Sc m c) (Xc m c) _ (4 * t.val + 3) (by omega) fun _ => e3
  have m1 := stepMean_upTo (Sc m c) (Xc m c) Y (4 * t.val) (by omega) hM
  have m2 := stepMean_upTo (Sc m c) (Xc m c) _ (4 * t.val + 1) (by omega) m1
  have m3 := stepMean_upTo (Sc m c) (Xc m c) _ (4 * t.val + 2) (by omega) m2
  have m4 := stepMean_upTo (Sc m c) (Xc m c) _ (4 * t.val + 3) (by omega) m3
  rw [e1] at e2 e3 e4 ⊢
  rw [e2] at e3 e4 ⊢
  rw [e3] at e4 ⊢
  rw [e4]
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H9]; · iexact H9
  iintro ⟨HT1, HT2, H0, H1, H2, H3, H4, H5, H9⟩
  isplitl [H9 Hp HT1 HT2]
  · isplitl [H9]
    · iexists _; isplitr; swap; · iexact H9
      ipureintro
      exact fun _ => rfl
    isplitl [Hp]; · iexact Hp
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexists _; isplitr; swap; · iexact H5
  ipureintro
  exact m4

/-- The library's body obligation, at every point. -/
theorem body_obligation (c : Dev nD) : Pipeline.BodyObligationRel (dats m 0 c) (defs₀ (F := F)) Variants.none () Set.univ fgt (Rl m c) := fun t => by
  rw [bigSep_W0, bigSep_W0, defs₀_row]
  exact triple_restated (sound_body m c t) rfl .rfl fun _ => .rfl

end Cert.KernelIdeal.Hin
-- ==== Proof.HinIdeal.Launch.lean ====
module

public import proofs.«01_k».proof.Proof.HinIdeal.Oblig

/-! The run of the kernel and its frame. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m main (V m) :=
  Pipeline.hmainP_prefix (pcfgs (F := F)) 0 defs₀ Variants.none m main hostOps0 hostOps0_sub hostOps0_fresh main_chain

theorem hin (c : Dev nD) : iprop(Pipeline.ΦA (U := UR sig nD τ) spec0 c ∗ Pipeline.ΦT (U := UR sig nD τ) pre0 (pft (F := F)) c) ⊢ (rdat m c).Φ 0 := by
  rw [show (rdat m c).Φ 0 = Inv m c 0 from rfl]
  unfold Pipeline.ΦA Inv
  rw [scopedRest0_eq]
  iintro ⟨⟨⟨%f, Hs⟩, Hp⟩, HT⟩
  isplitl [Hs]
  · iexists f; isplitr
    · ipureintro; exact fun h => absurd h (Nat.lt_irrefl 0)
    rw [owns_whole]; iexact Hs
  isplitl [Hp]; · iexact Hp
  iexact HT

theorem hout (c : Dev nD) : (rdat m c).Φ (Fin.last (pl (F := F)).N) ⊢ Pipeline.ΦA (U := UR sig nD τ) spec0 c := by
  rw [show (rdat m c).Φ (Fin.last (pl (F := F)).N) = Inv m c (4 * (pl (F := F)).N) from rfl]
  unfold Pipeline.ΦA Inv
  rw [scopedRest0_eq]
  simp only [owns_whole]
  iintro ⟨⟨%f, -, Hs⟩, Hp, -⟩
  isplitl [Hs]
  · iexists f; iexact Hs
  iexact Hp

theorem hpf (c : Dev nD) (k : Fin pre0.K) : V m c (pre0.ref k) = pft (F := F) k := by
  match k with
  | 0 => exact V_c m c
  | 1 => exact V_c_0 m c

set_option backward.isDefEq.respectTransparency.types false in
/-- The run: every weakly fair execution terminates, the arrays stand in the data's relation to their entry contents, every
    other buffer is unchanged since the region was entered, and every counter is zero. -/
theorem run_main : θ_run defs (onTc (τ := τ) (main (F := F))) (s₀ m ρ)
    (fun r => Pipeline.RDat.FramePost (pl (F := F)) (rdat m) (V m) r ∧ r.2.sem = fun _ => 0) :=
  Pipeline.RDat.θ_run_frameP_track (Q' := _) (pcfgs (F := F)) adm 0 launch0 defs₀ Variants.none (rdat m) m ρ main
    (hbody := fun c => (body_obligation m c).toRRel) (hshare := fun c => (rdat m c).share_full fun _ => rfl)
    (howed := fun _ _ => rfl) (V := V m) (hmain := hmain m) (hA := fun c w => A_eq m c w) (hpf := hpf m) (hin := hin m) (hout := hout m)

theorem mem_rest (b : Ref sig .tc) (h1 : b.isScoped = false) (h2 : ∀ w, (spec0 w).arr.view.ref ≠ b) : b ∈ Pipeline.restRefs sig spec0 :=
  Pipeline.mem_restRefs_of b h1 h2

/-- An input window's array ends as the region found it. -/
theorem in_eq (c : Dev nD) (w : Fin (pl (F := F)).W) (hw : ((pl (F := F)).win w).isOut = false) (r : PUnit × MemSt nD τ sig (Elt F))
    (h : Pipeline.RDat.FramePost (pl (F := F)) (rdat m) (V m) r) :
    r.2.mem (((pl (F := F)).spec w).arr.view.loc (c.tc : Thread nD τ)) = V m c (Pipeline.arrRef spec0 w) :=
  (cast (congrFun ((rdat m c).ArrAt_in w hw (pl (F := F)).N) _) ((h c).1 w)).trans (A_eq m c w)

/-- THE FRAME: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(in_eq m c 1 rfl r h.1).trans (V_keep m c main_arg0 (by decide)),
     ((h.1 c).2 main_arg1 (mem_rest main_arg1 (by decide) (by decide))).trans (V_keep m c main_arg1 (by decide)),
     (in_eq m c 3 rfl r h.1).trans (V_keep m c main_arg2 (by decide)),
     ((h.1 c).2 main_arg3 (mem_rest main_arg3 (by decide) (by decide))).trans (V_keep m c main_arg3 (by decide))⟩, h.2⟩) (run_main m ρ)

end Cert.KernelIdeal.Hin
-- ==== Proof.DownWords.Words.lean ====
module

public import Idealize.ShloMosaic.Lib.Affine
public import Idealize.ShloMosaic.Lib.WordArith
public import Idealize.ShloMosaic.Lib.WordCmp
public import Idealize.ShloMosaic.Lib.Scf
public import Idealize.ShloMosaic.Lib.LoopRemainder

/-! The words that the expert Hessian kernel computes from an expert's first row `off` and end row `e`: the first
    row rounded down to a multiple of 32, the number of chunks of 256 rows, and each chunk's first row. -/

@[expose] public section

noncomputable section

namespace Cert.DownWords
open Idealize.ShloMosaic

/-- Floor division of words, as the kernel computes it: the quotient rounded toward zero, less one when the
    signs differ and the remainder is not zero. -/
abbrev fd (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The first row rounded down to a multiple of 32. -/
abbrev base (v1 : BitVec 32) : BitVec 32 := Scalar.muli (fd v1 32#32) 32#32

/-- The number of chunks: none when the expert has no rows. -/
abbrev nk (v1 v3 : BitVec 32) : BitVec 32 :=
  Scalar.select (Scalar.cmpi .sgt v3 v1)
    (fd (Scalar.subi (Scalar.addi (Scalar.subi v3 (base v1)) 256#32) 1#32) 256#32) 0#32

/-- The upper bound of the loop over the chunks, as the kernel computes it. -/
abbrev ub (v1 v3 : BitVec 32) : BitVec 32 :=
  Scalar.addi 0#32 (Scalar.muli (Scalar.divsi (Scalar.subi (nk v1 v3) 0#32) 1#32) 1#32)

/-- The first row that chunk `c` loads. -/
abbrev row (v1 c : BitVec 32) : BitVec 32 :=
  Scalar.minsi (Scalar.addi (base v1) (Scalar.muli c 256#32)) 2304#32

theorem ofNat_toNat' (x : BitVec 32) : BitVec.ofNat 32 x.toNat = x := BitVec.ofNat_toNat _ _ |>.trans (BitVec.setWidth_eq x)

theorem isInt_iff {x : BitVec 32} {e : Int} : Affine.IsInt x e ↔ x.toInt = e := by unfold Affine.IsInt; exact Iff.rfl

theorem divsi_toNat {x d : BitVec 32} (hx : x.toNat < 2 ^ 31) (hd : d.toNat < 2 ^ 31) (hd0 : 0 < d.toNat) :
    (Scalar.divsi x d).toNat = x.toNat / d.toNat := by
  have hx' : x.toInt = (x.toNat : Int) := WordCmp.toInt_eq_toNat_of_lt_half hx
  have hd' : d.toInt = (d.toNat : Int) := WordCmp.toInt_eq_toNat_of_lt_half hd
  have h := Affine.divsi (a := x) (b := d) (ea := x.toNat) (eb := d.toNat) (e := (x.toNat : Int) / d.toNat)
    (isInt_iff.2 hx') (isInt_iff.2 hd') ⟨rfl, by omega, by omega⟩
  have h := isInt_iff.1 h
  have hle : x.toNat / d.toNat ≤ x.toNat := Nat.div_le_self _ _
  have hq : ((x.toNat : Int) / d.toNat) = ((x.toNat / d.toNat : ℕ) : Int) := by simp
  rw [hq, BitVec.toInt_eq_toNat_cond] at h
  have hlt := (Scalar.divsi x d).isLt
  generalize x.toNat / d.toNat = q at *
  split at h <;> omega

theorem remsi_toNat {x d : BitVec 32} (hx : x.toNat < 2 ^ 31) (hd : d.toNat < 2 ^ 31) (hd0 : 0 < d.toNat) :
    (Scalar.remsi x d).toNat = x.toNat % d.toNat := by
  have hx' : x.toInt = (x.toNat : Int) := WordCmp.toInt_eq_toNat_of_lt_half hx
  have hd' : d.toInt = (d.toNat : Int) := WordCmp.toInt_eq_toNat_of_lt_half hd
  have h := Affine.remsi (a := x) (b := d) (ea := x.toNat) (eb := d.toNat) (e := (x.toNat : Int) % d.toNat)
    (isInt_iff.2 hx') (isInt_iff.2 hd') ⟨rfl, by omega, by omega⟩
  have h := isInt_iff.1 h
  have hle : x.toNat % d.toNat ≤ x.toNat := Nat.mod_le _ _
  have hq : ((x.toNat : Int) % d.toNat) = ((x.toNat % d.toNat : ℕ) : Int) := by simp
  rw [hq, BitVec.toInt_eq_toNat_cond] at h
  have hlt := (Scalar.remsi x d).isLt
  generalize x.toNat % d.toNat = q at *
  split at h <;> omega

/-- Floor division of a nonnegative word by a positive one. -/
theorem fd_toNat {x d : BitVec 32} (hx : x.toNat < 2 ^ 31) (hd : d.toNat < 2 ^ 31) (hd0 : 0 < d.toNat) :
    (fd x d).toNat = x.toNat / d.toNat := by
  have hx' : x.toInt = (x.toNat : Int) := WordCmp.toInt_eq_toNat_of_lt_half hx
  have hd' : d.toInt = (d.toNat : Int) := WordCmp.toInt_eq_toNat_of_lt_half hd
  have hr := remsi_toNat hx hd hd0
  have key : Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32) = (0#1 : BitVec 1) := by
    by_cases h0 : x.toNat = 0
    · have : Scalar.remsi x d = 0#32 := BitVec.eq_of_toNat_eq (by rw [hr, h0]; simp)
      rw [this]
      show IntOp.andi _ (BitVec.ofBool ((0#32 : BitVec 32) != 0#32)) = 0#1
      simp [IntOp.andi]
    · have e1 : Scalar.cmpi .sgt x 0#32 = (1#1 : BitVec 1) := by
        show BitVec.ofBool _ = 1#1
        rw [WordCmp.ofBool_eq_one_iff]; show BitVec.slt 0#32 x = true
        rw [BitVec.slt_iff_toInt_lt, hx']; simp; omega
      have e2 : Scalar.cmpi .slt x 0#32 = (0#1 : BitVec 1) := by
        show BitVec.ofBool _ = 0#1
        rw [WordCmp.ofBool_eq_zero_iff]; show BitVec.slt x 0#32 = false
        rw [← Bool.not_eq_true, BitVec.slt_iff_toInt_lt, hx']; simp
      have e3 : Scalar.cmpi .sgt d 0#32 = (1#1 : BitVec 1) := by
        show BitVec.ofBool _ = 1#1
        rw [WordCmp.ofBool_eq_one_iff]; show BitVec.slt 0#32 d = true
        rw [BitVec.slt_iff_toInt_lt, hd']; simp; omega
      have e4 : Scalar.cmpi .slt d 0#32 = (0#1 : BitVec 1) := by
        show BitVec.ofBool _ = 0#1
        rw [WordCmp.ofBool_eq_zero_iff]; show BitVec.slt d 0#32 = false
        rw [← Bool.not_eq_true, BitVec.slt_iff_toInt_lt, hd']; simp
      rw [e1, e2, e3, e4]
      show IntOp.andi (BitVec.ofBool ((_ : BitVec 32) != _)) _ = 0#1
      simp [IntOp.andi]
  show (Scalar.select _ _ _ : BitVec 32).toNat = _
  rw [key]
  exact divsi_toNat hx hd hd0

section
variable {v1 v3 : BitVec 32} (h1 : v1.toNat < 2 ^ 31)
include h1

theorem base_toNat : (base v1).toNat = v1.toNat / 32 * 32 := by
  show (fd v1 32#32 * 32#32 : BitVec 32).toNat = _
  have hf : (fd v1 32#32).toNat = v1.toNat / 32 := fd_toNat h1 (by decide) (by decide)
  rw [BitVec.toNat_mul, hf]
  show v1.toNat / 32 * 32 % 2 ^ 32 = _
  omega

theorem base_le : (base v1).toNat ≤ v1.toNat := by rw [base_toNat h1]; omega

/-- The number of chunks, as a natural number. -/
theorem nk_toNat (h3 : v3.toInt ≤ 2560) :
    (nk v1 v3).toNat = if (v1.toNat : Int) < v3.toInt then (v3.toNat - v1.toNat / 32 * 32 + 255) / 256 else 0 := by
  have hx' : v1.toInt = (v1.toNat : Int) := WordCmp.toInt_eq_toNat_of_lt_half h1
  have hb := base_toNat h1
  by_cases h : (v1.toNat : Int) < v3.toInt
  · rw [if_pos h]
    have hc : Scalar.cmpi .sgt v3 v1 = (1#1 : BitVec 1) := by
      show BitVec.ofBool _ = 1#1
      rw [WordCmp.ofBool_eq_one_iff]; show BitVec.slt v1 v3 = true
      rw [BitVec.slt_iff_toInt_lt, hx']; exact h
    show (Scalar.select _ _ _ : BitVec 32).toNat = _
    rw [hc]
    show (fd _ 256#32).toNat = _
    have e3 := BitVec.toInt_eq_toNat_cond v3
    have hl := v3.isLt
    have h3' : v3.toNat ≤ 2560 ∧ v1.toNat < v3.toNat := by split at e3 <;> omega
    have hs : (Scalar.subi (Scalar.addi (Scalar.subi v3 (base v1)) 256#32) 1#32 : BitVec 32).toNat = v3.toNat - v1.toNat / 32 * 32 + 255 := by
      show ((v3 - base v1) + 256#32 - 1#32 : BitVec 32).toNat = _
      rw [BitVec.toNat_sub, BitVec.toNat_add, BitVec.toNat_sub, hb]
      show (2 ^ 32 - 1 + ((2 ^ 32 - v1.toNat / 32 * 32 + v3.toNat) % 2 ^ 32 + 256) % 2 ^ 32) % 2 ^ 32 = _
      omega
    rw [fd_toNat (by rw [hs]; omega) (by decide) (by decide), hs]
    rfl
  · rw [if_neg h]
    have hc : Scalar.cmpi .sgt v3 v1 = (0#1 : BitVec 1) := by
      show BitVec.ofBool _ = 0#1
      rw [WordCmp.ofBool_eq_zero_iff]; show BitVec.slt v1 v3 = false
      rw [← Bool.not_eq_true, BitVec.slt_iff_toInt_lt, hx']; exact h
    show (Scalar.select _ _ _ : BitVec 32).toNat = _
    rw [hc]
    rfl

theorem ub_eq : ub v1 v3 = nk v1 v3 := by
  show Scalar.addi 0#32 _ = _
  rw [Scalar.muli_divsi_one]
  show (0#32 + (nk v1 v3 - 0#32) : BitVec 32) = _
  simp

/-- The number of chunks of the expert, at most eleven. -/
def chunks (a : ℕ) (e : Int) : ℕ := if (a : Int) < e then (e.toNat - a / 32 * 32 + 255) / 256 else 0

theorem nk_toNat' (h3 : v3.toInt ≤ 2560) : (nk v1 v3).toNat = chunks v1.toNat v3.toInt := by
  rw [nk_toNat h1 h3]; unfold chunks
  by_cases h : (v1.toNat : Int) < v3.toInt
  · rw [if_pos h, if_pos h]
    have e3 := BitVec.toInt_eq_toNat_cond v3
    have hl := v3.isLt
    have : v3.toInt.toNat = v3.toNat := by split at e3 <;> omega
    rw [this]
  · rw [if_neg h, if_neg h]

omit h1 in
theorem chunks_le {a : ℕ} {e : Int} (he : e ≤ 2560) : chunks a e ≤ 11 := by
  unfold chunks; split <;> omega

theorem trips_eq (h3 : v3.toInt ≤ 2560) : Scf.trips 0#32 (ub v1 v3) 1#32 = chunks v1.toNat v3.toInt := by
  rw [ub_eq h1]
  have h := nk_toNat' h1 h3
  have hle := chunks_le (a := v1.toNat) h3
  unfold Scf.trips
  have : (nk v1 v3).toInt = ((nk v1 v3).toNat : Int) := WordCmp.toInt_eq_toNat_of_lt_half (by omega)
  rw [this, h]
  show ((((chunks v1.toNat v3.toInt : ℕ) : Int) - 0 + 1 - 1) / 1).toNat = _
  omega

theorem loop_ok (h3 : v3.toInt ≤ 2560) : Scf.OK 0#32 (ub v1 v3) 1#32 := by
  refine ⟨by decide, ?_⟩
  rw [trips_eq h1 h3]
  have hle := chunks_le (a := v1.toNat) h3
  show (0 : Int) + (chunks v1.toNat v3.toInt : ℕ) * 1 < 2 ^ 31
  omega

/-- The first row of chunk `c`, as a natural number. -/
def r0 (a c : ℕ) : ℕ := min (a / 32 * 32 + 256 * c) 2304

omit h1 in
theorem iv_toNat {c : ℕ} (hc : c < 11) : (Scf.iv 0#32 1#32 c : BitVec 32).toNat = c := by
  unfold Scf.iv
  simp only [BitVec.zero_add, BitVec.mul_one]
  rw [BitVec.toNat_ofNat]; omega

/-- The word `lo` of chunk `c`, before it is kept inside the array. -/
theorem lo_toNat {c : ℕ} (ha : v1.toNat ≤ 2560) (hc : c < 11) :
    (Scalar.addi (base v1) (Scalar.muli (Scf.iv 0#32 1#32 c) 256#32) : BitVec 32).toNat = v1.toNat / 32 * 32 + 256 * c := by
  show (base v1 + Scf.iv 0#32 1#32 c * 256#32 : BitVec 32).toNat = _
  rw [BitVec.toNat_add, BitVec.toNat_mul, iv_toNat hc, base_toNat h1]
  show (v1.toNat / 32 * 32 + c * 256 % 2 ^ 32) % 2 ^ 32 = _
  omega

theorem row_toNat {c : ℕ} (ha : v1.toNat ≤ 2560) (hc : c < 11) :
    (row v1 (Scf.iv 0#32 1#32 c)).toNat = r0 v1.toNat c := by
  have hl := lo_toNat h1 ha hc
  show (IntOp.minsi _ _ : BitVec 32).toNat = _
  rw [WordArith.toNat_minsi_of_lt _ _ (by rw [hl]; omega) (by decide), hl]
  rfl

omit h1 in
theorem r0_le (a c : ℕ) : r0 a c ≤ 2304 := by unfold r0; omega
omit h1 in
theorem r0_dvd (a c : ℕ) : 32 ∣ r0 a c := by unfold r0; omega

/-- With a chunk to do, the first row lies below the end and hence in the array. -/
theorem first_le (h3 : v3.toInt ≤ 2560) {c : ℕ} (hc : c < Scf.trips 0#32 (ub v1 v3) 1#32) : v1.toNat ≤ 2560 ∧ c < 11 := by
  rw [trips_eq h1 h3] at hc
  have := chunks_le (a := v1.toNat) h3
  refine ⟨?_, by omega⟩
  by_contra h
  have : chunks v1.toNat v3.toInt = 0 := by unfold chunks; rw [if_neg (by omega)]
  omega

end

/-- The first column of block `w`. -/
theorem col_toNat (w : BitVec 32) (hw : w.toNat < 8) :
    (Scalar.indexCast (Scalar.muli w 256#32)).toNat = 256 * w.toNat := by
  show (w * 256#32 : BitVec 32).toNat = _
  rw [BitVec.toNat_mul]
  show w.toNat * 256 % 2 ^ 32 = _
  omega

theorem col_dvd (w : BitVec 32) (hw : w.toNat < 8) : 256 ∣ (Scalar.muli w 256#32).toNat :=
  ⟨w.toNat, col_toNat w hw⟩

end Cert.DownWords
-- ==== Proof.DownIdeal.Runs.lean ====
module

public import proofs.«01_k».proof.Proof.Gen.DownIdeal.Launch
public import proofs.«01_k».proof.Proof.Gen.DownIdeal.Skeleton
public import proofs.«01_k».proof.Proof.Gen.DownIdeal.Loops
public import proofs.«01_k».proof.Proof.Gen.DownIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

/-! What the run of the expert Hessian kernel is stated over: the host lines before the call, the buffers, and the
    side conditions `Hyps` on the words that the body reads from its tables. -/

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S36 .i32 := Memref.whole main_c
abbrev htbM0_0 : tbM0_0.IsWhole := Memref.isWhole_whole _
abbrev tbM0_1 : Memref sig .tc .smem S36 .i32 := Memref.whole main_c_0
abbrev htbM0_1 : tbM0_1.IsWhole := Memref.isWhole_whole _
abbrev tbM0_2 : Memref sig .tc .smem S8 .i32 := Memref.whole main_v1
abbrev htbM0_2 : tbM0_2.IsWhole := Memref.isWhole_whole _
abbrev tbM0_3 : Memref sig .tc .smem S8 .i32 := Memref.whole main_v7
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_DownIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      (((h c).2 main_arg4 (by decide : main_arg4 ∈ Pipeline.restRefs sig spec0)).trans (W_main_arg4 m hO dats c))⟩) h

/-! ## The kernel body on any staging memrefs: a subtype the run finds -/

/-- One staging buffer of output window 5, through which its contents are stated (`View.read_writes_of_cover`: the
    choice does not matter). -/
abbrev VO0_5 : View sig .tc .vmem S1x4x256x256 .f32 := (Memref.whole cc0_stg5_0 : Memref sig .tc .vmem S1x4x256x256 .f32).view
/-- Each window's current staging memref at point `t`, spelled as the pipeline passes it (`bodyAt0`), and its wholeness. -/
abbrev ms0_0 (hO : Ok m) (t : Fin (cfgM m hO).N) : Memref sig .tc .smem S8 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S8 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2560x2048 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2560x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4x256x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x256x256 .f32 := spec0_5.stage ((cfgM m hO).slots t 5)
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk3 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos)))
    ∧ k0_chk1 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off2 (grid0.coords t)) S1.size (k0_off2_inb (grid0.coords t))).toLoadRect (tbl m 0) (Shape.Idx.first (numel1_S1.symm ▸ Nat.one_pos)))
    ∧ k0_chk2 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off3 (grid0.coords t)) S1.size (k0_off3_inb (grid0.coords t))).toLoadRect (tbl m 1) (Shape.Idx.first (numel1_S1.symm ▸ Nat.one_pos)))
    ∧ k0_chk4 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off11 (grid0.coords t)) S1.size (k0_off11_inb (grid0.coords t))).toLoadRect (tbl m 0) (Shape.Idx.first (numel1_S1.symm ▸ Nat.one_pos)))
    ∧ k0_chk5 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off12 (grid0.coords t)) S1.size (k0_off12_inb (grid0.coords t))).toLoadRect (tbl m 1) (Shape.Idx.first (numel1_S1.symm ▸ Nat.one_pos)))
    ∧ k0_chk6 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off20 (grid0.coords t)) S1.size (k0_off20_inb (grid0.coords t))).toLoadRect (tbl m 0) (Shape.Idx.first (numel1_S1.symm ▸ Nat.one_pos)))
    ∧ k0_chk7 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off21 (grid0.coords t)) S1.size (k0_off21_inb (grid0.coords t))).toLoadRect (tbl m 1) (Shape.Idx.first (numel1_S1.symm ▸ Nat.one_pos)))
    ∧ k0_chk8 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off29 (grid0.coords t)) S1.size (k0_off29_inb (grid0.coords t))).toLoadRect (tbl m 0) (Shape.Idx.first (numel1_S1.symm ▸ Nat.one_pos)))
    ∧ k0_chk9 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off30 (grid0.coords t)) S1.size (k0_off30_inb (grid0.coords t))).toLoadRect (tbl m 1) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk3` the body assumes as `k0_hw3`. -/
abbrev Hyps.p0 (m : (ℓ : Loc nD τ sig) → Buf (Elt F) ℓ) (hO : Ok m) (c : Dev nD) (t : Fin (cfgM m hO).N) : Prop :=
  k0_chk3 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos)))
variable {m} in
theorem Hyps.c0 {hO : Ok m} (hH : Hyps m hO) (c : Dev nD) (t : Fin (cfgM m hO).N) :
    k0_chk3 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) := (hH c t).1
/-- Conjunct 1 of `Gen.Hyps` at point `t`: the side condition `k0_chk1` the body assumes as `k0_hw1`. -/
abbrev Hyps.p1 (m : (ℓ : Loc nD τ sig) → Buf (Elt F) ℓ) (hO : Ok m) (c : Dev nD) (t : Fin (cfgM m hO).N) : Prop :=
  k0_chk1 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off2 (grid0.coords t)) S1.size (k0_off2_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk1 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off2 (grid0.coords t)) S1.size (k0_off2_inb (grid0.coords t))).toLoadRect (tbl m 0) (Shape.Idx.first (numel1_S1.symm ▸ Nat.one_pos))) := (hH c t).2.1
/-- Conjunct 2 of `Gen.Hyps` at point `t`: the side condition `k0_chk2` the body assumes as `k0_hw2`. -/
abbrev Hyps.p2 (m : (ℓ : Loc nD τ sig) → Buf (Elt F) ℓ) (hO : Ok m) (c : Dev nD) (t : Fin (cfgM m hO).N) : Prop :=
  k0_chk2 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off3 (grid0.coords t)) S1.size (k0_off3_inb (grid0.coords t))).toLoadRect (tbl m 1) (Shape.Idx.first (numel1_S1.symm ▸ Nat.one_pos)))
variable {m} in
theorem Hyps.c2 {hO : Ok m} (hH : Hyps m hO) (c : Dev nD) (t : Fin (cfgM m hO).N) :
    k0_chk2 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off3 (grid0.coords t)) S1.size (k0_off3_inb (grid0.coords t))).toLoadRect (tbl m 1) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off11 (grid0.coords t)) S1.size (k0_off11_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off11 (grid0.coords t)) S1.size (k0_off11_inb (grid0.coords t))).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off12 (grid0.coords t)) S1.size (k0_off12_inb (grid0.coords t))).toLoadRect (tbl m 1) (Shape.Idx.first (numel1_S1.symm ▸ Nat.one_pos)))
variable {m} in
theorem Hyps.c4 {hO : Ok m} (hH : Hyps m hO) (c : Dev nD) (t : Fin (cfgM m hO).N) :
    k0_chk5 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off12 (grid0.coords t)) S1.size (k0_off12_inb (grid0.coords t))).toLoadRect (tbl m 1) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off20 (grid0.coords t)) S1.size (k0_off20_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off20 (grid0.coords t)) S1.size (k0_off20_inb (grid0.coords t))).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off21 (grid0.coords t)) S1.size (k0_off21_inb (grid0.coords t))).toLoadRect (tbl m 1) (Shape.Idx.first (numel1_S1.symm ▸ Nat.one_pos)))
variable {m} in
theorem Hyps.c6 {hO : Ok m} (hH : Hyps m hO) (c : Dev nD) (t : Fin (cfgM m hO).N) :
    k0_chk7 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off21 (grid0.coords t)) S1.size (k0_off21_inb (grid0.coords t))).toLoadRect (tbl m 1) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off29 (grid0.coords t)) S1.size (k0_off29_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_0.view.readAt (Elt F) (Rect.unit (s := S36) (k0_off29 (grid0.coords t)) S1.size (k0_off29_inb (grid0.coords t))).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off30 (grid0.coords t)) S1.size (k0_off30_inb (grid0.coords t))).toLoadRect (tbl m 1) (Shape.Idx.first (numel1_S1.symm ▸ Nat.one_pos)))
variable {m} in
theorem Hyps.c8 {hO : Ok m} (hH : Hyps m hO) (c : Dev nD) (t : Fin (cfgM m hO).N) :
    k0_chk9 (tbM0_2.view.readAt (Elt F) (Rect.unit (s := S8) (k0_off1 (grid0.coords t)) S1.size (k0_off1_inb (grid0.coords t))).toLoadRect (tbl m 2) (Shape.Idx.first (numel1_S1.symm ▸ Nat.one_pos))) (tbM0_3.view.readAt (Elt F) (Rect.unit (s := S8) (k0_off1 (grid0.coords t)) S1.size (k0_off1_inb (grid0.coords t))).toLoadRect (tbl m 3) (Shape.Idx.first (numel1_S1.symm ▸ Nat.one_pos))) (tbM0_1.view.readAt (Elt F) (Rect.unit (s := S36) (k0_off30 (grid0.coords t)) S1.size (k0_off30_inb (grid0.coords t))).toLoadRect (tbl m 1) (Shape.Idx.first (numel1_S1.symm ▸ Nat.one_pos))) := (hH c t).2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t) :
    Hyps m hO := fun c t =>
  And.intro (p0 c t) (And.intro (p1 c t) (And.intro (p2 c t) (And.intro (p3 c t) (And.intro (p4 c t) (And.intro (p5 c t) (And.intro (p6 c t) (And.intro (p7 c t) (p8 c t))))))))

end Cert.DownIdeal.Gen

end
-- ==== Proof.DownIdeal.RunA.lean ====
module

public import proofs.«01_k».proof.Proof.DownIdeal.Runs

/-! The run of one grid step of the expert Hessian kernel, under its side conditions. -/

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1040000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg6 : Memref sig .tc .smem S8 .f32) (harg6 : arg6.IsWhole) (arg7 : Memref sig .tc .smem S8 .f32) (harg7 : arg7.IsWhole) (arg8 : Memref sig .tc .vmem S2560x2048 .fp8e4m3) (harg8 : arg8.IsWhole) (arg9 : Memref sig .tc .vmem S2560x128 .f32) (harg9 : arg9.IsWhole) (arg10 : Memref sig .tc .vmem S1x4x256x256 .f32) (harg10 : arg10.IsWhole) (arg11 : Memref sig .tc .vmem S1x4x256x256 .f32) (harg11 : arg11.IsWhole)
    (x0 : Vec F S8 .f32) (x1 : Vec F S8 .f32) (x2 : Vec F S2560x2048 .fp8e4m3) (x3 : Vec F S2560x128 .f32) (x4 : Vec F S1x4x256x256 .f32) (xt0 : TbBuf0 (F := F) c tbM0_0) (xt1 : TbBuf0 (F := F) c tbM0_1) (xt2 : TbBuf0 (F := F) c tbM0_2) (xt3 : TbBuf0 (F := F) c tbM0_3) (k0_hw3 : k0_chk3 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos)))) (k0_hw1 : k0_chk1 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off2 i) S1.size (k0_off2_inb i)).toLoadRect xt0 (Shape.Idx.first (numel1_S1.symm ▸ Nat.one_pos)))) (k0_hw2 : k0_chk2 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off3 i) S1.size (k0_off3_inb i)).toLoadRect xt1 (Shape.Idx.first (numel1_S1.symm ▸ Nat.one_pos)))) (k0_hw4 : k0_chk4 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off11 i) S1.size (k0_off11_inb i)).toLoadRect xt0 (Shape.Idx.first (numel1_S1.symm ▸ Nat.one_pos)))) (k0_hw5 : k0_chk5 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off12 i) S1.size (k0_off12_inb i)).toLoadRect xt1 (Shape.Idx.first (numel1_S1.symm ▸ Nat.one_pos)))) (k0_hw6 : k0_chk6 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off20 i) S1.size (k0_off20_inb i)).toLoadRect xt0 (Shape.Idx.first (numel1_S1.symm ▸ Nat.one_pos)))) (k0_hw7 : k0_chk7 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off21 i) S1.size (k0_off21_inb i)).toLoadRect xt1 (Shape.Idx.first (numel1_S1.symm ▸ Nat.one_pos)))) (k0_hw8 : k0_chk8 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off29 i) S1.size (k0_off29_inb i)).toLoadRect xt0 (Shape.Idx.first (numel1_S1.symm ▸ Nat.one_pos)))) (k0_hw9 : k0_chk9 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off30 i) S1.size (k0_off30_inb i)).toLoadRect xt1 (Shape.Idx.first (numel1_S1.symm ▸ Nat.one_pos)))) :
    { L5 : List (View.Piece (Elt F) S1x4x256x256 .f32) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (∃ d, owns (c : Thread nD τ) arg11 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ (∃ f, arg11.view.loc (c : Thread nD τ) ↦[arg11.view.set]{fullShare} arg11.view.writes (Elt F) f L5) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_hdown i tbM0_0 htbM0_0 tbM0_1 htbM0_1 tbM0_2 htbM0_2 tbM0_3 htbM0_3 arg6 harg6 arg7 harg7 arg8 harg8 arg9 harg9 arg10 harg10 arg11 harg11) K } := by
  refine ⟨?_, fun E K => ?run⟩
  case run =>
    simp only [cc0_hdown_eq_skeleton]; unfold cc0_hdown_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4
    sl_exec (disch := first | sl_exact k0_hw3 | sl_exact k0_hw1 | sl_exact k0_hw2 | sl_exact k0_hw4 | sl_exact k0_hw5 | sl_exact k0_hw6 | sl_exact k0_hw7 | sl_exact k0_hw8 | sl_exact k0_hw9)
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]; · iexists _; iexact H5
    isplitl [HT0]; · iexact HT0
    isplitl [HT1]; · iexact HT1
    isplitl [HT2]; · iexact HT2
    iexact HT3

end Cert.DownIdeal.Gen

end
-- ==== Proof.DownIdeal.Frame.lean ====
module

public import proofs.«01_k».proof.Proof.DownIdeal.RunA
public import Idealize.ShloMosaic.Lib.Claim

/-! The whole run of the program with the expert Hessian call, under the side conditions `Hyps`: it ends without
    fault, its arguments end as they began, and its results are named. -/

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 5 tile its block (4 stores of `S1x1x256x256`, checked by the kernel's evaluation: Lib/Ring.lean `Piece.tiledL`, linear in the pieces, through a loop's `@[irreducible]` trip theorem too), so they cover it. -/
theorem cover0_A_5 (c : Dev nD) (i : grid0.Coords) (arg6 : Memref sig .tc .smem S8 .f32) (harg6 : arg6.IsWhole) (arg7 : Memref sig .tc .smem S8 .f32) (harg7 : arg7.IsWhole) (arg8 : Memref sig .tc .vmem S2560x2048 .fp8e4m3) (harg8 : arg8.IsWhole) (arg9 : Memref sig .tc .vmem S2560x128 .f32) (harg9 : arg9.IsWhole) (arg10 : Memref sig .tc .vmem S1x4x256x256 .f32) (harg10 : arg10.IsWhole) (arg11 : Memref sig .tc .vmem S1x4x256x256 .f32) (harg11 : arg11.IsWhole)
    (x0 : Vec F S8 .f32) (x1 : Vec F S8 .f32) (x2 : Vec F S2560x2048 .fp8e4m3) (x3 : Vec F S2560x128 .f32) (x4 : Vec F S1x4x256x256 .f32) (xt0 : TbBuf0 (F := F) c tbM0_0) (xt1 : TbBuf0 (F := F) c tbM0_1) (xt2 : TbBuf0 (F := F) c tbM0_2) (xt3 : TbBuf0 (F := F) c tbM0_3) (k0_hw3 : k0_chk3 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos)))) (k0_hw1 : k0_chk1 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off2 i) S1.size (k0_off2_inb i)).toLoadRect xt0 (Shape.Idx.first (numel1_S1.symm ▸ Nat.one_pos)))) (k0_hw2 : k0_chk2 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off3 i) S1.size (k0_off3_inb i)).toLoadRect xt1 (Shape.Idx.first (numel1_S1.symm ▸ Nat.one_pos)))) (k0_hw4 : k0_chk4 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off11 i) S1.size (k0_off11_inb i)).toLoadRect xt0 (Shape.Idx.first (numel1_S1.symm ▸ Nat.one_pos)))) (k0_hw5 : k0_chk5 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off12 i) S1.size (k0_off12_inb i)).toLoadRect xt1 (Shape.Idx.first (numel1_S1.symm ▸ Nat.one_pos)))) (k0_hw6 : k0_chk6 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off20 i) S1.size (k0_off20_inb i)).toLoadRect xt0 (Shape.Idx.first (numel1_S1.symm ▸ Nat.one_pos)))) (k0_hw7 : k0_chk7 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off21 i) S1.size (k0_off21_inb i)).toLoadRect xt1 (Shape.Idx.first (numel1_S1.symm ▸ Nat.one_pos)))) (k0_hw8 : k0_chk8 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off29 i) S1.size (k0_off29_inb i)).toLoadRect xt0 (Shape.Idx.first (numel1_S1.symm ▸ Nat.one_pos)))) (k0_hw9 : k0_chk9 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off30 i) S1.size (k0_off30_inb i)).toLoadRect xt1 (Shape.Idx.first (numel1_S1.symm ▸ Nat.one_pos)))) (y : S1x4x256x256.Idx) :
    ∃ pc ∈ (kernelRun0_A c i arg6 harg6 arg7 harg7 arg8 harg8 arg9 harg9 arg10 harg10 arg11 harg11 x0 x1 x2 x3 x4 xt0 xt1 xt2 xt3 k0_hw3 k0_hw1 k0_hw2 k0_hw4 k0_hw5 k0_hw6 k0_hw7 k0_hw8 k0_hw9).1, y ∈ pc.1.set :=
  View.cover_of_tiledL (kernelRun0_A c i arg6 harg6 arg7 harg7 arg8 harg8 arg9 harg9 arg10 harg10 arg11 harg11 x0 x1 x2 x3 x4 xt0 xt1 xt2 xt3 k0_hw3 k0_hw1 k0_hw2 k0_hw4 k0_hw5 k0_hw6 k0_hw7 k0_hw8 k0_hw9).1 S1x1x256x256.size (by sl_kernel_rfl) y

/-- What the run leaves in output 5's staging buffer: its pieces read back over junk. -/
def out0_A_5 (c : Dev nD) (i : grid0.Coords) (arg6 : Memref sig .tc .smem S8 .f32) (harg6 : arg6.IsWhole) (arg7 : Memref sig .tc .smem S8 .f32) (harg7 : arg7.IsWhole) (arg8 : Memref sig .tc .vmem S2560x2048 .fp8e4m3) (harg8 : arg8.IsWhole) (arg9 : Memref sig .tc .vmem S2560x128 .f32) (harg9 : arg9.IsWhole) (arg10 : Memref sig .tc .vmem S1x4x256x256 .f32) (harg10 : arg10.IsWhole) (arg11 : Memref sig .tc .vmem S1x4x256x256 .f32) (harg11 : arg11.IsWhole)
    (x0 : Vec F S8 .f32) (x1 : Vec F S8 .f32) (x2 : Vec F S2560x2048 .fp8e4m3) (x3 : Vec F S2560x128 .f32) (x4 : Vec F S1x4x256x256 .f32) (xt0 : TbBuf0 (F := F) c tbM0_0) (xt1 : TbBuf0 (F := F) c tbM0_1) (xt2 : TbBuf0 (F := F) c tbM0_2) (xt3 : TbBuf0 (F := F) c tbM0_3) (k0_hw3 : k0_chk3 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos)))) (k0_hw1 : k0_chk1 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off2 i) S1.size (k0_off2_inb i)).toLoadRect xt0 (Shape.Idx.first (numel1_S1.symm ▸ Nat.one_pos)))) (k0_hw2 : k0_chk2 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off3 i) S1.size (k0_off3_inb i)).toLoadRect xt1 (Shape.Idx.first (numel1_S1.symm ▸ Nat.one_pos)))) (k0_hw4 : k0_chk4 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off11 i) S1.size (k0_off11_inb i)).toLoadRect xt0 (Shape.Idx.first (numel1_S1.symm ▸ Nat.one_pos)))) (k0_hw5 : k0_chk5 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off12 i) S1.size (k0_off12_inb i)).toLoadRect xt1 (Shape.Idx.first (numel1_S1.symm ▸ Nat.one_pos)))) (k0_hw6 : k0_chk6 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off20 i) S1.size (k0_off20_inb i)).toLoadRect xt0 (Shape.Idx.first (numel1_S1.symm ▸ Nat.one_pos)))) (k0_hw7 : k0_chk7 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off21 i) S1.size (k0_off21_inb i)).toLoadRect xt1 (Shape.Idx.first (numel1_S1.symm ▸ Nat.one_pos)))) (k0_hw8 : k0_chk8 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_0.view.readAt (Elt F) (Rect.unit (s := S36) (k0_off29 i) S1.size (k0_off29_inb i)).toLoadRect xt0 (Shape.Idx.first (numel1_S1.symm ▸ Nat.one_pos)))) (k0_hw9 : k0_chk9 (tbM0_2.view.readAt (Elt F) (Rect.unit (s := S8) (k0_off1 i) S1.size (k0_off1_inb i)).toLoadRect xt2 (Shape.Idx.first (numel1_S1.symm ▸ Nat.one_pos))) (tbM0_3.view.readAt (Elt F) (Rect.unit (s := S8) (k0_off1 i) S1.size (k0_off1_inb i)).toLoadRect xt3 (Shape.Idx.first (numel1_S1.symm ▸ Nat.one_pos))) (tbM0_1.view.readAt (Elt F) (Rect.unit (s := S36) (k0_off30 i) S1.size (k0_off30_inb i)).toLoadRect xt1 (Shape.Idx.first (numel1_S1.symm ▸ Nat.one_pos)))) : Vec F S1x4x256x256 .f32 :=
  VO0_5.read (Elt F) (VO0_5.writes (Elt F) VO0_5.junk (kernelRun0_A c i arg6 harg6 arg7 harg7 arg8 harg8 arg9 harg9 arg10 harg10 arg11 harg11 x0 x1 x2 x3 x4 xt0 xt1 xt2 xt3 k0_hw3 k0_hw1 k0_hw2 k0_hw4 k0_hw5 k0_hw6 k0_hw7 k0_hw8 k0_hw9).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S1x4x256x256 .f32 :=
  out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) (tbl m 3) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO hH c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t))

/-- The body at any point: the inputs' memrefs hold their blocks (`before0_W`); so the
    run applies; the invariant passes through unread; the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq]
  unfold outsAt0
  unfold out0_A_5
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) (tbl m 2) (tbl m 3) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  isplitl [HT2]; · iexact HT2
  isplitl [HT3]; · iexact HT3
  iintro ⟨H0, H1, H2, H3, H4, ⟨%e5, H5⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (Pipeline.afterTail pcfgs (fun _ => adm m hO) (dats m hO hH) 0 (V0 m) [hostOps1])) r ∧ r.2.sem = fun _ => 0) :=
  Pipeline.θ_run_frameP_around (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hH) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (Pipeline.afterTail pcfgs (fun _ => adm m hO) (dats m hO hH) 0 (V0 m) [hostOps1])) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO hH) (A_eq m hO hH) (run_main m ρ hO hH)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.DownIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hH) ((θ_run defs _ _).mono (fun _ h => h.2) (run_main_quiescent m ρ hO hH))

end Cert.DownIdeal.Gen

end
-- ==== Proof.DownIdeal.Checks.lean ====
module

public import proofs.«01_k».proof.Proof.DownWords.Words
public import proofs.«01_k».proof.Proof.DownIdeal.Frame

/-! The side conditions of the expert Hessian kernel's loads, from bounds on the words it reads: the expert's first
    row is not negative, its end row is at most 2560, and the tile numbers are below 8. -/

@[expose] public section

namespace Cert.DownIdeal
open Idealize.ShloMosaic Cert.DownIdeal.Gen Cert.DownWords

section
variable {v1 v3 : BitVec 32} (h1 : v1.toNat < 2 ^ 31) (h3 : v3.toInt ≤ 2560)
include h1 h3

/-- A chunk's rows lie in the array, for a window of 256 rows and any column offset that fits. -/
theorem chunk_inb (k : Fin (Scf.trips 0#32 (ub v1 v3) 1#32)) (cs : ℕ) (n N : ℕ) (hc : cs + n ≤ N) :
    ∀ a : Fin 2, (![(Scalar.indexCast (row v1 (Scf.iv 0#32 1#32 k.val))).toNat, cs] : Fin 2 → ℕ) a
      + (![256, n] : Fin 2 → ℕ) a ≤ (![2560, N] : Fin 2 → ℕ) a := by
  obtain ⟨ha, hk⟩ := first_le h1 h3 k.isLt
  have hr : (Scalar.indexCast (row v1 (Scf.iv 0#32 1#32 k.val))).toNat = r0 v1.toNat k.val := row_toNat h1 ha hk
  have := r0_le v1.toNat k.val
  intro a
  match a with
  | ⟨0, _⟩ => show (Scalar.indexCast (row v1 (Scf.iv 0#32 1#32 k.val))).toNat + 256 ≤ 2560; omega
  | ⟨1, _⟩ => exact hc

/-- A chunk's first row is a multiple of 32. -/
theorem chunk_dvd (k : Fin (Scf.trips 0#32 (ub v1 v3) 1#32)) : 32 ∣ (row v1 (Scf.iv 0#32 1#32 k.val)).toNat := by
  obtain ⟨ha, hk⟩ := first_le h1 h3 k.isLt
  rw [row_toNat h1 ha hk]; exact r0_dvd _ _

theorem col_inb (k : Fin (Scf.trips 0#32 (ub v1 v3) 1#32)) {w : BitVec 32} (hw : w.toNat < 8) :
    ∀ a : Fin 2, (![(Scalar.indexCast (row v1 (Scf.iv 0#32 1#32 k.val))).toNat,
        (Scalar.indexCast (Scalar.muli w 256#32)).toNat] : Fin 2 → ℕ) a
      + (![256, 256] : Fin 2 → ℕ) a ≤ (![2560, 2048] : Fin 2 → ℕ) a :=
  chunk_inb h1 h3 k _ 256 2048 (by rw [col_toNat w hw]; omega)

omit h1 h3 in
theorem rem_none {P : Prop} (v1 v3 : BitVec 32) (k : Fin (k0_t2_loop v1 v3).trips) : P :=
  (Scf.rem_no_trip _ _ k).elim

theorem chk1 {w : BitVec 32} (hw : w.toNat < 8) : k0_chk1 v1 v3 w :=
  ⟨col_dvd w hw, fun k => col_inb h1 h3 k hw, fun k => rem_none v1 v3 k⟩
theorem chk2 {w : BitVec 32} (hw : w.toNat < 8) : k0_chk2 v1 v3 w :=
  ⟨col_dvd w hw, fun k => col_inb h1 h3 k hw, fun k => rem_none v1 v3 k⟩
theorem chk4 {w : BitVec 32} (hw : w.toNat < 8) : k0_chk4 v1 v3 w :=
  ⟨col_dvd w hw, fun k => col_inb h1 h3 k hw, fun k => rem_none v1 v3 k⟩
theorem chk5 {w : BitVec 32} (hw : w.toNat < 8) : k0_chk5 v1 v3 w :=
  ⟨col_dvd w hw, fun k => col_inb h1 h3 k hw, fun k => rem_none v1 v3 k⟩
theorem chk6 {w : BitVec 32} (hw : w.toNat < 8) : k0_chk6 v1 v3 w :=
  ⟨col_dvd w hw, fun k => col_inb h1 h3 k hw, fun k => rem_none v1 v3 k⟩
theorem chk7 {w : BitVec 32} (hw : w.toNat < 8) : k0_chk7 v1 v3 w :=
  ⟨col_dvd w hw, fun k => col_inb h1 h3 k hw, fun k => rem_none v1 v3 k⟩
theorem chk8 {w : BitVec 32} (hw : w.toNat < 8) : k0_chk8 v1 v3 w :=
  ⟨col_dvd w hw, fun k => col_inb h1 h3 k hw, fun k => rem_none v1 v3 k⟩
theorem chk9 {w : BitVec 32} (hw : w.toNat < 8) : k0_chk9 v1 v3 w :=
  ⟨col_dvd w hw, fun k => col_inb h1 h3 k hw, fun k => rem_none v1 v3 k⟩

theorem chk3 : k0_chk3 v1 v3 :=
  have d := chunk_dvd h1 h3
  have b : ∀ k : Fin (Scf.trips 0#32 (ub v1 v3) 1#32), ∀ a : Fin 2, (![(Scalar.indexCast (row v1 (Scf.iv 0#32 1#32 k.val))).toNat, 0] : Fin 2 → ℕ) a
      + (![256, 1] : Fin 2 → ℕ) a ≤ (![2560, 128] : Fin 2 → ℕ) a := fun k => chunk_inb h1 h3 k 0 1 128 (by decide)
  have o := loop_ok h1 h3
  have r : (k0_t2_loop v1 v3).OK := Scf.rem_ok _ _
  ⟨o, d, b, r, fun k => rem_none v1 v3 k, fun k => rem_none v1 v3 k,
   o, d, b, r, fun k => rem_none v1 v3 k, fun k => rem_none v1 v3 k,
   o, d, b, r, fun k => rem_none v1 v3 k, fun k => rem_none v1 v3 k,
   o, d, b, r, fun k => rem_none v1 v3 k, fun k => rem_none v1 v3 k⟩

end

end Cert.DownIdeal
-- ==== Proof.DownIdeal.Entry.lean ====
module

public import proofs.«01_k».proof.Proof.DownIdeal.Checks
public import Idealize.ShloMosaic.Lib.StableHlo.RunRead
public import Idealize.ShloMosaic.Lib.Pointwise

/-! What the host operations leave when the region is entered: the tile tables, the experts' first and end rows, and
    the two coefficients. -/

@[expose] public section

set_option maxRecDepth 16384

noncomputable section

namespace Cert.DownIdeal
open Cert.DownIdeal.Gen
open Idealize.ShloMosaic Idealize.ShloMosaic.TcCoe Idealize.ShloMosaic.Tactic

variable {F : FTy → Type} [FloatOps F]
variable (m : (ℓ : Loc nD τ sig) → Buf (Elt F) ℓ)

/-- Each expert's first row: the sum of the group sizes before it. -/
def offs (g : Vec F S8 .i32) : Vec F S8 .i32 :=
  subi (Host.reduceWindow IntOp.addi ![8] ![1] ![7] ![0] g (broadcastInDim S_ ![] bcast_S_S_ (constantI S_ 32 0#32))
    reduceWindows_S8_S8_w8s1p7_0 h_S_) g

/-- Each expert's end row: the group's end, or the end of its window of 1280 rows. -/
def ends (g : Vec F S8 .i32) : Vec F S8 .i32 :=
  minsi (addi (offs (F := F) g) g)
    (addi (minsi (offs (F := F) g) (broadcastInDim S8 ![] bcast_S_S8 (constantI S_ 32 1280#32)))
      (broadcastInDim S8 ![] bcast_S_S8 (constantI S_ 32 1280#32)))

/-- The count of rows after the call, as a float. -/
def tot (g n : Vec F S8 .i32) : Vec F S8 .f32 := addf (sitofp .f32 n) (sitofp .f32 g)

theorem V_c (c : Dev nD) : V m c main_c = ((fun i => lit0 (S36.rowMajor i)) : Vec F S36 .i32) := by
  dsimp only [V]
  after_reads_simp
  rfl

theorem V_c_0 (c : Dev nD) : V m c main_c_0 = ((fun i => lit1 (S36.rowMajor i)) : Vec F S36 .i32) := by
  dsimp only [V]
  after_reads_simp
  rfl

theorem V_v1 (c : Dev nD) : V m c main_v1 = offs (F := F) (m ((c : Thread nD τ).loc main_arg0)) := by
  dsimp only [V]
  after_reads_simp
  simp only [StableHlo.TRef.ofBuf, StableHlo.TRef.toBuf, cast_eq]
  rfl

theorem V_v7 (c : Dev nD) : V m c main_v7 = ends (F := F) (m ((c : Thread nD τ).loc main_arg0)) := by
  dsimp only [V]
  after_reads_simp
  simp only [StableHlo.TRef.ofBuf, StableHlo.TRef.toBuf, cast_eq]
  rfl

theorem V_v11 (c : Dev nD) : V m c main_v11
    = Host.divf (sitofp .f32 (m ((c : Thread nD τ).loc main_arg4))) (tot (m ((c : Thread nD τ).loc main_arg0)) (m ((c : Thread nD τ).loc main_arg4))) := by
  dsimp only [V]
  after_reads_simp
  rfl

theorem V_v13 (c : Dev nD) : V m c main_v13
    = Host.divf (broadcastInDim S8 ![] bcast_S_S8 (constant S_ .f32 0x40000000#32)) (tot (m ((c : Thread nD τ).loc main_arg0)) (m ((c : Thread nD τ).loc main_arg4))) := by
  dsimp only [V]
  after_reads_simp
  rfl

theorem lit_lt : ∀ k : Fin 36, (lit0 k).toNat < 8 ∧ (lit1 k).toNat < 8 := by decide +kernel

/-- The end row is at most 2560. -/
theorem ends_le (g : Vec F S8 .i32) (e : S8.Idx) : (ends (F := F) g e : BitVec 32).toInt ≤ 2560 := by
  have key : ∀ x a : BitVec 32, (IntOp.minsi x (IntOp.addi (IntOp.minsi a 1280#32) 1280#32)).toInt ≤ 2560 := by
    intro x a
    have h1 : (IntOp.addi (IntOp.minsi a 1280#32) 1280#32 : BitVec 32).toInt ≤ 2560 := by
      have hm : (IntOp.minsi a 1280#32 : BitVec 32).toInt ≤ 1280 := by
        unfold IntOp.minsi
        split
        · rename_i h; rw [BitVec.slt_iff_toInt_lt] at h; exact le_of_lt h
        · decide
      generalize (IntOp.minsi a 1280#32 : BitVec 32) = b at hm
      show (b + 1280#32 : BitVec 32).toInt ≤ 2560
      have hb := BitVec.toInt_eq_toNat_cond b
      have hs := BitVec.toInt_eq_toNat_cond (b + 1280#32)
      have hl := b.isLt
      rw [BitVec.toNat_add] at hs
      change _ = if 2 * ((b.toNat + 1280) % 2 ^ 32) < 2 ^ 32 then (((b.toNat + 1280) % 2 ^ 32 : ℕ) : Int) else (((b.toNat + 1280) % 2 ^ 32 : ℕ) : Int) - (2 ^ 32 : ℕ) at hs
      split at hb <;> split at hs <;> omega
    generalize (IntOp.addi (IntOp.minsi a 1280#32) 1280#32 : BitVec 32) = y at h1
    unfold IntOp.minsi
    split
    · rename_i h; rw [BitVec.slt_iff_toInt_lt] at h; omega
    · exact h1
  exact key _ _

end Cert.DownIdeal
-- ==== Proof.DownIdeal.Tables.lean ====
module

public import proofs.«01_k».proof.Proof.DownIdeal.Entry
public import proofs.«01_k».proof.Pre_offsets_nonneg
public import Idealize.ShloMosaic.Lib.Pointwise.Reshape

/-! The words the kernel reads from its tables at a grid point, and its side conditions from nonnegative first rows. -/

@[expose] public section

set_option maxRecDepth 16384

noncomputable section

namespace Cert.DownIdeal
open Cert.DownIdeal.Gen
open Idealize.ShloMosaic Idealize.ShloMosaic.TcCoe Idealize.ShloMosaic.Tactic

variable {F : FTy → Type} [FloatOps F]
variable (m : (ℓ : Loc nD τ sig) → Buf (Elt F) ℓ)

theorem read_off (i : grid0.Coords) :
    tbM0_2.view.readAt (Elt F) (Rect.unit (s := S8) (k0_off1 i) S1.size (k0_off1_inb i)).toLoadRect (tbl m 2)
      (Shape.Idx.first (numel1_S1.symm ▸ Nat.one_pos)) = V m 0 main_v1 (Idealize.ShloMosaic.ix1 (i 0)) := by
  refine congrArg (V m 0 main_v1) (funext fun a => Fin.ext ?_)
  match a with
  | ⟨0, _⟩ =>
    have h := (i 0).isLt
    change (i 0).val < 8 at h
    show (BitVec.ofNat 32 (i 0).val).toNat + 1 * 0 = (i 0).val
    rw [BitVec.toNat_ofNat]; omega

theorem read_end (i : grid0.Coords) :
    tbM0_3.view.readAt (Elt F) (Rect.unit (s := S8) (k0_off1 i) S1.size (k0_off1_inb i)).toLoadRect (tbl m 3)
      (Shape.Idx.first (numel1_S1.symm ▸ Nat.one_pos)) = V m 0 main_v7 (Idealize.ShloMosaic.ix1 (i 0)) := by
  refine congrArg (V m 0 main_v7) (funext fun a => Fin.ext ?_)
  match a with
  | ⟨0, _⟩ =>
    have h := (i 0).isLt
    change (i 0).val < 8 at h
    show (BitVec.ofNat 32 (i 0).val).toNat + 1 * 0 = (i 0).val
    rw [BitVec.toNat_ofNat]; omega

theorem read_ti (off : Fin 1 → ℕ) (h : ∀ a, off a + S1.size a ≤ S36.size a) :
    tbM0_0.view.readAt (Elt F) (Rect.unit (s := S36) off S1.size h).toLoadRect (tbl m 0)
      (Shape.Idx.first (numel1_S1.symm ▸ Nat.one_pos)) = (lit0 (Fin.ofNat 36 (off 0)) : BitVec 32) := by
  refine (congrFun (V_c m 0) _).trans (congrArg lit0 (Fin.ext ?_))
  refine (rowMajor_val1 _).trans ?_
  have h0 := h 0
  change off 0 + 1 ≤ 36 at h0
  show off 0 + 1 * 0 = off 0 % 36
  omega

theorem read_tj (off : Fin 1 → ℕ) (h : ∀ a, off a + S1.size a ≤ S36.size a) :
    tbM0_1.view.readAt (Elt F) (Rect.unit (s := S36) off S1.size h).toLoadRect (tbl m 1)
      (Shape.Idx.first (numel1_S1.symm ▸ Nat.one_pos)) = (lit1 (Fin.ofNat 36 (off 0)) : BitVec 32) := by
  refine (congrFun (V_c_0 m 0) _).trans (congrArg lit1 (Fin.ext ?_))
  refine (rowMajor_val1 _).trans ?_
  have h0 := h 0
  change off 0 + 1 ≤ 36 at h0
  show off 0 + 1 * 0 = off 0 % 36
  omega

theorem step_word (t k : ℕ) (ht : t < 9) (hk : k < 4) :
    (Scalar.indexCast (Scalar.addi (Scalar.muli (BitVec.ofNat 32 t) 4#32) (BitVec.ofNat 32 k))).toNat = 4 * t + k := by
  show (BitVec.ofNat 32 t * 4#32 + BitVec.ofNat 32 k).toNat = _
  rw [BitVec.toNat_add, BitVec.toNat_mul, BitVec.toNat_ofNat, BitVec.toNat_ofNat, BitVec.toNat_ofNat]
  omega

theorem off2_val (i : grid0.Coords) : k0_off2 i 0 = 4 * (i 1).val + 0 := step_word (i 1).val 0 (i 1).isLt (by decide)
theorem off11_val (i : grid0.Coords) : k0_off11 i 0 = 4 * (i 1).val + 1 := step_word (i 1).val 1 (i 1).isLt (by decide)
theorem off20_val (i : grid0.Coords) : k0_off20 i 0 = 4 * (i 1).val + 2 := step_word (i 1).val 2 (i 1).isLt (by decide)
theorem off29_val (i : grid0.Coords) : k0_off29 i 0 = 4 * (i 1).val + 3 := step_word (i 1).val 3 (i 1).isLt (by decide)

/-- Every expert's first row is not negative. -/
def Nonneg : Prop := ∀ e : Fin 8, (V m 0 main_v1 (Idealize.ShloMosaic.ix1 e) : BitVec 32).toNat < 2 ^ 31

/-- The windows need nothing of the tables. -/
theorem ok : Ok m := trivial

variable {m}

theorem end_le (e : Fin 8) : (V m 0 main_v7 (Idealize.ShloMosaic.ix1 e) : BitVec 32).toInt ≤ 2560 := by
  rw [V_v7]; exact ends_le _ _

/-- The side conditions hold of nonnegative first rows. -/
theorem hyps (hn : Nonneg m) : Hyps m (ok m) := by
  refine Hyps.of (fun c t => ?_) (fun c t => ?_) (fun c t => ?_) (fun c t => ?_) (fun c t => ?_) (fun c t => ?_)
    (fun c t => ?_) (fun c t => ?_) (fun c t => ?_)
  all_goals simp only [Hyps.p0, Hyps.p1, Hyps.p2, Hyps.p3, Hyps.p4, Hyps.p5, Hyps.p6, Hyps.p7, Hyps.p8]
  all_goals rw [read_off m, read_end m]
  · exact chk3 (hn _) (end_le _)
  · rw [read_ti m]; exact chk1 (hn _) (end_le _) (lit_lt _).1
  · rw [read_tj m]; exact chk2 (hn _) (end_le _) (lit_lt _).2
  · rw [read_ti m]; exact chk4 (hn _) (end_le _) (lit_lt _).1
  · rw [read_tj m]; exact chk5 (hn _) (end_le _) (lit_lt _).2
  · rw [read_ti m]; exact chk6 (hn _) (end_le _) (lit_lt _).1
  · rw [read_tj m]; exact chk7 (hn _) (end_le _) (lit_lt _).2
  · rw [read_ti m]; exact chk8 (hn _) (end_le _) (lit_lt _).1
  · rw [read_tj m]; exact chk9 (hn _) (end_le _) (lit_lt _).2

/-- The precondition says that no first row is negative. -/
theorem nonneg_of_pre [hP : Cert.Pre_offsets_nonneg.Facts]
    (h : (Cert.Pre_offsets_nonneg.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4))) = (fun _ => 1#1)) : Nonneg m := by
  intro e
  have he := congrFun h (Idealize.ShloMosaic.ix1 (n0 := 8) e)
  rw [V_v1]
  change BitVec.ofBool (BitVec.sle 0#32 (offs (F := F) (m (((0 : Dev nD).tc : Thread nD τ).loc main_arg0)) (Idealize.ShloMosaic.ix1 e))) = 1#1 at he
  generalize (offs (F := F) (m (((0 : Dev nD).tc : Thread nD τ).loc main_arg0)) (Idealize.ShloMosaic.ix1 e) : BitVec 32) = w at he ⊢
  have hs : BitVec.sle 0#32 w = true := by
    cases hb : BitVec.sle 0#32 w
    · rw [hb] at he; exact absurd he (by decide)
    · rfl
  rw [BitVec.sle_iff_toInt_le] at hs
  have hw := BitVec.toInt_eq_toNat_cond w
  have hl := w.isLt
  change (0 : Int) ≤ w.toInt at hs
  split at hw <;> omega

end Cert.DownIdeal
-- ==== Proof.DownWords.Sum.lean ====
module

public import proofs.«01_k».proof.Proof.DownWords.Words
public import Mathlib.Algebra.BigOperators.Fin
public import Mathlib.Algebra.BigOperators.Intervals

/-! A sum over an expert's chunks of rows, each chunk masked to its own rows, is the sum over the expert's rows. -/

@[expose] public section

namespace Cert.DownWords

/-- Row `t` of the array counts in chunk `c` of the expert with rows from `o` to `e`. -/
abbrev Counts (o : ℕ) (e : Int) (c t : ℕ) : Prop := (o ≤ t ∧ o / 32 * 32 + 256 * c ≤ t) ∧ (t : Int) < e

/-- One chunk, as a sum over the whole array. -/
theorem chunk_sum {M : Type} [AddCommMonoid M] (o : ℕ) (e : Int) (c : ℕ) (f : ℕ → M) :
    (∑ r : Fin 256, if Counts o e c (r0 o c + r.val) then f (r0 o c + r.val) else 0)
      = ∑ t : Fin 2560, if Counts o e c t.val ∧ t.val < o / 32 * 32 + 256 * c + 256 then f t.val else 0 := by
  rw [Finset.sum_fin_eq_sum_range, Finset.sum_fin_eq_sum_range]
  rw [← Finset.sum_filter_add_sum_filter_not (Finset.range 2560) (fun t => r0 o c ≤ t ∧ t < r0 o c + 256)]
  have hz : ∑ t ∈ (Finset.range 2560).filter (fun t => ¬ (r0 o c ≤ t ∧ t < r0 o c + 256)),
      (if h : t < 2560 then (if Counts o e c t ∧ t < o / 32 * 32 + 256 * c + 256 then f t else 0) else 0) = 0 := by
    refine Finset.sum_eq_zero fun t ht => ?_
    rw [Finset.mem_filter, Finset.mem_range] at ht
    rw [dif_pos ht.1, if_neg]
    rintro ⟨⟨⟨h1, h2⟩, h3⟩, h4⟩
    have h5 := ht.2
    unfold r0 at h5
    omega
  have e2 : (∑ x ∈ Finset.range 2560 with ¬ (r0 o c ≤ x ∧ x < r0 o c + 256),
      if h : x < 2560 then if Counts o e c (⟨x, h⟩ : Fin 2560).val ∧ (⟨x, h⟩ : Fin 2560).val < o / 32 * 32 + 256 * c + 256 then f (⟨x, h⟩ : Fin 2560).val else 0 else 0) = 0 := hz
  rw [e2, add_zero]
  symm
  refine Finset.sum_nbij' (fun t => t - r0 o c) (fun r => r0 o c + r) ?_ ?_ ?_ ?_ ?_
  · intro t ht
    rw [Finset.mem_filter] at ht
    rw [Finset.mem_range]; omega
  · intro r hr
    rw [Finset.mem_range] at hr
    rw [Finset.mem_filter, Finset.mem_range]
    have := r0_le o c
    omega
  · intro t ht
    rw [Finset.mem_filter] at ht
    show r0 o c + (t - r0 o c) = t
    omega
  · intro r hr
    show r0 o c + r - r0 o c = r
    omega
  · intro t ht
    rw [Finset.mem_filter, Finset.mem_range] at ht
    have e1 : r0 o c + (t - r0 o c) = t := by omega
    have e3 : t - r0 o c < 256 := by omega
    rw [dif_pos ht.1, dif_pos e3]
    show (if Counts o e c t ∧ t < o / 32 * 32 + 256 * c + 256 then f t else 0) = if Counts o e c (r0 o c + (t - r0 o c)) then f (r0 o c + (t - r0 o c)) else 0
    rw [e1]
    by_cases hc : Counts o e c t
    · rw [if_pos hc, if_pos]
      refine ⟨hc, ?_⟩
      have h2 := hc.1.2
      have h5 := ht.2.2
      unfold r0 at h5
      omega
    · rw [if_neg hc, if_neg (fun h => hc h.1)]

/-- All the expert's chunks together. -/
theorem chunks_sum {M : Type} [AddCommMonoid M] (o : ℕ) (e : Int) (f : ℕ → M) :
    (∑ c ∈ Finset.range (chunks o e), ∑ r : Fin 256, if Counts o e c (r0 o c + r.val) then f (r0 o c + r.val) else 0)
      = ∑ t : Fin 2560, if o ≤ t.val ∧ (t.val : Int) < e then f t.val else 0 := by
  rw [Finset.sum_congr rfl (fun c _ => chunk_sum o e c f), Finset.sum_comm]
  refine Finset.sum_congr rfl fun t _ => ?_
  by_cases h : o ≤ t.val ∧ (t.val : Int) < e
  · rw [if_pos h]
    rw [Finset.sum_eq_single ((t.val - o / 32 * 32) / 256)]
    · rw [if_pos]
      refine ⟨⟨⟨h.1, ?_⟩, h.2⟩, ?_⟩ <;> omega
    · intro c _ hc
      rw [if_neg]
      rintro ⟨⟨⟨h1, h2⟩, h3⟩, h4⟩
      omega
    · intro hn
      exfalso
      apply hn
      rw [Finset.mem_range]
      unfold chunks
      rw [if_pos (by omega)]
      omega
  · rw [if_neg h]
    refine Finset.sum_eq_zero fun c _ => if_neg ?_
    rintro ⟨⟨⟨h1, h2⟩, h3⟩, h4⟩
    exact h ⟨h1, h3⟩

end Cert.DownWords
-- ==== Proof.DownWords.Mask.lean ====
module

public import proofs.«01_k».proof.Proof.DownWords.Sum

/-! The mask of a chunk's row, as the kernel computes it on words. -/

@[expose] public section

namespace Cert.DownWords
open Idealize.ShloMosaic

theorem toInt_of_lt {x : BitVec 32} (h : x.toNat < 2 ^ 31) : x.toInt = (x.toNat : Int) := WordCmp.toInt_eq_toNat_of_lt_half h

/-- Row `r` of chunk `c` is kept exactly when it is one of the expert's rows in that chunk. -/
theorem mask_eq {v1 v3 : BitVec 32} (h1 : v1.toNat < 2 ^ 31) (ha : v1.toNat ≤ 2560) {c : ℕ} (hc : c < 11) (r : Fin 256) :
    IntOp.andi
      (IntOp.cmpi .sge (IntOp.addi (row v1 (Scf.iv 0#32 1#32 c)) (BitVec.ofNat 32 r.val))
        (Scalar.maxsi v1 (Scalar.addi (base v1) (Scalar.muli (Scf.iv 0#32 1#32 c) 256#32))))
      (IntOp.cmpi .slt (IntOp.addi (row v1 (Scf.iv 0#32 1#32 c)) (BitVec.ofNat 32 r.val)) v3)
      = BitVec.ofBool (decide (Counts v1.toNat v3.toInt c (r0 v1.toNat c + r.val))) := by
  have hx : (IntOp.addi (row v1 (Scf.iv 0#32 1#32 c)) (BitVec.ofNat 32 r.val) : BitVec 32).toNat = r0 v1.toNat c + r.val := by
    show (row v1 (Scf.iv 0#32 1#32 c) + BitVec.ofNat 32 r.val : BitVec 32).toNat = _
    rw [BitVec.toNat_add, row_toNat h1 ha hc, BitVec.toNat_ofNat]
    have := r0_le v1.toNat c
    omega
  have hl := lo_toNat h1 ha hc
  generalize (IntOp.addi (row v1 (Scf.iv 0#32 1#32 c)) (BitVec.ofNat 32 r.val) : BitVec 32) = x at hx ⊢
  generalize (Scalar.addi (base v1) (Scalar.muli (Scf.iv 0#32 1#32 c) 256#32) : BitVec 32) = l at hl ⊢
  have hr := r0_le v1.toNat c
  have ix : x.toInt = (x.toNat : Int) := toInt_of_lt (by omega)
  have il : l.toInt = (l.toNat : Int) := toInt_of_lt (by omega)
  have i1 : v1.toInt = (v1.toNat : Int) := toInt_of_lt h1
  have hm : (Scalar.maxsi v1 l : BitVec 32).toInt = max (v1.toNat : Int) l.toNat := by
    show (IntOp.maxsi v1 l).toInt = _
    unfold IntOp.maxsi
    split
    · rename_i h; rw [BitVec.slt_iff_toInt_lt] at h; omega
    · rename_i h; rw [BitVec.slt_iff_toInt_lt] at h; omega
  have e1 : IntOp.cmpi .sge x (Scalar.maxsi v1 l) = BitVec.ofBool (decide (v1.toNat ≤ x.toNat ∧ l.toNat ≤ x.toNat)) := by
    refine congrArg BitVec.ofBool ?_
    rw [Bool.eq_iff_iff, decide_eq_true_iff]
    show BitVec.sle (Scalar.maxsi v1 l) x = true ↔ _
    rw [BitVec.sle_iff_toInt_le, hm, ix]
    omega
  have e2 : IntOp.cmpi .slt x v3 = BitVec.ofBool (decide ((x.toNat : Int) < v3.toInt)) := by
    refine congrArg BitVec.ofBool ?_
    rw [Bool.eq_iff_iff, decide_eq_true_iff]
    show BitVec.slt x v3 = true ↔ _
    rw [BitVec.slt_iff_toInt_lt, ix]
  rw [e1, e2, hl, hx]
  unfold Counts
  by_cases p : v1.toNat ≤ r0 v1.toNat c + r.val ∧ v1.toNat / 32 * 32 + 256 * c ≤ r0 v1.toNat c + r.val <;>
    by_cases q : ((r0 v1.toNat c + r.val : ℕ) : Int) < v3.toInt <;> simp only [p, q, decide_true, decide_false, and_true, and_false, false_and, true_and] <;> rfl

theorem select_ofBool {α : Type} (p : Prop) [Decidable p] (x y : α) :
    Scalar.select (BitVec.ofBool (decide p)) x y = if p then x else y := by
  by_cases h : p
  · rw [if_pos h, decide_eq_true h]; rfl
  · rw [if_neg h, decide_eq_false h]; rfl

end Cert.DownWords
-- ==== Proof.GateWords.Words.lean ====
module

public import proofs.«01_k».proof.Proof.DownWords.Mask

/-! The words that the gate and up kernel computes from an expert's first row `v1` and its number of rows `v3`: the
    number of chunks of `B` rows (128 or 32), and each chunk's first row. -/

@[expose] public section

noncomputable section

namespace Cert.GateWords
open Idealize.ShloMosaic Cert.DownWords

/-- The number of chunks of `B` rows: none when the expert has no rows. -/
abbrev nkB (B v1 v3 : BitVec 32) : BitVec 32 :=
  Scalar.select (Scalar.cmpi .sgt v3 0#32)
    (fd (Scalar.subi (Scalar.addi (Scalar.subi (Scalar.addi v1 v3) (base v1)) B) 1#32) B) 0#32

/-- The upper bound of a loop over the chunks, as the kernel computes it. -/
abbrev ubB (B v1 v3 : BitVec 32) : BitVec 32 :=
  Scalar.addi 0#32 (Scalar.muli (Scalar.divsi (Scalar.subi (nkB B v1 v3) 0#32) 1#32) 1#32)

/-- The first row of chunk `c` before it is kept inside the array, -/
abbrev lowB (B v1 c : BitVec 32) : BitVec 32 := Scalar.addi (base v1) (Scalar.muli c B)

/-- and the first row that chunk `c` of 128 rows loads. -/
abbrev rowG (v1 c : BitVec 32) : BitVec 32 := Scalar.minsi (lowB 128#32 v1 c) 2432#32

/-- The number of chunks of `B` rows of the expert whose rows run from `a` up to `e`. -/
def chunksB (B a : ℕ) (e : Int) : ℕ := if (a : Int) < e then (e.toNat - a / 32 * 32 + (B - 1)) / B else 0

theorem ubB_eq (B v1 v3 : BitVec 32) : ubB B v1 v3 = nkB B v1 v3 := by
  show Scalar.addi 0#32 _ = _
  rw [Scalar.muli_divsi_one]
  show (0#32 + (nkB B v1 v3 - 0#32) : BitVec 32) = _
  simp

section
variable {v1 v3 : BitVec 32} (h1 : v1.toNat < 2 ^ 31) (h3 : v3.toInt ≤ 2560 - (v1.toNat : Int))
include h1 h3

/-- The end row is the exact sum, -/
theorem end_toInt : (Scalar.addi v1 v3 : BitVec 32).toInt = v1.toNat + v3.toInt := by
  show (v1 + v3 : BitVec 32).toInt = _
  have e3 := BitVec.toInt_eq_toNat_cond v3
  have es := BitVec.toInt_eq_toNat_cond (v1 + v3)
  have hl := v3.isLt
  rw [BitVec.toNat_add] at es
  split at e3 <;> split at es <;> omega

/-- A row lies in a group exactly when it lies from the group's first row to its end. -/
theorem valid_wordG (k : Fin 2560) :
    IntOp.andi (IntOp.cmpi .sge (BitVec.ofNat 32 k.val) v1) (IntOp.cmpi .slt (BitVec.ofNat 32 k.val) (IntOp.addi v1 v3))
      = BitVec.ofBool (decide (v1.toNat ≤ k.val ∧ (k.val : Int) < v1.toNat + v3.toInt)) := by
  have hk := k.isLt
  have he : (IntOp.addi v1 v3 : BitVec 32).toInt = v1.toNat + v3.toInt := end_toInt h1 h3
  have nx : (BitVec.ofNat 32 k.val).toNat = k.val := by rw [BitVec.toNat_ofNat]; omega
  generalize (BitVec.ofNat 32 k.val : BitVec 32) = x at nx ⊢
  have ix : x.toInt = (k.val : Int) := (toInt_of_lt (by omega)).trans (by rw [nx])
  have io : v1.toInt = (v1.toNat : Int) := toInt_of_lt h1
  have and : ∀ a b : Bool, IntOp.andi (BitVec.ofBool a) (BitVec.ofBool b) = BitVec.ofBool (a && b) := by decide
  refine (and (BitVec.sle v1 x) (BitVec.slt x (IntOp.addi v1 v3))).trans (congrArg BitVec.ofBool ?_)
  rw [Bool.eq_iff_iff, decide_eq_true_iff, Bool.and_eq_true, BitVec.sle_iff_toInt_le, BitVec.slt_iff_toInt_lt, he, ix, io]
  omega

theorem end_le : (Scalar.addi v1 v3 : BitVec 32).toInt ≤ 2560 := by rw [end_toInt h1 h3]; omega

theorem nkB_toNat {B : BitVec 32} (hB : B.toNat ≤ 128) (hB0 : 0 < B.toNat) :
    (nkB B v1 v3).toNat = chunksB B.toNat v1.toNat (Scalar.addi v1 v3 : BitVec 32).toInt := by
  have he := end_toInt h1 h3
  have hx' : v1.toInt = (v1.toNat : Int) := toInt_of_lt h1
  have hb := base_toNat h1
  unfold chunksB
  rw [he]
  by_cases h : (0 : Int) < v3.toInt
  · rw [if_pos (by omega)]
    have hc : Scalar.cmpi .sgt v3 0#32 = (1#1 : BitVec 1) := by
      show BitVec.ofBool _ = 1#1
      rw [WordCmp.ofBool_eq_one_iff]; show BitVec.slt 0#32 v3 = true
      rw [BitVec.slt_iff_toInt_lt]; simpa using h
    show (Scalar.select _ _ _ : BitVec 32).toNat = _
    rw [hc]
    show (fd _ B).toNat = _
    have e3 := BitVec.toInt_eq_toNat_cond v3
    have hl := v3.isLt
    have h3' : v3.toInt = (v3.toNat : Int) := by split at e3 <;> omega
    have hs : (Scalar.subi (Scalar.addi (Scalar.subi (Scalar.addi v1 v3) (base v1)) B) 1#32 : BitVec 32).toNat
        = v1.toNat + v3.toNat - v1.toNat / 32 * 32 + (B.toNat - 1) := by
      show (((v1 + v3) - base v1) + B - 1#32 : BitVec 32).toNat = _
      rw [BitVec.toNat_sub, BitVec.toNat_add, BitVec.toNat_sub, BitVec.toNat_add, hb]
      show (2 ^ 32 - 1 + ((2 ^ 32 - v1.toNat / 32 * 32 + (v1.toNat + v3.toNat) % 2 ^ 32) % 2 ^ 32 + B.toNat) % 2 ^ 32) % 2 ^ 32 = _
      omega
    rw [fd_toNat (by rw [hs]; omega) (by omega) hB0, hs]
    have : ((v1.toNat : Int) + v3.toInt).toNat = v1.toNat + v3.toNat := by omega
    rw [this]
  · rw [if_neg (by omega)]
    have hc : Scalar.cmpi .sgt v3 0#32 = (0#1 : BitVec 1) := by
      show BitVec.ofBool _ = 0#1
      rw [WordCmp.ofBool_eq_zero_iff]; show BitVec.slt 0#32 v3 = false
      rw [← Bool.not_eq_true, BitVec.slt_iff_toInt_lt]; simpa using h
    show (Scalar.select _ _ _ : BitVec 32).toNat = _
    rw [hc]
    rfl

omit h1 h3 in
theorem chunks128_le {a : ℕ} {e : Int} (he : e ≤ 2560) : chunksB 128 a e ≤ 21 := by
  unfold chunksB; split <;> omega
omit h1 h3 in
theorem chunks32_le {a : ℕ} {e : Int} (he : e ≤ 2560) : chunksB 32 a e ≤ 80 := by
  unfold chunksB; split <;> omega

theorem tripsB_eq {B : BitVec 32} (hB : B = 128#32 ∨ B = 32#32) :
    Scf.trips 0#32 (ubB B v1 v3) 1#32 = chunksB B.toNat v1.toNat (Scalar.addi v1 v3 : BitVec 32).toInt := by
  have hle : chunksB B.toNat v1.toNat (Scalar.addi v1 v3 : BitVec 32).toInt ≤ 80 := by
    rcases hB with rfl | rfl
    · exact (chunks128_le (end_le h1 h3)).trans (by decide)
    · exact chunks32_le (end_le h1 h3)
  have h := nkB_toNat h1 h3 (B := B) (by rcases hB with rfl | rfl <;> decide) (by rcases hB with rfl | rfl <;> decide)
  rw [ubB_eq]
  unfold Scf.trips
  have : (nkB B v1 v3).toInt = ((nkB B v1 v3).toNat : Int) := toInt_of_lt (by omega)
  rw [this, h]
  generalize chunksB B.toNat v1.toNat (Scalar.addi v1 v3 : BitVec 32).toInt = q
  show (((q : Int) - 0 + 1 - 1) / 1).toNat = _
  omega

theorem okB {B : BitVec 32} (hB : B = 128#32 ∨ B = 32#32) : Scf.OK 0#32 (ubB B v1 v3) 1#32 := by
  refine ⟨by decide, ?_⟩
  rw [tripsB_eq h1 h3 hB]
  have hle : chunksB B.toNat v1.toNat (Scalar.addi v1 v3 : BitVec 32).toInt ≤ 80 := by
    rcases hB with rfl | rfl
    · exact (chunks128_le (end_le h1 h3)).trans (by decide)
    · exact chunks32_le (end_le h1 h3)
  generalize chunksB B.toNat v1.toNat (Scalar.addi v1 v3 : BitVec 32).toInt = q at *
  show (0 : Int) + (q : ℕ) * 1 < 2 ^ 31
  omega

/-- With a chunk to do, the first row lies below the end row and hence in the array. -/
theorem firstB {B : BitVec 32} (hB : B = 128#32 ∨ B = 32#32) {c : ℕ} (hc : c < Scf.trips 0#32 (ubB B v1 v3) 1#32) :
    v1.toNat < 2560 ∧ c < 81 ∧ v1.toNat / 32 * 32 + B.toNat * c < 2560 := by
  rw [tripsB_eq h1 h3 hB] at hc
  have he := end_le h1 h3
  generalize (Scalar.addi v1 v3 : BitVec 32).toInt = e at *
  unfold chunksB at hc
  split at hc
  · rcases hB with rfl | rfl
    · change c < (e.toNat - v1.toNat / 32 * 32 + (128 - 1)) / 128 at hc
      show _ ∧ _ ∧ v1.toNat / 32 * 32 + 128 * c < 2560
      omega
    · change c < (e.toNat - v1.toNat / 32 * 32 + (32 - 1)) / 32 at hc
      show _ ∧ _ ∧ v1.toNat / 32 * 32 + 32 * c < 2560
      omega
  · omega

omit h1 h3 in
theorem iv_toNat' {c : ℕ} (hc : c < 81) : (Scf.iv 0#32 1#32 c : BitVec 32).toNat = c := by
  unfold Scf.iv
  simp only [BitVec.zero_add, BitVec.mul_one]
  rw [BitVec.toNat_ofNat]; omega

omit h3 in
theorem lowB_toNat {B : BitVec 32} {c : ℕ} (hc : c < 81) (hl : v1.toNat / 32 * 32 + B.toNat * c < 2560) :
    (lowB B v1 (Scf.iv 0#32 1#32 c)).toNat = v1.toNat / 32 * 32 + B.toNat * c := by
  show (base v1 + Scf.iv 0#32 1#32 c * B : BitVec 32).toNat = _
  rw [BitVec.toNat_add, BitVec.toNat_mul, iv_toNat' hc, base_toNat h1, Nat.mul_comm c]
  generalize B.toNat * c = q at *
  omega

/-- The first row of chunk `c` of 128 rows, as a natural number. -/
def g0 (a c : ℕ) : ℕ := min (a / 32 * 32 + 128 * c) 2432

omit h3 in
theorem rowG_toNat {c : ℕ} (hc : c < 81) (hl : v1.toNat / 32 * 32 + 128 * c < 2560) :
    (rowG v1 (Scf.iv 0#32 1#32 c)).toNat = g0 v1.toNat c := by
  have h := lowB_toNat (B := 128#32) h1 hc hl
  show (IntOp.minsi _ _ : BitVec 32).toNat = _
  rw [WordArith.toNat_minsi_of_lt _ _ (by rw [h]; change v1.toNat / 32 * 32 + 128 * c < _; omega) (by decide), h]
  rfl

omit h1 h3 in
theorem g0_le (a c : ℕ) : g0 a c ≤ 2432 := by unfold g0; omega
omit h1 h3 in
theorem g0_dvd (a c : ℕ) : 32 ∣ g0 a c := by unfold g0; omega

end

/-- Row `t` of the array counts in chunk `c` of the expert with rows from `o` to `e`. -/
abbrev CountsG (o : ℕ) (e : Int) (c t : ℕ) : Prop := (o ≤ t ∧ o / 32 * 32 + 128 * c ≤ t) ∧ (t : Int) < e

/-- One chunk, as a sum over the whole array. -/
theorem chunk_sumG {M : Type} [AddCommMonoid M] (o : ℕ) (e : Int) (c : ℕ) (f : ℕ → M) :
    (∑ r : Fin 128, if CountsG o e c (g0 o c + r.val) then f (g0 o c + r.val) else 0)
      = ∑ t : Fin 2560, if CountsG o e c t.val ∧ t.val < o / 32 * 32 + 128 * c + 128 then f t.val else 0 := by
  rw [Finset.sum_fin_eq_sum_range, Finset.sum_fin_eq_sum_range]
  rw [← Finset.sum_filter_add_sum_filter_not (Finset.range 2560) (fun t => g0 o c ≤ t ∧ t < g0 o c + 128)]
  have hz : ∑ t ∈ (Finset.range 2560).filter (fun t => ¬ (g0 o c ≤ t ∧ t < g0 o c + 128)),
      (if h : t < 2560 then (if CountsG o e c t ∧ t < o / 32 * 32 + 128 * c + 128 then f t else 0) else 0) = 0 := by
    refine Finset.sum_eq_zero fun t ht => ?_
    rw [Finset.mem_filter, Finset.mem_range] at ht
    rw [dif_pos ht.1, if_neg]
    rintro ⟨⟨⟨h1, h2⟩, h3⟩, h4⟩
    have h5 := ht.2
    unfold g0 at h5
    omega
  have e2 : (∑ x ∈ Finset.range 2560 with ¬ (g0 o c ≤ x ∧ x < g0 o c + 128),
      if h : x < 2560 then if CountsG o e c (⟨x, h⟩ : Fin 2560).val ∧ (⟨x, h⟩ : Fin 2560).val < o / 32 * 32 + 128 * c + 128 then f (⟨x, h⟩ : Fin 2560).val else 0 else 0) = 0 := hz
  rw [e2, add_zero]
  symm
  refine Finset.sum_nbij' (fun t => t - g0 o c) (fun r => g0 o c + r) ?_ ?_ ?_ ?_ ?_
  · intro t ht
    rw [Finset.mem_filter] at ht
    rw [Finset.mem_range]; omega
  · intro r hr
    rw [Finset.mem_range] at hr
    rw [Finset.mem_filter, Finset.mem_range]
    have := g0_le o c
    omega
  · intro t ht
    rw [Finset.mem_filter] at ht
    show g0 o c + (t - g0 o c) = t
    omega
  · intro r hr
    show g0 o c + r - g0 o c = r
    omega
  · intro t ht
    rw [Finset.mem_filter, Finset.mem_range] at ht
    have e1 : g0 o c + (t - g0 o c) = t := by omega
    have e3 : t - g0 o c < 128 := by omega
    rw [dif_pos ht.1, dif_pos e3]
    show (if CountsG o e c t ∧ t < o / 32 * 32 + 128 * c + 128 then f t else 0) = if CountsG o e c (g0 o c + (t - g0 o c)) then f (g0 o c + (t - g0 o c)) else 0
    rw [e1]
    by_cases hc : CountsG o e c t
    · rw [if_pos hc, if_pos]
      refine ⟨hc, ?_⟩
      have h2 := hc.1.2
      have h5 := ht.2.2
      unfold g0 at h5
      omega
    · rw [if_neg hc, if_neg (fun h => hc h.1)]

/-- All the expert's chunks together. -/
theorem chunks_sumG {M : Type} [AddCommMonoid M] (o : ℕ) (e : Int) (f : ℕ → M) :
    (∑ c ∈ Finset.range (chunksB 128 o e), ∑ r : Fin 128, if CountsG o e c (g0 o c + r.val) then f (g0 o c + r.val) else 0)
      = ∑ t : Fin 2560, if o ≤ t.val ∧ (t.val : Int) < e then f t.val else 0 := by
  rw [Finset.sum_congr rfl (fun c _ => chunk_sumG o e c f), Finset.sum_comm]
  refine Finset.sum_congr rfl fun t _ => ?_
  by_cases h : o ≤ t.val ∧ (t.val : Int) < e
  · rw [if_pos h]
    rw [Finset.sum_eq_single ((t.val - o / 32 * 32) / 128)]
    · rw [if_pos]
      refine ⟨⟨⟨h.1, ?_⟩, h.2⟩, ?_⟩ <;> omega
    · intro c _ hc
      rw [if_neg]
      rintro ⟨⟨⟨h1, h2⟩, h3⟩, h4⟩
      omega
    · intro hn
      exfalso
      apply hn
      rw [Finset.mem_range]
      unfold chunksB
      rw [if_pos (by omega)]
      omega
  · rw [if_neg h]
    refine Finset.sum_eq_zero fun c _ => if_neg ?_
    rintro ⟨⟨⟨h1, h2⟩, h3⟩, h4⟩
    exact h ⟨h1, h3⟩

/-- Row `r` of chunk `c` is kept exactly when it is one of the expert's rows in that chunk. -/
theorem mask_eqG {v1 e : BitVec 32} (h1 : v1.toNat < 2 ^ 31) {c : ℕ} (hc : c < 81) (hl : v1.toNat / 32 * 32 + 128 * c < 2560) (r : Fin 128) :
    IntOp.andi
      (IntOp.cmpi .sge (IntOp.addi (rowG v1 (Scf.iv 0#32 1#32 c)) (BitVec.ofNat 32 r.val))
        (Scalar.maxsi v1 (lowB 128#32 v1 (Scf.iv 0#32 1#32 c))))
      (IntOp.cmpi .slt (IntOp.addi (rowG v1 (Scf.iv 0#32 1#32 c)) (BitVec.ofNat 32 r.val)) e)
      = BitVec.ofBool (decide (CountsG v1.toNat e.toInt c (g0 v1.toNat c + r.val))) := by
  have hx : (IntOp.addi (rowG v1 (Scf.iv 0#32 1#32 c)) (BitVec.ofNat 32 r.val) : BitVec 32).toNat = g0 v1.toNat c + r.val := by
    show (rowG v1 (Scf.iv 0#32 1#32 c) + BitVec.ofNat 32 r.val : BitVec 32).toNat = _
    rw [BitVec.toNat_add, rowG_toNat h1 hc hl, BitVec.toNat_ofNat]
    have := g0_le v1.toNat c
    omega
  have hl := lowB_toNat (B := 128#32) h1 hc hl
  change _ = v1.toNat / 32 * 32 + 128 * c at hl
  generalize (IntOp.addi (rowG v1 (Scf.iv 0#32 1#32 c)) (BitVec.ofNat 32 r.val) : BitVec 32) = x at hx ⊢
  generalize (lowB 128#32 v1 (Scf.iv 0#32 1#32 c) : BitVec 32) = l at hl ⊢
  have hr := g0_le v1.toNat c
  have ix : x.toInt = (x.toNat : Int) := toInt_of_lt (by omega)
  have il : l.toInt = (l.toNat : Int) := toInt_of_lt (by omega)
  have i1 : v1.toInt = (v1.toNat : Int) := toInt_of_lt h1
  have hm : (Scalar.maxsi v1 l : BitVec 32).toInt = max (v1.toNat : Int) l.toNat := by
    show (IntOp.maxsi v1 l).toInt = _
    unfold IntOp.maxsi
    split
    · rename_i h; rw [BitVec.slt_iff_toInt_lt] at h; omega
    · rename_i h; rw [BitVec.slt_iff_toInt_lt] at h; omega
  have e1 : IntOp.cmpi .sge x (Scalar.maxsi v1 l) = BitVec.ofBool (decide (v1.toNat ≤ x.toNat ∧ l.toNat ≤ x.toNat)) := by
    refine congrArg BitVec.ofBool ?_
    rw [Bool.eq_iff_iff, decide_eq_true_iff]
    show BitVec.sle (Scalar.maxsi v1 l) x = true ↔ _
    rw [BitVec.sle_iff_toInt_le, hm, ix]
    omega
  have e2 : IntOp.cmpi .slt x e = BitVec.ofBool (decide ((x.toNat : Int) < e.toInt)) := by
    refine congrArg BitVec.ofBool ?_
    rw [Bool.eq_iff_iff, decide_eq_true_iff]
    show BitVec.slt x e = true ↔ _
    rw [BitVec.slt_iff_toInt_lt, ix]
  rw [e1, e2, hl, hx]
  unfold CountsG
  by_cases p : v1.toNat ≤ g0 v1.toNat c + r.val ∧ v1.toNat / 32 * 32 + 128 * c ≤ g0 v1.toNat c + r.val <;>
    by_cases q : ((g0 v1.toNat c + r.val : ℕ) : Int) < e.toInt <;> simp only [p, q, decide_true, decide_false, and_true, and_false, false_and, true_and] <;> rfl

end Cert.GateWords
-- ==== Proof.GateUpIdeal.Eidx.lean ====
module

public import proofs.«01_k».proof.Proof.Gen.GateUpIdeal.Launch
public import proofs.«01_k».proof.Proof.GateWords.Words
public import Idealize.ShloMosaic.Lib.StableHlo.RunRead
public import Idealize.ShloMosaic.Lib.Pointwise

/-! The expert whose weights each step reads. -/

@[expose] public section

set_option maxRecDepth 16384

noncomputable section

namespace Cert.GateUpIdeal
open Cert.GateUpIdeal.Gen
open Idealize.ShloMosaic Idealize.ShloMosaic.TcCoe Idealize.ShloMosaic.Tactic

variable {F : FTy → Type} [FloatOps F]

/-- For each expert the last non-empty one up to it; before the first non-empty one, that one. -/
def eidxOf (p : IVec S8 1) : IVec S8 32 :=
  let last : IVec S8 32 := Host.reduceWindow IntOp.maxsi ![8] ![1] ![7] ![0]
    (select p (iotaInDim S8 32 0) (broadcastInDim S8 ![] bcast_S_S8 (constantI S_ 32 4294967295#32)))
    (broadcastInDim S_ ![] bcast_S_S_ (constantI S_ 32 2147483648#32)) reduceWindows_S8_S8_w8s1p7_0 h_S_
  let first : IVec S_ 32 := fun j =>
    (Host.reduce2 reducer_argmax_i1_i32 p (iotaInDim S8 32 0) (constantI S_ 1 0#1) (constantI S_ 32 0#32) reducesTo_S8_S_d0 h_S_ j).2
  select (cmpi .slt last (broadcastInDim S8 ![] bcast_S_S8 (constantI S_ 32 0#32))) (broadcastInDim S8 ![] bcast_S_S8 first) last

theorem eidx_bits : ∀ b0 b1 b2 b3 b4 b5 b6 b7 : Bool, ∀ e : Fin 8,
    (eidxOf (fun y => BitVec.ofBool (![b0, b1, b2, b3, b4, b5, b6, b7] (y 0))) (Idealize.ShloMosaic.ix1 e)).toNat < 8
    ∧ (![b0, b1, b2, b3, b4, b5, b6, b7] e = true →
      eidxOf (fun y => BitVec.ofBool (![b0, b1, b2, b3, b4, b5, b6, b7] (y 0))) (Idealize.ShloMosaic.ix1 e) = BitVec.ofNat 32 e.val) := by
  decide +kernel

/-- It is an expert, and a non-empty expert's own number. -/
theorem eidx_fact (p : IVec S8 1) (e : Fin 8) : (eidxOf p (Idealize.ShloMosaic.ix1 e)).toNat < 8
    ∧ (p (Idealize.ShloMosaic.ix1 e) = 1#1 → eidxOf p (Idealize.ShloMosaic.ix1 e) = BitVec.ofNat 32 e.val) := by
  have hb : ∀ x : BitVec 1, x = BitVec.ofBool (decide (x = 1#1)) := by decide
  obtain ⟨q, hq⟩ : ∃ q : Fin 8 → Bool, ∀ i, p (Idealize.ShloMosaic.ix1 i) = BitVec.ofBool (q i) := ⟨fun i => decide (p (Idealize.ShloMosaic.ix1 i) = 1#1), fun i => hb _⟩
  have hp : p = fun y => BitVec.ofBool (![q 0, q 1, q 2, q 3, q 4, q 5, q 6, q 7] (y 0)) := by
    funext y
    obtain ⟨i, rfl⟩ : ∃ i : Fin 8, y = Idealize.ShloMosaic.ix1 i := ⟨y 0, funext fun a => by match a with | ⟨0, _⟩ => rfl⟩
    rw [hq i]
    refine congrArg BitVec.ofBool ?_
    show q i = ![q 0, q 1, q 2, q 3, q 4, q 5, q 6, q 7] i
    fin_cases i <;> rfl
  have h := eidx_bits (q 0) (q 1) (q 2) (q 3) (q 4) (q 5) (q 6) (q 7) e
  rw [← hp] at h
  refine ⟨h.1, fun he => h.2 ?_⟩
  have hqe : q e = true := by
    rw [hq e] at he
    cases hc : q e
    · rw [hc] at he; exact absurd he (by decide)
    · rfl
  rw [← hqe]
  fin_cases e <;> rfl

end Cert.GateUpIdeal
-- ==== Proof.GateUpIdeal.Entry.lean ====
module

public import proofs.«01_k».proof.Proof.Gen.GateUpIdeal.Launch
public import proofs.«01_k».proof.Proof.GateWords.Words
public import proofs.«01_k».proof.Proof.GateUpIdeal.Eidx
public import Idealize.ShloMosaic.Lib.StableHlo.RunRead
public import Idealize.ShloMosaic.Lib.Pointwise

/-! What the host operations leave when the region is entered. -/

@[expose] public section

set_option maxRecDepth 16384

noncomputable section

namespace Cert.GateUpIdeal
open Cert.GateUpIdeal.Gen
open Idealize.ShloMosaic Idealize.ShloMosaic.TcCoe Idealize.ShloMosaic.Tactic

variable {F : FTy → Type} [FloatOps F]

variable (m : (ℓ : Loc nD τ sig) → Buf (Elt F) ℓ)

/-- Core `c`'s buffers when the region is entered: the host operations have run. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a reference. -/
abbrev V (c : Dev nD) (b : Ref sig .tc) : Buf (Elt F) ((c : Thread nD τ).loc b) := V0 m c (Proc.devRef .tc b)

/-- A buffer that no host operation writes is as launched. -/
theorem V_keep (c : Dev nD) (b : Ref sig .tc) (hb : b ∉ [main_call0_call0_c, main_call0_call0_v0, main_v0, main_v1, main_v2, main_c, main_v3, main_v4, main_v5, main_c_0, main_call1_v0, main_call1_v1, main_v6, main_call2_c, main_call2_v0, main_v7, main_call3_v0, main_call3_c, main_call3_c_0, main_call3_v1_0, main_v8, main_c_1, main_v9, main_v10, main_call4_v0, main_v11]) :
    V m c b = m ((c : Thread nD τ).loc b) := by
  refine StableHlo.after_of_forall_not_mem (b := Proc.devRef .tc b) _ _ (List.forall_iff_forall_mem.mp ?_)
  simp only [List.mem_cons, List.not_mem_nil, or_false, not_or] at hb
  simp only [hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.ternary_writes, StableHlo.quaternary_writes, Finset.mem_singleton]
  obtain ⟨h0, h1, h2, h3, h4, h5, h6, h7, h8, h9, h10, h11, h12, h13, h14, h15, h16, h17, h18, h19, h20, h21, h22, h23, h24, h25⟩ := hb
  exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15, StableHlo.devRef_ne_of_ne h16, StableHlo.devRef_ne_of_ne h17, StableHlo.devRef_ne_of_ne h18, StableHlo.devRef_ne_of_ne h19, StableHlo.devRef_ne_of_ne h20, StableHlo.devRef_ne_of_ne h21, StableHlo.devRef_ne_of_ne h22, StableHlo.devRef_ne_of_ne h23, StableHlo.devRef_ne_of_ne h24, StableHlo.devRef_ne_of_ne h25⟩

/-- Each expert's first row: the sum of the group sizes before it. -/
def offs (g : Vec F S8 .i32) : Vec F S8 .i32 :=
  subi (Host.reduceWindow IntOp.addi ![8] ![1] ![7] ![0] g (broadcastInDim S_ ![] bcast_S_S_ (constantI S_ 32 0#32))
    reduceWindows_S8_S8_w8s1p7_0 h_S_) g

/-- Which experts have rows. -/
def pos (g : Vec F S8 .i32) : IVec S8 1 := cmpi .sgt g (broadcastInDim S8 ![] bcast_S_S8 (constantI S_ 32 0#32))

set_option maxHeartbeats 1000000 in
theorem V_v1 (c : Dev nD) : V m c main_v1 = offs (F := F) (m ((c : Thread nD τ).loc main_arg0)) := by
  dsimp only [V]
  after_reads_simp
  simp only [StableHlo.TRef.ofBuf, StableHlo.TRef.toBuf, cast_eq]
  rfl

set_option maxHeartbeats 1000000 in
theorem V_v2 (c : Dev nD) : V m c main_v2 = broadcastInDim S2560x1 ![0] bcast_S2560_S2560x1_0 (m ((c : Thread nD τ).loc main_arg2)) := by
  dsimp only [V]
  after_reads_simp

set_option maxHeartbeats 1000000 in
theorem V_v11 (c : Dev nD) : V m c main_v11 = eidxOf (pos (F := F) (m ((c : Thread nD τ).loc main_arg0))) := by
  dsimp only [V]
  after_reads_simp
  simp only [StableHlo.TRef.ofBuf, StableHlo.TRef.toBuf, cast_eq]
  rfl

end Cert.GateUpIdeal
-- ==== Proof.GateUpIdeal.Checks.lean ====
module

public import proofs.«01_k».proof.Proof.GateWords.Words
public import proofs.«01_k».proof.Proof.Gen.GateUpIdeal.Skeleton

/-! The side condition of the gate and up kernel's loads and stores, from bounds on the words it reads: the expert's
    first row is not negative, and its rows end inside the array. -/

@[expose] public section

namespace Cert.GateUpIdeal
open Idealize.ShloMosaic Cert.GateUpIdeal.Gen Cert.DownWords Cert.GateWords

section
variable {v1 v3 : BitVec 32} (h1 : v1.toNat < 2 ^ 31) (h3 : v3.toInt ≤ 2560 - (v1.toNat : Int))
include h1 h3

/-- A chunk of 128 rows lies in the array, for any column offset that fits, -/
theorem inb128 (k : Fin (Scf.trips 0#32 (ubB 128#32 v1 v3) 1#32)) (cs n N : ℕ) (hc : cs + n ≤ N) :
    ∀ a : Fin 2, (![(Scalar.indexCast (rowG v1 (Scf.iv 0#32 1#32 k.val))).toNat, cs] : Fin 2 → ℕ) a
      + (![128, n] : Fin 2 → ℕ) a ≤ (![2560, N] : Fin 2 → ℕ) a := by
  obtain ⟨ha, hk, hl⟩ := firstB h1 h3 (.inl rfl) k.isLt
  have hr : (Scalar.indexCast (rowG v1 (Scf.iv 0#32 1#32 k.val))).toNat = g0 v1.toNat k.val := rowG_toNat h1 hk hl
  have := g0_le v1.toNat k.val
  intro a
  match a with
  | ⟨0, _⟩ => show (Scalar.indexCast (rowG v1 (Scf.iv 0#32 1#32 k.val))).toNat + 128 ≤ 2560; omega
  | ⟨1, _⟩ => exact hc

theorem dvd128 (k : Fin (Scf.trips 0#32 (ubB 128#32 v1 v3) 1#32)) : 32 ∣ (rowG v1 (Scf.iv 0#32 1#32 k.val)).toNat := by
  obtain ⟨ha, hk, hl⟩ := firstB h1 h3 (.inl rfl) k.isLt
  rw [rowG_toNat h1 hk hl]; exact g0_dvd _ _

/-- and so does a chunk of 32 rows. -/
theorem row32 (k : Fin (Scf.trips 0#32 (ubB 32#32 v1 v3) 1#32)) :
    (Scalar.indexCast (lowB 32#32 v1 (Scf.iv 0#32 1#32 k.val))).toNat = 32 * (v1.toNat / 32 + k.val) ∧ v1.toNat / 32 + k.val < 80 := by
  obtain ⟨ha, hk, hl⟩ := firstB h1 h3 (.inr rfl) k.isLt
  have hr := lowB_toNat (B := 32#32) h1 hk hl
  change _ = v1.toNat / 32 * 32 + 32 * k.val at hr
  change v1.toNat / 32 * 32 + 32 * k.val < 2560 at hl
  refine ⟨?_, by omega⟩
  show (lowB 32#32 v1 (Scf.iv 0#32 1#32 k.val)).toNat = _
  omega

theorem inb32 (k : Fin (Scf.trips 0#32 (ubB 32#32 v1 v3) 1#32)) (N : ℕ) :
    ∀ a : Fin 2, (![(Scalar.indexCast (lowB 32#32 v1 (Scf.iv 0#32 1#32 k.val))).toNat, 0] : Fin 2 → ℕ) a
      + (![32, N] : Fin 2 → ℕ) a ≤ (![2560, N] : Fin 2 → ℕ) a := by
  obtain ⟨hr, hl⟩ := row32 h1 h3 k
  intro a
  match a with
  | ⟨0, _⟩ => show (Scalar.indexCast (lowB 32#32 v1 (Scf.iv 0#32 1#32 k.val))).toNat + 32 ≤ 2560; omega
  | ⟨1, _⟩ => show 0 + N ≤ N; omega

theorem dvd32 (k : Fin (Scf.trips 0#32 (ubB 32#32 v1 v3) 1#32)) : 32 ∣ (lowB 32#32 v1 (Scf.iv 0#32 1#32 k.val)).toNat :=
  ⟨_, (row32 h1 h3 k).1⟩

omit h1 h3 in
theorem rem_none {P : Prop} (v1 v3 : BitVec 32) (k : Fin (k0_t2_loop v1 v3).trips) : P := (Scf.rem_no_trip _ _ k).elim
omit h1 h3 in
theorem rem_none4 {P : Prop} (v1 v3 : BitVec 32) (k : Fin (k0_t4_loop v1 v3).trips) : P := (Scf.rem_no_trip _ _ k).elim

theorem packed (k : Fin (k0_t3_loop v1 v3).trips) (hinb : ∀ a, (k0_off10 v1 v3 k) a + S32x2048.size a ≤ S2560x2048.size a) :
    (Rect.unit (s := S2560x2048) (k0_off10 v1 v3 k) S32x2048.size hinb).PackedRows (EltTy.packing .fp8e4m3) := by
  refine .inr ⟨by decide, rfl, .inl ⟨?_, ?_⟩⟩
  · exact Dvd.dvd.trans (⟨8, rfl⟩ : 4 ∣ 32) (dvd32 h1 h3 k)
  · exact (⟨8, rfl⟩ : 4 ∣ 32)

theorem chk1 (i : grid0.Coords) : k0_chk1 i v1 v3 :=
  ⟨okB h1 h3 (.inl rfl), dvd128 h1 h3, fun k => inb128 h1 h3 k 0 6144 6144 (by decide), fun k => inb128 h1 h3 k 0 1 1 (by decide),
   fun k => inb128 h1 h3 k _ 256 2048 (by
     have h := (i 1).isLt
     change (i 1).val < 8 at h
     have e : (BitVec.ofNat 32 (i 1).val : BitVec 32).toNat = (i 1).val := by rw [BitVec.toNat_ofNat]; omega
     have hc := col_toNat (BitVec.ofNat 32 (i 1).val) (by omega)
     show (Scalar.indexCast (Scalar.muli (BitVec.ofNat 32 (i 1).val) 256#32)).toNat + 256 ≤ 2048
     omega),
   Scf.rem_ok _ _, fun k => rem_none v1 v3 k, fun k => rem_none v1 v3 k, fun k => rem_none v1 v3 k, fun k => rem_none v1 v3 k,
   fun _ => okB h1 h3 (.inr rfl), fun k _ => dvd32 h1 h3 k, fun k _ => inb32 h1 h3 k 2048, fun k _ => packed h1 h3 k, fun k _ => inb32 h1 h3 k 128,
   fun _ => Scf.rem_ok _ _, fun k => rem_none4 v1 v3 k, fun k => rem_none4 v1 v3 k, fun k => rem_none4 v1 v3 k, fun k => rem_none4 v1 v3 k⟩

end

end Cert.GateUpIdeal
-- ==== Proof.GateUpIdeal.Body.lean ====
module

public import proofs.«01_k».proof.Proof.GateUpIdeal.Checks
public import proofs.«01_k».proof.Proof.Gen.GateUpIdeal.Loops
public import proofs.«01_k».proof.Proof.Gen.GateUpIdeal.Launch
public import Idealize.ShloMosaic.Lib.VecWindow

/-! One grid step of the gate and up call. -/

@[expose] public section

set_option maxRecDepth 16384

noncomputable section

namespace Cert.GateUpIdeal
open Cert.GateUpIdeal.Gen Cert.DownWords Cert.GateWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

/-- The expert's word of a table. -/
def word (t : Vec F S8 .i32) (i : grid0.Coords) : BitVec 32 :=
  View.ld t (Rect.unit (s := S8) (k0_off1 i) S1.size (k0_off1_inb i)) (Shape.Idx.first (numel1_S1.symm ▸ Nat.one_pos))

/-- The row of sums after one more chunk of rows. -/
def accStep (i : grid0.Coords) (v1 v3 : BitVec 32) (hw : k0_chk1 i v1 v3) (x5 : Vec F S2560x6144 .fp8e4m3) (x6 : Vec F S2560x1 .f32)
    (x7 : Vec F S1x6144x256 .fp8e4m3) (x8 : Vec F S8x2048 .f32) (x9 : Vec F S1x6144x256 .fp8e4m3) (x10 : Vec F S8x2048 .f32)
    (k : Fin (k0_t1_loop v1 v3).trips) (acc : FVec F S1x256 .f32) : FVec F S1x256 .f32 :=
  k0_pay2 v1 v3 acc
    (k0_pay7 (View.ld x8 (Rect.unit (s := S8x2048) (k0_off2 i) S1x256.size (k0_off2_inb i)))
      (View.ld x10 (Rect.unit (s := S8x2048) (k0_off2 i) S1x256.size (k0_off2_inb i)))
      (View.ld x5 (Rect.unit (s := S2560x6144) (k0_off3 v1 v3 k) S128x6144.size (k0_off3_inb i v1 v3 hw k)))
      (View.ld x6 (Rect.unit (s := S2560x1) (k0_off4 v1 v3 k) S128x1.size (k0_off4_inb i v1 v3 hw k)))
      (View.ld x7 (Rect.unit (s := S1x6144x256) ![0, 0, 0] S1x6144x256.size inb_S1x6144x256_S1x6144x256_0_0_0))
      (View.ld x9 (Rect.unit (s := S1x6144x256) ![0, 0, 0] S1x6144x256.size inb_S1x6144x256_S1x6144x256_0_0_0)))
    (k0_pay8 (F := F) v1 v3 (base v1) 0#32 1#32 k) (k0_pay10 (F := F) v1 v3 (base v1) 0#32 1#32 k)

/-- The row of sums after the first `n` chunks. -/
def accAt (i : grid0.Coords) (v1 v3 : BitVec 32) (hw : k0_chk1 i v1 v3) (x5 : Vec F S2560x6144 .fp8e4m3) (x6 : Vec F S2560x1 .f32)
    (x7 : Vec F S1x6144x256 .fp8e4m3) (x8 : Vec F S8x2048 .f32) (x9 : Vec F S1x6144x256 .fp8e4m3) (x10 : Vec F S8x2048 .f32) :
    ℕ → FVec F S1x256 .f32
  | 0 => k0_pay1
  | n + 1 => if h : n < (k0_t1_loop v1 v3).trips
      then accStep i v1 v3 hw x5 x6 x7 x8 x9 x10 ⟨n, h⟩ (accAt i v1 v3 hw x5 x6 x7 x8 x9 x10 n)
      else accAt i v1 v3 hw x5 x6 x7 x8 x9 x10 n

/-- A sequence that starts where `accAt` does and takes its steps is `accAt` up to the last trip. -/
theorem accAt_of {i : grid0.Coords} {v1 v3 : BitVec 32} {hw : k0_chk1 i v1 v3} {x5 : Vec F S2560x6144 .fp8e4m3} {x6 : Vec F S2560x1 .f32}
    {x7 : Vec F S1x6144x256 .fp8e4m3} {x8 : Vec F S8x2048 .f32} {x9 : Vec F S1x6144x256 .fp8e4m3} {x10 : Vec F S8x2048 .f32}
    (st : ℕ → FVec F S1x256 .f32) (h0 : st 0 = k0_pay1)
    (hs : ∀ k : Fin (k0_t1_loop v1 v3).trips, st (k.val + 1) = accStep i v1 v3 hw x5 x6 x7 x8 x9 x10 k (st k.val)) :
    st (k0_t1_loop v1 v3).trips = accAt i v1 v3 hw x5 x6 x7 x8 x9 x10 (k0_t1_loop v1 v3).trips := by
  suffices h : ∀ n, n ≤ (k0_t1_loop v1 v3).trips → st n = accAt i v1 v3 hw x5 x6 x7 x8 x9 x10 n from h _ le_rfl
  intro n
  induction n with
  | zero => intro _; exact h0
  | succ n ih =>
    intro hn
    rw [accAt, dif_pos (show n < (k0_t1_loop v1 v3).trips by omega), hs ⟨n, by omega⟩, ih (by omega)]

/-- The row of means that a step stores. -/
def meanRow (i : grid0.Coords) (v1 v3 : BitVec 32) (hw : k0_chk1 i v1 v3) (x5 : Vec F S2560x6144 .fp8e4m3) (x6 : Vec F S2560x1 .f32)
    (x7 : Vec F S1x6144x256 .fp8e4m3) (x8 : Vec F S8x2048 .f32) (x9 : Vec F S1x6144x256 .fp8e4m3) (x10 : Vec F S8x2048 .f32) : FVec F S1x256 .f32 :=
  k0_pay4 v3 (accAt i v1 v3 hw x5 x6 x7 x8 x9 x10 (k0_t1_loop v1 v3).trips)

set_option maxHeartbeats 2000000 in
/-- One grid step: it puts its row of means into the block of means; of the other outputs and of the scratch nothing is said. -/
theorem body_run (c : Dev nD) (E : Set ℕ) (i : grid0.Coords)
    (arg2 : Memref sig .tc .smem S8 .i32) (harg2 : arg2.IsWhole) (arg3 : Memref sig .tc .smem S8 .i32) (harg3 : arg3.IsWhole)
    (arg4 : Memref sig .tc .smem S8 .i32) (harg4 : arg4.IsWhole) (arg5 : Memref sig .tc .vmem S2560x6144 .fp8e4m3) (harg5 : arg5.IsWhole)
    (arg6 : Memref sig .tc .vmem S2560x1 .f32) (harg6 : arg6.IsWhole) (arg7 : Memref sig .tc .vmem S1x6144x256 .fp8e4m3) (harg7 : arg7.IsWhole)
    (arg8 : Memref sig .tc .vmem S8x2048 .f32) (harg8 : arg8.IsWhole) (arg9 : Memref sig .tc .vmem S1x6144x256 .fp8e4m3) (harg9 : arg9.IsWhole)
    (arg10 : Memref sig .tc .vmem S8x2048 .f32) (harg10 : arg10.IsWhole) (arg11 : Memref sig .tc .vmem S2560x2048 .fp8e4m3) (harg11 : arg11.IsWhole)
    (arg12 : Memref sig .tc .vmem S2560x128 .f32) (harg12 : arg12.IsWhole) (arg13 : Memref sig .tc .vmem S8x2048 .f32) (harg13 : arg13.IsWhole)
    (arg14 : Memref sig .tc .vmem S2560x2048 .f32) (harg14 : arg14.IsWhole)
    (t2 t3 : Vec F S8 .i32) (q2 q3 : PosShare TreeShare) (x5 : Vec F S2560x6144 .fp8e4m3) (x6 : Vec F S2560x1 .f32)
    (x7 : Vec F S1x6144x256 .fp8e4m3) (x8 : Vec F S8x2048 .f32) (x9 : Vec F S1x6144x256 .fp8e4m3) (x10 : Vec F S8x2048 .f32)
    (x13 : Vec F S8x2048 .f32) (hw : k0_chk1 i (word t2 i) (word t3 i)) (K : PUnit → sProp 𝕄) :
    iprop(owns (c : Thread nD τ) arg2 q2 t2 ∗ owns (c : Thread nD τ) arg3 q3 t3 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10
        ∗ (∃ d, owns (c : Thread nD τ) arg11 fullShare d) ∗ (∃ d, owns (c : Thread nD τ) arg12 fullShare d)
        ∗ owns (c : Thread nD τ) arg13 fullShare x13 ∗ (∃ d, owns (c : Thread nD τ) arg14 fullShare d)
        ∗ (iprop(owns (c : Thread nD τ) arg2 q2 t2 ∗ owns (c : Thread nD τ) arg3 q3 t3 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ owns (c : Thread nD τ) arg10 fullShare x10
        ∗ (∃ d, owns (c : Thread nD τ) arg11 fullShare d) ∗ (∃ d, owns (c : Thread nD τ) arg12 fullShare d)
        ∗ owns (c : Thread nD τ) arg13 fullShare (VecWindow.put (s := S8x2048) x13 (k0_off9 i) S1x256.size (meanRow i (word t2 i) (word t3 i) hw x5 x6 x7 x8 x9 x10))
        ∗ (∃ d, owns (c : Thread nD τ) arg14 fullShare d))
          -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K := by
  simp only [cc0_gate_up_eq_skeleton]; unfold cc0_gate_up_skel
  simp only [k0_part5_eq_skeleton]
  unfold owns
  iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, Hk⟩
  subst hf2 hf3 hf5 hf6 hf7 hf8 hf9 hf10 hf13
  by_cases hC : k0_cond1 i = 1#1
  · sl_exec (disch := first | exact hw | exact hC)
    sl_step
    iapply Hk
    isplitl [H2]; · iexists f2; isplitr; · ipureintro; rfl
                    iexact H2
    isplitl [H3]; · iexists f3; isplitr; · ipureintro; rfl
                    iexact H3
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexists f10; isplitr; · ipureintro; rfl
                     iexact H10
    isplitl [H11]; · iexists _; iexists _; isplitr; swap; · iexact H11
                     ipureintro; rfl
    isplitl [H12]; · iexists _; iexists _; isplitr; swap; · iexact H12
                     ipureintro; rfl
    isplitl [H13]
    · iexists _; isplitr; swap; · iexact H13
      ipureintro
      refine (View.read_writes_cons_put _ _ _ _ _ rfl).trans ?_
      refine congrArg (VecWindow.put (s := S8x2048) _ _ _) (congrArg (k0_pay4 _) ?_)
      rw [Scf.rem_trips, st_k0_t2_zero]
      exact accAt_of (fun n => (st_k0_t1 (F := F) _ _ _ _ _ _ _ _ _ _ _ _ _ _ _ _ _ _ _ _ _ _ _ _ _ _ _ _ _ _ _ _ _ _ _ _ _ _ _ _ _ _ _ n).1) (st_k0_t1_zero ..)
        (fun j => (congrArg Prod.fst (st_k0_t1_succ _ _ _ _ _ _ _ _ _ _ _ _ _ _ _ _ _ _ _ _ _ _ _ _ _ _ _ _ _ _ _ _ _ _ _ _ _ _ _ _ _ _ _ j)).trans (by unfold tripR_k0_t1 trip_k0_t1; rfl))
    iexists _; iexists _; isplitr; swap; · iexact H14
    ipureintro; rfl
  · sl_exec (disch := first | exact hw | exact hC)
    sl_step
    iapply Hk
    isplitl [H2]; · iexists f2; isplitr; · ipureintro; rfl
                    iexact H2
    isplitl [H3]; · iexists f3; isplitr; · ipureintro; rfl
                    iexact H3
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexists f10; isplitr; · ipureintro; rfl
                     iexact H10
    isplitl [H11]; · iexists _; iexists _; isplitr; swap; · iexact H11
                     ipureintro; rfl
    isplitl [H12]; · iexists _; iexists _; isplitr; swap; · iexact H12
                     ipureintro; rfl
    isplitl [H13]
    · iexists _; isplitr; swap; · iexact H13
      ipureintro
      refine (View.read_writes_cons_put _ _ _ _ _ rfl).trans ?_
      refine congrArg (VecWindow.put (s := S8x2048) _ _ _) (congrArg (k0_pay4 _) ?_)
      rw [Scf.rem_trips, st_k0_t2_zero]
      exact accAt_of (fun n => (st_k0_t1 (F := F) _ _ _ _ _ _ _ _ _ _ _ _ _ _ _ _ _ _ _ _ _ _ _ _ _ _ _ _ _ _ _ _ _ _ _ _ _ _ _ _ _ _ _ n).1) (st_k0_t1_zero ..)
        (fun j => (congrArg Prod.fst (st_k0_t1_succ _ _ _ _ _ _ _ _ _ _ _ _ _ _ _ _ _ _ _ _ _ _ _ _ _ _ _ _ _ _ _ _ _ _ _ _ _ _ _ _ _ _ _ j)).trans (by unfold tripR_k0_t1 trip_k0_t1; rfl))
    iexists _; iexists _; isplitr; swap; · iexact H14
    ipureintro; rfl

end Cert.GateUpIdeal
-- ==== Proof.GateUpIdeal.Run.lean ====
module

public import proofs.«01_k».proof.Proof.GateUpIdeal.Entry
public import proofs.«01_k».proof.Proof.GateUpIdeal.Checks
public import proofs.«01_k».proof.Proof.GateUpIdeal.Body
public import proofs.«01_k».proof.Pre_groups_inside
public import Idealize.ShloMosaic.Lib.Pipeline.DatRel
public import Idealize.ShloMosaic.Lib.Pipeline.Frame

/-! The pipeline's proof data. -/

@[expose] public section

set_option maxRecDepth 16384

noncomputable section

namespace Cert.GateUpIdeal
open Cert.GateUpIdeal.Gen Cert.DownWords Cert.GateWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' contents when the region is entered; there is one device. -/
def pft : pre0.Contents (Elt F) := fun j => V m (0 : Dev nD) (pre0.ref j)

/-- The first rows, -/
abbrev Ot : Vec F S8 .i32 := V m (0 : Dev nD) main_v1
/-- the group sizes -/
abbrev Gt : Vec F S8 .i32 := V m (0 : Dev nD) main_arg0
/-- and the expert whose weights each step fetches. -/
abbrev Et : Vec F S8 .i32 := V m (0 : Dev nD) main_v11

/-- The word that a point reads of a table is its expert's. -/
theorem word_eq (t : Vec F S8 .i32) (i : grid0.Coords) : word t i = t (Idealize.ShloMosaic.ix1 (i 0)) := by
  refine congrArg t (funext fun a => Fin.ext ?_)
  match a with
  | ⟨0, _⟩ =>
    have h := (i 0).isLt
    change (i 0).val < 8 at h
    show (BitVec.ofNat 32 (i 0).val).toNat + 1 * 0 = (i 0).val
    rw [BitVec.toNat_ofNat]; omega

theorem at_2 (i : grid0.Coords) : (pft m).at 2 (Rect.unit (s := S8) ![(Scalar.indexCast (BitVec.ofNat 32 (i 0).val)).toNat] S1.size (k0_off1_inb i)) numel1_S1
    = Et m (Idealize.ShloMosaic.ix1 (i 0)) := word_eq (Et m) i

theorem at_1 (i : grid0.Coords) : (pft m).at 1 (Rect.unit (s := S8) ![(Scalar.indexCast (BitVec.ofNat 32 (i 0).val)).toNat] S1.size (k0_off1_inb i)) numel1_S1
    = Gt m (Idealize.ShloMosaic.ix1 (i 0)) := word_eq (Gt m) i

/-- The block column of weights that point `i` fetches. -/
def colW (g w : BitVec 32) (i : grid0.Coords) : BitVec 32 :=
  Scalar.select (Scalar.cmpi .sgt g 0#32) (BitVec.ofNat 32 (i 1).val) (Scalar.select (Scalar.cmpi .slt w (BitVec.ofNat 32 (i 0).val)) 7#32 0#32)

theorem colW_lt (g w : BitVec 32) (i : grid0.Coords) : (colW g w i).toNat < 8 := by
  have h := (i 1).isLt
  change (i 1).val < 8 at h
  unfold colW
  rcases Scalar.cmpi .sgt g 0#32 |>.eq_zero_or_eq_one with e | e <;>
    rcases Scalar.cmpi .slt w (BitVec.ofNat 32 (i 0).val) |>.eq_zero_or_eq_one with e' | e' <;> rw [e, e']
  · show (0#32).toNat < 8; decide
  · show (7#32).toNat < 8; decide
  · show (BitVec.ofNat 32 (i 1).val).toNat < 8
    rw [BitVec.toNat_ofNat]; omega
  · show (BitVec.ofNat 32 (i 1).val).toNat < 8
    rw [BitVec.toNat_ofNat]; omega

theorem transform2_eq (i : grid0.Coords) : cc0_transform_2 k0_off1_inb numel1_S1 (pft m) i
    = ![(Et m (Idealize.ShloMosaic.ix1 (i 0)) : BitVec 32).toNat, 0, (colW (Gt m (Idealize.ShloMosaic.ix1 (i 0))) (Et m (Idealize.ShloMosaic.ix1 (i 0))) i).toNat] := by
  unfold cc0_transform_2
  simp only []
  rw [at_2, at_1]
  rfl

theorem transform4_eq (i : grid0.Coords) : cc0_transform_4 k0_off1_inb numel1_S1 (pft m) i
    = ![(Et m (Idealize.ShloMosaic.ix1 (i 0)) : BitVec 32).toNat, 0, (colW (Gt m (Idealize.ShloMosaic.ix1 (i 0))) (Et m (Idealize.ShloMosaic.ix1 (i 0))) i).toNat] :=
  transform2_eq m i

/-- The weights' expert is one of the eight, -/
theorem Et_lt (e : Fin 8) : (Et m (Idealize.ShloMosaic.ix1 e) : BitVec 32).toNat < 8 := by
  unfold Et
  rw [V_v11]; exact (eidx_fact _ e).1

/-- and the expert itself where it has rows. -/
theorem Et_eq (e : Fin 8) (h : 0 < (Gt m (Idealize.ShloMosaic.ix1 e) : BitVec 32).toInt) : (Et m (Idealize.ShloMosaic.ix1 e) : BitVec 32).toNat = e.val := by
  have h8 := e.isLt
  unfold Et
  rw [V_v11, (eidx_fact _ e).2]
  · rw [BitVec.toNat_ofNat]; omega
  · have hk : Gt m = m (((0 : Dev nD) : Thread nD τ).loc main_arg0) := V_keep m 0 main_arg0 (by decide)
    rw [hk] at h
    show BitVec.ofBool (BitVec.slt 0#32 (m (((0 : Dev nD) : Thread nD τ).loc main_arg0) (Idealize.ShloMosaic.ix1 e))) = 1#1
    rw [(BitVec.slt_iff_toInt_lt).mpr (by simpa using h)]; rfl

theorem side (idx : Fin 3 → ℕ) (e k : ℕ) (h : idx = ![e, 0, k]) (he : e < 8) (hk : k < 8) :
    ∃ h : (∀ a, (idx a + 1) * S1x6144x256.size a ≤ S8x6144x2048.size a), EltTy.bits .fp8e4m3 = 32 ∨ (Rect.block (s := S8x6144x2048) S1x6144x256.size idx h).WholeWords (EltTy.packing .fp8e4m3) := by
  subst h
  refine ⟨fun a => ?_, .inr (.inr ⟨by decide, rfl, Nat.zero_mul _, rfl⟩)⟩
  match a with
  | ⟨0, _⟩ => show (e + 1) * 1 ≤ 8; omega
  | ⟨1, _⟩ => show (0 + 1) * 6144 ≤ 6144; omega
  | ⟨2, _⟩ => show (k + 1) * 256 ≤ 2048; omega

/-- The windows' side condition. -/
theorem ok : ok0 (pft m) := by
  rw [ok0.eq_1]
  exact ⟨fun i => side _ _ _ (transform2_eq m i) (Et_lt m _) (colW_lt _ _ i), fun i => side _ _ _ (transform4_eq m i) (Et_lt m _) (colW_lt _ _ i)⟩

def adm (p : Fin 1) : (pcfgs (F := F) p).Adm := ⟨pft m, ok m⟩

/-- The pipeline at those contents. -/
abbrev pl : Pipeline.Cfg sig Λ₀ := cfg0 (F := F) (adm m 0)

/-- The codes, -/
abbrev Xc (c : Dev nD) : Vec F S2560x6144 .fp8e4m3 := V m c main_arg1
/-- the row scales, -/
abbrev Sc (c : Dev nD) : Vec F S2560x1 .f32 := V m c main_v2
/-- the gate weights' column scales -/
abbrev GS (c : Dev nD) : Vec F S8x2048 .f32 := V m c main_arg4
/-- and the up weights', -/
abbrev US (c : Dev nD) : Vec F S8x2048 .f32 := V m c main_arg6
/-- the block of gate weights at point `t` -/
abbrev GB (c : Dev nD) (t : Fin (pl m).N) : Vec F S1x6144x256 .fp8e4m3 := (((pl m).win 2).blk t).view.read (Elt F) (V m c (Pipeline.arrRef spec0 2))
/-- and the block of up weights. -/
abbrev UB (c : Dev nD) (t : Fin (pl m).N) : Vec F S1x6144x256 .fp8e4m3 := (((pl m).win 4).blk t).view.read (Elt F) (V m c (Pipeline.arrRef spec0 4))

/-- Every group starts at a nonnegative row and ends within the rows. -/
def Inside : Prop := ∀ e : Fin 8, (Ot m (Idealize.ShloMosaic.ix1 e) : BitVec 32).toNat < 2 ^ 31
  ∧ (Gt m (Idealize.ShloMosaic.ix1 e) : BitVec 32).toInt ≤ 2560 - ((Ot m (Idealize.ShloMosaic.ix1 e) : BitVec 32).toNat : Int)

variable {m} in
theorem chk (hI : Inside m) (i : grid0.Coords) : k0_chk1 i (word (Ot m) i) (word (Gt m) i) := by
  rw [word_eq, word_eq]; exact chk1 (hI _).1 (hI _).2 i

/-- The row of means that point `t` computes. -/
def rowAt (hI : Inside m) (c : Dev nD) (t : Fin (pl m).N) : FVec F S1x256 .f32 :=
  meanRow (grid0.coords t) (word (Ot m) (grid0.coords t)) (word (Gt m) (grid0.coords t)) (chk hI (grid0.coords t))
    (Xc m c) (Sc m c) (GB m c t) (GS m c) (UB m c t) (US m c)

/-- The rows of means of the points before `n` are written: row `t / 8`, block column `t % 8`. -/
def RowsUpTo (hI : Inside m) (c : Dev nD) (n : ℕ) (X : Vec F S8x2048 .f32) : Prop :=
  ∀ (t : Fin (pl m).N), t.val < n → ∀ y : S8x2048.Idx, (y 0).val = t.val / 8 → (y 1).val / 256 = t.val % 8 →
    X y = rowAt m hI c t (Idealize.ShloMosaic.ix2 (n0 := 1) (n1 := 256) 0 ⟨(y 1).val % 256, Nat.mod_lt _ (by decide)⟩)

/-- Between points: the scratch, the generator register and the tables. -/
def Inv (c : Dev nD) : sProp 𝕄 :=
  iprop((∃ f : Vec F S2560x2048 .f32, owns (c : Thread nD τ) (Memref.whole cc0_scratch0) fullShare f)
    ∗ (∃ r, prngReg c r) ∗ Pipeline.ΦT (U := UR sig nD τ) pre0 (pft m) c)

/-- The proof data: the arrays as the region finds them; each input's buffer at its block after the body; nothing owed; full
    shares. The outputs are held to relations instead. -/
def dats (_ : Fin 1) (c : Dev nD) : Dat τ (Elt F) Unit ℕ (UR sig nD τ) ℕ (pl m) c where
  A w := V m c (Pipeline.arrRef spec0 w)
  after w t := (((pl m).win w).blk t).view.read (Elt F) (V m c (Pipeline.arrRef spec0 w))
  Φ _ := Inv m c
  q _ := fullShare
  owed _ := 0

/-- The outputs are the windows held to a relation. -/
def fgt (w : Fin (pl m).W) : Bool := decide (6 ≤ w.val)

/-- After point `t` the rows of means seen so far are written. -/
def Rl (hI : Inside m) (c : Dev nD) (w : Fin (pl m).W) (t : Fin (pl m).N) : (((pl m).win w).block.Idx → Elt F ((pl m).win w).elt) → Prop :=
  match w with
  | ⟨8, _⟩ => fun X => RowsUpTo m hI c (t.val + 1) X
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True

theorem A_eq (c : Dev nD) (w : Fin (pl m).W) : (dats m 0 c).A w = V m c (Pipeline.arrRef spec0 w) := by
  dsimp only [dats]

theorem after_eq (c : Dev nD) (w : Fin (pl m).W) (t : Fin (pl m).N) : (dats m 0 c).after w t = (((pl m).win w).blk t).view.read (Elt F) (V m c (Pipeline.arrRef spec0 w)) := by
  dsimp only [dats]

theorem whole_0 (c : Dev nD) (t : Fin (pl m).N) : (((pl m).win 0).blk t).view.read (Elt F) (V m c (Pipeline.arrRef spec0 0)) = Xc m c := by
  funext y
  refine congrArg (Xc m c) (funext fun a => Fin.ext ?_)
  match a with
  | ⟨0, _⟩ => exact Window.rect_emb_val_of_index_zero ((pl m).win 0) t ⟨0, (by decide : 0 < 2)⟩ rfl y
  | ⟨1, _⟩ => exact Window.rect_emb_val_of_index_zero ((pl m).win 0) t ⟨1, (by decide : 1 < 2)⟩ rfl y

theorem before_0 (c : Dev nD) (t : Fin (pl m).N) (d) : (dats m 0 c).before 0 t d = Xc m c :=
  ((dats m 0 c).before_in_eq_fetched 0 rfl (fun _ => rfl) (fun _ _ _ => rfl) (fun t => by rw [after_eq]; rfl) t d).trans (whole_0 m c t)

theorem whole_1 (c : Dev nD) (t : Fin (pl m).N) : (((pl m).win 1).blk t).view.read (Elt F) (V m c (Pipeline.arrRef spec0 1)) = Sc m c := by
  funext y
  refine congrArg (Sc m c) (funext fun a => Fin.ext ?_)
  match a with
  | ⟨0, _⟩ => exact Window.rect_emb_val_of_index_zero ((pl m).win 1) t ⟨0, (by decide : 0 < 2)⟩ rfl y
  | ⟨1, _⟩ => exact Window.rect_emb_val_of_index_zero ((pl m).win 1) t ⟨1, (by decide : 1 < 2)⟩ rfl y

theorem before_1 (c : Dev nD) (t : Fin (pl m).N) (d) : (dats m 0 c).before 1 t d = Sc m c :=
  ((dats m 0 c).before_in_eq_fetched 1 rfl (fun _ => rfl) (fun _ _ _ => rfl) (fun t => by rw [after_eq]; rfl) t d).trans (whole_1 m c t)

theorem whole_3 (c : Dev nD) (t : Fin (pl m).N) : (((pl m).win 3).blk t).view.read (Elt F) (V m c (Pipeline.arrRef spec0 3)) = GS m c := by
  funext y
  refine congrArg (GS m c) (funext fun a => Fin.ext ?_)
  match a with
  | ⟨0, _⟩ => exact Window.rect_emb_val_of_index_zero ((pl m).win 3) t ⟨0, (by decide : 0 < 2)⟩ rfl y
  | ⟨1, _⟩ => exact Window.rect_emb_val_of_index_zero ((pl m).win 3) t ⟨1, (by decide : 1 < 2)⟩ rfl y

theorem before_3 (c : Dev nD) (t : Fin (pl m).N) (d) : (dats m 0 c).before 3 t d = GS m c :=
  ((dats m 0 c).before_in_eq_fetched 3 rfl (fun _ => rfl) (fun _ _ _ => rfl) (fun t => by rw [after_eq]; rfl) t d).trans (whole_3 m c t)

theorem whole_5 (c : Dev nD) (t : Fin (pl m).N) : (((pl m).win 5).blk t).view.read (Elt F) (V m c (Pipeline.arrRef spec0 5)) = US m c := by
  funext y
  refine congrArg (US m c) (funext fun a => Fin.ext ?_)
  match a with
  | ⟨0, _⟩ => exact Window.rect_emb_val_of_index_zero ((pl m).win 5) t ⟨0, (by decide : 0 < 2)⟩ rfl y
  | ⟨1, _⟩ => exact Window.rect_emb_val_of_index_zero ((pl m).win 5) t ⟨1, (by decide : 1 < 2)⟩ rfl y

theorem before_5 (c : Dev nD) (t : Fin (pl m).N) (d) : (dats m 0 c).before 5 t d = US m c :=
  ((dats m 0 c).before_in_eq_fetched 5 rfl (fun _ => rfl) (fun _ _ _ => rfl) (fun t => by rw [after_eq]; rfl) t d).trans (whole_5 m c t)

theorem before_2 (c : Dev nD) (t : Fin (pl m).N) (d) : (dats m 0 c).before 2 t d = GB m c t :=
  (dats m 0 c).before_in_eq_fetched 2 rfl (fun _ => rfl) (fun _ _ _ => rfl) (fun t => by rw [after_eq]; rfl) t d

theorem before_4 (c : Dev nD) (t : Fin (pl m).N) (d) : (dats m 0 c).before 4 t d = UB m c t :=
  (dats m 0 c).before_in_eq_fetched 4 rfl (fun _ => rfl) (fun _ _ _ => rfl) (fun t => by rw [after_eq]; rfl) t d

theorem after_0 (c : Dev nD) (t : Fin (pl m).N) : (dats m 0 c).after 0 t = Xc m c := (after_eq m c 0 t).trans (whole_0 m c t)
theorem after_1 (c : Dev nD) (t : Fin (pl m).N) : (dats m 0 c).after 1 t = Sc m c := (after_eq m c 1 t).trans (whole_1 m c t)
theorem after_2 (c : Dev nD) (t : Fin (pl m).N) : (dats m 0 c).after 2 t = GB m c t := after_eq m c 2 t
theorem after_3 (c : Dev nD) (t : Fin (pl m).N) : (dats m 0 c).after 3 t = GS m c := (after_eq m c 3 t).trans (whole_3 m c t)
theorem after_4 (c : Dev nD) (t : Fin (pl m).N) : (dats m 0 c).after 4 t = UB m c t := after_eq m c 4 t
theorem after_5 (c : Dev nD) (t : Fin (pl m).N) : (dats m 0 c).after 5 t = US m c := (after_eq m c 5 t).trans (whole_5 m c t)

/-- A point's coordinates: its expert and its block column. -/
theorem coord0 (t : Fin (pl m).N) : (grid0.coords t 0).val = t.val / 8 := by
  have h : t.val < 64 := lt_of_lt_of_eq t.isLt N_0
  rw [Pipeline.Grid.coords_val (G := grid0) (S := 8) (B := 8) t 0 (by decide) rfl]
  omega

theorem coord1 (t : Fin (pl m).N) : (grid0.coords t 1).val = t.val % 8 := by
  rw [Pipeline.Grid.coords_val (G := grid0) (S := 1) (B := 8) t 1 (by decide) rfl]
  omega

/-- The precondition puts every group inside the rows. -/
theorem inside_of_pre [hP : Cert.Pre_groups_inside.Facts]
    (h : (Cert.Pre_groups_inside.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4)) (m (((0 : Dev nD).tc : Thread nD τ).loc main_arg5))
      (m (((0 : Dev nD).tc : Thread nD τ).loc main_arg6))) = (fun _ => 1#1)) : Inside m := by
  intro e
  have he := congrFun h (Idealize.ShloMosaic.ix1 (n0 := 8) e)
  have hk : Gt m = m (((0 : Dev nD) : Thread nD τ).loc main_arg0) := V_keep m 0 main_arg0 (by decide)
  rw [hk]
  unfold Ot
  rw [V_v1]
  change BitVec.ofBool (BitVec.sle 0#32 (offs (F := F) (m (((0 : Dev nD).tc : Thread nD τ).loc main_arg0)) (Idealize.ShloMosaic.ix1 e)))
    &&& BitVec.ofBool (BitVec.sle (m (((0 : Dev nD).tc : Thread nD τ).loc main_arg0) (Idealize.ShloMosaic.ix1 e))
      (2560#32 - offs (F := F) (m (((0 : Dev nD).tc : Thread nD τ).loc main_arg0)) (Idealize.ShloMosaic.ix1 e))) = 1#1 at he
  generalize (offs (F := F) (m (((0 : Dev nD).tc : Thread nD τ).loc main_arg0)) (Idealize.ShloMosaic.ix1 e) : BitVec 32) = w at he ⊢
  generalize (m (((0 : Dev nD).tc : Thread nD τ).loc main_arg0) (Idealize.ShloMosaic.ix1 e) : BitVec 32) = g at he ⊢
  have hs : BitVec.sle 0#32 w = true ∧ BitVec.sle g (2560#32 - w) = true := by
    cases hb : BitVec.sle 0#32 w <;> cases hb' : BitVec.sle g (2560#32 - w) <;> rw [hb, hb'] at he <;>
      first | exact ⟨rfl, rfl⟩ | exact absurd he (by decide)
  obtain ⟨ha, hb⟩ := hs
  rw [BitVec.sle_iff_toInt_le] at ha hb
  have hw := BitVec.toInt_eq_toNat_cond w
  have hl := w.isLt
  change (0 : Int) ≤ w.toInt at ha
  have hn : w.toNat < 2 ^ 31 := by split at hw <;> omega
  refine ⟨hn, hb.trans (le_of_eq ?_)⟩
  rw [BitVec.toInt_sub, show w.toInt = (w.toNat : Int) by split at hw <;> omega, show (2560#32).toInt = 2560 from rfl,
    Int.bmod_eq_of_le] <;> omega

end Cert.GateUpIdeal
-- ==== Proof.GateUpIdeal.Oblig.lean ====
module

public import proofs.«01_k».proof.Proof.GateUpIdeal.Run

/-! The body obligation. -/

@[expose] public section

set_option maxRecDepth 16384

noncomputable section

namespace Cert.GateUpIdeal
open Cert.GateUpIdeal.Gen Cert.DownWords Cert.GateWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, the outputs held to their relations. -/
abbrev rdat (hI : Inside m) (c : Dev nD) : Pipeline.RDat τ (Elt F) Unit ℕ (UR sig nD τ) ℕ (pl m) c := (dats m 0 c).toRRel (fgt m) (Rl m hI c)

/-- What the body finds in the buffer of means: the rows of the points before. -/
theorem finds_8 (hI : Inside m) (c : Dev nD) (t : Fin (pl m).N) (Y) (h : (rdat m hI c).Finds 8 t Y) : RowsUpTo m hI c t.val Y := by
  have hlt : t.val < 64 := lt_of_lt_of_eq t.isLt N_0
  by_cases ht : t.val = 0
  · rw [ht]
    intro t' h'
    exact absurd h' (Nat.not_lt_zero _)
  · rcases ((rdat m hI c).finds_of_pos (w := 8) (t := t) rfl ht Y).mp h with hf | hl
    · have := (Pipeline.Window.flush_const (n := 64) (m := 63) ((pl m).win 8) rfl (fun _ _ => rfl) N_0 rfl _).mp hf
      dsimp only at this
      omega
    · have hR : RowsUpTo m hI c (t.val - 1 + 1) Y := (dats m 0 c).toRRel_leaves (fgt := fgt m) (Rl := Rl m hI c) (w := 8) rfl hl
      rw [show t.val - 1 + 1 = t.val by omega] at hR
      exact hR

theorem off9_val (i : grid0.Coords) : k0_off9 i = ![(i 0).val, (i 1).val * 256] := by
  have h0 := (i 0).isLt
  change (i 0).val < 8 at h0
  have h1 := (i 1).isLt
  change (i 1).val < 8 at h1
  have e0 : (Scalar.indexCast (BitVec.ofNat 32 (i 0).val)).toNat = (i 0).val := by
    show (BitVec.ofNat 32 (i 0).val).toNat = _
    rw [BitVec.toNat_ofNat]; omega
  have e1 : (Scalar.indexCast (Scalar.muli (BitVec.ofNat 32 (i 1).val) 256#32)).toNat = (i 1).val * 256 := by
    show (BitVec.ofNat 32 (i 1).val * 256#32).toNat = _
    rw [BitVec.toNat_mul, BitVec.toNat_ofNat, BitVec.toNat_ofNat]; omega
  show ![(Scalar.indexCast (BitVec.ofNat 32 (i 0).val)).toNat, (Scalar.indexCast (Scalar.muli (BitVec.ofNat 32 (i 1).val) 256#32)).toNat] = _
  rw [e0, e1]

/-- The store of point `t` adds its row of means to those written. -/
theorem rows_step (hI : Inside m) (c : Dev nD) (t : Fin (pl m).N) (X : Vec F S8x2048 .f32) (h : RowsUpTo m hI c t.val X) :
    RowsUpTo m hI c (t.val + 1) (VecWindow.put (s := S8x2048) X (k0_off9 (grid0.coords t)) S1x256.size (rowAt m hI c t)) := by
  intro t' ht' y y0 y1
  rw [off9_val, coord0, coord1]
  have hy0 := (y 0).isLt
  change (y 0).val < 8 at hy0
  have hy1 := (y 1).isLt
  change (y 1).val < 2048 at hy1
  unfold VecWindow.put
  change (if h : _ then _ else X y) = _
  by_cases e : t'.val = t.val
  · have et : t' = t := Fin.ext e
    subst et
    have hin : ∀ a, (![t'.val / 8, t'.val % 8 * 256] : Fin 2 → ℕ) a ≤ (y a).val ∧ (y a).val < (![t'.val / 8, t'.val % 8 * 256] : Fin 2 → ℕ) a + S1x256.size a := by
      intro a
      match a with
      | ⟨0, _⟩ => exact ⟨(by show t'.val / 8 ≤ (y 0).val; omega), (by show (y 0).val < t'.val / 8 + 1; omega)⟩
      | ⟨1, _⟩ => exact ⟨(by show t'.val % 8 * 256 ≤ (y 1).val; omega), (by show (y 1).val < t'.val % 8 * 256 + 256; omega)⟩
    rw [dif_pos hin]
    refine congrArg (rowAt m hI c t') (funext fun a => Fin.ext ?_)
    match a with
    | ⟨0, _⟩ => show (y 0).val - t'.val / 8 = 0; omega
    | ⟨1, _⟩ => show (y 1).val - t'.val % 8 * 256 = (y 1).val % 256; omega
  · rw [dif_neg]
    · exact h t' (by omega) y y0 y1
    · intro hin
      have h0 := hin 0
      have h1 := hin 1
      change t.val / 8 ≤ (y 0).val ∧ (y 0).val < t.val / 8 + 1 at h0
      change t.val % 8 * 256 ≤ (y 1).val ∧ (y 1).val < t.val % 8 * 256 + 256 at h1
      omega

/-- The tables one by one. -/
theorem tables_eq (c : Dev nD) : (Pipeline.ΦT (U := UR sig nD τ) pre0 (pft m) c : sProp 𝕄)
    = iprop(owns (c : Thread nD τ) (Memref.whole main_v1) fullShare.right (Ot m) ∗ owns (c : Thread nD τ) (Memref.whole main_arg0) fullShare.right (Gt m)
        ∗ owns (c : Thread nD τ) (Memref.whole main_v11) fullShare.right (Et m)) := by
  rw [owns_whole, owns_whole, owns_whole]
  exact bigSep_univ_eq_bigSepL [(0 : Fin 3), (1 : Fin 3), (2 : Fin 3)] (by decide) (by decide) _

/-! The windows' staging buffers at point `t`. -/
abbrev st_0 (t : Fin (pl m).N) : Memref sig .tc .vmem S2560x6144 .fp8e4m3 := spec0_0.stage ((pl m).slots t 0)
abbrev st_1 (t : Fin (pl m).N) : Memref sig .tc .vmem S2560x1 .f32 := spec0_1.stage ((pl m).slots t 1)
abbrev st_2 (t : Fin (pl m).N) : Memref sig .tc .vmem S1x6144x256 .fp8e4m3 := spec0_2.stage ((pl m).slots t 2)
abbrev st_3 (t : Fin (pl m).N) : Memref sig .tc .vmem S8x2048 .f32 := spec0_3.stage ((pl m).slots t 3)
abbrev st_4 (t : Fin (pl m).N) : Memref sig .tc .vmem S1x6144x256 .fp8e4m3 := spec0_4.stage ((pl m).slots t 4)
abbrev st_5 (t : Fin (pl m).N) : Memref sig .tc .vmem S8x2048 .f32 := spec0_5.stage ((pl m).slots t 5)
abbrev st_6 (t : Fin (pl m).N) : Memref sig .tc .vmem S2560x2048 .fp8e4m3 := spec0_6.stage ((pl m).slots t 6)
abbrev st_7 (t : Fin (pl m).N) : Memref sig .tc .vmem S2560x128 .f32 := spec0_7.stage ((pl m).slots t 7)
abbrev st_8 (t : Fin (pl m).N) : Memref sig .tc .vmem S8x2048 .f32 := spec0_8.stage ((pl m).slots t 8)

/-- What the body is called with, -/
def bodyPre (hI : Inside m) (c : Dev nD) (t : Fin (pl m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d))
    ∗ (∃ d, owns (c : Thread nD τ) (st_5 m t) fullShare ((dats m 0 c).before 5 t d))
    ∗ (∃ Y, ⌜(rdat m hI c).Finds 6 t Y⌝ ∗ owns (c : Thread nD τ) (st_6 m t) fullShare Y)
    ∗ (∃ Y, ⌜(rdat m hI c).Finds 7 t Y⌝ ∗ owns (c : Thread nD τ) (st_7 m t) fullShare Y)
    ∗ (∃ Y, ⌜(rdat m hI c).Finds 8 t Y⌝ ∗ owns (c : Thread nD τ) (st_8 m t) fullShare Y))

/-- and what it returns. -/
def bodyPost (hI : Inside m) (c : Dev nD) (t : Fin (pl m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t)
    ∗ owns (c : Thread nD τ) (st_5 m t) fullShare ((dats m 0 c).after 5 t)
    ∗ (∃ X, ⌜Rl m hI c 6 t X⌝ ∗ owns (c : Thread nD τ) (st_6 m t) fullShare X)
    ∗ (∃ X, ⌜Rl m hI c 7 t X⌝ ∗ owns (c : Thread nD τ) (st_7 m t) fullShare X)
    ∗ (∃ X, ⌜Rl m hI c 8 t X⌝ ∗ owns (c : Thread nD τ) (st_8 m t) fullShare X))

/-- The body at point `t`. -/
abbrev bodyAt (t : Fin (pl m).N) : Prog (TpuEff nD τ sig (Elt F) Λ₀ .tc) PUnit :=
  cc0_gate_up (grid0.coords t) (Memref.whole main_v1) (Memref.isWhole_whole _) (Memref.whole main_arg0) (Memref.isWhole_whole _)
    (Memref.whole main_v11) (Memref.isWhole_whole _)
    (st_0 m t) (hstage0_0 (((pl m).slots t 0).cast nbuf0_0))
    (st_1 m t) (hstage0_1 (((pl m).slots t 1).cast nbuf0_1))
    (st_2 m t) (hstage0_2 (((pl m).slots t 2).cast nbuf0_2))
    (st_3 m t) (hstage0_3 (((pl m).slots t 3).cast nbuf0_3))
    (st_4 m t) (hstage0_4 (((pl m).slots t 4).cast nbuf0_4))
    (st_5 m t) (hstage0_5 (((pl m).slots t 5).cast nbuf0_5))
    (st_6 m t) (hstage0_6 (((pl m).slots t 6).cast nbuf0_6))
    (st_7 m t) (hstage0_7 (((pl m).slots t 7).cast nbuf0_7))
    (st_8 m t) (hstage0_8 (((pl m).slots t 8).cast nbuf0_8))
    (Memref.whole cc0_scratch0) (Memref.isWhole_whole _)

theorem defs₀_row (t : Fin (pl m).N) :
    defs₀ (F := F) .tc (pl m).body ((pl m).bodyArgs t ((pl m).slots t)) = bodyAt m t := by
  unfold defs₀; rw [Defs.onTc_tc]

theorem sound_body (hI : Inside m) (c : Dev nD) (t : Fin (pl m).N) :
    bodyPre m hI c t ⊢ wp frame (wpE (defs₀ (F := F)) Variants.none c none) Set.univ (bodyAt m t) (fun _ => bodyPost m hI c t) := by
  unfold bodyPre bodyPost
  simp only [before_0, before_1, before_2, before_3, before_4, before_5]
  rw [after_0, after_1, after_2, after_3, after_4, after_5,
    show (dats m 0 c).owesAt () t.succ = (dats m 0 c).owesAt () t.castSucc from rfl,
    show (dats m 0 c).Φ t.castSucc = Inv m c from rfl, show (dats m 0 c).Φ t.succ = Inv m c from rfl]
  unfold Inv
  rw [tables_eq]
  iintro ⟨⟨⟨%f, H9⟩, Hp, HT1, HT2, HT3⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y, %hY, H8⟩⟩
  have hM := finds_8 m hI c t Y hY
  iapply (body_run c Set.univ (grid0.coords t) _ (Memref.isWhole_whole _) _ (Memref.isWhole_whole _) _ _ _ _ _ _ _ _ _ _ _ _ _ _ _ _ _ _ _ _ _ _
    (Ot m) (Gt m) fullShare.right fullShare.right (Xc m c) (Sc m c) (GB m c t) (GS m c) (UB m c t) (US m c) Y (chk hI (grid0.coords t)) _)
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  iintro ⟨HT1, HT2, H0, H1, H2, H3, H4, H5, ⟨%e6, H6⟩, ⟨%e7, H7⟩, H8, ⟨%e9, H9⟩⟩
  isplitl [H9 Hp HT1 HT2 HT3]
  · isplitl [H9]; · iexists _; iexact H9
    isplitl [Hp]; · iexact Hp
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact trivial
  isplitl [H7]
  · iexists _; isplitr; swap; · iexact H7
    ipureintro; exact trivial
  iexists _; isplitr; swap; · iexact H8
  ipureintro
  exact rows_step m hI c t Y hM

/-- The library's body obligation, at every point. -/
theorem body_obligation (hI : Inside m) (c : Dev nD) : Pipeline.BodyObligationRel (dats m 0 c) (defs₀ (F := F)) Variants.none () Set.univ (fgt m) (Rl m hI c) := fun t => by
  rw [bigSep_W0, bigSep_W0, defs₀_row]
  exact triple_restated (sound_body m hI c t) rfl .rfl fun _ => .rfl

end Cert.GateUpIdeal
-- ==== Proof.GateUpIdeal.Launch.lean ====
module

public import proofs.«01_k».proof.Proof.GateUpIdeal.Oblig

/-! The run and the frame. -/

@[expose] public section

set_option maxRecDepth 16384

noncomputable section

namespace Cert.GateUpIdeal
open Cert.GateUpIdeal.Gen Cert.DownWords Cert.GateWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m main (V m) :=
  Pipeline.hmainP_prefixes (pcfgs (F := F)) 0 defs₀ Variants.none m main [hostOps0, hostOps0_1, hostOps0_2, hostOps0_3, hostOps0_4, hostOps0_5, hostOps0_6]
    ⟨hostOps0_sub, hostOps0_1_sub, hostOps0_2_sub, hostOps0_3_sub, hostOps0_4_sub, hostOps0_5_sub, hostOps0_6_sub⟩
    ⟨hostOps0_fresh, hostOps0_1_fresh, hostOps0_2_fresh, hostOps0_3_fresh, hostOps0_4_fresh, hostOps0_5_fresh, hostOps0_6_fresh⟩ main_chain

theorem hin (hI : Inside m) (c : Dev nD) : iprop(Pipeline.ΦA (U := UR sig nD τ) spec0 c ∗ Pipeline.ΦT (U := UR sig nD τ) pre0 (pft m) c) ⊢ (rdat m hI c).Φ 0 := by
  rw [show (rdat m hI c).Φ 0 = Inv m c from rfl]
  unfold Pipeline.ΦA Inv
  rw [scopedRest0_eq]
  simp only [owns_whole]
  iintro ⟨⟨⟨%f, Hs⟩, Hp⟩, HT⟩
  isplitl [Hs]
  · iexists f; iexact Hs
  isplitl [Hp]; · iexact Hp
  iexact HT

theorem hout (hI : Inside m) (c : Dev nD) : (rdat m hI c).Φ (Fin.last (pl m).N) ⊢ Pipeline.ΦA (U := UR sig nD τ) spec0 c := by
  rw [show (rdat m hI c).Φ (Fin.last (pl m).N) = Inv m c from rfl]
  unfold Pipeline.ΦA Inv
  rw [scopedRest0_eq]
  simp only [owns_whole]
  iintro ⟨⟨%f, Hs⟩, Hp, -⟩
  isplitl [Hs]
  · iexists f; iexact Hs
  iexact Hp

theorem hpf (c : Dev nD) (k : Fin pre0.K) : V m c (pre0.ref k) = pft m k := by
  obtain rfl : c = 0 := Subsingleton.elim _ _; rfl

set_option backward.isDefEq.respectTransparency.types false in
/-- The run: every weakly fair execution terminates, the arrays stand in the data's relation to their entry contents, every
    other buffer is unchanged since the region was entered, and every counter is zero. -/
theorem run_main (hI : Inside m) : θ_run defs (onTc (τ := τ) (main (F := F))) (s₀ m ρ)
    (fun r => Pipeline.RDat.FramePost (pl m) (rdat m hI) (V m) r ∧ r.2.sem = fun _ => 0) :=
  Pipeline.RDat.θ_run_frameP_track (Q' := _) (pcfgs (F := F)) (adm m) 0 launch0 defs₀ Variants.none (rdat m hI) m ρ main
    (hbody := fun c => (body_obligation m hI c).toRRel) (hshare := fun c => (rdat m hI c).share_full fun _ => rfl)
    (howed := fun _ _ => rfl) (V := V m) (hmain := hmain m) (hA := fun c w => A_eq m c w) (hpf := hpf m) (hin := hin m hI) (hout := hout m hI)

theorem mem_rest (b : Ref sig .tc) (h1 : b.isScoped = false) (h2 : ∀ w, (spec0 w).arr.view.ref ≠ b) : b ∈ Pipeline.restRefs sig spec0 :=
  Pipeline.mem_restRefs_of b h1 h2

/-- An input window's array ends as the region found it. -/
theorem in_eq (hI : Inside m) (c : Dev nD) (w : Fin (pl m).W) (hw : ((pl m).win w).isOut = false) (r : PUnit × MemSt nD τ sig (Elt F))
    (h : Pipeline.RDat.FramePost (pl m) (rdat m hI) (V m) r) :
    r.2.mem (((pl m).spec w).arr.view.loc (c.tc : Thread nD τ)) = V m c (Pipeline.arrRef spec0 w) :=
  (cast (congrFun ((rdat m hI c).ArrAt_in w hw (pl m).N) _) ((h c).1 w)).trans (A_eq m c w)

/-- The arguments end as launched and every counter is zero. -/
theorem frame (hI : Inside m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨((h.1 c).2 main_arg0 (mem_rest main_arg0 (by decide) (by decide))).trans (V_keep m c main_arg0 (by decide)),
     (in_eq m hI c 0 rfl r h.1).trans (V_keep m c main_arg1 (by decide)),
     ((h.1 c).2 main_arg2 (mem_rest main_arg2 (by decide) (by decide))).trans (V_keep m c main_arg2 (by decide)),
     (in_eq m hI c 2 rfl r h.1).trans (V_keep m c main_arg3 (by decide)),
     (in_eq m hI c 3 rfl r h.1).trans (V_keep m c main_arg4 (by decide)),
     (in_eq m hI c 4 rfl r h.1).trans (V_keep m c main_arg5 (by decide)),
     (in_eq m hI c 5 rfl r h.1).trans (V_keep m c main_arg6 (by decide))⟩, h.2⟩) (run_main m ρ hI)

end Cert.GateUpIdeal
-- ==== Proof.Frames.lean ====
module

public import proofs.«01_k».proof.Defs
public import proofs.«01_k».proof.Proof.HinIdeal.Launch
public import proofs.«01_k».proof.Proof.DownIdeal.Tables
public import proofs.«01_k».proof.Proof.GateUpIdeal.Launch
public import proofs.«01_k».proof.Proof.Gen.Kernel
public import proofs.«01_k».proof.Proof.Gen.Down
public import proofs.«01_k».proof.Proof.Gen.GateUp

/-! The frames of the kernels. No rewrite was applied to the ideal programs, so each is its kernel under another name, and
    its frame, proved at any float instance, read at the instance of bits is the kernel's. -/

@[expose] public section

noncomputable section

namespace Cert.Frames
open Idealize.ShloMosaic Idealize.SL.Sem

section
open Cert.KernelIdeal

theorem hin : Cert.quiescent_Kernel (hKernel := Cert.Kernel.Gen.facts) := by
  have f := fun (m : (ℓ : Loc nD τ sig) → Buf (Elt Bits) ℓ) (ρ : Dev nD → PrngReg) (_ : True) => Hin.frame (F := Bits) m ρ
  have e : (type_of% f) = Cert.quiescent_Kernel (hKernel := Cert.Kernel.Gen.facts) := by chain_rfl
  exact e.mp f

end

section
open Cert.DownIdeal
variable [hP : Cert.Pre_offsets_nonneg.Facts]

theorem down : Cert.quiescent_Down (hDown := Cert.Down.Gen.facts) := by
  have f := fun (m : (ℓ : Loc nD τ sig) → Buf (Elt Bits) ℓ) (ρ : Dev nD → PrngReg)
      (h : ∀ c : Dev nD, Cert.Pre_offsets_nonneg.fn (F := Bits) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) = (fun _ => 1#1)) =>
    Gen.frame (F := Bits) m ρ (ok m) (hyps (nonneg_of_pre (h 0)))
  have e : (type_of% f) = Cert.quiescent_Down (hDown := Cert.Down.Gen.facts) := by chain_rfl
  exact e.mp f

end

section
open Cert.GateUpIdeal
variable [hP : Cert.Pre_groups_inside.Facts]

theorem gateUp : Cert.quiescent_GateUp (hGateUp := Cert.GateUp.Gen.facts) := by
  have f := fun (m : (ℓ : Loc nD τ sig) → Buf (Elt Bits) ℓ) (ρ : Dev nD → PrngReg)
      (h : ∀ c : Dev nD, Cert.Pre_groups_inside.fn (F := Bits) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) = (fun _ => 1#1)) =>
    frame (F := Bits) m ρ (inside_of_pre m (h 0))
  have e : (type_of% f) = Cert.quiescent_GateUp (hGateUp := Cert.GateUp.Gen.facts) := by chain_rfl
  exact e.mp f

end

end Cert.Frames
-- ==== Proof.HinIdeal.Result.lean ====
module

public import proofs.«01_k».proof.Proof.HinIdeal.Launch
public import Idealize.ShloMosaic.Lib.Pipeline.Value
public import Idealize.ShloMosaic.Lib.Pipeline.DatRel

/-! What the arrays hold at the end of the run. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The result array: slab `p` is the block of the `p`-th pair of the tables. -/
def hinArr (c : Dev nD) : Vec F S300x256x256 .f32 := fun y =>
  outBlk (tile (Sc m c) (Xc m c) (ti (y 0).val)) (Xc m c) (tj (y 0).val)
    (fun z => V m c main_arg2 (ix3 (n0 := 300) (n1 := 256) (n2 := 256) ⟨(y 0).val, (y 0).isLt⟩ ⟨(z 1).val, (z 1).isLt⟩ ⟨(z 2).val, (z 2).isLt⟩)) (Cc m c)
    (ix3 (n0 := 1) (n1 := 256) (n2 := 256) 0 ⟨(y 1).val, (y 1).isLt⟩ ⟨(y 2).val, (y 2).isLt⟩)

/-- The row of means: block column `w` holds `meanRow` of it. -/
def meanArr (c : Dev nD) : Vec F S1x6144 .f32 := fun y =>
  meanRow (Sc m c) (Xc m c) ((y 1).val / 256) (ix2 (n0 := 1) (n1 := 256) 0 ⟨(y 1).val % 256, Nat.mod_lt _ (by decide)⟩)

theorem index_3 (t : Fin (pl (F := F)).N) : ((pl (F := F)).win 3).index t ⟨0, (by decide : 0 < 3)⟩ = t.val := by
  have h : t.val < 75 := lt_of_lt_of_eq t.isLt N_0
  show (BitVec.ofNat 32 (grid0.coords t 0).val).toNat = t.val
  rw [coord t, BitVec.toNat_ofNat]; omega

theorem index_4 (t : Fin (pl (F := F)).N) : ((pl (F := F)).win 4).index t ⟨0, (by decide : 0 < 3)⟩ = t.val := by
  have h : t.val < 75 := lt_of_lt_of_eq t.isLt N_0
  show (BitVec.ofNat 32 (grid0.coords t 0).val).toNat = t.val
  rw [coord t, BitVec.toNat_ofNat]; omega

theorem oldB_apply (c : Dev nD) (t : Fin (pl (F := F)).N) (y : S4x256x256.Idx) (h : 4 * t.val + (y 0).val < 300) :
    oldB m c t y = V m c main_arg2 (ix3 (n0 := 300) (n1 := 256) (n2 := 256) ⟨4 * t.val + (y 0).val, h⟩ ⟨(y 1).val, (y 1).isLt⟩ ⟨(y 2).val, (y 2).isLt⟩) := by
  refine congrArg (V m c main_arg2) (funext fun a => Fin.ext ?_)
  match a with
  | ⟨0, _⟩ =>
    refine (Window.rect_emb_val ((pl (F := F)).win 3) t y ⟨0, (by decide : 0 < 3)⟩).trans ?_
    rw [index_3 t]
    show t.val * 4 + (y 0).val = 4 * t.val + (y 0).val
    omega
  | ⟨1, _⟩ => exact Window.rect_emb_val_of_index_zero ((pl (F := F)).win 3) t ⟨1, (by decide : 1 < 3)⟩ rfl y
  | ⟨2, _⟩ => exact Window.rect_emb_val_of_index_zero ((pl (F := F)).win 3) t ⟨2, (by decide : 2 < 3)⟩ rfl y

theorem outSlab_eq (c : Dev nD) (t : Fin (pl (F := F)).N) (k : ℕ) (hk : k < 4) (p : Fin 300) (hp : 4 * t.val + k = p.val) :
    outSlab m c t k = outBlk (tile (Sc m c) (Xc m c) (ti p.val)) (Xc m c) (tj p.val)
      (fun z => V m c main_arg2 (ix3 (n0 := 300) (n1 := 256) (n2 := 256) p ⟨(z 1).val, (z 1).isLt⟩ ⟨(z 2).val, (z 2).isLt⟩)) (Cc m c) := by
  unfold outSlab
  rw [hp]
  refine congrArg (fun o => outBlk _ _ _ o _) (funext fun z => ?_)
  unfold slab
  have hk' : (Fin.ofNat 4 k).val = k := Nat.mod_eq_of_lt hk
  refine (oldB_apply m c t _ (by show 4 * t.val + (Fin.ofNat 4 k).val < 300; rw [hk']; omega)).trans (congrArg (V m c main_arg2) (funext fun a => Fin.ext ?_))
  match a with
  | ⟨0, _⟩ => show 4 * t.val + (Fin.ofNat 4 k).val = p.val; rw [hk', hp]
  | ⟨1, _⟩ => rfl
  | ⟨2, _⟩ => rfl

theorem outB_apply (c : Dev nD) (t : Fin (pl (F := F)).N) (y : S4x256x256.Idx) (i : S300x256x256.Idx)
    (h0 : (i 0).val = 4 * t.val + (y 0).val) (h1 : (i 1).val = (y 1).val) (h2 : (i 2).val = (y 2).val) : outB m c t y = hinArr m c i := by
  have hy : (y 0).val < 4 := (y 0).isLt
  have e : outB m c t y = outSlab m c t (y 0).val (ix3 (n0 := 1) (n1 := 256) (n2 := 256) 0 ⟨(y 1).val, (y 1).isLt⟩ ⟨(y 2).val, (y 2).isLt⟩) := by
    unfold outB blk4
    refine congrFun ?_ _
    split_ifs with a b d
    · rw [a]
    · rw [b]
    · rw [d]
    · rw [show (y 0).val = 3 by omega]
  rw [e, outSlab_eq m c t (y 0).val hy ⟨(i 0).val, (i 0).isLt⟩ h0.symm]
  unfold hinArr
  refine congrArg _ (funext fun a => Fin.ext ?_)
  match a with
  | ⟨0, _⟩ => rfl
  | ⟨1, _⟩ => exact h1.symm
  | ⟨2, _⟩ => exact h2.symm

theorem flush_4 (t : Fin (pl (F := F)).N) : ((pl (F := F)).win 4).flush t = true := by
  refine (Window.flush_reads (G := grid0) ((pl (F := F)).win 4) rfl (0 : Fin 1) (by decide) (show grid0.fixedAfter reads0_4 0 = true by decide) (fun i i' h => ?_) (P := 1) (m := 0) (by decide) rfl t).mpr (Nat.mod_one _)
  have e := congrFun h ⟨0, (by decide : 0 < 3)⟩
  change (BitVec.ofNat 32 (i 0).val).toNat = (BitVec.ofNat 32 (i' 0).val).toNat at e
  have h1 : (i 0).val < 75 := (i 0).isLt
  have h2 : (i' 0).val < 75 := (i' 0).isLt
  rw [BitVec.toNat_ofNat, BitVec.toNat_ofNat] at e
  exact Fin.ext (by omega)

/-- The result window's array at the end. -/
theorem arr_4 (c : Dev nD) : (dats m 0 c).arrAt 4 (pl (F := F)).N = hinArr m c := by
  refine (dats m 0 c).arrAt_eq_of_cover 4 (hinArr m c) (fun t _ => funext fun (y : S4x256x256.Idx) => ?_) (fun i => ?_)
  · refine (congrFun (after_4 m c t) y).trans ?_
    refine outB_apply m c t y ((((pl (F := F)).win 4).blk t).view.emb y) ?_ ?_ ?_
    · refine (Window.rect_emb_val ((pl (F := F)).win 4) t y ⟨0, (by decide : 0 < 3)⟩).trans ?_
      rw [index_4 t]
      show t.val * 4 + (y 0).val = 4 * t.val + (y 0).val
      omega
    · exact Window.rect_emb_val_of_index_zero ((pl (F := F)).win 4) t ⟨1, (by decide : 1 < 3)⟩ rfl y
    · exact Window.rect_emb_val_of_index_zero ((pl (F := F)).win 4) t ⟨2, (by decide : 2 < 3)⟩ rfl y
  · change S300x256x256.Idx at i
    have hi : (i 0).val < 300 := (i 0).isLt
    have hN : (pl (F := F)).N = 75 := N_0
    refine ⟨⟨(i 0).val / 4, by omega⟩, flush_4 _, ?_⟩
    generalize ht : (⟨(i 0).val / 4, _⟩ : Fin (pl (F := F)).N) = t
    have htv : t.val = (i 0).val / 4 := by rw [← ht]
    let y : S4x256x256.Idx := ix3 (n0 := 4) (n1 := 256) (n2 := 256) ⟨(i 0).val % 4, Nat.mod_lt _ (by decide)⟩ ⟨(i 1).val, (i 1).isLt⟩ ⟨(i 2).val, (i 2).isLt⟩
    have e : (((pl (F := F)).win 4).blk t).view.emb y = i := by
      refine funext fun a => Fin.ext ?_
      match a with
      | ⟨0, _⟩ =>
        refine (Window.rect_emb_val ((pl (F := F)).win 4) t y ⟨0, (by decide : 0 < 3)⟩).trans ?_
        rw [index_4 t]
        show t.val * 4 + (i 0).val % 4 = (i 0).val
        rw [htv]; omega
      | ⟨1, _⟩ => exact Window.rect_emb_val_of_index_zero ((pl (F := F)).win 4) t ⟨1, (by decide : 1 < 3)⟩ rfl y
      | ⟨2, _⟩ => exact Window.rect_emb_val_of_index_zero ((pl (F := F)).win 4) t ⟨2, (by decide : 2 < 3)⟩ rfl y
    exact e ▸ View.emb_mem_set _ y

variable (r : PUnit × MemSt nD τ sig (Elt F)) (h : Pipeline.RDat.FramePost (pl (F := F)) (rdat m) (V m) r)
include h

theorem res_hin (c : Dev nD) : r.2.mem ((c.tc : Thread nD τ).loc main_v11_0) = hinArr m c := by
  have h4 := (h c).1 4
  have h5 := ((dats m 0 c).toR_arrAt_iff 4 _ _).mp ((Pipeline.RDat.override_arrAt (rd := (dats m 0 c).toR) (by rfl) _ _).mp h4)
  exact h5.trans (arr_4 m c)

theorem res_n (c : Dev nD) : r.2.mem ((c.tc : Thread nD τ).loc main_v1) = V m c main_v1 :=
  (h c).2 main_v1 (mem_rest main_v1 (by decide) (by decide))

omit h in
theorem arrAt_early (c : Dev nD) : ∀ n ≤ 74, ∀ G, (rdat m c).ArrAt 5 n G → G = V m c (Pipeline.arrRef spec0 5)
  | 0, _, G, hG => hG
  | n + 1, hn, G, hG => by
    have hN : (pl (F := F)).N = 75 := N_0
    have hlt : n < (pl (F := F)).N := by omega
    refine arrAt_early c n (by omega) G ?_
    unfold Pipeline.RDat.ArrAt at hG
    dsimp only at hG
    rw [dif_pos hlt, if_neg] at hG
    · exact hG
    · intro hf
      have := (Pipeline.Window.flush_const (n := 75) (m := 74) ((pl (F := F)).win 5) rfl (fun _ _ => rfl) N_0 rfl _).mp hf
      dsimp only at this
      omega

theorem res_mean (c : Dev nD) : r.2.mem ((c.tc : Thread nD τ).loc main_v11_1) = meanArr m c := by
  have hN : (pl (F := F)).N = 75 := N_0
  have h5 := (h c).1 5
  rw [hN] at h5
  unfold Pipeline.RDat.ArrAt at h5
  dsimp only at h5
  rw [dif_pos (show 74 < (pl (F := F)).N from lt_of_lt_of_eq (by decide) N_0.symm), if_pos ((Pipeline.Window.flush_const (n := 75) (m := 74) ((pl (F := F)).win 5) rfl (fun _ _ => rfl) N_0 rfl _).mpr (by rfl))] at h5
  obtain ⟨G₀, X, -, hX, hG⟩ := h5
  have hR : MeanUpTo (Sc m c) (Xc m c) (cnt (4 * 74 + 4)) X := (dats m 0 c).toRRel_leaves (fgt := fgt) (Rl := Rl m c) (w := 5) rfl hX
  rw [show cnt (4 * 74 + 4) = 24 by unfold cnt; rw [if_neg (by decide)]; exact congrArg (· + 1) ti_last] at hR
  refine hG.trans (funext fun (i : S1x6144.Idx) => ?_)
  have h74 : 74 < (pl (F := F)).N := lt_of_lt_of_eq (by decide) N_0.symm
  have e : (((pl (F := F)).win 5).blk ⟨74, h74⟩).view.emb i = i := by
    refine funext fun a => Fin.ext ?_
    match a with
    | ⟨0, _⟩ => exact Window.rect_emb_val_of_index_zero ((pl (F := F)).win 5) _ ⟨0, (by decide : 0 < 2)⟩ rfl i
    | ⟨1, _⟩ => exact Window.rect_emb_val_of_index_zero ((pl (F := F)).win 5) _ ⟨1, (by decide : 1 < 2)⟩ rfl i
  have hi : (i 1).val < 6144 := (i 1).isLt
  refine Eq.trans ?_ (hR i (by omega))
  conv_lhs => rw [← e]
  exact View.write_emb_of_mem _ _ (Finset.mem_univ _)

end Cert.KernelIdeal.Hin
-- ==== Proof.HinIdeal.Ideal.lean ====
module

public import proofs.«01_k».proof.Proof.HinIdeal.Result
public import Idealize.ShloMosaic.Lib.Pointwise

/-! What the kernel's blocks hold, element by element, over the extended reals. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One element of a block of the result: the scaled old element plus the scaled inner product. -/
theorem outBlk_apply (a : Vec Ideal S256x2560 .bf16) (X : Vec Ideal S2560x6144 .fp8e4m3) (w : ℕ) (old : Vec Ideal S1x256x256 .f32) (co : Vec Ideal S2 .f32)
    (i j : Fin 256) : outBlk a X w old co (ix3 0 i j)
      = old (ix3 0 i j) * co (ix1 0) + co (ix1 1) * ∑ k : Fin 2560, a (ix2 i k) * X (ix2 k (Fin.ofNat 6144 (256 * w + j.val))) := by
  unfold outBlk xCol
  pointwise [k0_pay141]

/-- One element of the sum of magnitudes over a block of 256 rows. -/
theorem colSum_apply (s : Vec Ideal S256x1 .f32) (x : Vec Ideal S256x256 .fp8e4m3) (j : Fin 256) :
    colSum s x (ix2 0 j) = ∑ k : Fin 256, FloatOps.absf (F := Ideal) (φ := .f32) (x (ix2 k j) * s (ix2 k 0) : EReal) := by
  unfold colSum
  pointwise

/-- The magnitude at row `k` of column `j`. -/
def mag (S : Vec Ideal S2560x1 .f32) (X : Vec Ideal S2560x6144 .fp8e4m3) (col : Fin 6144) (k : ℕ) : EReal :=
  FloatOps.absf (F := Ideal) (φ := .f32) (X (ix2 (Fin.ofNat 2560 k) col) * S (ix2 (Fin.ofNat 2560 k) 0) : EReal)

/-- Ten sums of 256 terms in order are the sum of the 2560. -/
theorem sum_ten (f : ℕ → EReal) : ((((((((((0 + ∑ k : Fin 256, f (256 * 0 + k.val)) + ∑ k : Fin 256, f (256 * 1 + k.val)) + ∑ k : Fin 256, f (256 * 2 + k.val))
      + ∑ k : Fin 256, f (256 * 3 + k.val)) + ∑ k : Fin 256, f (256 * 4 + k.val)) + ∑ k : Fin 256, f (256 * 5 + k.val)) + ∑ k : Fin 256, f (256 * 6 + k.val))
      + ∑ k : Fin 256, f (256 * 7 + k.val)) + ∑ k : Fin 256, f (256 * 8 + k.val)) + ∑ k : Fin 256, f (256 * 9 + k.val)) = ∑ k : Fin 2560, f k.val := by
  rw [Fin.sum_univ_eq_sum_range f 2560]
  have h : ∀ n, ∑ k ∈ Finset.range (256 * n), f k + ∑ k : Fin 256, f (256 * n + k.val) = ∑ k ∈ Finset.range (256 * (n + 1)), f k := fun n => by
    rw [Fin.sum_univ_eq_sum_range (fun k => f (256 * n + k)) 256, Nat.mul_succ, Finset.sum_range_add]
  have h0 : (0 : EReal) = ∑ k ∈ Finset.range (256 * 0), f k := by simp
  rw [h0, h 0, h 1, h 2, h 3, h 4, h 5, h 6, h 7, h 8, h 9]

/-- One mean: the sum of the column's magnitudes over all 2560 rows, divided by their number. -/
theorem meanRow_apply (S : Vec Ideal S2560x1 .f32) (X : Vec Ideal S2560x6144 .fp8e4m3) (w : ℕ) (j : Fin 256) :
    meanRow S X w (ix2 0 j) = Ideal.div (∑ k : Fin 2560, mag S X (Fin.ofNat 6144 (256 * w + j.val)) k.val) (Ideal.ofBits .f32 0x45200000#32) := by
  have hc : ∀ c, colSum (sBlk S c) (xBlk X c w) (ix2 0 j) = ∑ k : Fin 256, mag S X (Fin.ofNat 6144 (256 * w + j.val)) (256 * c + k.val) := fun c => by
    rw [colSum_apply]
    unfold mag sBlk xBlk
    rfl
  unfold meanRow meanOf
  pointwise
  simp only [hc]
  have e := sum_ten (mag S X (Fin.ofNat 6144 (256 * w + j.val)))
  rw [zero_add] at e
  rw [e]

end Cert.KernelIdeal.Hin
-- ==== Proof.HinIdeal.Values.lean ====
module

public import proofs.«01_k».proof.Proof.HinIdeal.Ideal
public import Idealize.ShloMosaic.Lib.Pointwise

/-! The kernel's results, element by element, from its arguments. -/

@[expose] public section

set_option maxRecDepth 16384

noncomputable section

namespace Cert.KernelIdeal.Hin
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (mI : (ℓ : Loc nD τ sig) → Buf (Elt Ideal) ℓ) (c : Dev nD)
variable (x : Vec Ideal S2560x6144 .fp8e4m3) (s : Vec Ideal S2560 .f32) (old : Vec Ideal S300x256x256 .f32) (n : Vec Ideal S1 .i32)
variable (h0 : mI ((c : Thread nD τ).loc main_arg0) = x) (h1 : mI ((c : Thread nD τ).loc main_arg1) = s)
variable (h2 : mI ((c : Thread nD τ).loc main_arg2) = old) (h3 : mI ((c : Thread nD τ).loc main_arg3) = n)

include h0 in
theorem Xc_eq : Xc mI c = x := (V_keep mI c main_arg0 (by decide)).trans h0
include h1 in
theorem Sc_apply (k : Fin 2560) : Sc mI c (ix2 (n0 := 2560) (n1 := 1) k 0) = s (ix1 k) := by
  have e : Sc mI c = broadcastInDim S2560x1 ![0] bcast_S2560_S2560x1_0 s := by rw [← h1]; exact V_v2 mI c
  rw [e]
  pointwise
include h3 in
theorem Cc_0 : Cc mI c (ix1 (n0 := 2) 0) = Host.divf (nOld n) (nNew n) Idealize.ShloMosaic.ix0 := by
  have e := V_v10 mI c
  rw [h3] at e
  refine (congrFun e _).trans ?_
  generalize Host.divf (nOld n) (nNew n) = q0
  generalize Host.divf (constant S_ .f32 0x40000000#32) (nNew n) = q1
  pointwise
include h3 in
theorem Cc_1 : Cc mI c (ix1 (n0 := 2) 1) = Host.divf (constant S_ .f32 0x40000000#32) (nNew n) Idealize.ShloMosaic.ix0 := by
  have e := V_v10 mI c
  rw [h3] at e
  refine (congrFun e _).trans ?_
  generalize Host.divf (nOld n) (nNew n) = q0
  generalize Host.divf (constant S_ .f32 0x40000000#32) (nNew n) = q1
  pointwise

/-- One element of a tile, over the extended reals. -/
theorem tile_apply (S : Vec Ideal S2560x1 .f32) (X : Vec Ideal S2560x6144 .fp8e4m3) (w : ℕ) (i : Fin 256) (k : Fin 2560) :
    tile S X w (ix2 (n0 := 256) (n1 := 2560) i k) = (S (ix2 k 0) * S (ix2 k 0) * X (ix2 k (Fin.ofNat 6144 (256 * w + i.val))) : EReal) := rfl

include h0 h1 h2 h3 in
/-- The first result, element by element. -/
theorem hinArr_apply (p : Fin 300) (i j : Fin 256) :
    hinArr mI c (ix3 (n0 := 300) (n1 := 256) (n2 := 256) p i j)
      = (old (ix3 p i j) * Host.divf (nOld n) (nNew n) Idealize.ShloMosaic.ix0
        + Host.divf (constant S_ .f32 0x40000000#32) (nNew n) Idealize.ShloMosaic.ix0
          * ∑ k : Fin 2560, (s (ix1 k) * s (ix1 k) * x (ix2 k (Fin.ofNat 6144 (256 * (lit0 p).toNat + i.val))))
            * x (ix2 k (Fin.ofNat 6144 (256 * (lit1 p).toNat + j.val))) : EReal) := by
  have hp : Fin.ofNat 300 p.val = p := Fin.ext (Nat.mod_eq_of_lt p.isLt)
  have ho : V mI c main_arg2 = old := (V_keep mI c main_arg2 (by decide)).trans h2
  have ei : ti p.val = (lit0 p).toNat := by unfold ti; rw [hp]
  have ej : tj p.val = (lit1 p).toNat := by unfold tj; rw [hp]
  unfold hinArr
  refine (outBlk_apply _ _ _ _ _ i j).trans ?_
  rw [Cc_0 mI c n h3, Cc_1 mI c n h3, Xc_eq mI c x h0, ho]
  refine congrArg₂ (· + ·) rfl (congrArg (_ * ·) (Finset.sum_congr rfl fun k _ => ?_))
  rw [tile_apply, Sc_apply mI c s h1 k]
  exact congrArg₂ (fun a b => (s (ix1 k) * s (ix1 k) * x (ix2 k (Fin.ofNat 6144 (256 * a + i.val)))) * x (ix2 k (Fin.ofNat 6144 (256 * b + j.val)))) ei ej

include h0 h1 in
/-- The mean of magnitudes, column by column. -/
theorem meanArr_apply (j : Fin 6144) :
    meanArr mI c (ix2 (n0 := 1) (n1 := 6144) 0 j)
      = Ideal.div (∑ k : Fin 2560, FloatOps.absf (F := Ideal) (φ := .f32) (x (ix2 k j) * s (ix1 k) : EReal)) (Ideal.ofBits .f32 0x45200000#32) := by
  unfold meanArr
  refine (meanRow_apply _ _ _ _).trans ?_
  have hj : Fin.ofNat 6144 (256 * (j.val / 256) + j.val % 256) = j := Fin.ext (by
    show (256 * (j.val / 256) + j.val % 256) % 6144 = j.val
    rw [Nat.div_add_mod, Nat.mod_eq_of_lt j.isLt])
  refine congrArg (Ideal.div · _) (Finset.sum_congr rfl fun k _ => ?_)
  have hk : Fin.ofNat 2560 k.val = k := Fin.ext (Nat.mod_eq_of_lt k.isLt)
  unfold mag
  rw [hk, Sc_apply mI c s h1 k, Xc_eq mI c x h0]
  exact congrArg (fun q => FloatOps.absf (F := Ideal) (φ := .f32) (x (ix2 k q) * s (ix1 k) : EReal)) hj

end Cert.KernelIdeal.Hin
-- ==== Proof.Ref.Reads.lean ====
module

public import proofs.«01_k».proof.Proof.Gen.ReferenceIdeal.Frame
public import Idealize.ShloMosaic.Lib.StableHlo.RunRead

/-! What the reference's lines compute. -/

@[expose] public section

set_option maxRecDepth 16384

noncomputable section

namespace Cert.ReferenceIdeal.Ref
open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The count of rows seen so far, as a float, -/
def nOld (n : Vec F S1 .i32) : Vec F S_ .f32 := sitofp .f32 (shapeCast S_ n shapeCasts_S1_S_)
/-- and after this call. -/
def nNew (n : Vec F S1 .i32) : Vec F S_ .f32 := addf (nOld n) (constant S_ .f32 0x45200000#32)

/-- The product of the scaled codes, transposed, with the codes. -/
def gram (s : Vec F S2560 .f32) (x : Vec F S2560x6144 .f32) : FVec F S6144x6144 .f32 :=
  Host.dotGeneral dot_S2560x6144_S2560x6144_S6144x6144_0_0_1_1_n_n none
    (truncf .bf16 (mulf (broadcastInDim S2560x6144 ![0, 1] bcast_S2560x1_S2560x6144_0_1 (broadcastInDim S2560x1 ![0] bcast_S2560_S2560x1_0 (mulf s s))) x) bitsLt_bf16_f32)
    (truncf .bf16 x bitsLt_bf16_f32)

/-- The product in 24 by 24 blocks of 256 by 256. -/
def blocks (g : FVec F S6144x6144 .f32) : FVec F S24x24x256x256 .f32 :=
  transpose S24x24x256x256 [0, 2, 1, 3] (shapeCast S24x256x24x256 g shapeCasts_S6144x6144_S24x256x24x256) transposes_S24x256x24x256_S24x24x256x256_0_2_1_3

/-- One table as the gather takes it. -/
def col (l : Fin 300 → BitVec 32) : Vec F S300x1 .i32 :=
  broadcastInDim S300x1 ![0] bcast_S300_S300x1_0
    (select (constantI S300 1 0#1) (addi (fun i => l (S300.rowMajor i)) (broadcastInDim S300 ![] bcast_S_S300 (constantI S_ 32 24#32))) (fun i => l (S300.rowMajor i)) : Vec F S300 .i32)

/-- The pairs of block numbers. -/
def pairs : Vec F S300x2 .i32 :=
  concatenate S300x2 1 [⟨S300x1, col (F := F) lit0⟩, ⟨S300x1, col (F := F) lit1⟩] concatenates_S300x1_S300x1_S300x2_d1

/-- The blocks the pairs name. -/
def upper (g : FVec F S6144x6144 .f32) : FVec F S300x256x256 .f32 :=
  Host.gather gather_S24x24x256x256_S300x2_S300x256x256_12_01_n_n_01_1_11256256 (blocks g) (pairs (F := F))

/-- The codes as floats: what the region leaves. -/
abbrev codes (c : Dev nD) : Vec F S2560x6144 .f32 := (dats m 0 c).arrAt 1 cfg0.N

/-- What the lines after the region leave at `b`. -/
abbrev W (c : Dev nD) (b : Ref sig .tc) : Buf (Elt F) ((c : Thread nD τ).loc b) := Pipeline.afterTail₀ cfgs (dats m) 0 (V0 m) [hostOps1] c b

/-- The buffers as the region leaves them. -/
abbrev B (c : Dev nD) (b : Ref sig .tc) : Buf (Elt F) ((c : Thread nD τ).loc b) :=
  Pipeline.withArrays (cfgs 0).spec c (V0 m c) (fun w => (dats m 0 c).arrAt w (cfgs 0).N) (Proc.devRef .tc b)

theorem B_keep (c : Dev nD) (b : Ref sig .tc) (h : ∀ w, Pipeline.arrRef spec0 w ≠ b) : B m c b = V m c b :=
  Pipeline.withArrays_of_ne _ c (V0 m c) _ b (by exact h)

theorem B_v0 (c : Dev nD) : B m c main_v0 = codes m c :=
  Pipeline.withArrays_arr (cfgs 0).spec winFacts0.arr_inj c (V0 m c) _ 1

theorem V_c (c : Dev nD) : V m c main_c = ((fun i => lit0 (S300.rowMajor i)) : Vec F S300 .i32) := by
  dsimp only [V, V0]
  after_reads_simp
  rfl
theorem V_c_0 (c : Dev nD) : V m c main_c_0 = (constantI S300 1 0#1 : Vec F S300 .i1) := by
  dsimp only [V, V0]
  after_reads_simp
theorem V_c_1 (c : Dev nD) : V m c main_c_1 = ((fun i => lit1 (S300.rowMajor i)) : Vec F S300 .i32) := by
  dsimp only [V, V0]
  after_reads_simp
  rfl
theorem V_c_2 (c : Dev nD) : V m c main_c_2 = (constantI S300 1 0#1 : Vec F S300 .i1) := by
  dsimp only [V, V0]
  after_reads_simp

theorem B_arg1 (c : Dev nD) : B m c main_arg1 = m ((c : Thread nD τ).loc main_arg1) := (B_keep m c main_arg1 (by decide)).trans (V_main_arg1 m c)
theorem B_arg2 (c : Dev nD) : B m c main_arg2 = m ((c : Thread nD τ).loc main_arg2) := (B_keep m c main_arg2 (by decide)).trans (V_main_arg2 m c)
theorem B_arg3 (c : Dev nD) : B m c main_arg3 = m ((c : Thread nD τ).loc main_arg3) := (B_keep m c main_arg3 (by decide)).trans (V_main_arg3 m c)
theorem B_c (c : Dev nD) : B m c main_c = ((fun i => lit0 (S300.rowMajor i)) : Vec F S300 .i32) := (B_keep m c main_c (by decide)).trans (V_c m c)
theorem B_c_0 (c : Dev nD) : B m c main_c_0 = (constantI S300 1 0#1 : Vec F S300 .i1) := (B_keep m c main_c_0 (by decide)).trans (V_c_0 m c)
theorem B_c_1 (c : Dev nD) : B m c main_c_1 = ((fun i => lit1 (S300.rowMajor i)) : Vec F S300 .i32) := (B_keep m c main_c_1 (by decide)).trans (V_c_1 m c)
theorem B_c_2 (c : Dev nD) : B m c main_c_2 = (constantI S300 1 0#1 : Vec F S300 .i1) := (B_keep m c main_c_2 (by decide)).trans (V_c_2 m c)

theorem W_v39 (c : Dev nD) : W m c main_v39 = addi (m ((c : Thread nD τ).loc main_arg3)) (broadcastInDim S1 ![] bcast_S_S1 (constantI S_ 32 2560#32)) := by
  rw [← B_arg3 m c]
  dsimp only [W, B]
  unfold Pipeline.afterTail₀
  after_reads_simp

theorem W_v37 (c : Dev nD) : W m c main_v37 = Host.divf (broadcastInDim S1x6144 ![1] bcast_S6144_S1x6144_1
      (Host.reduceAdd (Host.absf (mulf (codes m c) (broadcastInDim S2560x6144 ![0, 1] bcast_S2560x1_S2560x6144_0_1 (broadcastInDim S2560x1 ![0] bcast_S2560_S2560x1_0 (m ((c : Thread nD τ).loc main_arg1))))))
        (constant S_ .f32 0x00000000#32) reducesTo_S2560x6144_S6144_d0 h_S_))
    (broadcastInDim S1x6144 ![] bcast_S_S1x6144 (constant S_ .f32 0x45200000#32)) := by
  rw [← B_arg1 m c, ← B_v0 m c]
  dsimp only [W, B]
  unfold Pipeline.afterTail₀
  after_reads_simp

theorem concat_congr {a a' b b' : Vec F S300x1 .i32} (ha : a = a') (hb : b = b') :
    concatenate S300x2 1 [⟨S300x1, a⟩, ⟨S300x1, b⟩] concatenates_S300x1_S300x1_S300x2_d1 = concatenate S300x2 1 [⟨S300x1, a'⟩, ⟨S300x1, b'⟩] concatenates_S300x1_S300x1_S300x2_d1 := by
  rw [ha, hb]

theorem W_v29 (c : Dev nD) : W m c main_v29 = addf
      (mulf (m ((c : Thread nD τ).loc main_arg2)) (broadcastInDim S300x256x256 ![] bcast_S_S300x256x256 (Host.divf (nOld (m ((c : Thread nD τ).loc main_arg3))) (nNew (m ((c : Thread nD τ).loc main_arg3))))))
      (mulf (broadcastInDim S300x256x256 ![] bcast_S_S300x256x256 (Host.divf (constant S_ .f32 0x40000000#32) (nNew (m ((c : Thread nD τ).loc main_arg3)))))
        (upper (gram (m ((c : Thread nD τ).loc main_arg1)) (codes m c)))) := by
  unfold upper pairs col
  rw [← B_arg1 m c, ← B_arg2 m c, ← B_arg3 m c, ← B_v0 m c, ← B_c m c, ← B_c_1 m c]
  unfold nNew nOld gram blocks
  dsimp only [W, B]
  unfold Pipeline.afterTail₀
  after_reads_simp
  refine congrArg₂ addf rfl (congrArg (mulf _) (congrArg₂ (Host.gather _) rfl (concat_congr ?_ ?_)))
  · rw [← B_c_0 m c]
    dsimp only [B]
    after_reads_simp
  · rw [← B_c_2 m c]
    dsimp only [B]
    after_reads_simp

end Cert.ReferenceIdeal.Ref
-- ==== Proof.Ref.Ideal.lean ====
module

public import proofs.«01_k».proof.Proof.Ref.Reads
public import Idealize.ShloMosaic.Lib.Pointwise
public import Idealize.ShloMosaic.Lib.Pipeline.ValueKit

/-! What the reference's values hold, element by element. -/

@[expose] public section

set_option maxRecDepth 16384

noncomputable section

namespace Cert.ReferenceIdeal.Ref
open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The region leaves each code as a float. -/
theorem codes_eq (c : Dev nD) : codes m c = extf .f32 (m ((c : Thread nD τ).loc main_arg0) : Vec F S2560x6144 .fp8e4m3) bitsLt_fp8e4m3_f32 := by
  refine (dats m 0 c).arrAt_eq_of_cover 1 _ (fun t _ => funext fun (y : S2560x6144.Idx) => ?_) (fun i => ?_)
  · refine (congrFun (after0_1 m c t) y).trans ?_
    have ei : iblk m c 0 t = m ((c : Thread nD τ).loc main_arg0) := by
      rw [← V_main_arg0 m c]
      refine funext fun (z : S2560x6144.Idx) => congrArg (V m c main_arg0) (funext fun a => Fin.ext ?_)
      match a with
      | ⟨0, _⟩ => exact Pipeline.Window.rect_emb_val_of_index_zero (cfg0.win 0) t ⟨0, (by decide : 0 < 2)⟩ rfl z
      | ⟨1, _⟩ => exact Pipeline.Window.rect_emb_val_of_index_zero (cfg0.win 0) t ⟨1, (by decide : 1 < 2)⟩ rfl z
    unfold out0_1 r0_0
    rw [View.canon_cons_unit_lit _ _ _ (by decide), View.ld_unit_lit _ _ (by decide), ei]
    have e : ((cfg0.win 1).blk t).view.emb y = y := by
      refine funext fun a => Fin.ext ?_
      match a with
      | ⟨0, _⟩ => exact Pipeline.Window.rect_emb_val_of_index_zero (cfg0.win 1) t ⟨0, (by decide : 0 < 2)⟩ rfl y
      | ⟨1, _⟩ => exact Pipeline.Window.rect_emb_val_of_index_zero (cfg0.win 1) t ⟨1, (by decide : 1 < 2)⟩ rfl y
    exact congrArg (extf .f32 (m ((c : Thread nD τ).loc main_arg0) : Vec F S2560x6144 .fp8e4m3) bitsLt_fp8e4m3_f32) e.symm
  · change S2560x6144.Idx at i
    have hN : 0 < cfg0.N := by decide
    refine ⟨⟨0, hN⟩, (by decide : (cfg0.win 1).flush ⟨0, by decide⟩ = true), ?_⟩
    have e : ((cfg0.win 1).blk ⟨0, hN⟩).view.emb i = i := by
      refine funext fun a => Fin.ext ?_
      match a with
      | ⟨0, _⟩ => exact Pipeline.Window.rect_emb_val_of_index_zero (cfg0.win 1) _ ⟨0, (by decide : 0 < 2)⟩ rfl i
      | ⟨1, _⟩ => exact Pipeline.Window.rect_emb_val_of_index_zero (cfg0.win 1) _ ⟨1, (by decide : 1 < 2)⟩ rfl i
    exact e ▸ View.emb_mem_set _ i

theorem row_300 (p : Fin 300) : S300.rowMajor (ix1 (n0 := 300) p) = p := by
  exact Fin.ext (Shape.rowMajor_val_one _)

theorem pairs_0 (p : Fin 300) : pairs (F := F) (ix2 (n0 := 300) (n1 := 2) p 0) = lit0 p := by
  unfold pairs col
  pointwise
  exact congrArg lit0 (row_300 p)
theorem pairs_1 (p : Fin 300) : pairs (F := F) (ix2 (n0 := 300) (n1 := 2) p 1) = lit1 p := by
  unfold pairs col
  pointwise
  exact congrArg lit1 (row_300 p)

theorem lit0_lt : ∀ p : Fin 300, (lit0 p).toInt.toNat = (lit0 p).toNat ∧ (lit0 p).toNat < 24 := by decide +kernel
theorem lit1_lt : ∀ p : Fin 300, (lit1 p).toInt.toNat = (lit1 p).toNat ∧ (lit1 p).toNat < 24 := by decide +kernel

/-- The gather read at an element: the block the pair names, at the element's place in it. -/
theorem upper_apply (g : FVec F S6144x6144 .f32) (p : Fin 300) (i j : Fin 256) :
    upper g (ix3 (n0 := 300) (n1 := 256) (n2 := 256) p i j)
      = blocks g (ix4 (n0 := 24) (n1 := 24) (n2 := 256) (n3 := 256) ⟨(lit0 p).toNat, (lit0_lt p).2⟩ ⟨(lit1 p).toNat, (lit1_lt p).2⟩ i j) := by
  unfold upper Host.gather
  refine congrArg (blocks g) (funext fun a => Fin.ext ?_)
  generalize hd : gather_S24x24x256x256_S300x2_S300x256x256_12_01_n_n_01_1_11256256 = d
  have hob : d.operandBatchingDims = [] := by rw [← hd]; rfl
  have hbc : ∀ y a, d.batchCoord y a = 0 := fun y a => d.batchCoord_eq_zero _ _ (by rw [hob]; exact List.not_mem_nil)
  subst hd
  show GatherDims.start _ _ _ a + GatherDims.batchCoord _ _ a + GatherDims.offCoord _ _ a = _
  rw [hbc, Nat.add_zero]
  match a with
  | ⟨0, _⟩ =>
    rw [GatherDims.offCoord_eq_zero _ _ _ (fun h => ((GatherDims.mem_sKept _ _).mp h).1 (by show (0 : Fin 4) ∈ ([0, 1] : List (Fin 4)); decide)), Nat.add_zero]
    unfold GatherDims.start
    have hm : (⟨0, (by decide : 0 < 4)⟩ : Fin 4) ∈ gather_S24x24x256x256_S300x2_S300x256x256_12_01_n_n_01_1_11256256.startIndexMap := by
      show (0 : Fin 4) ∈ ([0, 1] : List (Fin 4))
      decide
    refine (dif_pos hm).trans ?_
    refine (congrArg (fun z => min ((pairs (F := F) z).toInt.toNat) 23) (?_ : _ = ix2 (n0 := 300) (n1 := 2) p 0)).trans ?_
    · funext b; refine Fin.ext ?_
      match b with
      | ⟨0, _⟩ => rfl
      | ⟨1, _⟩ => rfl
    · rw [pairs_0]
      exact (congrArg (fun z => min z 23) (lit0_lt p).1).trans (Nat.min_eq_left (Nat.le_of_lt_succ (lit0_lt p).2))
  | ⟨1, _⟩ =>
    rw [GatherDims.offCoord_eq_zero _ _ _ (fun h => ((GatherDims.mem_sKept _ _).mp h).1 (by show (1 : Fin 4) ∈ ([0, 1] : List (Fin 4)); decide)), Nat.add_zero]
    unfold GatherDims.start
    have hm : (⟨1, (by decide : 1 < 4)⟩ : Fin 4) ∈ gather_S24x24x256x256_S300x2_S300x256x256_12_01_n_n_01_1_11256256.startIndexMap := by
      show (1 : Fin 4) ∈ ([0, 1] : List (Fin 4))
      decide
    refine (dif_pos hm).trans ?_
    refine (congrArg (fun z => min ((pairs (F := F) z).toInt.toNat) 23) (?_ : _ = ix2 (n0 := 300) (n1 := 2) p 1)).trans ?_
    · funext b; refine Fin.ext ?_
      match b with
      | ⟨0, _⟩ => rfl
      | ⟨1, _⟩ => rfl
    · rw [pairs_1]
      exact (congrArg (fun z => min z 23) (lit1_lt p).1).trans (Nat.min_eq_left (Nat.le_of_lt_succ (lit1_lt p).2))
  | ⟨2, _⟩ =>
    unfold GatherDims.start
    have hm : (⟨2, (by decide : 2 < 4)⟩ : Fin 4) ∉ gather_S24x24x256x256_S300x2_S300x256x256_12_01_n_n_01_1_11256256.startIndexMap := by
      show (2 : Fin 4) ∉ ([0, 1] : List (Fin 4))
      decide
    refine (congrArg (· + _) (dif_neg hm)).trans ((Nat.zero_add _).trans ?_)
    rfl
  | ⟨3, _⟩ =>
    unfold GatherDims.start
    have hm : (⟨3, (by decide : 3 < 4)⟩ : Fin 4) ∉ gather_S24x24x256x256_S300x2_S300x256x256_12_01_n_n_01_1_11256256.startIndexMap := by
      show (3 : Fin 4) ∉ ([0, 1] : List (Fin 4))
      decide
    refine (congrArg (· + _) (dif_neg hm)).trans ((Nat.zero_add _).trans ?_)
    rfl

/-- Column `i` of block column `a`, numbered in the whole. -/
theorem col_eq (a : Fin 24) (i : Fin 256) {h : a.val * 256 + i.val < 6144} : (⟨a.val * 256 + i.val, h⟩ : Fin 6144) = Fin.ofNat 6144 (256 * a.val + i.val) := by
  refine Fin.ext ?_
  show a.val * 256 + i.val = (256 * a.val + i.val) % 6144
  rw [Nat.mod_eq_of_lt (by omega)]
  omega

/-- One element of the blocks of the product. -/
theorem gram_apply (s : Vec Ideal S2560 .f32) (x : Vec Ideal S2560x6144 .f32) (a b : Fin 24) (i j : Fin 256) :
    blocks (gram s x) (ix4 (n0 := 24) (n1 := 24) (n2 := 256) (n3 := 256) a b i j)
      = ∑ k : Fin 2560, (s (ix1 k) * s (ix1 k) * x (ix2 k (Fin.ofNat 6144 (256 * a.val + i.val)))) * x (ix2 k (Fin.ofNat 6144 (256 * b.val + j.val))) := by
  unfold blocks gram
  pointwise
  exact Finset.sum_congr rfl fun k _ => by rw [col_eq a i, col_eq b j]

variable (mI : (ℓ : Loc nD τ sig) → Buf (Elt Ideal) ℓ) (c : Dev nD)
variable (x : Vec Ideal S2560x6144 .fp8e4m3) (s : Vec Ideal S2560 .f32) (old : Vec Ideal S300x256x256 .f32) (n : Vec Ideal S1 .i32)
variable (h0 : mI ((c : Thread nD τ).loc main_arg0) = x) (h1 : mI ((c : Thread nD τ).loc main_arg1) = s)
variable (h2 : mI ((c : Thread nD τ).loc main_arg2) = old) (h3 : mI ((c : Thread nD τ).loc main_arg3) = n)

include h0 h1 h2 h3 in
/-- The first result, element by element. -/
theorem hin_apply (p : Fin 300) (i j : Fin 256) :
    W mI c main_v29 (ix3 (n0 := 300) (n1 := 256) (n2 := 256) p i j)
      = (old (ix3 p i j) * Host.divf (nOld n) (nNew n) ix0
        + Host.divf (constant S_ .f32 0x40000000#32) (nNew n) ix0
          * ∑ k : Fin 2560, (s (ix1 k) * s (ix1 k) * x (ix2 k (Fin.ofNat 6144 (256 * (lit0 p).toNat + i.val))))
            * x (ix2 k (Fin.ofNat 6144 (256 * (lit1 p).toNat + j.val))) : EReal) := by
  rw [W_v29, codes_eq, h0, h1, h2, h3]
  generalize Host.divf (nOld n) (nNew n) = q0
  generalize Host.divf (constant S_ .f32 0x40000000#32) (nNew n) = q1
  generalize hu : upper (gram s _) = u
  pointwise
  rw [← hu, upper_apply, gram_apply]
  pointwise

include h0 h1 in
/-- The mean of magnitudes, column by column. -/
theorem mean_apply (j : Fin 6144) :
    W mI c main_v37 (ix2 (n0 := 1) (n1 := 6144) 0 j)
      = Ideal.div (∑ k : Fin 2560, FloatOps.absf (F := Ideal) (φ := .f32) (x (ix2 k j) * s (ix1 k) : EReal)) (Ideal.ofBits .f32 0x45200000#32) := by
  rw [W_v37, codes_eq, h0, h1]
  pointwise

end Cert.ReferenceIdeal.Ref
-- ==== Proof.Equation.lean ====
module

public import proofs.«01_k».proof.Defs
public import proofs.«01_k».proof.Proof.HinIdeal.Values
public import proofs.«01_k».proof.Proof.Ref.Ideal

/-! The kernel's results are the reference's: the same sums, element by element, and both programs' runs read off. -/

@[expose] public section

set_option maxRecDepth 16384

noncomputable section

namespace Cert.Equation
open Idealize.ShloMosaic Idealize.ShloMosaic.TcCoe Idealize.SL.Sem

/-- Both programs carry the same two tables of block numbers. -/
theorem lit0_eq : ∀ p : Fin 300, (Cert.ReferenceIdeal.lit0 p).toNat = (Cert.KernelIdeal.lit0 p).toNat := by decide +kernel
theorem lit1_eq : ∀ p : Fin 300, (Cert.ReferenceIdeal.lit1 p).toNat = (Cert.KernelIdeal.lit1 p).toNat := by decide +kernel

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
variable (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 h1 h2 h3 in
/-- The updated blocks agree. -/
theorem hin_eq : (Cert.ReferenceIdeal.Ref.W m' c Cert.ReferenceIdeal.main_v29 : Vec Ideal Cert.KernelIdeal.S300x256x256 .f32) = Cert.KernelIdeal.Hin.hinArr m c := by
  refine funext fun (y : Cert.KernelIdeal.S300x256x256.Idx) => ?_
  obtain ⟨p, i, j, rfl⟩ : ∃ (p : Fin 300) (i j : Fin 256), y = ix3 p i j := ⟨y 0, y 1, y 2, funext fun a => by
    match a with
    | ⟨0, _⟩ => rfl
    | ⟨1, _⟩ => rfl
    | ⟨2, _⟩ => rfl⟩
  refine (Cert.ReferenceIdeal.Ref.hin_apply m' c _ _ _ _ h0 h1 h2 h3 p i j).trans ?_
  refine Eq.trans ?_ (Cert.KernelIdeal.Hin.hinArr_apply m c _ _ _ _ rfl rfl rfl rfl p i j).symm
  rw [lit0_eq, lit1_eq]
  rfl

include h3 in
/-- The counts agree. -/
theorem n_eq : (Cert.ReferenceIdeal.Ref.W m' c Cert.ReferenceIdeal.main_v39 : Vec Ideal Cert.KernelIdeal.S1 .i32) = Cert.KernelIdeal.Hin.V m c Cert.KernelIdeal.main_v1 := by
  rw [Cert.KernelIdeal.Hin.V_v1]
  refine (Cert.ReferenceIdeal.Ref.W_v39 m' c).trans ?_
  rw [h3]

include h0 h1 in
/-- The means agree. -/
theorem mean_eq : (Cert.ReferenceIdeal.Ref.W m' c Cert.ReferenceIdeal.main_v37 : Vec Ideal Cert.KernelIdeal.S1x6144 .f32) = Cert.KernelIdeal.Hin.meanArr m c := by
  refine funext fun (y : Cert.KernelIdeal.S1x6144.Idx) => ?_
  obtain ⟨j, rfl⟩ : ∃ j : Fin 6144, y = ix2 0 j := ⟨y 1, funext fun a => by
    match a with
    | ⟨0, _⟩ => exact Subsingleton.elim (α := Fin 1) _ _
    | ⟨1, _⟩ => rfl⟩
  refine (Cert.ReferenceIdeal.Ref.mean_apply m' c _ _ h0 h1 j).trans ?_
  exact (Cert.KernelIdeal.Hin.meanArr_apply m c _ _ rfl rfl j).symm

end

open Cert.KernelIdeal in
/-- The kernel run: its results and its arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11_0) = Hin.hinArr m c
      ∧ r.2.mem ((c.tc : Thread nD τ).loc main_v1) = Hin.V m c main_v1
      ∧ r.2.mem ((c.tc : Thread nD τ).loc main_v11_1) = Hin.meanArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨Hin.res_hin m r h.1 c, Hin.res_n m r h.1 c, Hin.res_mean m r h.1 c,
     (Hin.in_eq m c 1 rfl r h.1).trans (Hin.V_keep m c main_arg0 (by decide)),
     ((h.1 c).2 main_arg1 (Hin.mem_rest main_arg1 (by decide) (by decide))).trans (Hin.V_keep m c main_arg1 (by decide)),
     (Hin.in_eq m c 3 rfl r h.1).trans (Hin.V_keep m c main_arg2 (by decide)),
     ((h.1 c).2 main_arg3 (Hin.mem_rest main_arg3 (by decide) (by decide))).trans (Hin.V_keep m c main_arg3 (by decide))⟩) (Hin.run_main m g)

open Cert.ReferenceIdeal in
/-- The reference run: what its lines leave in the results, and its arguments. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v29) = Ref.W m c main_v29
      ∧ r.2.mem ((c.tc : Thread nD τ).loc main_v39) = Ref.W m c main_v39
      ∧ r.2.mem ((c.tc : Thread nD τ).loc main_v37) = Ref.W m c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).2 main_v29 (Pipeline.mem_restRefs_of main_v29 (by decide) (by decide)),
     (h c).2 main_v39 (Pipeline.mem_restRefs_of main_v39 (by decide) (by decide)),
     (h c).2 main_v37 (Pipeline.mem_restRefs_of main_v37 (by decide) (by decide)),
     ((h c).1 0).trans (((Gen.dats m 0 c).arrAt_in 0 rfl _).trans ((Gen.A_eq m c 0).trans (Gen.V_main_arg0 m c))),
     ((h c).2 main_arg1 (Pipeline.mem_restRefs_of main_arg1 (by decide) (by decide))).trans (Gen.W_main_arg1 m (Gen.dats m) c),
     ((h c).2 main_arg2 (Pipeline.mem_restRefs_of main_arg2 (by decide) (by decide))).trans (Gen.W_main_arg2 m (Gen.dats m) c),
     ((h c).2 main_arg3 (Pipeline.mem_restRefs_of main_arg3 (by decide) (by decide))).trans (Gen.W_main_arg3 m (Gen.dats m) c)⟩) (Gen.run_main m g)

/-- THE VALUE CLAIM: from equal arguments the kernel and the reference leave equal results. -/
theorem algebraic : Cert.algebraic_KernelIdeal_ReferenceIdeal (hKernelIdeal := Cert.KernelIdeal.Gen.facts) (hReferenceIdeal := Cert.ReferenceIdeal.Gen.facts) :=
  fun m g m' g' _ h => ⟨fun c => Cert.KernelIdeal.Hin.hinArr m c, fun c => Cert.KernelIdeal.Hin.V m c Cert.KernelIdeal.main_v1, fun c => Cert.KernelIdeal.Hin.meanArr m c,
    kernel_run m g,
    (θ_run _ _ _).mono (fun r hr c =>
      ⟨(hr c).1.trans (hin_eq m m' c (h c).1 (h c).2.1 (h c).2.2.1 (h c).2.2.2),
       (hr c).2.1.trans (n_eq m m' c (h c).2.2.2),
       (hr c).2.2.1.trans (mean_eq m m' c (h c).1 (h c).2.1),
       (hr c).2.2.2⟩) (reference_run m' g')⟩

end Cert.Equation
-- ==== Proof.DownIdeal.Pay.lean ====
module

public import proofs.«01_k».proof.Proof.DownIdeal.Tables
public import proofs.«01_k».proof.Proof.DownWords.Mask
public import Idealize.ShloMosaic.Lib.Pointwise
public import Idealize.ShloMosaic.Lib.WholeRead

/-! What one chunk of rows adds to a tile, and what a tile's store holds, element by element, over the extended
    reals. -/

@[expose] public section

set_option maxRecDepth 16384

noncomputable section

namespace Cert.DownIdeal
open Cert.DownIdeal.Gen
open Idealize.ShloMosaic Idealize.ShloMosaic.TcCoe Idealize.ShloMosaic.Tactic
open Cert.DownWords

/-- One chunk adds its rows' products to each element of the tile. -/
theorem pay5_apply {v1 v3 : BitVec 32} (h1 : v1.toNat < 2 ^ 31) (h3 : v3.toInt ≤ 2560) (k : Fin (k0_t1_loop v1 v3).trips)
    (acc : FVec Ideal S256x256 .f32) (s : Vec Ideal S256x1 .f32) (qi qj : Vec Ideal S256x256 .fp8e4m3) (a b : Fin 256) :
    k0_pay5 (F := Ideal) v1 v3 (base v1) k acc s qi qj (ix2 a b)
      = (acc (ix2 a b) + ∑ r : Fin 256, (if Counts v1.toNat v3.toInt k.val (r0 v1.toNat k.val + r.val)
          then s (ix2 r 0) * s (ix2 r 0) * qi (ix2 r a) * qj (ix2 r b) else 0) : EReal) := by
  obtain ⟨ha, hk⟩ := first_le h1 h3 k.isLt
  pointwise [k0_pay5]
  refine congrArg (HAdd.hAdd (acc (ix2 a b) : EReal)) (Finset.sum_congr rfl fun r _ => ?_)
  refine Eq.trans (congrArg (fun z => Scalar.select z _ _) (mask_eq h1 ha hk r)) ?_
  exact select_ofBool _ _ _

/-- The term of row `t` in the element at columns `x`, `y`. -/
def term (S : Vec Ideal S2560x128 .f32) (Q : Vec Ideal S2560x2048 .fp8e4m3) (x y : Fin 2048) (t : ℕ) : EReal :=
  S (ix2 (Fin.ofNat 2560 t) 0) * S (ix2 (Fin.ofNat 2560 t) 0) * Q (ix2 (Fin.ofNat 2560 t) x) * Q (ix2 (Fin.ofNat 2560 t) y)

/-- One chunk, with its windows cut from the scales and codes at its first row and the tile's two columns. -/
theorem step_apply {v1 v3 : BitVec 32} (h1 : v1.toNat < 2 ^ 31) (h3 : v3.toInt ≤ 2560) (k : Fin (k0_t1_loop v1 v3).trips)
    {wi wj : BitVec 32} (hi : wi.toNat < 8) (hj : wj.toNat < 8)
    (S : Vec Ideal S2560x128 .f32) (Q : Vec Ideal S2560x2048 .fp8e4m3)
    (arg8 : Memref sig .tc .vmem S2560x2048 .fp8e4m3) (harg8 : arg8.IsWhole) (arg9 : Memref sig .tc .vmem S2560x128 .f32) (harg9 : arg9.IsWhole)
    (acc : FVec Ideal S256x256 .f32) (p4 p5 p6) (a b : Fin 256) :
    k0_pay5 (F := Ideal) v1 v3 (base v1) k acc
      (arg9.view.readAt (Elt Ideal) (Rect.unit (s := S2560x128) (k0_off4 v1 v3 k) S256x1.size p4).toLoadRect (harg9.unread S))
      (arg8.view.readAt (Elt Ideal) (Rect.unit (s := S2560x2048) (k0_off5 v1 v3 wi k) S256x256.size p5).toLoadRect (harg8.unread Q))
      (arg8.view.readAt (Elt Ideal) (Rect.unit (s := S2560x2048) (k0_off6 v1 v3 wj k) S256x256.size p6).toLoadRect (harg8.unread Q)) (ix2 a b)
      = (acc (ix2 a b) + ∑ r : Fin 256, (if Counts v1.toNat v3.toInt k.val (r0 v1.toNat k.val + r.val)
          then term S Q (Fin.ofNat 2048 (256 * wi.toNat + a.val)) (Fin.ofNat 2048 (256 * wj.toNat + b.val)) (r0 v1.toNat k.val + r.val) else 0) : EReal) := by
  obtain ⟨ha, hk⟩ := first_le h1 h3 k.isLt
  have hr := r0_le v1.toNat k.val
  rw [pay5_apply h1 h3]
  refine congrArg (HAdd.hAdd (acc (ix2 a b) : EReal)) (Finset.sum_congr rfl fun r _ => ?_)
  have hro : (Scalar.indexCast (row v1 (Scf.iv 0#32 1#32 k.val))).toNat = r0 v1.toNat k.val := row_toNat h1 ha hk
  have eS : arg9.view.readAt (Elt Ideal) (Rect.unit (s := S2560x128) (k0_off4 v1 v3 k) S256x1.size p4).toLoadRect (harg9.unread S) (ix2 r 0)
      = S (ix2 (Fin.ofNat 2560 (r0 v1.toNat k.val + r.val)) 0) := by
    rw [harg9.readAt_unread]
    refine congrArg S (funext fun d => Fin.ext ?_)
    match d with
    | ⟨0, _⟩ =>
      show (Scalar.indexCast (row v1 (Scf.iv 0#32 1#32 k.val))).toNat + 1 * r.val = (r0 v1.toNat k.val + r.val) % 2560
      omega
    | ⟨1, _⟩ => rfl
  have eQ : ∀ (w : BitVec 32) (hw : w.toNat < 8) (p) (x : Fin 256),
      arg8.view.readAt (Elt Ideal) (Rect.unit (s := S2560x2048) (k0_off5 v1 v3 w k) S256x256.size p).toLoadRect (harg8.unread Q) (ix2 r x)
      = Q (ix2 (Fin.ofNat 2560 (r0 v1.toNat k.val + r.val)) (Fin.ofNat 2048 (256 * w.toNat + x.val))) := by
    intro w hw p x
    rw [harg8.readAt_unread]
    refine congrArg Q (funext fun d => Fin.ext ?_)
    match d with
    | ⟨0, _⟩ =>
      show (Scalar.indexCast (row v1 (Scf.iv 0#32 1#32 k.val))).toNat + 1 * r.val = (r0 v1.toNat k.val + r.val) % 2560
      omega
    | ⟨1, _⟩ =>
      have hc := col_toNat w hw
      show (Scalar.indexCast (Scalar.muli w 256#32)).toNat + 1 * x.val = (256 * w.toNat + x.val) % 2048
      omega
  rw [eS, eQ wi hi p5 a]
  have e6 := eQ wj hj p6 b
  unfold term
  exact congrArg (fun z : EReal => if Counts v1.toNat v3.toInt k.val (r0 v1.toNat k.val + r.val) then
    (S (ix2 (Fin.ofNat 2560 (r0 v1.toNat k.val + r.val)) 0) * S (ix2 (Fin.ofNat 2560 (r0 v1.toNat k.val + r.val)) 0)
      * Q (ix2 (Fin.ofNat 2560 (r0 v1.toNat k.val + r.val)) (Fin.ofNat 2048 (256 * wi.toNat + a.val))) * z : EReal) else 0) e6

/-- The loop over the chunks: from zeros, the element at columns `x`, `y` ends as the sum over the expert's rows. -/
theorem loop_apply {v1 v3 : BitVec 32} (h1 : v1.toNat < 2 ^ 31) (h3 : v3.toInt ≤ 2560)
    (S : Vec Ideal S2560x128 .f32) (Q : Vec Ideal S2560x2048 .fp8e4m3) (x y : Fin 2048) (a b : Fin 256)
    (st : ℕ → FVec Ideal S256x256 .f32) (h0 : st 0 (ix2 a b) = (0 : EReal))
    (hs : ∀ k : Fin (k0_t1_loop v1 v3).trips, st (k.val + 1) (ix2 a b)
      = (st k.val (ix2 a b) + ∑ r : Fin 256, (if Counts v1.toNat v3.toInt k.val (r0 v1.toNat k.val + r.val)
          then term S Q x y (r0 v1.toNat k.val + r.val) else 0) : EReal)) :
    st (k0_t1_loop v1 v3).trips (ix2 a b)
      = ∑ t : Fin 2560, (if v1.toNat ≤ t.val ∧ (t.val : Int) < v3.toInt then term S Q x y t.val else 0 : EReal) := by
  have hn : ∀ n, n ≤ (k0_t1_loop v1 v3).trips → st n (ix2 a b)
      = ∑ c ∈ Finset.range n, (∑ r : Fin 256, (if Counts v1.toNat v3.toInt c (r0 v1.toNat c + r.val)
          then term S Q x y (r0 v1.toNat c + r.val) else 0) : EReal) := by
    intro n
    induction n with
    | zero => intro _; rw [h0]; simp
    | succ n ih =>
      intro h
      rw [Finset.sum_range_succ, ← ih (by omega)]
      exact hs ⟨n, h⟩
  have ht : (k0_t1_loop v1 v3).trips = chunks v1.toNat v3.toInt := trips_eq h1 h3
  rw [hn _ le_rfl, ← chunks_sum v1.toNat v3.toInt (term S Q x y), ht]

/-- One element of what is stored: the old one scaled, plus the scaled sum. -/
theorem pay7_apply (g : FVec Ideal S256x256 .f32) (old : Vec Ideal S1x1x256x256 .f32) (ca cb : Elt Ideal .f32) (a b : Fin 256) :
    k0_pay7 (F := Ideal) g old ca cb (Idealize.ShloMosaic.ix4 0 0 a b) = (old (Idealize.ShloMosaic.ix4 0 0 a b) * ca + cb * g (ix2 a b) : EReal) := by
  pointwise [k0_pay7]

end Cert.DownIdeal
-- ==== Proof.DownIdeal.Block.lean ====
module

public import proofs.«01_k».proof.Proof.DownIdeal.Pay
public import Idealize.ShloMosaic.Lib.WritesUnit

/-! What the body of the call stores, tile by tile. -/

@[expose] public section

set_option maxRecDepth 16384

noncomputable section

namespace Cert.DownIdeal
open Cert.DownIdeal.Gen
open Idealize.ShloMosaic Idealize.ShloMosaic.TcCoe Idealize.ShloMosaic.Tactic
open Cert.DownWords

variable (m : (ℓ : Loc nD τ sig) → Buf (Elt Ideal) ℓ)

/-- The first row of expert `e`, -/
abbrev offW (e : Fin 8) : BitVec 32 := V m 0 main_v1 (Idealize.ShloMosaic.ix1 e)
/-- and its end row. -/
abbrev endW (e : Fin 8) : BitVec 32 := V m 0 main_v7 (Idealize.ShloMosaic.ix1 e)

/-- A tile's element after the call: the old one scaled, plus the scaled sum over the expert's rows of the product of
    the columns that slot `k` of the step names. -/
def tileElt (old : Vec Ideal S1x4x256x256 .f32) (ca cb : Vec Ideal S8 .f32) (S : Vec Ideal S2560x128 .f32) (Q : Vec Ideal S2560x2048 .fp8e4m3)
    (e : Fin 8) (o en : BitVec 32) (wi wj : BitVec 32) (k : Fin 4) (a b : Fin 256) : EReal :=
  old (Idealize.ShloMosaic.ix4 0 k a b) * ca (Idealize.ShloMosaic.ix1 e) + cb (Idealize.ShloMosaic.ix1 e) *
    ∑ r : Fin 2560, (if o.toNat ≤ r.val ∧ (r.val : Int) < en.toInt
      then term S Q (Fin.ofNat 2048 (256 * wi.toNat + a.val)) (Fin.ofNat 2048 (256 * wj.toNat + b.val)) r.val else 0)

/-- A read of one tile of the old block. -/
theorem read_old (arg : Memref sig .tc .vmem S1x4x256x256 .f32) (h : arg.IsWhole) (X : Vec Ideal S1x4x256x256 .f32) (k : Fin 4) (p)
    (a b : Fin 256) :
    arg.view.readAt (Elt Ideal) (Rect.unit (s := S1x4x256x256) ![0, k.val, 0, 0] S1x1x256x256.size p).toLoadRect (h.unread X)
      (Idealize.ShloMosaic.ix4 0 0 a b) = X (Idealize.ShloMosaic.ix4 0 k a b) := by
  rw [h.readAt_unread]
  refine congrArg X (funext fun d => Fin.ext ?_)
  fin_cases d <;> simp

/-- A read of an expert's word. -/
theorem read_word (arg : Memref sig .tc .smem S8 .f32) (h : arg.IsWhole) (X : Vec Ideal S8 .f32) (i : grid0.Coords) (p) (z : S1.Idx) :
    arg.view.readAt (Elt Ideal) (Rect.unit (s := S8) (k0_off1 i) S1.size p).toLoadRect (h.unread X) z = X (Idealize.ShloMosaic.ix1 (i 0)) := by
  rw [h.readAt_unread]
  refine congrArg X (funext fun d => Fin.ext ?_)
  match d with
  | ⟨0, _⟩ =>
    have h := (i 0).isLt
    change (i 0).val < 8 at h
    have hz := (z 0).isLt
    change (z 0).val < 1 at hz
    show (BitVec.ofNat 32 (i 0).val).toNat + 1 * (z 0).val = (i 0).val
    rw [BitVec.toNat_ofNat]; omega

/-- What one slot of a step stores: from a loop's states `st` that begin at zero and take one chunk at a time. -/
theorem slot_apply {v1 v3 : BitVec 32} (i : grid0.Coords) (hr1 : v1 = offW m (i 0)) (hr3 : v3 = endW m (i 0))
    (h1 : v1.toNat < 2 ^ 31) (h3 : v3.toInt ≤ 2560) {wi wj : BitVec 32} (n : Fin 36) (hwi : wi = lit0 n) (hwj : wj = lit1 n) (k : Fin 4)
    (arg8 : Memref sig .tc .vmem S2560x2048 .fp8e4m3) (harg8 : arg8.IsWhole) (Q : Vec Ideal S2560x2048 .fp8e4m3)
    (arg9 : Memref sig .tc .vmem S2560x128 .f32) (harg9 : arg9.IsWhole) (S : Vec Ideal S2560x128 .f32)
    (arg10 : Memref sig .tc .vmem S1x4x256x256 .f32) (harg10 : arg10.IsWhole) (old : Vec Ideal S1x4x256x256 .f32)
    (arg6 : Memref sig .tc .smem S8 .f32) (harg6 : arg6.IsWhole) (ca : Vec Ideal S8 .f32)
    (arg7 : Memref sig .tc .smem S8 .f32) (harg7 : arg7.IsWhole) (cb : Vec Ideal S8 .f32)
    (st : ℕ → FVec Ideal S256x256 .f32) (h0 : st 0 = k0_pay4 (F := Ideal))
    (hs : ∀ j : Fin (k0_t1_loop v1 v3).trips, ∃ p4 p5 p6, st (j.val + 1) = k0_pay5 (F := Ideal) v1 v3 (base v1) j (st j.val)
      (arg9.view.readAt (Elt Ideal) (Rect.unit (s := S2560x128) (k0_off4 v1 v3 j) S256x1.size p4).toLoadRect (harg9.unread S))
      (arg8.view.readAt (Elt Ideal) (Rect.unit (s := S2560x2048) (k0_off5 v1 v3 wi j) S256x256.size p5).toLoadRect (harg8.unread Q))
      (arg8.view.readAt (Elt Ideal) (Rect.unit (s := S2560x2048) (k0_off6 v1 v3 wj j) S256x256.size p6).toLoadRect (harg8.unread Q)))
    (po pa pb) (za zb : S1.Idx) (a b : Fin 256) :
    k0_pay7 (F := Ideal) (st (k0_t1_loop v1 v3).trips)
      (arg10.view.readAt (Elt Ideal) (Rect.unit (s := S1x4x256x256) ![0, k.val, 0, 0] S1x1x256x256.size po).toLoadRect (harg10.unread old))
      (arg6.view.readAt (Elt Ideal) (Rect.unit (s := S8) (k0_off1 i) S1.size pa).toLoadRect (harg6.unread ca) za)
      (arg7.view.readAt (Elt Ideal) (Rect.unit (s := S8) (k0_off1 i) S1.size pb).toLoadRect (harg7.unread cb) zb)
      (Idealize.ShloMosaic.ix4 0 0 a b)
      = tileElt old ca cb S Q (i 0) (offW m (i 0)) (endW m (i 0)) (lit0 n) (lit1 n) k a b := by
  refine (pay7_apply _ _ _ _ a b).trans ?_
  rw [read_old, read_word, read_word]
  unfold tileElt
  rw [← hr1, ← hr3, ← hwi, ← hwj]
  refine congrArg (fun z : EReal => old (Idealize.ShloMosaic.ix4 0 k a b) * ca (Idealize.ShloMosaic.ix1 (i 0))
    + cb (Idealize.ShloMosaic.ix1 (i 0)) * z) ?_
  refine loop_apply h1 h3 S Q _ _ a b st ?_ fun j => ?_
  · rw [h0]
    exact Ideal.ofBits_zero_f32
  · obtain ⟨_, _, _, e⟩ := hs j
    rw [e]
    refine step_apply h1 h3 j ?_ ?_ _ _ _ _ _ _ _ _ _ _ a b
    · rw [hwi]; exact (lit_lt _).1
    · rw [hwj]; exact (lit_lt _).2

set_option maxHeartbeats 2000000 in
/-- The block that a grid point stores, element by element. -/
theorem out_apply (hn : Nonneg m) (c : Dev nD) (t : Fin (cfgM m (ok m)).N) (k : Fin 4) (a b : Fin 256) :
    outsAt0 m (ok m) (hyps hn) c t (Idealize.ShloMosaic.ix4 0 k a b)
      = tileElt (iblk m (ok m) c 4 t) (iblk m (ok m) c 0 t) (iblk m (ok m) c 1 t) (iblk m (ok m) c 3 t) (iblk m (ok m) c 2 t)
          (grid0.coords t 0) (offW m (grid0.coords t 0)) (endW m (grid0.coords t 0))
          (lit0 (Fin.ofNat 36 (4 * (grid0.coords t 1).val + k.val))) (lit1 (Fin.ofNat 36 (4 * (grid0.coords t 1).val + k.val))) k a b := by
  unfold outsAt0 out0_A_5 kernelRun0_A
  dsimp only
  have hr1 := read_off m (grid0.coords t)
  have hr3 := read_end m (grid0.coords t)
  have h1 := hn (grid0.coords t 0)
  have h3 := end_le (m := m) (grid0.coords t 0)
  rw [← hr1] at h1
  rw [← hr3] at h3
  match k with
  | ⟨0, _⟩ =>
    refine (View.read_writes_cons_unit_of_not_mem _ _ _ _ _ _ rfl 1 (Or.inl (show (0 : ℕ) < 3 by decide))).trans ?_
    refine (View.read_writes_cons_unit_of_not_mem _ _ _ _ _ _ rfl 1 (Or.inl (show (0 : ℕ) < 2 by decide))).trans ?_
    refine (View.read_writes_cons_unit_of_not_mem _ _ _ _ _ _ rfl 1 (Or.inl (show (0 : ℕ) < 1 by decide))).trans ?_
    refine (View.read_writes_cons_unit_of_mem _ _ _ _ _ _ (Idealize.ShloMosaic.ix4 0 0 a b) rfl (fun a => by fin_cases a <;> simp)).trans ?_
    rw [Scf.rem_trips, st_k0_t2_zero]
    exact slot_apply m (grid0.coords t) hr1 hr3 h1 h3 (Fin.ofNat 36 (4 * (grid0.coords t 1).val + 0))
      ((read_ti m (k0_off2 (grid0.coords t)) (k0_off2_inb _)).trans (congrArg (fun n => lit0 (Fin.ofNat 36 n)) (off2_val _)))
      ((read_tj m (k0_off3 (grid0.coords t)) (k0_off3_inb _)).trans (congrArg (fun n => lit1 (Fin.ofNat 36 n)) (off2_val _)))
      ⟨0, by decide⟩ _ (hs0_2 m (ok m) t) _ _ (hs0_3 m (ok m) t) _ _ (hs0_4 m (ok m) t) _ _ (hs0_0 m (ok m) t) _ _ (hs0_1 m (ok m) t) _
      (st_k0_t1 (F := Ideal) _ _ _ _ _ _ _ _ _ _ _ _ _ _ _ _ _ _ _ _ _ _ _ _ _ _ _ _ _ _ _ _ _ _ _ _ _ _ _ _) (st_k0_t1_zero ..)
      (fun j => ⟨_, _, _, (st_k0_t1_succ _ _ _ _ _ _ _ _ _ _ _ _ _ _ _ _ _ _ _ _ _ _ _ _ _ _ _ _ _ _ _ _ _ _ _ _ _ _ _ _ j).trans (by unfold tripR_k0_t1 trip_k0_t1; rfl)⟩) _ _ _ _ _ a b
  | ⟨1, _⟩ =>
    refine (View.read_writes_cons_unit_of_not_mem _ _ _ _ _ _ rfl 1 (Or.inl (show (1 : ℕ) < 3 by decide))).trans ?_
    refine (View.read_writes_cons_unit_of_not_mem _ _ _ _ _ _ rfl 1 (Or.inl (show (1 : ℕ) < 2 by decide))).trans ?_
    refine (View.read_writes_cons_unit_of_mem _ _ _ _ _ _ (Idealize.ShloMosaic.ix4 0 0 a b) rfl (fun a => by fin_cases a <;> simp)).trans ?_
    rw [Scf.rem_trips, st_k0_t4_zero]
    exact slot_apply m (grid0.coords t) hr1 hr3 h1 h3 (Fin.ofNat 36 (4 * (grid0.coords t 1).val + 1))
      ((read_ti m (k0_off11 (grid0.coords t)) (k0_off11_inb _)).trans (congrArg (fun n => lit0 (Fin.ofNat 36 n)) (off11_val _)))
      ((read_tj m (k0_off12 (grid0.coords t)) (k0_off12_inb _)).trans (congrArg (fun n => lit1 (Fin.ofNat 36 n)) (off11_val _)))
      ⟨1, by decide⟩ _ (hs0_2 m (ok m) t) _ _ (hs0_3 m (ok m) t) _ _ (hs0_4 m (ok m) t) _ _ (hs0_0 m (ok m) t) _ _ (hs0_1 m (ok m) t) _
      (st_k0_t3 (F := Ideal) _ _ _ _ _ _ _ _ _ _ _ _ _ _ _ _ _ _ _ _ _ _ _ _ _ _ _ _ _ _ _ _ _ _ _ _ _ _ _ _) (st_k0_t3_zero ..)
      (fun j => ⟨_, _, _, (st_k0_t3_succ _ _ _ _ _ _ _ _ _ _ _ _ _ _ _ _ _ _ _ _ _ _ _ _ _ _ _ _ _ _ _ _ _ _ _ _ _ _ _ _ j).trans (by unfold tripR_k0_t3 trip_k0_t3; rfl)⟩) _ _ _ _ _ a b
  | ⟨2, _⟩ =>
    refine (View.read_writes_cons_unit_of_not_mem _ _ _ _ _ _ rfl 1 (Or.inl (show (2 : ℕ) < 3 by decide))).trans ?_
    refine (View.read_writes_cons_unit_of_mem _ _ _ _ _ _ (Idealize.ShloMosaic.ix4 0 0 a b) rfl (fun a => by fin_cases a <;> simp)).trans ?_
    rw [Scf.rem_trips, st_k0_t6_zero]
    exact slot_apply m (grid0.coords t) hr1 hr3 h1 h3 (Fin.ofNat 36 (4 * (grid0.coords t 1).val + 2))
      ((read_ti m (k0_off20 (grid0.coords t)) (k0_off20_inb _)).trans (congrArg (fun n => lit0 (Fin.ofNat 36 n)) (off20_val _)))
      ((read_tj m (k0_off21 (grid0.coords t)) (k0_off21_inb _)).trans (congrArg (fun n => lit1 (Fin.ofNat 36 n)) (off20_val _)))
      ⟨2, by decide⟩ _ (hs0_2 m (ok m) t) _ _ (hs0_3 m (ok m) t) _ _ (hs0_4 m (ok m) t) _ _ (hs0_0 m (ok m) t) _ _ (hs0_1 m (ok m) t) _
      (st_k0_t5 (F := Ideal) _ _ _ _ _ _ _ _ _ _ _ _ _ _ _ _ _ _ _ _ _ _ _ _ _ _ _ _ _ _ _ _ _ _ _ _ _ _ _) (st_k0_t5_zero ..)
      (fun j => ⟨_, _, _, (st_k0_t5_succ _ _ _ _ _ _ _ _ _ _ _ _ _ _ _ _ _ _ _ _ _ _ _ _ _ _ _ _ _ _ _ _ _ _ _ _ _ _ _ j).trans (by unfold tripR_k0_t5 trip_k0_t5; rfl)⟩) _ _ _ _ _ a b
  | ⟨3, _⟩ =>
    refine (View.read_writes_cons_unit_of_mem _ _ _ _ _ _ (Idealize.ShloMosaic.ix4 0 0 a b) rfl (fun a => by fin_cases a <;> simp)).trans ?_
    rw [Scf.rem_trips, st_k0_t8_zero]
    exact slot_apply m (grid0.coords t) hr1 hr3 h1 h3 (Fin.ofNat 36 (4 * (grid0.coords t 1).val + 3))
      ((read_ti m (k0_off29 (grid0.coords t)) (k0_off29_inb _)).trans (congrArg (fun n => lit0 (Fin.ofNat 36 n)) (off29_val _)))
      ((read_tj m (k0_off30 (grid0.coords t)) (k0_off30_inb _)).trans (congrArg (fun n => lit1 (Fin.ofNat 36 n)) (off29_val _)))
      ⟨3, by decide⟩ _ (hs0_2 m (ok m) t) _ _ (hs0_3 m (ok m) t) _ _ (hs0_4 m (ok m) t) _ _ (hs0_0 m (ok m) t) _ _ (hs0_1 m (ok m) t) _
      (st_k0_t7 (F := Ideal) _ _ _ _ _ _ _ _ _ _ _ _ _ _ _ _ _ _ _ _ _ _ _ _ _ _ _ _ _ _ _ _ _ _ _ _) (st_k0_t7_zero ..)
      (fun j => ⟨_, _, _, (st_k0_t7_succ _ _ _ _ _ _ _ _ _ _ _ _ _ _ _ _ _ _ _ _ _ _ _ _ _ _ _ _ _ _ _ _ _ _ _ _ j).trans (by unfold tripR_k0_t7 trip_k0_t7; rfl)⟩) _ _ _ _ _ a b

end Cert.DownIdeal
-- ==== Proof.DownIdeal.Result.lean ====
module

public import proofs.«01_k».proof.Proof.DownIdeal.Block
public import Idealize.ShloMosaic.Lib.Pipeline.Value

/-! What the call's result array holds at the end of the run. -/

@[expose] public section

set_option maxRecDepth 16384

noncomputable section

namespace Cert.DownIdeal
open Cert.DownIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The element at `a`, `b` of tile `p` of expert `e`. -/
def downElt (old : Vec Ideal S8x36x256x256 .f32) (ca cb : Vec Ideal S8 .f32) (S : Vec Ideal S2560x128 .f32) (Q : Vec Ideal S2560x2048 .fp8e4m3)
    (o en : Fin 8 → BitVec 32) (e : Fin 8) (p : Fin 36) (a b : Fin 256) : EReal :=
  old (Idealize.ShloMosaic.ix4 e p a b) * ca (Idealize.ShloMosaic.ix1 e) + cb (Idealize.ShloMosaic.ix1 e) *
    ∑ r : Fin 2560, (if (o e).toNat ≤ r.val ∧ (r.val : Int) < (en e).toInt
      then term S Q (Fin.ofNat 2048 (256 * (lit0 p).toNat + a.val)) (Fin.ofNat 2048 (256 * (lit1 p).toNat + b.val)) r.val else 0)

/-- The result array. -/
def downArr (c : Dev nD) : Vec Ideal S8x36x256x256 .f32 := fun y =>
  downElt (V m c main_arg3) (V m c main_v11) (V m c main_v13) (V m c main_arg2) (V m c main_arg1) (offW m) (endW m)
    ⟨(y 0).val, (y 0).isLt⟩ ⟨(y 1).val, (y 1).isLt⟩ ⟨(y 2).val, (y 2).isLt⟩ ⟨(y 3).val, (y 3).isLt⟩

/-- The pipeline of the call. -/
abbrev pl : Cfg sig Λ₀ := cfgM m (ok m)

theorem coord0 (t : Fin (pl m).N) : (grid0.coords t 0).val = t.val / 9 := by
  have h : t.val < 72 := lt_of_lt_of_eq t.isLt N_0
  rw [Pipeline.Grid.coords_val (G := grid0) (S := 9) (B := 8) t 0 (by decide) rfl]
  omega

theorem coord1 (t : Fin (pl m).N) : (grid0.coords t 1).val = t.val % 9 := by
  rw [Pipeline.Grid.coords_val (G := grid0) (S := 1) (B := 9) t 1 (by decide) rfl]
  omega

theorem index_e (t : Fin (pl m).N) : (BitVec.ofNat 32 (grid0.coords t 0).val).toNat = t.val / 9 := by
  have h : t.val < 72 := lt_of_lt_of_eq t.isLt N_0
  rw [coord0 m t, BitVec.toNat_ofNat]; omega

theorem index_s (t : Fin (pl m).N) : (BitVec.ofNat 32 (grid0.coords t 1).val).toNat = t.val % 9 := by
  rw [coord1 m t, BitVec.toNat_ofNat]; omega

theorem index5_0 (t : Fin (pl m).N) : ((pl m).win 5).index t ⟨0, (by decide : 0 < 4)⟩ = t.val / 9 := index_e m t
theorem index5_1 (t : Fin (pl m).N) : ((pl m).win 5).index t ⟨1, (by decide : 1 < 4)⟩ = t.val % 9 := index_s m t
theorem index4_0 (t : Fin (pl m).N) : ((pl m).win 4).index t ⟨0, (by decide : 0 < 4)⟩ = t.val / 9 := index_e m t
theorem index4_1 (t : Fin (pl m).N) : ((pl m).win 4).index t ⟨1, (by decide : 1 < 4)⟩ = t.val % 9 := index_s m t

theorem whole_0 (c : Dev nD) (t : Fin (pl m).N) : iblk m (ok m) c 0 t = V m c main_v11 := by
  unfold iblk
  funext y
  refine congrArg (V m c main_v11) (funext fun a => Fin.ext ?_)
  match a with
  | ⟨0, _⟩ => exact Window.rect_emb_val_of_index_zero ((pl m).win 0) t ⟨0, (by decide : 0 < 1)⟩ rfl y

theorem whole_1 (c : Dev nD) (t : Fin (pl m).N) : iblk m (ok m) c 1 t = V m c main_v13 := by
  unfold iblk
  funext y
  refine congrArg (V m c main_v13) (funext fun a => Fin.ext ?_)
  match a with
  | ⟨0, _⟩ => exact Window.rect_emb_val_of_index_zero ((pl m).win 1) t ⟨0, (by decide : 0 < 1)⟩ rfl y

theorem whole_2 (c : Dev nD) (t : Fin (pl m).N) : iblk m (ok m) c 2 t = V m c main_arg1 := by
  unfold iblk
  funext y
  refine congrArg (V m c main_arg1) (funext fun a => Fin.ext ?_)
  match a with
  | ⟨0, _⟩ => exact Window.rect_emb_val_of_index_zero ((pl m).win 2) t ⟨0, (by decide : 0 < 2)⟩ rfl y
  | ⟨1, _⟩ => exact Window.rect_emb_val_of_index_zero ((pl m).win 2) t ⟨1, (by decide : 1 < 2)⟩ rfl y

theorem whole_3 (c : Dev nD) (t : Fin (pl m).N) : iblk m (ok m) c 3 t = V m c main_arg2 := by
  unfold iblk
  funext y
  refine congrArg (V m c main_arg2) (funext fun a => Fin.ext ?_)
  match a with
  | ⟨0, _⟩ => exact Window.rect_emb_val_of_index_zero ((pl m).win 3) t ⟨0, (by decide : 0 < 2)⟩ rfl y
  | ⟨1, _⟩ => exact Window.rect_emb_val_of_index_zero ((pl m).win 3) t ⟨1, (by decide : 1 < 2)⟩ rfl y

theorem old_apply (c : Dev nD) (t : Fin (pl m).N) (k : Fin 4) (a b : Fin 256) (e : Fin 8) (p : Fin 36) (he : e.val = t.val / 9)
    (hp : p.val = 4 * (t.val % 9) + k.val) :
    iblk m (ok m) c 4 t (Idealize.ShloMosaic.ix4 0 k a b) = V m c main_arg3 (Idealize.ShloMosaic.ix4 e p a b) := by
  unfold iblk
  refine congrArg (V m c main_arg3) (funext fun d => Fin.ext ?_)
  match d with
  | ⟨0, _⟩ =>
    refine (Window.rect_emb_val ((pl m).win 4) t (Idealize.ShloMosaic.ix4 0 k a b) ⟨0, (by decide : 0 < 4)⟩).trans ?_
    rw [index4_0 m t]
    show t.val / 9 * 1 + 0 = e.val
    omega
  | ⟨1, _⟩ =>
    refine (Window.rect_emb_val ((pl m).win 4) t (Idealize.ShloMosaic.ix4 0 k a b) ⟨1, (by decide : 1 < 4)⟩).trans ?_
    rw [index4_1 m t]
    show t.val % 9 * 4 + k.val = p.val
    omega
  | ⟨2, _⟩ => exact Window.rect_emb_val_of_index_zero ((pl m).win 4) t ⟨2, (by decide : 2 < 4)⟩ rfl (Idealize.ShloMosaic.ix4 0 k a b)
  | ⟨3, _⟩ => exact Window.rect_emb_val_of_index_zero ((pl m).win 4) t ⟨3, (by decide : 3 < 4)⟩ rfl (Idealize.ShloMosaic.ix4 0 k a b)

/-- A tile's element, with its old element's place in the whole array. -/
theorem tile_down {old4 : Vec Ideal S1x4x256x256 .f32} {old : Vec Ideal S8x36x256x256 .f32} {ca cb : Vec Ideal S8 .f32}
    {S : Vec Ideal S2560x128 .f32} {Q : Vec Ideal S2560x2048 .fp8e4m3} (o en : Fin 8 → BitVec 32) {e e' : Fin 8} {p : Fin 36} {k : Fin 4}
    {a b : Fin 256} (h : old4 (Idealize.ShloMosaic.ix4 0 k a b) = old (Idealize.ShloMosaic.ix4 e p a b)) (he : e' = e) :
    tileElt old4 ca cb S Q e' (o e') (en e') (lit0 p) (lit1 p) k a b = downElt old ca cb S Q o en e p a b := by
  subst he
  unfold tileElt downElt
  rw [h]

/-- A grid point's block is a block of the result array. -/
theorem out_eq (hn : Nonneg m) (c : Dev nD) (t : Fin (pl m).N) (k : Fin 4) (a b : Fin 256) (i : S8x36x256x256.Idx)
    (h0 : (i 0).val = t.val / 9) (h1 : (i 1).val = 4 * (t.val % 9) + k.val) (h2 : (i 2).val = a.val) (h3 : (i 3).val = b.val) :
    outsAt0 m (ok m) (hyps hn) c t (Idealize.ShloMosaic.ix4 0 k a b) = downArr m c i := by
  refine (out_apply m hn c t k a b).trans ?_
  have he : grid0.coords t 0 = ⟨(i 0).val, (i 0).isLt⟩ := Fin.ext ((coord0 m t).trans h0.symm)
  have hp : Fin.ofNat 36 (4 * (grid0.coords t 1).val + k.val) = ⟨(i 1).val, (i 1).isLt⟩ := Fin.ext (by
    have h := (i 1).isLt
    change (i 1).val < 36 at h
    show (4 * (grid0.coords t 1).val + k.val) % 36 = (i 1).val
    rw [coord1 m t, ← h1]; omega)
  have ha : a = ⟨(i 2).val, (i 2).isLt⟩ := Fin.ext h2.symm
  have hb : b = ⟨(i 3).val, (i 3).isLt⟩ := Fin.ext h3.symm
  have hold := old_apply m c t k a b ⟨(i 0).val, (i 0).isLt⟩ ⟨(i 1).val, (i 1).isLt⟩ h0 h1
  rw [whole_0, whole_1, whole_2, whole_3, hp, ha, hb]
  rw [ha, hb] at hold
  exact tile_down _ _ hold he

theorem flush_5 (t : Fin (pl m).N) : ((pl m).win 5).flush t = true := by
  have hN : (pl m).N = 72 := N_0
  unfold Window.flush
  refine Bool.and_eq_true _ _ |>.mpr ⟨rfl, ?_⟩
  rw [Bool.or_eq_true]
  by_cases h : t.val + 1 = (pl m).N
  · left; exact decide_eq_true h
  · right
    have hlt : t.val + 1 < (pl m).N := by have := t.isLt; omega
    refine decide_eq_true ⟨hlt, fun e => ?_⟩
    have e1 := congrFun e ⟨1, (by decide : 1 < 4)⟩
    rw [index5_1, index5_1] at e1
    dsimp only at e1
    omega

/-- The result window's array at the end. -/
theorem arr_5 (hn : Nonneg m) (c : Dev nD) : (dats m (ok m) (hyps hn) 0 c).arrAt 5 (pl m).N = downArr m c := by
  refine (dats m (ok m) (hyps hn) 0 c).arrAt_eq_of_cover 5 (downArr m c) (fun t _ => funext fun (y : S1x4x256x256.Idx) => ?_) (fun i => ?_)
  · refine (congrFun (after0_5 m (ok m) (hyps hn) c t) y).trans ?_
    have hy : y = Idealize.ShloMosaic.ix4 0 (y 1) (y 2) (y 3) := funext fun a => by
      match a with
      | ⟨0, _⟩ => exact Subsingleton.elim (α := Fin 1) _ _
      | ⟨1, _⟩ => rfl
      | ⟨2, _⟩ => rfl
      | ⟨3, _⟩ => rfl
    refine (congrArg (outsAt0 m (ok m) (hyps hn) c t) hy).trans ?_
    refine out_eq m hn c t (y 1) (y 2) (y 3) ((((pl m).win 5).blk t).view.emb y) ?_ ?_ ?_ ?_
    · refine (Window.rect_emb_val ((pl m).win 5) t y ⟨0, (by decide : 0 < 4)⟩).trans ?_
      rw [index5_0 m t]
      have h := (y 0).isLt
      change (y 0).val < 1 at h
      show t.val / 9 * 1 + (y 0).val = t.val / 9
      omega
    · refine (Window.rect_emb_val ((pl m).win 5) t y ⟨1, (by decide : 1 < 4)⟩).trans ?_
      rw [index5_1 m t]
      show t.val % 9 * 4 + (y 1).val = 4 * (t.val % 9) + (y 1).val
      omega
    · exact Window.rect_emb_val_of_index_zero ((pl m).win 5) t ⟨2, (by decide : 2 < 4)⟩ rfl y
    · exact Window.rect_emb_val_of_index_zero ((pl m).win 5) t ⟨3, (by decide : 3 < 4)⟩ rfl y
  · change S8x36x256x256.Idx at i
    have hi : (i 0).val < 8 := (i 0).isLt
    have hj : (i 1).val < 36 := (i 1).isLt
    have hN : (pl m).N = 72 := N_0
    refine ⟨⟨9 * (i 0).val + (i 1).val / 4, lt_of_lt_of_eq (show 9 * (i 0).val + (i 1).val / 4 < 72 by omega) hN.symm⟩, flush_5 m _, ?_⟩
    generalize ht : (⟨9 * (i 0).val + (i 1).val / 4, _⟩ : Fin (pl m).N) = t
    have htv : t.val = 9 * (i 0).val + (i 1).val / 4 := by rw [← ht]
    let y : S1x4x256x256.Idx := Idealize.ShloMosaic.ix4 (n0 := 1) (n1 := 4) (n2 := 256) (n3 := 256) 0 ⟨(i 1).val % 4, Nat.mod_lt _ (by decide)⟩
      ⟨(i 2).val, (i 2).isLt⟩ ⟨(i 3).val, (i 3).isLt⟩
    have e : (((pl m).win 5).blk t).view.emb y = i := by
      refine funext fun a => Fin.ext ?_
      match a with
      | ⟨0, _⟩ =>
        refine (Window.rect_emb_val ((pl m).win 5) t y ⟨0, (by decide : 0 < 4)⟩).trans ?_
        rw [index5_0 m t]
        show t.val / 9 * 1 + 0 = (i 0).val
        omega
      | ⟨1, _⟩ =>
        refine (Window.rect_emb_val ((pl m).win 5) t y ⟨1, (by decide : 1 < 4)⟩).trans ?_
        rw [index5_1 m t]
        show t.val % 9 * 4 + (i 1).val % 4 = (i 1).val
        omega
      | ⟨2, _⟩ => exact Window.rect_emb_val_of_index_zero ((pl m).win 5) t ⟨2, (by decide : 2 < 4)⟩ rfl y
      | ⟨3, _⟩ => exact Window.rect_emb_val_of_index_zero ((pl m).win 5) t ⟨3, (by decide : 3 < 4)⟩ rfl y
    exact e ▸ View.emb_mem_set _ y

theorem tail_v15 (hn : Nonneg m) (c : Dev nD) :
    Pipeline.afterTail pcfgs (fun _ => adm m (ok m)) (dats m (ok m) (hyps hn)) 0 (V0 m) [hostOps1] c main_v15
      = addi (m ((c : Thread nD τ).loc main_arg4)) (m ((c : Thread nD τ).loc main_arg0)) := by
  unfold Pipeline.afterTail
  after_reads_simp
  rw [Pipeline.withArrays_of_ne _ c (V0 m c) _ main_arg4 (by exact (by decide : ∀ w, Pipeline.arrRef spec0 w ≠ main_arg4)),
    Pipeline.withArrays_of_ne _ c (V0 m c) _ main_arg0 (by exact (by decide : ∀ w, Pipeline.arrRef spec0 w ≠ main_arg0))]
  exact congrArg₂ addi (V_main_arg4 m c) (V_main_arg0 m c)

/-- The run's results. -/
theorem run_results (g : Dev nD → PrngReg) (hn : Nonneg m) :
    θ_run defs (onTc (τ := τ) (main (F := Ideal))) ⟨m, fun _ => 0, g⟩ (fun r => ∀ c : Dev nD,
      r.2.mem ((c.tc : Thread nD τ).loc main_v14) = downArr m c
      ∧ r.2.mem ((c.tc : Thread nD τ).loc main_v15) = addi (m ((c : Thread nD τ).loc main_arg4)) (m ((c : Thread nD τ).loc main_arg0))) :=
  (θ_run defs _ _).mono (fun r h c =>
    ⟨((h c).1 5).trans (arr_5 m hn c),
     ((h c).2 main_v15 (Pipeline.mem_restRefs_of main_v15 (by decide) (by exact (by decide : ∀ w, Pipeline.arrRef spec0 w ≠ main_v15)))).trans (tail_v15 m hn c)⟩) (run_main m g (ok m) (hyps hn))

end Cert.DownIdeal
-- ==== Proof.DownIdeal.Values.lean ====
module

public import proofs.«01_k».proof.Proof.DownIdeal.Result
public import Idealize.ShloMosaic.Lib.Pointwise

/-! The call's result array in terms of the arguments. -/

@[expose] public section

set_option maxRecDepth 16384

noncomputable section

namespace Cert.DownIdeal
open Cert.DownIdeal.Gen
open Idealize.ShloMosaic Idealize.ShloMosaic.TcCoe Idealize.ShloMosaic.Tactic

variable (m : (ℓ : Loc nD τ sig) → Buf (Elt Ideal) ℓ) (c : Dev nD)
variable (g : Vec Ideal S8 .i32) (x : Vec Ideal S2560x2048 .fp8e4m3) (s : Vec Ideal S2560x128 .f32) (old : Vec Ideal S8x36x256x256 .f32) (n : Vec Ideal S8 .i32)
variable (h0 : m ((c : Thread nD τ).loc main_arg0) = g) (h1 : m ((c : Thread nD τ).loc main_arg1) = x)
variable (h2 : m ((c : Thread nD τ).loc main_arg2) = s) (h3 : m ((c : Thread nD τ).loc main_arg3) = old)
variable (h4 : m ((c : Thread nD τ).loc main_arg4) = n)

/-- An expert's end row. -/
theorem ends_apply (e : Fin 8) : ends (F := Ideal) g (Idealize.ShloMosaic.ix1 e)
    = IntOp.minsi (IntOp.addi (offs (F := Ideal) g (Idealize.ShloMosaic.ix1 e)) (g (Idealize.ShloMosaic.ix1 e)))
        (IntOp.addi (IntOp.minsi (offs (F := Ideal) g (Idealize.ShloMosaic.ix1 e)) 1280#32) 1280#32) := by
  unfold ends
  generalize offs (F := Ideal) g = o
  pointwise

/-- A product of two codes under their scale. -/
theorem term_row (k : Fin 2560) (a b : Fin 2048) :
    term s x a b k.val = (s (Idealize.ShloMosaic.ix2 k 0) * s (Idealize.ShloMosaic.ix2 k 0) * x (Idealize.ShloMosaic.ix2 k a) * x (Idealize.ShloMosaic.ix2 k b) : EReal) := by
  unfold term
  have e : Fin.ofNat 2560 k.val = k := Fin.ext (Nat.mod_eq_of_lt k.isLt)
  rw [e]

include h0 h1 h2 h3 h4 in
/-- The updated tiles, element by element. -/
theorem downArr_apply (e : Fin 8) (p : Fin 36) (i j : Fin 256) :
    downArr m c (Idealize.ShloMosaic.ix4 (n0 := 8) (n1 := 36) (n2 := 256) (n3 := 256) e p i j)
      = (old (Idealize.ShloMosaic.ix4 e p i j) * Host.divf (sitofp .f32 n) (tot g n) (Idealize.ShloMosaic.ix1 e)
        + Host.divf (broadcastInDim S8 ![] bcast_S_S8 (constant S_ .f32 0x40000000#32)) (tot g n) (Idealize.ShloMosaic.ix1 e)
          * ∑ k : Fin 2560, (if (offs (F := Ideal) g (Idealize.ShloMosaic.ix1 e) : BitVec 32).toNat ≤ k.val
              ∧ (k.val : Int) < (IntOp.minsi (IntOp.addi (offs (F := Ideal) g (Idealize.ShloMosaic.ix1 e)) (g (Idealize.ShloMosaic.ix1 e)))
                (IntOp.addi (IntOp.minsi (offs (F := Ideal) g (Idealize.ShloMosaic.ix1 e)) 1280#32) 1280#32) : BitVec 32).toInt
            then s (Idealize.ShloMosaic.ix2 k 0) * s (Idealize.ShloMosaic.ix2 k 0) * x (Idealize.ShloMosaic.ix2 k (Fin.ofNat 2048 (256 * (lit0 p).toNat + i.val)))
              * x (Idealize.ShloMosaic.ix2 k (Fin.ofNat 2048 (256 * (lit1 p).toNat + j.val))) else 0) : EReal) := by
  obtain rfl : c = 0 := Subsingleton.elim _ _
  have ho : offW m e = offs (F := Ideal) g (Idealize.ShloMosaic.ix1 e) := by unfold offW; rw [V_v1, h0]
  have he : endW m e = IntOp.minsi (IntOp.addi (offs (F := Ideal) g (Idealize.ShloMosaic.ix1 e)) (g (Idealize.ShloMosaic.ix1 e)))
        (IntOp.addi (IntOp.minsi (offs (F := Ideal) g (Idealize.ShloMosaic.ix1 e)) 1280#32) 1280#32) := by
    unfold endW; rw [V_v7, h0]; exact ends_apply g e
  show downElt (V m 0 main_arg3) (V m 0 main_v11) (V m 0 main_v13) (V m 0 main_arg2) (V m 0 main_arg1) (offW m) (endW m) e p i j = _
  unfold downElt
  rw [ho, he, V_main_arg1, V_main_arg2, V_main_arg3, V_v11, V_v13, h0, h1, h2, h3, h4]
  simp only [term_row]

end Cert.DownIdeal
-- ==== Proof.DownRef.Reads.lean ====
module

public import proofs.«01_k».proof.Proof.Gen.DownReferenceIdeal.Frame
public import Idealize.ShloMosaic.Lib.StableHlo.RunRead

/-! What the lines of the experts' reference compute. -/

@[expose] public section

set_option maxRecDepth 16384

noncomputable section

namespace Cert.DownReferenceIdeal.Ref
open Cert.DownReferenceIdeal.Gen
open Idealize.ShloMosaic Idealize.ShloMosaic.TcCoe Idealize.ShloMosaic.Tactic

variable {F : FTy → Type} [FloatOps F]

variable (m : (ℓ : Loc nD τ sig) → Buf (Elt F) ℓ)

/-- Each expert's first row: the sum of the group sizes before it. -/
def offs (g : Vec F S8 .i32) : Vec F S8 .i32 :=
  subi (Host.reduceWindow IntOp.addi ![8] ![1] ![7] ![0] g (broadcastInDim S_ ![] bcast_S_S_ (constantI S_ 32 0#32))
    reduceWindows_S8_S8_w8s1p7_0 h_S_) g

/-- The first rows as a column, -/
def offCol (g : Vec F S8 .i32) : Vec F S8x1 .i32 := broadcastInDim S8x1 ![0] bcast_S8_S8x1_0 (offs (F := F) g)
/-- and the first row of each expert's window of 1280 rows. -/
def startCol (o : Vec F S8x1 .i32) : Vec F S8x1 .i32 := minsi o (broadcastInDim S8x1 ![] bcast_S_S8x1 (constantI S_ 32 1280#32))

/-- The row numbers. -/
def rows : Vec F S8x2560 .i32 :=
  broadcastInDim S8x2560 ![0, 1] bcast_S1x2560_S8x2560_0_1 (broadcastInDim S1x2560 ![1] bcast_S2560_S1x2560_1 (iotaInDim S2560 32 0))

/-- A column over all rows. -/
def wide (x : Vec F S8x1 .i32) : Vec F S8x2560 .i32 := broadcastInDim S8x2560 ![0, 1] bcast_S8x1_S8x2560_0_1 x

/-- Which rows count for which expert. -/
def valid (o : Vec F S8x1 .i32) (g : Vec F S8 .i32) : Vec F S8x2560 .i1 :=
  andi (andi (andi (cmpi .sge (rows (F := F)) (wide (F := F) (startCol (F := F) o)))
    (cmpi .slt (rows (F := F)) (wide (F := F) (addi (startCol (F := F) o) (broadcastInDim S8x1 ![] bcast_S_S8x1 (constantI S_ 32 1280#32))))))
    (cmpi .sge (rows (F := F)) (wide (F := F) o)))
    (cmpi .slt (rows (F := F)) (wide (F := F) (addi o (broadcastInDim S8x1 ![0] bcast_S8_S8x1_0 g))))

/-- The rows' scales. -/
def scale (s : Vec F S2560x128 .f32) : Vec F S2560 .f32 :=
  shapeCast S2560 (extractStridedSlice S2560x1 ![0, 0] s slices_S2560x128_S2560x1_0_0) shapeCasts_S2560x1_S2560

/-- The codes times the square of their scale. -/
def scaled (s : Vec F S2560 .f32) (x : Vec F S2560x2048 .f32) : FVec F S2560x2048 .f32 :=
  mulf (broadcastInDim S2560x2048 ![0, 1] bcast_S2560x1_S2560x2048_0_1 (broadcastInDim S2560x1 ![0] bcast_S2560_S2560x1_0 (mulf s s))) x

/-- The scaled codes where a row counts, and zero where it does not. -/
def masked (v : Vec F S8x2560 .i1) (y : FVec F S2560x2048 .f32) : FVec F S8x2560x2048 .f32 :=
  select (broadcastInDim S8x2560x2048 ![0, 1, 2] bcast_S8x2560x1_S8x2560x2048_0_1_2 (broadcastInDim S8x2560x1 ![0, 1] bcast_S8x2560_S8x2560x1_0_1 v))
    (broadcastInDim S8x2560x2048 ![1, 2] bcast_S2560x2048_S8x2560x2048_1_2 y)
    (broadcastInDim S8x2560x2048 ![] bcast_S_S8x2560x2048 (constant S_ .f32 0x00000000#32))

/-- Each expert's product. -/
def gram (y : FVec F S8x2560x2048 .f32) (x : Vec F S2560x2048 .f32) : FVec F S8x2048x2048 .f32 :=
  Host.dotGeneral dot_S8x2560x2048_S2560x2048_S8x2048x2048_1_0_02_1_n_n none (truncf .bf16 y bitsLt_bf16_f32) (truncf .bf16 x bitsLt_bf16_f32)

/-- The products in 8 by 8 blocks of 256 by 256. -/
def blocks (g : FVec F S8x2048x2048 .f32) : FVec F S8x8x8x256x256 .f32 :=
  transpose S8x8x8x256x256 [0, 1, 3, 2, 4] (shapeCast S8x8x256x8x256 g shapeCasts_S8x2048x2048_S8x8x256x8x256) transposes_S8x8x256x8x256_S8x8x8x256x256_0_1_3_2_4

/-- One table as the gather takes it. -/
def col (l : Fin 36 → BitVec 32) : Vec F S36x1 .i32 :=
  broadcastInDim S36x1 ![0] bcast_S36_S36x1_0
    (select (constantI S36 1 0#1) (addi (fun i => l (S36.rowMajor i)) (broadcastInDim S36 ![] bcast_S_S36 (constantI S_ 32 8#32))) (fun i => l (S36.rowMajor i)) : Vec F S36 .i32)

/-- The pairs of block numbers. -/
def pairs : Vec F S36x2 .i32 :=
  concatenate S36x2 1 [⟨S36x1, col (F := F) lit0⟩, ⟨S36x1, col (F := F) lit1⟩] concatenates_S36x1_S36x1_S36x2_d1

/-- The blocks the pairs name. -/
def upper (g : FVec F S8x2048x2048 .f32) : FVec F S8x36x256x256 .f32 :=
  Host.gather gather_S8x8x8x256x256_S36x2_S8x36x256x256_023_12_n_n_12_1_811256256 (blocks g) (pairs (F := F))

/-- The count of rows after the call, as a float. -/
def tot (g n : Vec F S8 .i32) : Vec F S8 .f32 := addf (sitofp .f32 n) (sitofp .f32 g)

/-- A number of each expert over its tiles. -/
def each (x : Vec F S8 .f32) : Vec F S8x36x256x256 .f32 :=
  broadcastInDim S8x36x256x256 ![0, 1, 2, 3] bcast_S8x1x1x1_S8x36x256x256_0_1_2_3 (broadcastInDim S8x1x1x1 ![0] bcast_S8_S8x1x1x1_0 x)

/-- The codes as floats: what the region leaves. -/
abbrev codes (c : Dev nD) : Vec F S2560x2048 .f32 := (dats m 0 c).arrAt 1 cfg0.N

/-- What the lines after the region leave at `b`. -/
abbrev W (c : Dev nD) (b : Ref sig .tc) : Buf (Elt F) ((c : Thread nD τ).loc b) :=
  Pipeline.afterTail₀ cfgs (dats m) 0 (V0 m) [hostOps1, hostOps1_1, hostOps1_2, hostOps1_3, hostOps1_4] c b

/-- The buffers as the region leaves them. -/
abbrev B (c : Dev nD) (b : Ref sig .tc) : Buf (Elt F) ((c : Thread nD τ).loc b) :=
  Pipeline.withArrays (cfgs 0).spec c (V0 m c) (fun w => (dats m 0 c).arrAt w (cfgs 0).N) (Proc.devRef .tc b)

theorem B_keep (c : Dev nD) (b : Ref sig .tc) (h : ∀ w, Pipeline.arrRef spec0 w ≠ b) : B m c b = V m c b :=
  Pipeline.withArrays_of_ne _ c (V0 m c) _ b (by exact h)

theorem B_v0 (c : Dev nD) : B m c main_v0 = codes m c :=
  Pipeline.withArrays_arr (cfgs 0).spec winFacts0.arr_inj c (V0 m c) _ 1

theorem V_c (c : Dev nD) : V m c main_c = ((fun i => lit0 (S36.rowMajor i)) : Vec F S36 .i32) := by
  dsimp only [V, V0]
  after_reads_simp
  rfl
theorem V_c_0 (c : Dev nD) : V m c main_c_0 = (constantI S36 1 0#1 : Vec F S36 .i1) := by
  dsimp only [V, V0]
  after_reads_simp
theorem V_c_1 (c : Dev nD) : V m c main_c_1 = ((fun i => lit1 (S36.rowMajor i)) : Vec F S36 .i32) := by
  dsimp only [V, V0]
  after_reads_simp
  rfl
theorem V_c_2 (c : Dev nD) : V m c main_c_2 = (constantI S36 1 0#1 : Vec F S36 .i1) := by
  dsimp only [V, V0]
  after_reads_simp

theorem B_arg0 (c : Dev nD) : B m c main_arg0 = m ((c : Thread nD τ).loc main_arg0) := (B_keep m c main_arg0 (by decide)).trans (V_main_arg0 m c)
theorem B_arg2 (c : Dev nD) : B m c main_arg2 = m ((c : Thread nD τ).loc main_arg2) := (B_keep m c main_arg2 (by decide)).trans (V_main_arg2 m c)
theorem B_arg3 (c : Dev nD) : B m c main_arg3 = m ((c : Thread nD τ).loc main_arg3) := (B_keep m c main_arg3 (by decide)).trans (V_main_arg3 m c)
theorem B_arg4 (c : Dev nD) : B m c main_arg4 = m ((c : Thread nD τ).loc main_arg4) := (B_keep m c main_arg4 (by decide)).trans (V_main_arg4 m c)
theorem B_c (c : Dev nD) : B m c main_c = ((fun i => lit0 (S36.rowMajor i)) : Vec F S36 .i32) := (B_keep m c main_c (by decide)).trans (V_c m c)
theorem B_c_0 (c : Dev nD) : B m c main_c_0 = (constantI S36 1 0#1 : Vec F S36 .i1) := (B_keep m c main_c_0 (by decide)).trans (V_c_0 m c)
theorem B_c_1 (c : Dev nD) : B m c main_c_1 = ((fun i => lit1 (S36.rowMajor i)) : Vec F S36 .i32) := (B_keep m c main_c_1 (by decide)).trans (V_c_1 m c)
theorem B_c_2 (c : Dev nD) : B m c main_c_2 = (constantI S36 1 0#1 : Vec F S36 .i1) := (B_keep m c main_c_2 (by decide)).trans (V_c_2 m c)

theorem W_v63 (c : Dev nD) : W m c main_v63 = addi (m ((c : Thread nD τ).loc main_arg4)) (m ((c : Thread nD τ).loc main_arg0)) := by
  rw [← B_arg4 m c, ← B_arg0 m c]
  dsimp only [W, B]
  unfold Pipeline.afterTail₀
  after_reads_simp

theorem concat_congr {a a' b b' : Vec F S36x1 .i32} (ha : a = a') (hb : b = b') :
    concatenate S36x2 1 [⟨S36x1, a⟩, ⟨S36x1, b⟩] concatenates_S36x1_S36x1_S36x2_d1 = concatenate S36x2 1 [⟨S36x1, a'⟩, ⟨S36x1, b'⟩] concatenates_S36x1_S36x1_S36x2_d1 := by
  rw [ha, hb]

set_option maxHeartbeats 1000000 in
theorem W_v62 (c : Dev nD) : W m c main_v62 = addf
      (mulf (m ((c : Thread nD τ).loc main_arg3)) (each (Host.divf (sitofp .f32 (m ((c : Thread nD τ).loc main_arg4))) (tot (m ((c : Thread nD τ).loc main_arg0)) (m ((c : Thread nD τ).loc main_arg4))))))
      (mulf (each (Host.divf (broadcastInDim S8 ![] bcast_S_S8 (constant S_ .f32 0x40000000#32)) (tot (m ((c : Thread nD τ).loc main_arg0)) (m ((c : Thread nD τ).loc main_arg4)))))
        (upper (gram (masked (valid (F := F) (offCol (F := F) (m ((c : Thread nD τ).loc main_arg0))) (m ((c : Thread nD τ).loc main_arg0)))
          (scaled (scale (m ((c : Thread nD τ).loc main_arg2))) (codes m c))) (codes m c)))) := by
  unfold upper pairs col
  rw [← B_arg0 m c, ← B_arg2 m c, ← B_arg3 m c, ← B_arg4 m c, ← B_v0 m c, ← B_c m c, ← B_c_1 m c]
  unfold tot each gram masked blocks
  dsimp only [W, B]
  unfold Pipeline.afterTail₀
  after_reads_simp
  simp only [StableHlo.TRef.ofBuf, StableHlo.TRef.toBuf, cast_eq]
  refine congrArg₂ addf rfl (congrArg (mulf _) (congrArg₂ (Host.gather _) ?_ (concat_congr ?_ ?_)))
  · rfl
  · rw [← B_c_0 m c]
    dsimp only [B]
    after_reads_simp
  · rw [← B_c_2 m c]
    dsimp only [B]
    after_reads_simp

end Cert.DownReferenceIdeal.Ref
-- ==== Proof.DownWords.Valid.lean ====
module

public import proofs.«01_k».proof.Proof.DownWords.Mask

/-! The condition under which a row counts for an expert, as the reference states it on words. -/

@[expose] public section

namespace Cert.DownWords
open Idealize.ShloMosaic

/-- A row lies in the expert's window and in its group exactly when it lies from the group's first row to the expert's end row. -/
theorem valid_word {o : BitVec 32} (g : BitVec 32) (ho : o.toNat < 2 ^ 31) (k : Fin 2560) :
    IntOp.andi (IntOp.andi (IntOp.andi (IntOp.cmpi .sge (BitVec.ofNat 32 k.val) (IntOp.minsi o 1280#32))
        (IntOp.cmpi .slt (BitVec.ofNat 32 k.val) (IntOp.addi (IntOp.minsi o 1280#32) 1280#32)))
        (IntOp.cmpi .sge (BitVec.ofNat 32 k.val) o)) (IntOp.cmpi .slt (BitVec.ofNat 32 k.val) (IntOp.addi o g))
      = BitVec.ofBool (decide (o.toNat ≤ k.val
        ∧ (k.val : Int) < (IntOp.minsi (IntOp.addi o g) (IntOp.addi (IntOp.minsi o 1280#32) 1280#32) : BitVec 32).toInt)) := by
  have hk := k.isLt
  have nx : (BitVec.ofNat 32 k.val).toNat = k.val := by rw [BitVec.toNat_ofNat]; omega
  generalize (BitVec.ofNat 32 k.val : BitVec 32) = x at nx ⊢
  have ix : x.toInt = (k.val : Int) := (toInt_of_lt (by omega)).trans (by rw [nx])
  have io : o.toInt = (o.toNat : Int) := toInt_of_lt ho
  have hm : (IntOp.minsi o 1280#32 : BitVec 32).toInt ≤ o.toInt := by
    unfold IntOp.minsi
    split
    · exact le_refl _
    · rename_i h; rw [BitVec.slt_iff_toInt_lt] at h; omega
  generalize (IntOp.minsi o 1280#32 : BitVec 32) = s at hm ⊢
  generalize (IntOp.addi s 1280#32 : BitVec 32) = se
  generalize (IntOp.addi o g : BitVec 32) = oe
  have he : (IntOp.minsi oe se : BitVec 32).toInt = min oe.toInt se.toInt := by
    unfold IntOp.minsi
    split
    · rename_i h; rw [BitVec.slt_iff_toInt_lt] at h; omega
    · rename_i h; rw [BitVec.slt_iff_toInt_lt] at h; omega
  have ge : ∀ y : BitVec 32, IntOp.cmpi .sge x y = BitVec.ofBool (decide (y.toInt ≤ (k.val : Int))) := fun y => by
    refine congrArg BitVec.ofBool ?_
    rw [Bool.eq_iff_iff, decide_eq_true_iff]
    show BitVec.sle y x = true ↔ _
    rw [BitVec.sle_iff_toInt_le, ix]
  have lt : ∀ y : BitVec 32, IntOp.cmpi .slt x y = BitVec.ofBool (decide ((k.val : Int) < y.toInt)) := fun y => by
    refine congrArg BitVec.ofBool ?_
    rw [Bool.eq_iff_iff, decide_eq_true_iff]
    show BitVec.slt x y = true ↔ _
    rw [BitVec.slt_iff_toInt_lt, ix]
  have and : ∀ a b : Bool, IntOp.andi (BitVec.ofBool a) (BitVec.ofBool b) = BitVec.ofBool (a && b) := by decide
  rw [ge, ge, lt, lt, and, and, and, he]
  refine congrArg BitVec.ofBool ?_
  rw [Bool.eq_iff_iff, decide_eq_true_iff]
  simp only [Bool.and_eq_true, decide_eq_true_iff]
  omega

end Cert.DownWords
-- ==== Proof.DownRef.Ideal.lean ====
module

public import proofs.«01_k».proof.Proof.DownRef.Reads
public import proofs.«01_k».proof.Proof.DownWords.Valid
public import Idealize.ShloMosaic.Lib.Pointwise
public import Idealize.ShloMosaic.Lib.Pipeline.ValueKit

/-! What the values of the experts' reference hold, element by element. -/

@[expose] public section

set_option maxRecDepth 16384

noncomputable section

namespace Cert.DownReferenceIdeal.Ref
open Cert.DownReferenceIdeal.Gen
open Idealize.ShloMosaic Idealize.ShloMosaic.TcCoe Idealize.ShloMosaic.Tactic
open Idealize.ShloMosaic.Pipeline (Dat Cfg Window)
open Cert.DownWords

variable {F : FTy → Type} [FloatOps F]

variable (m : (ℓ : Loc nD τ sig) → Buf (Elt F) ℓ)

/-- The region leaves each code as a float. -/
theorem codes_eq (c : Dev nD) : codes m c = extf .f32 (m ((c : Thread nD τ).loc main_arg1) : Vec F S2560x2048 .fp8e4m3) bitsLt_fp8e4m3_f32 := by
  refine (dats m 0 c).arrAt_eq_of_cover 1 _ (fun t _ => funext fun (y : S2560x2048.Idx) => ?_) (fun i => ?_)
  · refine (congrFun (after0_1 m c t) y).trans ?_
    have ei : iblk m c 0 t = m ((c : Thread nD τ).loc main_arg1) := by
      rw [← V_main_arg1 m c]
      refine funext fun (z : S2560x2048.Idx) => congrArg (V m c main_arg1) (funext fun a => Fin.ext ?_)
      match a with
      | ⟨0, _⟩ => exact Pipeline.Window.rect_emb_val_of_index_zero (cfg0.win 0) t ⟨0, (by decide : 0 < 2)⟩ rfl z
      | ⟨1, _⟩ => exact Pipeline.Window.rect_emb_val_of_index_zero (cfg0.win 0) t ⟨1, (by decide : 1 < 2)⟩ rfl z
    unfold out0_1 r0_0
    rw [View.canon_cons_unit_lit _ _ _ (by decide), View.ld_unit_lit _ _ (by decide), ei]
    have e : ((cfg0.win 1).blk t).view.emb y = y := by
      refine funext fun a => Fin.ext ?_
      match a with
      | ⟨0, _⟩ => exact Pipeline.Window.rect_emb_val_of_index_zero (cfg0.win 1) t ⟨0, (by decide : 0 < 2)⟩ rfl y
      | ⟨1, _⟩ => exact Pipeline.Window.rect_emb_val_of_index_zero (cfg0.win 1) t ⟨1, (by decide : 1 < 2)⟩ rfl y
    exact congrArg (extf .f32 (m ((c : Thread nD τ).loc main_arg1) : Vec F S2560x2048 .fp8e4m3) bitsLt_fp8e4m3_f32) e.symm
  · change S2560x2048.Idx at i
    have hN : 0 < cfg0.N := by decide
    refine ⟨⟨0, hN⟩, (by decide : (cfg0.win 1).flush ⟨0, by decide⟩ = true), ?_⟩
    have e : ((cfg0.win 1).blk ⟨0, hN⟩).view.emb i = i := by
      refine funext fun a => Fin.ext ?_
      match a with
      | ⟨0, _⟩ => exact Pipeline.Window.rect_emb_val_of_index_zero (cfg0.win 1) _ ⟨0, (by decide : 0 < 2)⟩ rfl i
      | ⟨1, _⟩ => exact Pipeline.Window.rect_emb_val_of_index_zero (cfg0.win 1) _ ⟨1, (by decide : 1 < 2)⟩ rfl i
    exact e ▸ View.emb_mem_set _ i

theorem row_36 (p : Fin 36) : S36.rowMajor (ix1 (n0 := 36) p) = p := Fin.ext (Shape.rowMajor_val_one _)

theorem pairs_0 (p : Fin 36) : pairs (F := F) (ix2 (n0 := 36) (n1 := 2) p 0) = lit0 p := by
  unfold pairs col
  pointwise
  exact congrArg lit0 (row_36 p)
theorem pairs_1 (p : Fin 36) : pairs (F := F) (ix2 (n0 := 36) (n1 := 2) p 1) = lit1 p := by
  unfold pairs col
  pointwise
  exact congrArg lit1 (row_36 p)

theorem lit0_lt : ∀ p : Fin 36, (lit0 p).toInt.toNat = (lit0 p).toNat ∧ (lit0 p).toNat < 8 := by decide +kernel
theorem lit1_lt : ∀ p : Fin 36, (lit1 p).toInt.toNat = (lit1 p).toNat ∧ (lit1 p).toNat < 8 := by decide +kernel

/-- The gather read at an element: the block the pair names, at the element's place in it. -/
theorem upper_apply (g : FVec F S8x2048x2048 .f32) (e : Fin 8) (p : Fin 36) (i j : Fin 256) :
    upper g (ix4 (n0 := 8) (n1 := 36) (n2 := 256) (n3 := 256) e p i j)
      = blocks g (ix5 (n0 := 8) (n1 := 8) (n2 := 8) (n3 := 256) (n4 := 256) e ⟨(lit0 p).toNat, (lit0_lt p).2⟩ ⟨(lit1 p).toNat, (lit1_lt p).2⟩ i j) := by
  unfold upper Host.gather
  refine congrArg (blocks g) (funext fun a => Fin.ext ?_)
  generalize hd : gather_S8x8x8x256x256_S36x2_S8x36x256x256_023_12_n_n_12_1_811256256 = d
  have hob : d.operandBatchingDims = [] := by rw [← hd]; rfl
  have hbc : ∀ y a, d.batchCoord y a = 0 := fun y a => d.batchCoord_eq_zero _ _ (by rw [hob]; exact List.not_mem_nil)
  subst hd
  show GatherDims.start _ _ _ a + GatherDims.batchCoord _ _ a + GatherDims.offCoord _ _ a = _
  rw [hbc, Nat.add_zero]
  match a with
  | ⟨0, _⟩ =>
    unfold GatherDims.start
    have hm : (⟨0, (by decide : 0 < 5)⟩ : Fin 5) ∉ gather_S8x8x8x256x256_S36x2_S8x36x256x256_023_12_n_n_12_1_811256256.startIndexMap := by
      show (0 : Fin 5) ∉ ([1, 2] : List (Fin 5))
      decide
    refine (congrArg (· + _) (dif_neg hm)).trans ((Nat.zero_add _).trans ?_)
    rfl
  | ⟨1, _⟩ =>
    rw [GatherDims.offCoord_eq_zero _ _ _ (fun h => ((GatherDims.mem_sKept _ _).mp h).1 (by show (1 : Fin 5) ∈ ([1, 2] : List (Fin 5)); decide)), Nat.add_zero]
    unfold GatherDims.start
    have hm : (⟨1, (by decide : 1 < 5)⟩ : Fin 5) ∈ gather_S8x8x8x256x256_S36x2_S8x36x256x256_023_12_n_n_12_1_811256256.startIndexMap := by
      show (1 : Fin 5) ∈ ([1, 2] : List (Fin 5))
      decide
    refine (dif_pos hm).trans ?_
    refine (congrArg (fun z => min ((pairs (F := F) z).toInt.toNat) 7) (?_ : _ = ix2 (n0 := 36) (n1 := 2) p 0)).trans ?_
    · funext b; refine Fin.ext ?_
      match b with
      | ⟨0, _⟩ => rfl
      | ⟨1, _⟩ => rfl
    · rw [pairs_0]
      exact (congrArg (fun z => min z 7) (lit0_lt p).1).trans (Nat.min_eq_left (Nat.le_of_lt_succ (lit0_lt p).2))
  | ⟨2, _⟩ =>
    rw [GatherDims.offCoord_eq_zero _ _ _ (fun h => ((GatherDims.mem_sKept _ _).mp h).1 (by show (2 : Fin 5) ∈ ([1, 2] : List (Fin 5)); decide)), Nat.add_zero]
    unfold GatherDims.start
    have hm : (⟨2, (by decide : 2 < 5)⟩ : Fin 5) ∈ gather_S8x8x8x256x256_S36x2_S8x36x256x256_023_12_n_n_12_1_811256256.startIndexMap := by
      show (2 : Fin 5) ∈ ([1, 2] : List (Fin 5))
      decide
    refine (dif_pos hm).trans ?_
    refine (congrArg (fun z => min ((pairs (F := F) z).toInt.toNat) 7) (?_ : _ = ix2 (n0 := 36) (n1 := 2) p 1)).trans ?_
    · funext b; refine Fin.ext ?_
      match b with
      | ⟨0, _⟩ => rfl
      | ⟨1, _⟩ => rfl
    · rw [pairs_1]
      exact (congrArg (fun z => min z 7) (lit1_lt p).1).trans (Nat.min_eq_left (Nat.le_of_lt_succ (lit1_lt p).2))
  | ⟨3, _⟩ =>
    unfold GatherDims.start
    have hm : (⟨3, (by decide : 3 < 5)⟩ : Fin 5) ∉ gather_S8x8x8x256x256_S36x2_S8x36x256x256_023_12_n_n_12_1_811256256.startIndexMap := by
      show (3 : Fin 5) ∉ ([1, 2] : List (Fin 5))
      decide
    refine (congrArg (· + _) (dif_neg hm)).trans ((Nat.zero_add _).trans ?_)
    rfl
  | ⟨4, _⟩ =>
    unfold GatherDims.start
    have hm : (⟨4, (by decide : 4 < 5)⟩ : Fin 5) ∉ gather_S8x8x8x256x256_S36x2_S8x36x256x256_023_12_n_n_12_1_811256256.startIndexMap := by
      show (4 : Fin 5) ∉ ([1, 2] : List (Fin 5))
      decide
    refine (congrArg (· + _) (dif_neg hm)).trans ((Nat.zero_add _).trans ?_)
    rfl

/-- Column `i` of block column `a`, numbered in the whole. -/
theorem col_eq (a : Fin 8) (i : Fin 256) {h : a.val * 256 + i.val < 2048} : (⟨a.val * 256 + i.val, h⟩ : Fin 2048) = Fin.ofNat 2048 (256 * a.val + i.val) := by
  refine Fin.ext ?_
  show a.val * 256 + i.val = (256 * a.val + i.val) % 2048
  omega

/-- One element of the blocks of an expert's product. -/
theorem gram_apply (y : FVec Ideal S8x2560x2048 .f32) (x : Vec Ideal S2560x2048 .f32) (e : Fin 8) (a b : Fin 8) (i j : Fin 256) :
    blocks (gram y x) (ix5 (n0 := 8) (n1 := 8) (n2 := 8) (n3 := 256) (n4 := 256) e a b i j)
      = ∑ k : Fin 2560, y (ix3 e k (Fin.ofNat 2048 (256 * a.val + i.val))) * x (ix2 k (Fin.ofNat 2048 (256 * b.val + j.val))) := by
  unfold blocks gram
  pointwise
  exact Finset.sum_congr rfl fun k _ => by rw [col_eq a i, col_eq b j]

/-- One element of the masked operand. -/
theorem masked_apply (v : Vec Ideal S8x2560 .i1) (s : Vec Ideal S2560x128 .f32) (x : Vec Ideal S2560x2048 .f32) (e : Fin 8) (k : Fin 2560) (d : Fin 2048) :
    masked v (scaled (scale s) x) (ix3 (n0 := 8) (n1 := 2560) (n2 := 2048) e k d)
      = (Scalar.select (v (ix2 e k)) (s (ix2 k 0) * s (ix2 k 0) * x (ix2 k d)) 0 : EReal) := by
  unfold masked scaled scale
  pointwise

/-- A row counts for an expert exactly when it lies from the expert's first row to its end row. -/
theorem valid_apply (g : Vec F S8 .i32) (e : Fin 8) (k : Fin 2560) (ho : (offs (F := F) g (ix1 e) : BitVec 32).toNat < 2 ^ 31) :
    valid (F := F) (offCol (F := F) g) g (ix2 (n0 := 8) (n1 := 2560) e k)
      = BitVec.ofBool (decide ((offs (F := F) g (ix1 e) : BitVec 32).toNat ≤ k.val
        ∧ (k.val : Int) < (IntOp.minsi (IntOp.addi (offs (F := F) g (ix1 e)) (g (ix1 e)))
          (IntOp.addi (IntOp.minsi (offs (F := F) g (ix1 e)) 1280#32) 1280#32) : BitVec 32).toInt)) := by
  rw [← valid_word (g (ix1 e)) ho k]
  unfold valid offCol startCol rows wide
  generalize offs (F := F) g = o
  pointwise

section
variable (mI : (ℓ : Loc nD τ sig) → Buf (Elt Ideal) ℓ) (c : Dev nD)
variable (g : Vec Ideal S8 .i32) (x : Vec Ideal S2560x2048 .fp8e4m3) (s : Vec Ideal S2560x128 .f32) (old : Vec Ideal S8x36x256x256 .f32) (n : Vec Ideal S8 .i32)
variable (h0 : mI ((c : Thread nD τ).loc main_arg0) = g) (h1 : mI ((c : Thread nD τ).loc main_arg1) = x)
variable (h2 : mI ((c : Thread nD τ).loc main_arg2) = s) (h3 : mI ((c : Thread nD τ).loc main_arg3) = old)
variable (h4 : mI ((c : Thread nD τ).loc main_arg4) = n)

include h0 h1 h2 h3 h4 in
/-- The updated tiles, element by element. -/
theorem down_apply (e : Fin 8) (p : Fin 36) (i j : Fin 256) (ho : (offs (F := Ideal) g (ix1 e) : BitVec 32).toNat < 2 ^ 31) :
    W mI c main_v62 (ix4 (n0 := 8) (n1 := 36) (n2 := 256) (n3 := 256) e p i j)
      = (old (ix4 e p i j) * Host.divf (sitofp .f32 n) (tot g n) (ix1 e)
        + Host.divf (broadcastInDim S8 ![] bcast_S_S8 (constant S_ .f32 0x40000000#32)) (tot g n) (ix1 e)
          * ∑ k : Fin 2560, (if (offs (F := Ideal) g (ix1 e) : BitVec 32).toNat ≤ k.val
              ∧ (k.val : Int) < (IntOp.minsi (IntOp.addi (offs (F := Ideal) g (ix1 e)) (g (ix1 e)))
                (IntOp.addi (IntOp.minsi (offs (F := Ideal) g (ix1 e)) 1280#32) 1280#32) : BitVec 32).toInt
            then s (ix2 k 0) * s (ix2 k 0) * x (ix2 k (Fin.ofNat 2048 (256 * (lit0 p).toNat + i.val)))
              * x (ix2 k (Fin.ofNat 2048 (256 * (lit1 p).toNat + j.val))) else 0) : EReal) := by
  rw [W_v62, codes_eq, h0, h1, h2, h3, h4]
  generalize Host.divf (sitofp .f32 n) (tot g n) = q0
  generalize Host.divf (broadcastInDim S8 ![] bcast_S_S8 (constant S_ .f32 0x40000000#32)) (tot g n) = q1
  generalize hu : upper (F := Ideal) (gram (F := Ideal) (masked (F := Ideal) _ _) _) = u
  unfold each
  pointwise
  rw [← hu, upper_apply, gram_apply]
  refine congrArg (fun z : EReal => (old (ix4 e p i j) * q0 (ix1 e) + q1 (ix1 e) * z : EReal)) (Finset.sum_congr rfl fun k _ => ?_)
  rw [masked_apply, valid_apply g e k ho, select_ofBool]
  split
  · rfl
  · exact zero_mul _

end

end Cert.DownReferenceIdeal.Ref
-- ==== Proof.DownEquation.lean ====
module

public import proofs.«01_k».proof.Defs
public import proofs.«01_k».proof.Proof.DownIdeal.Values
public import proofs.«01_k».proof.Proof.DownRef.Ideal

/-! The experts' kernel's results are its reference's: the same sums, element by element, and both programs' runs read off. -/

@[expose] public section

set_option maxRecDepth 16384

noncomputable section

namespace Cert.DownEquation
open Idealize.ShloMosaic Idealize.ShloMosaic.TcCoe Idealize.SL.Sem

/-- Both programs carry the same two tables of block numbers. -/
theorem lit0_eq : ∀ p : Fin 36, (Cert.DownReferenceIdeal.lit0 p).toNat = (Cert.DownIdeal.lit0 p).toNat := by decide +kernel
theorem lit1_eq : ∀ p : Fin 36, (Cert.DownReferenceIdeal.lit1 p).toNat = (Cert.DownIdeal.lit1 p).toNat := by decide +kernel

section
variable (m : (ℓ : Loc Cert.DownIdeal.nD Cert.DownIdeal.τ Cert.DownIdeal.sig) → Buf (Elt Ideal) ℓ)
variable (m' : (ℓ : Loc Cert.DownReferenceIdeal.nD Cert.DownReferenceIdeal.τ Cert.DownReferenceIdeal.sig) → Buf (Elt Ideal) ℓ)
variable (c : Dev Cert.DownIdeal.nD)
variable (h0 : m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0))
variable (h1 : m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1))
variable (h2 : m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2))
variable (h3 : m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3))
variable (h4 : m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4))

include h0 h1 h2 h3 h4 in
/-- The updated tiles agree. -/
theorem down_eq (hn : Cert.DownIdeal.Nonneg m) :
    (Cert.DownReferenceIdeal.Ref.W m' c Cert.DownReferenceIdeal.main_v62 : Vec Ideal Cert.DownIdeal.S8x36x256x256 .f32) = Cert.DownIdeal.downArr m c := by
  refine funext fun (y : Cert.DownIdeal.S8x36x256x256.Idx) => ?_
  obtain ⟨e, p, i, j, rfl⟩ : ∃ (e : Fin 8) (p : Fin 36) (i j : Fin 256), y = ix4 e p i j := ⟨y 0, y 1, y 2, y 3, funext fun a => by
    match a with
    | ⟨0, _⟩ => rfl
    | ⟨1, _⟩ => rfl
    | ⟨2, _⟩ => rfl
    | ⟨3, _⟩ => rfl⟩
  have ho := hn e
  rw [Cert.DownIdeal.V_v1] at ho
  obtain rfl : c = 0 := Subsingleton.elim _ _
  refine (Cert.DownReferenceIdeal.Ref.down_apply m' 0 _ _ _ _ _ h0 h1 h2 h3 h4 e p i j ho).trans ?_
  refine Eq.trans ?_ (Cert.DownIdeal.downArr_apply m 0 _ _ _ _ _ rfl rfl rfl rfl rfl e p i j).symm
  rw [lit0_eq, lit1_eq]
  rfl

include h0 h4 in
/-- The counts agree. -/
theorem n_eq : (Cert.DownReferenceIdeal.Ref.W m' c Cert.DownReferenceIdeal.main_v63 : Vec Ideal Cert.DownIdeal.S8 .i32)
    = addi (m ((c : Thread Cert.DownIdeal.nD Cert.DownIdeal.τ).loc Cert.DownIdeal.main_arg4)) (m ((c : Thread Cert.DownIdeal.nD Cert.DownIdeal.τ).loc Cert.DownIdeal.main_arg0)) := by
  refine (Cert.DownReferenceIdeal.Ref.W_v63 m' c).trans ?_
  rw [h0, h4]

end

open Cert.DownIdeal in
/-- The kernel run: its results and its arguments. -/
theorem kernel_run (m : (ℓ : Loc nD τ sig) → Buf (Elt Ideal) ℓ) (g : Dev nD → PrngReg) (hn : Nonneg m) :
    θ_run (defs (F := Ideal)) (onTc (τ := τ) (main (F := Ideal))) ⟨m, fun _ => 0, g⟩ (fun r => ∀ c : Dev nD,
      r.2.mem ((c.tc : Thread nD τ).loc main_v14) = downArr m c
      ∧ r.2.mem ((c.tc : Thread nD τ).loc main_v15) = addi (m ((c : Thread nD τ).loc main_arg4)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1, (h.1 c).2, h.2 c⟩)
    (θ_run_and (run_results m g hn) (Gen.unchanged m g (ok m) (hyps hn)))

open Cert.DownReferenceIdeal in
/-- The reference run: what its lines leave in the results, and its arguments. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v62) = Ref.W m c main_v62
      ∧ r.2.mem ((c.tc : Thread nD τ).loc main_v63) = Ref.W m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h.1 c).2 main_v62 (Pipeline.mem_restRefs_of main_v62 (by decide) (by decide)),
     (h.1 c).2 main_v63 (Pipeline.mem_restRefs_of main_v63 (by decide) (by decide)), h.2 c⟩)
    (θ_run_and (Gen.run_main m g) (Gen.unchanged m g))

/-- THE VALUE CLAIM: from equal arguments with no negative first row the kernel and the reference leave equal results. -/
theorem algebraic [hP : Cert.Pre_offsets_nonneg.Facts] :
    Cert.algebraic_DownIdeal_DownReferenceIdeal (hDownIdeal := Cert.DownIdeal.Gen.facts) (hDownReferenceIdeal := Cert.DownReferenceIdeal.Gen.facts) :=
  fun m g m' g' hp h =>
    have hn : Cert.DownIdeal.Nonneg m := Cert.DownIdeal.nonneg_of_pre (hp 0)
    ⟨fun c => Cert.DownIdeal.downArr m c,
     fun c => addi (m ((c : Thread Cert.DownIdeal.nD Cert.DownIdeal.τ).loc Cert.DownIdeal.main_arg4)) (m ((c : Thread Cert.DownIdeal.nD Cert.DownIdeal.τ).loc Cert.DownIdeal.main_arg0)),
     kernel_run m g hn,
     (θ_run _ _ _).mono (fun r hr c =>
      ⟨(hr c).1.trans (down_eq m m' c (h c).1 (h c).2.1 (h c).2.2.1 (h c).2.2.2.1 (h c).2.2.2.2 hn),
       (hr c).2.1.trans (n_eq m m' c (h c).1 (h c).2.2.2.2),
       (hr c).2.2⟩) (reference_run m' g')⟩

end Cert.DownEquation
-- ==== Proof.GateUpIdeal.Pay.lean ====
module

public import proofs.«01_k».proof.Proof.GateUpIdeal.Oblig
public import proofs.«01_k».proof.Proof.DownWords.Mask
public import Idealize.ShloMosaic.Lib.Pointwise

/-! What one chunk of rows adds to a row of sums, element by element, over the extended reals. -/

@[expose] public section

set_option maxRecDepth 16384

noncomputable section

namespace Cert.GateUpIdeal
open Cert.GateUpIdeal.Gen Cert.DownWords Cert.GateWords
open Idealize.ShloMosaic Idealize.ShloMosaic.TcCoe Idealize.ShloMosaic.Tactic

/-- The gated product of two numbers. -/
def glu (g u : EReal) : EReal := g * FloatOps.logistic (F := Ideal) (φ := .f32) g * u

/-- One element of a chunk's tile. -/
theorem pay7_apply (gs us : Vec Ideal S1x256 .f32) (x : Vec Ideal S128x6144 .fp8e4m3) (s : Vec Ideal S128x1 .f32)
    (gw uw : Vec Ideal S1x6144x256 .fp8e4m3) (r : Fin 128) (b : Fin 256) :
    k0_pay7 (F := Ideal) gs us x s gw uw (ix2 r b)
      = glu ((∑ k : Fin 6144, x (ix2 r k) * gw (ix3 0 k b) : EReal) * s (ix2 r 0) * gs (ix2 0 b))
          ((∑ k : Fin 6144, x (ix2 r k) * uw (ix3 0 k b) : EReal) * s (ix2 r 0) * us (ix2 0 b)) := by
  unfold glu
  pointwise [k0_pay7]

/-- One chunk adds the magnitudes of its rows that count. -/
theorem pay2_apply {v1 v3 : BitVec 32} (h1 : v1.toNat < 2 ^ 31) (h3 : v3.toInt ≤ 2560 - (v1.toNat : Int)) (k : Fin (k0_t1_loop v1 v3).trips)
    (acc : FVec Ideal S1x256 .f32) (h : FVec Ideal S128x256 .f32) (b : Fin 256) :
    k0_pay2 (F := Ideal) v1 v3 acc h (k0_pay8 (F := Ideal) v1 v3 (base v1) 0#32 1#32 k) (k0_pay10 (F := Ideal) v1 v3 (base v1) 0#32 1#32 k) (ix2 0 b)
      = (acc (ix2 0 b) + ∑ r : Fin 128, (if CountsG v1.toNat (v1.toNat + v3.toInt) k.val (g0 v1.toNat k.val + r.val)
          then FloatOps.absf (F := Ideal) (φ := .f32) (h (ix2 r b)) else 0) : EReal) := by
  obtain ⟨ha, hk, hl⟩ := firstB h1 h3 (.inl rfl) k.isLt
  pointwise [k0_pay2, k0_pay8, k0_pay10]
  refine congrArg (HAdd.hAdd (acc (ix2 0 b) : EReal)) (Finset.sum_congr rfl fun r _ => ?_)
  have hm := mask_eqG (e := Scalar.addi v1 v3) h1 hk hl r
  rw [end_toInt h1 h3] at hm
  refine Eq.trans (congrArg (fun z => Scalar.select z _ _) hm) ?_
  exact select_ofBool _ _ _

/-- The row of means is the row of sums over the count. -/
theorem pay4_apply (v3 : BitVec 32) (acc : FVec Ideal S1x256 .f32) (b : Fin 256) :
    k0_pay4 (F := Ideal) v3 acc (ix2 0 b) = (FloatOps.divf (F := Ideal) (φ := .f32) (acc (ix2 0 b)) (FloatOps.sitofp (F := Ideal) .f32 (Scalar.maxsi v3 1#32)) : EReal) := by
  pointwise [k0_pay4]
  rfl

/-- The term of row `t` in the sum at column `j` of expert `e`, column `b` of its block. -/
def term (X : Vec Ideal S2560x6144 .fp8e4m3) (S : Vec Ideal S2560x1 .f32) (G : Vec Ideal S1x6144x256 .fp8e4m3) (gs : Vec Ideal S8x2048 .f32)
    (U : Vec Ideal S1x6144x256 .fp8e4m3) (us : Vec Ideal S8x2048 .f32) (e : Fin 8) (j : Fin 2048) (b : Fin 256) (t : ℕ) : EReal :=
  FloatOps.absf (F := Ideal) (φ := .f32)
    (glu ((∑ k : Fin 6144, X (ix2 (Fin.ofNat 2560 t) k) * G (ix3 0 k b) : EReal) * S (ix2 (Fin.ofNat 2560 t) 0) * gs (ix2 e j))
      ((∑ k : Fin 6144, X (ix2 (Fin.ofNat 2560 t) k) * U (ix3 0 k b) : EReal) * S (ix2 (Fin.ofNat 2560 t) 0) * us (ix2 e j)))

theorem off2_val (i : grid0.Coords) : k0_off2 i = ![(i 0).val, (i 1).val * 256] := off9_val i

/-- A row of column scales, read at the point's expert and block column. -/
theorem ld_scale (x : Vec Ideal S8x2048 .f32) (i : grid0.Coords) (p) (b : Fin 256) (e : Fin 8) (j : Fin 2048)
    (he : (i 0).val = e.val) (hj : (i 1).val * 256 + b.val = j.val) :
    View.ld x (Rect.unit (s := S8x2048) (k0_off2 i) S1x256.size p) (ix2 0 b) = x (ix2 e j) := by
  refine congrArg x (funext fun a => Fin.ext ?_)
  have h := congrFun (off2_val i)
  match a with
  | ⟨0, _⟩ =>
    have h0 : k0_off2 i 0 = (i 0).val := h 0
    show k0_off2 i 0 + 1 * 0 = e.val
    omega
  | ⟨1, _⟩ =>
    have h1 : k0_off2 i 1 = (i 1).val * 256 := h 1
    show k0_off2 i 1 + 1 * b.val = j.val
    omega

theorem ld_zero (x : Vec Ideal S1x6144x256 .fp8e4m3) :
    View.ld x (Rect.unit (s := S1x6144x256) ![0, 0, 0] S1x6144x256.size inb_S1x6144x256_S1x6144x256_0_0_0) = x := by
  refine funext fun y => congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- One chunk, with its windows cut from the codes, scales and weights. -/
theorem step_apply {v1 v3 : BitVec 32} (h1 : v1.toNat < 2 ^ 31) (h3 : v3.toInt ≤ 2560 - (v1.toNat : Int)) (i : grid0.Coords) (hw : k0_chk1 i v1 v3)
    (X : Vec Ideal S2560x6144 .fp8e4m3) (S : Vec Ideal S2560x1 .f32) (G : Vec Ideal S1x6144x256 .fp8e4m3) (gs : Vec Ideal S8x2048 .f32)
    (U : Vec Ideal S1x6144x256 .fp8e4m3) (us : Vec Ideal S8x2048 .f32) (k : Fin (k0_t1_loop v1 v3).trips) (acc : FVec Ideal S1x256 .f32)
    (e : Fin 8) (j : Fin 2048) (b : Fin 256) (he : (i 0).val = e.val) (hj : (i 1).val * 256 + b.val = j.val) :
    accStep (F := Ideal) i v1 v3 hw X S G gs U us k acc (ix2 0 b)
      = (acc (ix2 0 b) + ∑ r : Fin 128, (if CountsG v1.toNat (v1.toNat + v3.toInt) k.val (g0 v1.toNat k.val + r.val)
          then term X S G gs U us e j b (g0 v1.toNat k.val + r.val) else 0) : EReal) := by
  obtain ⟨ha, hk, hl⟩ := firstB h1 h3 (.inl rfl) k.isLt
  have hr := g0_le v1.toNat k.val
  have hro : (Scalar.indexCast (rowG v1 (Scf.iv 0#32 1#32 k.val))).toNat = g0 v1.toNat k.val := rowG_toNat h1 hk hl
  unfold accStep
  rw [pay2_apply h1 h3]
  refine congrArg (HAdd.hAdd (acc (ix2 0 b) : EReal)) (Finset.sum_congr rfl fun r _ => ?_)
  have hrl := r.isLt
  have eX : ∀ (p) (d : Fin 6144), View.ld X (Rect.unit (s := S2560x6144) (k0_off3 v1 v3 k) S128x6144.size p) (ix2 r d)
      = X (ix2 (Fin.ofNat 2560 (g0 v1.toNat k.val + r.val)) d) := by
    intro p d
    refine congrArg X (funext fun a => Fin.ext ?_)
    match a with
    | ⟨0, _⟩ =>
      show (Scalar.indexCast (rowG v1 (Scf.iv 0#32 1#32 k.val))).toNat + 1 * r.val = (g0 v1.toNat k.val + r.val) % 2560
      omega
    | ⟨1, _⟩ => show 0 + 1 * d.val = d.val; omega
  have eS : ∀ p, View.ld S (Rect.unit (s := S2560x1) (k0_off4 v1 v3 k) S128x1.size p) (ix2 r 0)
      = S (ix2 (Fin.ofNat 2560 (g0 v1.toNat k.val + r.val)) 0) := by
    intro p
    refine congrArg S (funext fun a => Fin.ext ?_)
    match a with
    | ⟨0, _⟩ =>
      show (Scalar.indexCast (rowG v1 (Scf.iv 0#32 1#32 k.val))).toNat + 1 * r.val = (g0 v1.toNat k.val + r.val) % 2560
      omega
    | ⟨1, _⟩ => rfl
  rw [ld_zero, ld_zero, pay7_apply, ld_scale gs i _ b e j he hj, ld_scale us i _ b e j he hj, eS]
  simp only [eX]
  rfl

/-- The loop over the chunks: from zeros, the sum over the expert's rows. -/
theorem acc_apply {v1 v3 : BitVec 32} (h1 : v1.toNat < 2 ^ 31) (h3 : v3.toInt ≤ 2560 - (v1.toNat : Int)) (i : grid0.Coords) (hw : k0_chk1 i v1 v3)
    (X : Vec Ideal S2560x6144 .fp8e4m3) (S : Vec Ideal S2560x1 .f32) (G : Vec Ideal S1x6144x256 .fp8e4m3) (gs : Vec Ideal S8x2048 .f32)
    (U : Vec Ideal S1x6144x256 .fp8e4m3) (us : Vec Ideal S8x2048 .f32)
    (e : Fin 8) (j : Fin 2048) (b : Fin 256) (he : (i 0).val = e.val) (hj : (i 1).val * 256 + b.val = j.val) :
    accAt (F := Ideal) i v1 v3 hw X S G gs U us (k0_t1_loop v1 v3).trips (ix2 0 b)
      = (∑ t : Fin 2560, (if v1.toNat ≤ t.val ∧ (t.val : Int) < v1.toNat + v3.toInt then term X S G gs U us e j b t.val else 0) : EReal) := by
  have hn : ∀ n, n ≤ (k0_t1_loop v1 v3).trips → accAt (F := Ideal) i v1 v3 hw X S G gs U us n (ix2 0 b)
      = (∑ c ∈ Finset.range n, (∑ r : Fin 128, (if CountsG v1.toNat (v1.toNat + v3.toInt) c (g0 v1.toNat c + r.val)
          then term X S G gs U us e j b (g0 v1.toNat c + r.val) else 0)) : EReal) := by
    intro n
    induction n with
    | zero =>
      intro _
      show k0_pay1 (F := Ideal) (ix2 0 b) = _
      rw [Finset.sum_range_zero]
      pointwise [k0_pay1]
    | succ n ih =>
      intro h
      rw [Finset.sum_range_succ, ← ih (by omega)]
      have hlt : n < (k0_t1_loop v1 v3).trips := by omega
      show (if h : n < (k0_t1_loop v1 v3).trips then _ else _ : FVec Ideal S1x256 .f32) _ = _
      rw [dif_pos hlt]
      exact step_apply h1 h3 i hw X S G gs U us ⟨n, hlt⟩ _ e j b he hj
  have ht : (k0_t1_loop v1 v3).trips = chunksB 128 v1.toNat (v1.toNat + v3.toInt) :=
    (tripsB_eq h1 h3 (.inl rfl)).trans (by rw [end_toInt h1 h3]; rfl)
  rw [hn _ le_rfl, ← chunks_sumG v1.toNat (v1.toNat + v3.toInt) (term X S G gs U us e j b), ht]

end Cert.GateUpIdeal
-- ==== Proof.GateUpIdeal.Result.lean ====
module

public import proofs.«01_k».proof.Proof.GateUpIdeal.Launch
public import Idealize.ShloMosaic.Lib.Pipeline.Value

/-! What the result array holds at the end of the run. -/

@[expose] public section

set_option maxRecDepth 16384

noncomputable section

namespace Cert.GateUpIdeal
open Cert.GateUpIdeal.Gen Cert.DownWords Cert.GateWords
open Idealize.SL Idealize.SL.Sem
open Idealize.ShloMosaic.Pipeline (Dat Cfg Window BodyObligation cellOf)
open Idealize.ShloMosaic Idealize.ShloMosaic.TcCoe Idealize.ShloMosaic.Tactic

variable {F : FTy → Type} [FloatOps F]

variable (m : (ℓ : Loc nD τ sig) → Buf (Elt F) ℓ) (ρ : Dev nD → PrngReg) (hI : Inside m)

/-- The array of means: row `e`, block column `n` holds the row of point `8 e + n`. -/
def meanArr (c : Dev nD) : Vec F S8x2048 .f32 := fun y =>
  rowAt m hI c (Fin.cast (show 64 = (pl m).N from N_0.symm) ⟨8 * (y 0).val + (y 1).val / 256, by
      have h0 := (y 0).isLt
      have h1 := (y 1).isLt
      change (y 0).val < 8 at h0
      change (y 1).val < 2048 at h1
      omega⟩)
    (ix2 (n0 := 1) (n1 := 256) 0 ⟨(y 1).val % 256, Nat.mod_lt _ (by decide)⟩)

/-- Where the expert has rows, the block column fetched is the point's. -/
theorem colW_pos {g : BitVec 32} (w : BitVec 32) (i : grid0.Coords) (h : 0 < g.toInt) : (colW g w i).toNat = (i 1).val := by
  have h1 := (i 1).isLt
  change (i 1).val < 8 at h1
  have e : Scalar.cmpi .sgt g 0#32 = 1#1 := by
    show BitVec.ofBool (BitVec.slt 0#32 g) = 1#1
    rw [(BitVec.slt_iff_toInt_lt).mpr (by simpa using h)]; rfl
  unfold colW
  rw [e]
  show (BitVec.ofNat 32 (i 1).val).toNat = (i 1).val
  rw [BitVec.toNat_ofNat]; omega

theorem index_2 (a : (pcfg0 (F := F)).Adm) (t : Fin (cfg0 a).N) : ((cfg0 a).win 2).index t = cc0_transform_2 k0_off1_inb numel1_S1 a.1 (grid0.coords t) := rfl

/-- Where the expert has rows, the block fetched is the expert's own, -/
theorem index_2_0 (t : Fin (pl m).N) (e : Fin 8) (he : (grid0.coords t 0).val = e.val) (hg : 0 < (Gt m (Idealize.ShloMosaic.ix1 e) : BitVec 32).toInt) :
    ((pl m).win 2).index t ⟨0, (by decide : 0 < 3)⟩ = e.val := by
  have h : (grid0.coords t 0 : Fin 8) = e := Fin.ext he
  refine (congrFun (index_2 (adm m 0) t) _).trans ((congrFun (transform2_eq m (grid0.coords t)) ⟨0, (by decide : 0 < 3)⟩).trans ?_)
  rw [h]
  exact Et_eq m e hg

theorem index_2_1 (t : Fin (pl m).N) : ((pl m).win 2).index t ⟨1, (by decide : 1 < 3)⟩ = 0 := by
  refine (congrFun (index_2 (adm m 0) t) _).trans ((congrFun (transform2_eq m (grid0.coords t)) ⟨1, (by decide : 1 < 3)⟩).trans ?_)
  rfl

/-- at the point's block column. -/
theorem index_2_2 (t : Fin (pl m).N) (e : Fin 8) (he : (grid0.coords t 0).val = e.val) (hg : 0 < (Gt m (Idealize.ShloMosaic.ix1 e) : BitVec 32).toInt) :
    ((pl m).win 2).index t ⟨2, (by decide : 2 < 3)⟩ = (grid0.coords t 1).val := by
  have h : (grid0.coords t 0 : Fin 8) = e := Fin.ext he
  refine (congrFun (index_2 (adm m 0) t) _).trans ((congrFun (transform2_eq m (grid0.coords t)) ⟨2, (by decide : 2 < 3)⟩).trans ?_)
  rw [h]
  exact colW_pos _ _ hg

theorem index_4 (a : (pcfg0 (F := F)).Adm) (t : Fin (cfg0 a).N) : ((cfg0 a).win 4).index t = cc0_transform_4 k0_off1_inb numel1_S1 a.1 (grid0.coords t) := rfl

/-- Where the expert has rows, the block fetched is the expert's own, -/
theorem index_4_0 (t : Fin (pl m).N) (e : Fin 8) (he : (grid0.coords t 0).val = e.val) (hg : 0 < (Gt m (Idealize.ShloMosaic.ix1 e) : BitVec 32).toInt) :
    ((pl m).win 4).index t ⟨0, (by decide : 0 < 3)⟩ = e.val := by
  have h : (grid0.coords t 0 : Fin 8) = e := Fin.ext he
  refine (congrFun (index_4 (adm m 0) t) _).trans ((congrFun (transform4_eq m (grid0.coords t)) ⟨0, (by decide : 0 < 3)⟩).trans ?_)
  rw [h]
  exact Et_eq m e hg

theorem index_4_1 (t : Fin (pl m).N) : ((pl m).win 4).index t ⟨1, (by decide : 1 < 3)⟩ = 0 := by
  refine (congrFun (index_4 (adm m 0) t) _).trans ((congrFun (transform4_eq m (grid0.coords t)) ⟨1, (by decide : 1 < 3)⟩).trans ?_)
  rfl

/-- at the point's block column. -/
theorem index_4_2 (t : Fin (pl m).N) (e : Fin 8) (he : (grid0.coords t 0).val = e.val) (hg : 0 < (Gt m (Idealize.ShloMosaic.ix1 e) : BitVec 32).toInt) :
    ((pl m).win 4).index t ⟨2, (by decide : 2 < 3)⟩ = (grid0.coords t 1).val := by
  have h : (grid0.coords t 0 : Fin 8) = e := Fin.ext he
  refine (congrFun (index_4 (adm m 0) t) _).trans ((congrFun (transform4_eq m (grid0.coords t)) ⟨2, (by decide : 2 < 3)⟩).trans ?_)
  rw [h]
  exact colW_pos _ _ hg

theorem GB_apply (c : Dev nD) (t : Fin (pl m).N) (e : Fin 8) (j : Fin 2048) (b : Fin 256) (k : Fin 6144) (he : (grid0.coords t 0).val = e.val)
    (hj : (grid0.coords t 1).val * 256 + b.val = j.val) (hg : 0 < (Gt m (Idealize.ShloMosaic.ix1 e) : BitVec 32).toInt) :
    GB m c t (ix3 0 k b) = V m c main_arg3 (ix3 e k j) := by
  refine congrArg (V m c main_arg3) (funext fun a => Fin.ext ?_)
  match a with
  | ⟨0, _⟩ =>
    refine (Window.rect_emb_val ((pl m).win 2) t (ix3 0 k b) ⟨0, (by decide : 0 < 3)⟩).trans ?_
    rw [index_2_0 m t e he hg]
    show e.val * 1 + 0 = e.val
    omega
  | ⟨1, _⟩ => exact Window.rect_emb_val_of_index_zero ((pl m).win 2) t ⟨1, (by decide : 1 < 3)⟩ (index_2_1 m t) (ix3 0 k b)
  | ⟨2, _⟩ =>
    refine (Window.rect_emb_val ((pl m).win 2) t (ix3 0 k b) ⟨2, (by decide : 2 < 3)⟩).trans ?_
    rw [index_2_2 m t e he hg]
    exact hj

theorem UB_apply (c : Dev nD) (t : Fin (pl m).N) (e : Fin 8) (j : Fin 2048) (b : Fin 256) (k : Fin 6144) (he : (grid0.coords t 0).val = e.val)
    (hj : (grid0.coords t 1).val * 256 + b.val = j.val) (hg : 0 < (Gt m (Idealize.ShloMosaic.ix1 e) : BitVec 32).toInt) :
    UB m c t (ix3 0 k b) = V m c main_arg5 (ix3 e k j) := by
  refine congrArg (V m c main_arg5) (funext fun a => Fin.ext ?_)
  match a with
  | ⟨0, _⟩ =>
    refine (Window.rect_emb_val ((pl m).win 4) t (ix3 0 k b) ⟨0, (by decide : 0 < 3)⟩).trans ?_
    rw [index_4_0 m t e he hg]
    show e.val * 1 + 0 = e.val
    omega
  | ⟨1, _⟩ => exact Window.rect_emb_val_of_index_zero ((pl m).win 4) t ⟨1, (by decide : 1 < 3)⟩ (index_4_1 m t) (ix3 0 k b)
  | ⟨2, _⟩ =>
    refine (Window.rect_emb_val ((pl m).win 4) t (ix3 0 k b) ⟨2, (by decide : 2 < 3)⟩).trans ?_
    rw [index_4_2 m t e he hg]
    exact hj

section
variable (c : Dev nD) (g : Vec F S8 .i32) (X : Vec F S2560x6144 .fp8e4m3) (s : Vec F S2560 .f32) (G : Vec F S8x6144x2048 .fp8e4m3)
variable (gs : Vec F S8x2048 .f32) (U : Vec F S8x6144x2048 .fp8e4m3) (us : Vec F S8x2048 .f32)
variable (h0 : m (((0 : Dev nD) : Thread nD τ).loc main_arg0) = g) (h1 : m ((c : Thread nD τ).loc main_arg1) = X) (h2 : m ((c : Thread nD τ).loc main_arg2) = s)
variable (h3 : m ((c : Thread nD τ).loc main_arg3) = G) (h4 : m ((c : Thread nD τ).loc main_arg4) = gs) (h5 : m ((c : Thread nD τ).loc main_arg5) = U)
variable (h6 : m ((c : Thread nD τ).loc main_arg6) = us)
include h0 h1 h2 h3 h4 h5 h6

/-- An element of the array of means, in the arguments: the blocks of weights are the expert's where it has rows. -/
theorem meanArr_row (e : Fin 8) (j : Fin 2048) (b : Fin 256) (hb : b.val = j.val % 256) :
    ∃ (i : grid0.Coords) (hw : k0_chk1 i (offs (F := F) g (ix1 e)) (g (ix1 e))) (Gb Ub : Vec F S1x6144x256 .fp8e4m3),
      (i 0).val = e.val ∧ (i 1).val * 256 + b.val = j.val
      ∧ (0 < (g (ix1 e) : BitVec 32).toInt → ∀ k : Fin 6144, Gb (ix3 0 k b) = G (ix3 e k j) ∧ Ub (ix3 0 k b) = U (ix3 e k j))
      ∧ (offs (F := F) g (ix1 e) : BitVec 32).toNat < 2 ^ 31
      ∧ (g (ix1 e) : BitVec 32).toInt ≤ 2560 - ((offs (F := F) g (ix1 e) : BitVec 32).toNat : Int)
      ∧ meanArr m hI c (ix2 e j) = meanRow i (offs (F := F) g (ix1 e)) (g (ix1 e)) hw X (broadcastInDim S2560x1 ![0] bcast_S2560_S2560x1_0 s) Gb gs Ub us (ix2 0 b) := by
  have he := e.isLt
  have hj := j.isLt
  have eG : Gt m = g := (V_keep m 0 main_arg0 (by decide)).trans h0
  have eO : Ot m = offs (F := F) g := (V_v1 m 0).trans (congrArg (offs (F := F)) h0)
  obtain ⟨t, htv, hm⟩ : ∃ t : Fin (pl m).N, t.val = 8 * e.val + j.val / 256 ∧ meanArr m hI c (ix2 e j) = rowAt m hI c t (ix2 0 b) := by
    refine ⟨_, ?_, congrArg (rowAt m hI c (Fin.cast (show 64 = (pl m).N from N_0.symm) ⟨8 * e.val + j.val / 256, by omega⟩)) (funext fun a => Fin.ext ?_)⟩
    · rfl
    · match a with
      | ⟨0, _⟩ => rfl
      | ⟨1, _⟩ => exact hb.symm
  have hc0 : (grid0.coords t 0).val = e.val := by rw [coord0, htv]; omega
  have hc1 : (grid0.coords t 1).val = j.val / 256 := by rw [coord1, htv]; omega
  have ec : (grid0.coords t 0 : Fin 8) = e := Fin.ext hc0
  have eo : word (Ot m) (grid0.coords t) = offs (F := F) g (ix1 e) := by rw [word_eq, ec, eO]
  have eg : word (Gt m) (grid0.coords t) = g (ix1 e) := by rw [word_eq, ec, eG]
  have hO := (hI e).1
  have hG := (hI e).2
  rw [eO] at hO hG
  rw [eG] at hG
  have hbj : (grid0.coords t 1).val * 256 + b.val = j.val := by omega
  have hp : 0 < (g (ix1 e) : BitVec 32).toInt → 0 < (Gt m (Idealize.ShloMosaic.ix1 e) : BitVec 32).toInt := fun h => by rw [eG]; exact h
  have hw := chk hI (grid0.coords t)
  rw [eo, eg] at hw
  refine ⟨grid0.coords t, hw, GB m c t, UB m c t, hc0, hbj, fun h k => ⟨?_, ?_⟩, hO, hG, hm.trans ?_⟩
  · exact (GB_apply m c t e j b k hc0 hbj (hp h)).trans (congrFun ((V_keep m c main_arg3 (by decide)).trans h3) _)
  · exact (UB_apply m c t e j b k hc0 hbj (hp h)).trans (congrFun ((V_keep m c main_arg5 (by decide)).trans h5) _)
  · have eX : Xc m c = X := (V_keep m c main_arg1 (by decide)).trans h1
    have eS : Sc m c = broadcastInDim S2560x1 ![0] bcast_S2560_S2560x1_0 s := (V_v2 m c).trans (congrArg (broadcastInDim S2560x1 ![0] bcast_S2560_S2560x1_0) h2)
    have eGS : GS m c = gs := (V_keep m c main_arg4 (by decide)).trans h4
    have eUS : US m c = us := (V_keep m c main_arg6 (by decide)).trans h6
    unfold rowAt
    rw [eX, eS, eGS, eUS]
    congr 1

end

variable (r : PUnit × MemSt nD τ sig (Elt F)) (h : Pipeline.RDat.FramePost (pl m) (rdat m hI) (V m) r)
include h

theorem res_mean (c : Dev nD) : r.2.mem ((c.tc : Thread nD τ).loc main_v12_2) = meanArr m hI c := by
  have hN : (pl m).N = 64 := N_0
  have h63 : 63 < (pl m).N := lt_of_lt_of_eq (by decide) N_0.symm
  have h8 := (h c).1 8
  rw [hN] at h8
  unfold Pipeline.RDat.ArrAt at h8
  dsimp only at h8
  rw [dif_pos (show 63 < (pl m).N from h63), if_pos ((Pipeline.Window.flush_const (n := 64) (m := 63) ((pl m).win 8) rfl (fun _ _ => rfl) N_0 rfl _).mpr (by rfl))] at h8
  obtain ⟨G₀, X, -, hX, hG⟩ := h8
  have hR : RowsUpTo m hI c (63 + 1) X := (dats m 0 c).toRRel_leaves (fgt := fgt m) (Rl := Rl m hI c) (w := 8) rfl hX
  refine hG.trans (funext fun (i : S8x2048.Idx) => ?_)
  have e : (((pl m).win 8).blk ⟨63, h63⟩).view.emb i = i := by
    refine funext fun a => Fin.ext ?_
    match a with
    | ⟨0, _⟩ => exact Window.rect_emb_val_of_index_zero ((pl m).win 8) _ ⟨0, (by decide : 0 < 2)⟩ rfl i
    | ⟨1, _⟩ => exact Window.rect_emb_val_of_index_zero ((pl m).win 8) _ ⟨1, (by decide : 1 < 2)⟩ rfl i
  have h0 : (i 0).val < 8 := (i 0).isLt
  have h1 : (i 1).val < 2048 := (i 1).isLt
  refine Eq.trans ?_ (hR (Fin.cast (show 64 = (pl m).N from N_0.symm) ⟨8 * (i 0).val + (i 1).val / 256, by omega⟩) ?_ i ?_ ?_)
  · conv_lhs => rw [← e]
    exact View.write_emb_of_mem _ _ (Finset.mem_univ _)
  · show 8 * (i 0).val + (i 1).val / 256 < 63 + 1
    omega
  · show (i 0).val = (8 * (i 0).val + (i 1).val / 256) / 8
    omega
  · show (i 1).val / 256 = (8 * (i 0).val + (i 1).val / 256) % 8
    omega

end Cert.GateUpIdeal
-- ==== Proof.GateUpIdeal.Values.lean ====
module

public import proofs.«01_k».proof.Proof.GateUpIdeal.Pay
public import proofs.«01_k».proof.Proof.GateUpIdeal.Result

/-! The elements of the result. -/

@[expose] public section

set_option maxRecDepth 16384

noncomputable section

namespace Cert.GateUpIdeal
open Cert.GateUpIdeal.Gen Cert.DownWords Cert.GateWords
open Idealize.ShloMosaic.Pipeline (Window)
open Idealize.ShloMosaic Idealize.ShloMosaic.TcCoe Idealize.ShloMosaic.Tactic

/-- The magnitude at row `t`, column `j` of expert `e`. -/
def mag (X : Vec Ideal S2560x6144 .fp8e4m3) (s : Vec Ideal S2560 .f32) (G : Vec Ideal S8x6144x2048 .fp8e4m3) (gs : Vec Ideal S8x2048 .f32)
    (U : Vec Ideal S8x6144x2048 .fp8e4m3) (us : Vec Ideal S8x2048 .f32) (e : Fin 8) (j : Fin 2048) (t : Fin 2560) : EReal :=
  FloatOps.absf (F := Ideal) (φ := .f32)
    (glu ((∑ k : Fin 6144, X (ix2 t k) * G (ix3 e k j) : EReal) * s (ix1 t) * gs (ix2 e j))
      ((∑ k : Fin 6144, X (ix2 t k) * U (ix3 e k j) : EReal) * s (ix1 t) * us (ix2 e j)))

/-- The means, element by element. -/
theorem meanRow_apply (o gw : BitVec 32) (X : Vec Ideal S2560x6144 .fp8e4m3) (s : Vec Ideal S2560 .f32) (G : Vec Ideal S8x6144x2048 .fp8e4m3)
    (gs : Vec Ideal S8x2048 .f32) (U : Vec Ideal S8x6144x2048 .fp8e4m3) (us : Vec Ideal S8x2048 .f32) (Gb Ub : Vec Ideal S1x6144x256 .fp8e4m3)
    (e : Fin 8) (j : Fin 2048) (b : Fin 256) (i : grid0.Coords) (hw : k0_chk1 i o gw)
    (he : (i 0).val = e.val) (hj : (i 1).val * 256 + b.val = j.val)
    (hW : 0 < gw.toInt → ∀ k : Fin 6144, Gb (ix3 0 k b) = G (ix3 e k j) ∧ Ub (ix3 0 k b) = U (ix3 e k j))
    (h1 : o.toNat < 2 ^ 31) (h3 : gw.toInt ≤ 2560 - (o.toNat : Int)) :
    meanRow (F := Ideal) i o gw hw X (broadcastInDim S2560x1 ![0] bcast_S2560_S2560x1_0 s) Gb gs Ub us (ix2 0 b) = (FloatOps.divf (F := Ideal) (φ := .f32)
      (∑ t : Fin 2560, (if o.toNat ≤ t.val ∧ (t.val : Int) < o.toNat + gw.toInt then mag X s G gs U us e j t else 0) : EReal)
      (FloatOps.sitofp (F := Ideal) .f32 (Scalar.maxsi gw 1#32)) : EReal) := by
  unfold meanRow
  rw [pay4_apply, acc_apply h1 h3 i hw _ _ _ _ _ _ e j b he hj]
  refine congrArg (fun z : EReal => (FloatOps.divf (F := Ideal) (φ := .f32) z (FloatOps.sitofp (F := Ideal) .f32 (Scalar.maxsi gw 1#32)) : EReal))
    (Finset.sum_congr rfl fun r _ => ?_)
  split
  case isFalse => rfl
  case isTrue hr =>
    have hpos : 0 < gw.toInt := by omega
    have er : (Fin.ofNat 2560 r.val : Fin 2560) = r := Fin.ext (Nat.mod_eq_of_lt r.isLt)
    have eS : broadcastInDim S2560x1 ![0] bcast_S2560_S2560x1_0 s (ix2 r 0) = s (ix1 r) := by pointwise
    unfold term mag
    rw [er, eS]
    simp only [hW hpos]

end Cert.GateUpIdeal
-- ==== Proof.GateUpRef.Reads.lean ====
module

public import proofs.«01_k».proof.Proof.Gen.GateUpReferenceIdeal.Frame
public import Idealize.ShloMosaic.Lib.StableHlo.RunRead

/-! What the lines of the activations' reference compute. -/

@[expose] public section

set_option maxRecDepth 16384

noncomputable section

namespace Cert.GateUpReferenceIdeal.Ref
open Cert.GateUpReferenceIdeal.Gen
open Idealize.ShloMosaic Idealize.ShloMosaic.TcCoe Idealize.ShloMosaic.Tactic

variable {F : FTy → Type} [FloatOps F]

variable (m : (ℓ : Loc nD τ sig) → Buf (Elt F) ℓ)

/-- Each expert's first row: the sum of the group sizes before it. -/
def offs (g : Vec F S8 .i32) : Vec F S8 .i32 :=
  subi (Host.reduceWindow IntOp.addi ![8] ![1] ![7] ![0] g (broadcastInDim S_ ![] bcast_S_S_ (constantI S_ 32 0#32))
    reduceWindows_S8_S8_w8s1p7_0 h_S_) g

/-- A number of each expert as a column. -/
def col (x : Vec F S8 .i32) : Vec F S8x1 .i32 := broadcastInDim S8x1 ![0] bcast_S8_S8x1_0 x

/-- The row numbers. -/
def rows : Vec F S8x2560 .i32 :=
  broadcastInDim S8x2560 ![0, 1] bcast_S1x2560_S8x2560_0_1 (broadcastInDim S1x2560 ![1] bcast_S2560_S1x2560_1 (iotaInDim S2560 32 0))

/-- A column over all rows. -/
def wide (x : Vec F S8x1 .i32) : Vec F S8x2560 .i32 := broadcastInDim S8x2560 ![0, 1] bcast_S8x1_S8x2560_0_1 x

/-- Which rows are whose. -/
def valid (o g : Vec F S8x1 .i32) : Vec F S8x2560 .i1 :=
  andi (cmpi .sge (rows (F := F)) (wide (F := F) o)) (cmpi .slt (rows (F := F)) (wide (F := F) (addi o g)))

/-- The codes times one expert's weights' codes, times the rows' and the columns' scales. -/
def proj (w : FVec F S8x6144x2048 .f32) (x : FVec F S2560x6144 .f32) (s : Vec F S2560 .f32) (ws : Vec F S8x2048 .f32) : FVec F S8x2560x2048 .f32 :=
  mulf (mulf (transpose S8x2560x2048 [0, 2, 1] (Host.dotGeneral dot_S8x6144x2048_S2560x6144_S8x2048x2560_1_1_02_0_n_n none w x) transposes_S8x2048x2560_S8x2560x2048_0_2_1)
      (broadcastInDim S8x2560x2048 ![0, 1, 2] bcast_S1x2560x1_S8x2560x2048_0_1_2 (broadcastInDim S1x2560x1 ![1] bcast_S2560_S1x2560x1_1 s)))
    (broadcastInDim S8x2560x2048 ![0, 1, 2] bcast_S8x1x2048_S8x2560x2048_0_1_2 (broadcastInDim S8x1x2048 ![0, 2] bcast_S8x2048_S8x1x2048_0_2 ws))

/-- One everywhere. -/
def one : FVec F S8x2560x2048 .f32 := broadcastInDim S8x2560x2048 ![] bcast_S_S8x2560x2048 (constant S_ .f32 0x3F800000#32)

/-- The activations. -/
def act (g u : FVec F S8x2560x2048 .f32) : FVec F S8x2560x2048 .f32 :=
  mulf (mulf g (Host.divf one (addf one (Host.exp (Host.negf g))))) u

/-- The magnitudes of an expert's own rows, and zero in the others. -/
def masked (v : Vec F S8x2560 .i1) (h : FVec F S8x2560x2048 .f32) : FVec F S8x2560x2048 .f32 :=
  select (broadcastInDim S8x2560x2048 ![0, 1, 2] bcast_S8x2560x1_S8x2560x2048_0_1_2 (broadcastInDim S8x2560x1 ![0, 1] bcast_S8x2560_S8x2560x1_0_1 v))
    (Host.absf h) (broadcastInDim S8x2560x2048 ![] bcast_S_S8x2560x2048 (constant S_ .f32 0x00000000#32))

/-- The sums over the rows, each over its expert's number of rows, or one. -/
def mean (h : FVec F S8x2560x2048 .f32) (g : Vec F S8 .i32) : FVec F S8x2048 .f32 :=
  Host.divf (Host.reduceAdd h (constant S_ .f32 0x00000000#32) reducesTo_S8x2560x2048_S8x2048_d1 h_S_)
    (broadcastInDim S8x2048 ![0, 1] bcast_S8x1_S8x2048_0_1 (broadcastInDim S8x1 ![0] bcast_S8_S8x1_0
      (sitofp .f32 (maxsi g (broadcastInDim S8 ![] bcast_S_S8 (constantI S_ 32 1#32))))))

/-- The codes as floats: what the region leaves, -/
abbrev xs (c : Dev nD) : Vec F S2560x6144 .f32 := (dats m 0 c).arrAt 3 cfg0.N
/-- the gate weights' -/
abbrev gws (c : Dev nD) : Vec F S8x6144x2048 .f32 := (dats m 0 c).arrAt 4 cfg0.N
/-- and the up weights'. -/
abbrev uws (c : Dev nD) : Vec F S8x6144x2048 .f32 := (dats m 0 c).arrAt 5 cfg0.N

/-- What the lines after the region leave at `b`. -/
abbrev W (c : Dev nD) (b : Ref sig .tc) : Buf (Elt F) ((c : Thread nD τ).loc b) :=
  Pipeline.afterTail₀ cfgs (dats m) 0 (V0 m) [hostOps1, hostOps1_1, hostOps1_2, hostOps1_3, hostOps1_4] c b

/-- The buffers as the region leaves them. -/
abbrev B (c : Dev nD) (b : Ref sig .tc) : Buf (Elt F) ((c : Thread nD τ).loc b) :=
  Pipeline.withArrays (cfgs 0).spec c (V0 m c) (fun w => (dats m 0 c).arrAt w (cfgs 0).N) (Proc.devRef .tc b)

theorem B_keep (c : Dev nD) (b : Ref sig .tc) (h : ∀ w, Pipeline.arrRef spec0 w ≠ b) : B m c b = V m c b :=
  Pipeline.withArrays_of_ne _ c (V0 m c) _ b (by exact h)

theorem B_x (c : Dev nD) : B m c main_v0_0 = xs m c :=
  Pipeline.withArrays_arr (cfgs 0).spec winFacts0.arr_inj c (V0 m c) _ 3
theorem B_g (c : Dev nD) : B m c main_v0_1 = gws m c :=
  Pipeline.withArrays_arr (cfgs 0).spec winFacts0.arr_inj c (V0 m c) _ 4
theorem B_u (c : Dev nD) : B m c main_v0_2 = uws m c :=
  Pipeline.withArrays_arr (cfgs 0).spec winFacts0.arr_inj c (V0 m c) _ 5

theorem B_arg0 (c : Dev nD) : B m c main_arg0 = m ((c : Thread nD τ).loc main_arg0) := (B_keep m c main_arg0 (by decide)).trans (V_main_arg0 m c)
theorem B_arg2 (c : Dev nD) : B m c main_arg2 = m ((c : Thread nD τ).loc main_arg2) := (B_keep m c main_arg2 (by decide)).trans (V_main_arg2 m c)
theorem B_arg4 (c : Dev nD) : B m c main_arg4 = m ((c : Thread nD τ).loc main_arg4) := (B_keep m c main_arg4 (by decide)).trans (V_main_arg4 m c)
theorem B_arg6 (c : Dev nD) : B m c main_arg6 = m ((c : Thread nD τ).loc main_arg6) := (B_keep m c main_arg6 (by decide)).trans (V_main_arg6 m c)

set_option maxHeartbeats 1000000 in
theorem W_v48 (c : Dev nD) : W m c main_v48 = mean (masked
      (valid (F := F) (col (F := F) (offs (F := F) (m ((c : Thread nD τ).loc main_arg0)))) (col (F := F) (m ((c : Thread nD τ).loc main_arg0))))
      (act (proj (gws m c) (xs m c) (m ((c : Thread nD τ).loc main_arg2)) (m ((c : Thread nD τ).loc main_arg4)))
        (proj (uws m c) (xs m c) (m ((c : Thread nD τ).loc main_arg2)) (m ((c : Thread nD τ).loc main_arg6)))))
    (m ((c : Thread nD τ).loc main_arg0)) := by
  rw [← B_arg0 m c, ← B_arg2 m c, ← B_arg4 m c, ← B_arg6 m c, ← B_x m c, ← B_g m c, ← B_u m c]
  unfold mean masked valid act proj
  dsimp only [W, B]
  unfold Pipeline.afterTail₀
  after_reads_simp
  simp only [StableHlo.TRef.ofBuf, StableHlo.TRef.toBuf, cast_eq]
  rfl

end Cert.GateUpReferenceIdeal.Ref
-- ==== Proof.GateUpRef.Ideal.lean ====
module

public import proofs.«01_k».proof.Proof.GateUpRef.Reads
public import proofs.«01_k».proof.Proof.GateWords.Words
public import Idealize.ShloMosaic.Lib.Pointwise
public import Idealize.ShloMosaic.Lib.Pipeline.ValueKit

/-! What the values of the activations' reference hold, element by element. -/

@[expose] public section

set_option maxRecDepth 16384

noncomputable section

namespace Cert.GateUpReferenceIdeal.Ref
open Cert.GateUpReferenceIdeal.Gen
open Idealize.ShloMosaic Idealize.ShloMosaic.TcCoe Idealize.ShloMosaic.Tactic
open Idealize.ShloMosaic.Pipeline (Dat Cfg Window)
open Cert.DownWords Cert.GateWords

variable {F : FTy → Type} [FloatOps F]

variable (m : (ℓ : Loc nD τ sig) → Buf (Elt F) ℓ)

/-- The block of the rows' codes is the whole array, as loaded -/
theorem emb_0 (t : Fin cfg0.N) (y : S2560x6144.Idx) : ((cfg0.win 0).blk t).view.emb y = y :=
  funext fun a => Fin.ext (Pipeline.Window.rect_emb_val_of_index_zero (cfg0.win 0) t a (match a with
  | ⟨0, _⟩ => rfl
  | ⟨1, _⟩ => rfl) y)
/-- and as stored. -/
theorem emb_3 (t : Fin cfg0.N) (y : S2560x6144.Idx) : ((cfg0.win 3).blk t).view.emb y = y :=
  funext fun a => Fin.ext (Pipeline.Window.rect_emb_val_of_index_zero (cfg0.win 3) t a (match a with
  | ⟨0, _⟩ => rfl
  | ⟨1, _⟩ => rfl) y)

/-- The region leaves the rows' codes as floats. -/
theorem xs_eq (c : Dev nD) : xs m c = extf .f32 (m ((c : Thread nD τ).loc main_arg1) : Vec F S2560x6144 .fp8e4m3) bitsLt_fp8e4m3_f32 := by
  refine (dats m 0 c).arrAt_eq_of_cover 3 _ (fun t _ => funext fun (y : S2560x6144.Idx) => ?_) (fun i => ?_)
  · refine (congrFun (after0_3 m c t) y).trans ?_
    have ei : iblk m c 0 t = m ((c : Thread nD τ).loc main_arg1) := by
      rw [← V_main_arg1 m c]
      exact funext fun (z : S2560x6144.Idx) => congrArg (V m c main_arg1) (emb_0 t z)
    unfold out0_3 r0_0
    rw [View.canon_cons_unit_lit _ _ _ (by decide), View.ld_unit_lit _ _ (by decide), ei]
    exact congrArg (extf .f32 (m ((c : Thread nD τ).loc main_arg1) : Vec F S2560x6144 .fp8e4m3) bitsLt_fp8e4m3_f32) (emb_3 t y).symm
  · change S2560x6144.Idx at i
    have hN : 0 < cfg0.N := by decide
    exact ⟨⟨0, hN⟩, (by decide : (cfg0.win 3).flush ⟨0, by decide⟩ = true), emb_3 ⟨0, hN⟩ i ▸ View.emb_mem_set _ i⟩

/-- The block of the gate weights' codes is the whole array, as loaded -/
theorem emb_1 (t : Fin cfg0.N) (y : S8x6144x2048.Idx) : ((cfg0.win 1).blk t).view.emb y = y :=
  funext fun a => Fin.ext (Pipeline.Window.rect_emb_val_of_index_zero (cfg0.win 1) t a (match a with
  | ⟨0, _⟩ => rfl
  | ⟨1, _⟩ => rfl
  | ⟨2, _⟩ => rfl) y)
/-- and as stored. -/
theorem emb_4 (t : Fin cfg0.N) (y : S8x6144x2048.Idx) : ((cfg0.win 4).blk t).view.emb y = y :=
  funext fun a => Fin.ext (Pipeline.Window.rect_emb_val_of_index_zero (cfg0.win 4) t a (match a with
  | ⟨0, _⟩ => rfl
  | ⟨1, _⟩ => rfl
  | ⟨2, _⟩ => rfl) y)

/-- The region leaves the gate weights' codes as floats. -/
theorem gws_eq (c : Dev nD) : gws m c = extf .f32 (m ((c : Thread nD τ).loc main_arg3) : Vec F S8x6144x2048 .fp8e4m3) bitsLt_fp8e4m3_f32 := by
  refine (dats m 0 c).arrAt_eq_of_cover 4 _ (fun t _ => funext fun (y : S8x6144x2048.Idx) => ?_) (fun i => ?_)
  · refine (congrFun (after0_4 m c t) y).trans ?_
    have ei : iblk m c 1 t = m ((c : Thread nD τ).loc main_arg3) := by
      rw [← V_main_arg3 m c]
      exact funext fun (z : S8x6144x2048.Idx) => congrArg (V m c main_arg3) (emb_1 t z)
    unfold out0_4 r0_1
    rw [View.canon_cons_unit_lit _ _ _ (by decide), View.ld_unit_lit _ _ (by decide), ei]
    exact congrArg (extf .f32 (m ((c : Thread nD τ).loc main_arg3) : Vec F S8x6144x2048 .fp8e4m3) bitsLt_fp8e4m3_f32) (emb_4 t y).symm
  · change S8x6144x2048.Idx at i
    have hN : 0 < cfg0.N := by decide
    exact ⟨⟨0, hN⟩, (by decide : (cfg0.win 4).flush ⟨0, by decide⟩ = true), emb_4 ⟨0, hN⟩ i ▸ View.emb_mem_set _ i⟩

/-- The block of the up weights' codes is the whole array, as loaded -/
theorem emb_2 (t : Fin cfg0.N) (y : S8x6144x2048.Idx) : ((cfg0.win 2).blk t).view.emb y = y :=
  funext fun a => Fin.ext (Pipeline.Window.rect_emb_val_of_index_zero (cfg0.win 2) t a (match a with
  | ⟨0, _⟩ => rfl
  | ⟨1, _⟩ => rfl
  | ⟨2, _⟩ => rfl) y)
/-- and as stored. -/
theorem emb_5 (t : Fin cfg0.N) (y : S8x6144x2048.Idx) : ((cfg0.win 5).blk t).view.emb y = y :=
  funext fun a => Fin.ext (Pipeline.Window.rect_emb_val_of_index_zero (cfg0.win 5) t a (match a with
  | ⟨0, _⟩ => rfl
  | ⟨1, _⟩ => rfl
  | ⟨2, _⟩ => rfl) y)

/-- The region leaves the up weights' codes as floats. -/
theorem uws_eq (c : Dev nD) : uws m c = extf .f32 (m ((c : Thread nD τ).loc main_arg5) : Vec F S8x6144x2048 .fp8e4m3) bitsLt_fp8e4m3_f32 := by
  refine (dats m 0 c).arrAt_eq_of_cover 5 _ (fun t _ => funext fun (y : S8x6144x2048.Idx) => ?_) (fun i => ?_)
  · refine (congrFun (after0_5 m c t) y).trans ?_
    have ei : iblk m c 2 t = m ((c : Thread nD τ).loc main_arg5) := by
      rw [← V_main_arg5 m c]
      exact funext fun (z : S8x6144x2048.Idx) => congrArg (V m c main_arg5) (emb_2 t z)
    unfold out0_5 r0_1
    rw [View.canon_cons_unit_lit _ _ _ (by decide), View.ld_unit_lit _ _ (by decide), ei]
    exact congrArg (extf .f32 (m ((c : Thread nD τ).loc main_arg5) : Vec F S8x6144x2048 .fp8e4m3) bitsLt_fp8e4m3_f32) (emb_5 t y).symm
  · change S8x6144x2048.Idx at i
    have hN : 0 < cfg0.N := by decide
    exact ⟨⟨0, hN⟩, (by decide : (cfg0.win 5).flush ⟨0, by decide⟩ = true), emb_5 ⟨0, hN⟩ i ▸ View.emb_mem_set _ i⟩

/-- A row is an expert's exactly when it lies from the expert's first row to the end of its group. -/
theorem valid_apply (g : Vec F S8 .i32) (e : Fin 8) (t : Fin 2560) (h1 : (offs (F := F) g (ix1 e) : BitVec 32).toNat < 2 ^ 31)
    (h3 : (g (ix1 e) : BitVec 32).toInt ≤ 2560 - ((offs (F := F) g (ix1 e) : BitVec 32).toNat : Int)) :
    valid (F := F) (col (F := F) (offs (F := F) g)) (col (F := F) g) (ix2 (n0 := 8) (n1 := 2560) e t)
      = BitVec.ofBool (decide ((offs (F := F) g (ix1 e) : BitVec 32).toNat ≤ t.val
        ∧ (t.val : Int) < (offs (F := F) g (ix1 e) : BitVec 32).toNat + (g (ix1 e) : BitVec 32).toInt)) := by
  rw [← valid_wordG h1 h3 t]
  unfold valid col rows wide
  generalize offs (F := F) g = o
  pointwise

/-- One element of a projection. -/
theorem proj_apply (w : FVec Ideal S8x6144x2048 .f32) (x : FVec Ideal S2560x6144 .f32) (s : Vec Ideal S2560 .f32) (ws : Vec Ideal S8x2048 .f32)
    (e : Fin 8) (t : Fin 2560) (j : Fin 2048) :
    proj w x s ws (ix3 (n0 := 8) (n1 := 2560) (n2 := 2048) e t j)
      = ((∑ k : Fin 6144, x (ix2 t k) * w (ix3 e k j) : EReal) * s (ix1 t) * ws (ix2 e j) : EReal) := by
  unfold proj
  pointwise
  refine congrArg (fun z : EReal => (z * s (ix1 t) * ws (ix2 e j) : EReal)) (Finset.sum_congr rfl fun k _ => mul_comm _ _)

/-- One activation. -/
theorem act_apply (g u : FVec Ideal S8x2560x2048 .f32) (y : S8x2560x2048.Idx) :
    act g u y = (g y * FloatOps.logistic (F := Ideal) (φ := .f32) (g y) * u y : EReal) := by
  unfold act one
  pointwise
  rfl

/-- One element of the masked magnitudes. -/
theorem masked_apply (v : Vec Ideal S8x2560 .i1) (h : FVec Ideal S8x2560x2048 .f32) (e : Fin 8) (t : Fin 2560) (j : Fin 2048) :
    masked v h (ix3 (n0 := 8) (n1 := 2560) (n2 := 2048) e t j)
      = (Scalar.select (v (ix2 e t)) (FloatOps.absf (F := Ideal) (φ := .f32) (h (ix3 e t j))) 0 : EReal) := by
  unfold masked
  pointwise

/-- One mean. -/
theorem mean_apply (h : FVec Ideal S8x2560x2048 .f32) (g : Vec Ideal S8 .i32) (e : Fin 8) (j : Fin 2048) :
    mean h g (ix2 (n0 := 8) (n1 := 2048) e j)
      = (FloatOps.divf (F := Ideal) (φ := .f32) (∑ t : Fin 2560, h (ix3 e t j) : EReal)
        (FloatOps.sitofp (F := Ideal) .f32 (Scalar.maxsi (g (ix1 e)) 1#32)) : EReal) := by
  unfold mean
  pointwise
  rfl

section
variable (mI : (ℓ : Loc nD τ sig) → Buf (Elt Ideal) ℓ) (c : Dev nD)
variable (g : Vec Ideal S8 .i32) (x : Vec Ideal S2560x6144 .fp8e4m3) (s : Vec Ideal S2560 .f32) (gw : Vec Ideal S8x6144x2048 .fp8e4m3)
variable (gs : Vec Ideal S8x2048 .f32) (uw : Vec Ideal S8x6144x2048 .fp8e4m3) (us : Vec Ideal S8x2048 .f32)
variable (h0 : mI ((c : Thread nD τ).loc main_arg0) = g) (h1 : mI ((c : Thread nD τ).loc main_arg1) = x)
variable (h2 : mI ((c : Thread nD τ).loc main_arg2) = s) (h3 : mI ((c : Thread nD τ).loc main_arg3) = gw)
variable (h4 : mI ((c : Thread nD τ).loc main_arg4) = gs) (h5 : mI ((c : Thread nD τ).loc main_arg5) = uw)
variable (h6 : mI ((c : Thread nD τ).loc main_arg6) = us)

include h0 h1 h2 h3 h4 h5 h6 in
/-- The means, element by element. -/
theorem means_apply (e : Fin 8) (j : Fin 2048) (ho : (offs (F := Ideal) g (ix1 e) : BitVec 32).toNat < 2 ^ 31)
    (hg : (g (ix1 e) : BitVec 32).toInt ≤ 2560 - ((offs (F := Ideal) g (ix1 e) : BitVec 32).toNat : Int)) :
    W mI c main_v48 (ix2 (n0 := 8) (n1 := 2048) e j) = (FloatOps.divf (F := Ideal) (φ := .f32)
      (∑ t : Fin 2560, (if (offs (F := Ideal) g (ix1 e) : BitVec 32).toNat ≤ t.val
          ∧ (t.val : Int) < (offs (F := Ideal) g (ix1 e) : BitVec 32).toNat + (g (ix1 e) : BitVec 32).toInt
        then FloatOps.absf (F := Ideal) (φ := .f32)
          (((∑ k : Fin 6144, x (ix2 t k) * gw (ix3 e k j) : EReal) * s (ix1 t) * gs (ix2 e j))
            * FloatOps.logistic (F := Ideal) (φ := .f32) ((∑ k : Fin 6144, x (ix2 t k) * gw (ix3 e k j) : EReal) * s (ix1 t) * gs (ix2 e j) : EReal)
            * ((∑ k : Fin 6144, x (ix2 t k) * uw (ix3 e k j) : EReal) * s (ix1 t) * us (ix2 e j)) : EReal) else 0) : EReal)
      (FloatOps.sitofp (F := Ideal) .f32 (Scalar.maxsi (g (ix1 e)) 1#32)) : EReal) := by
  rw [W_v48, xs_eq, gws_eq, uws_eq, h0, h1, h2, h3, h4, h5, h6, mean_apply]
  refine congrArg (fun z : EReal => (FloatOps.divf (F := Ideal) (φ := .f32) z (FloatOps.sitofp (F := Ideal) .f32 (Scalar.maxsi (g (ix1 e)) 1#32)) : EReal))
    (Finset.sum_congr rfl fun t _ => ?_)
  rw [masked_apply, valid_apply g e t ho hg, select_ofBool, act_apply, proj_apply, proj_apply]
  rfl

end

end Cert.GateUpReferenceIdeal.Ref
-- ==== Proof.GateUpEquation.lean ====
module

public import proofs.«01_k».proof.Defs
public import proofs.«01_k».proof.Proof.GateUpIdeal.Values
public import proofs.«01_k».proof.Proof.GateUpRef.Ideal

/-! The gate and up kernel's means are its reference's: the same sums, element by element, and both programs' runs read off. -/

@[expose] public section

set_option maxRecDepth 16384

noncomputable section

namespace Cert.GateUpEquation
open Idealize.ShloMosaic Idealize.ShloMosaic.TcCoe Idealize.SL.Sem

section
variable (m : (ℓ : Loc Cert.GateUpIdeal.nD Cert.GateUpIdeal.τ Cert.GateUpIdeal.sig) → Buf (Elt Ideal) ℓ)
variable (m' : (ℓ : Loc Cert.GateUpReferenceIdeal.nD Cert.GateUpReferenceIdeal.τ Cert.GateUpReferenceIdeal.sig) → Buf (Elt Ideal) ℓ)
variable (c : Dev Cert.GateUpIdeal.nD)
variable (h0 : m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0))
variable (h1 : m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1))
variable (h2 : m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2))
variable (h3 : m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3))
variable (h4 : m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4))
variable (h5 : m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5))
variable (h6 : m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6))

include h0 h1 h2 h3 h4 h5 h6 in
/-- The means agree. -/
theorem mean_eq (hI : Cert.GateUpIdeal.Inside m) :
    (Cert.GateUpReferenceIdeal.Ref.W m' c Cert.GateUpReferenceIdeal.main_v48 : Vec Ideal Cert.GateUpIdeal.S8x2048 .f32) = Cert.GateUpIdeal.meanArr m hI c := by
  refine funext fun (y : Cert.GateUpIdeal.S8x2048.Idx) => ?_
  obtain ⟨e, j, rfl⟩ : ∃ (e : Fin 8) (j : Fin 2048), y = ix2 e j := ⟨y 0, y 1, funext fun a => by
    match a with
    | ⟨0, _⟩ => rfl
    | ⟨1, _⟩ => rfl⟩
  obtain rfl : c = 0 := Subsingleton.elim _ _
  obtain ⟨i, hw, Gb, Ub, he, hj, hW, ho, hg, hm⟩ := Cert.GateUpIdeal.meanArr_row m hI 0 _ _ _ _ _ _ _ rfl rfl rfl rfl rfl rfl rfl e j
    ⟨j.val % 256, Nat.mod_lt _ (by decide)⟩ rfl
  refine (Cert.GateUpReferenceIdeal.Ref.means_apply m' 0 _ _ _ _ _ _ _ h0 h1 h2 h3 h4 h5 h6 e j ho hg).trans ?_
  refine Eq.trans ?_ (hm.trans (Cert.GateUpIdeal.meanRow_apply _ _ _ _ _ _ _ _ _ _ e j _ i hw he hj hW ho hg)).symm
  rfl

end

open Cert.GateUpIdeal in
/-- The kernel run: its means and its arguments. -/
theorem kernel_run (m : (ℓ : Loc nD τ sig) → Buf (Elt Ideal) ℓ) (g : Dev nD → PrngReg) (hI : Inside m) :
    θ_run (defs (F := Ideal)) (onTc (τ := τ) (main (F := Ideal))) ⟨m, fun _ => 0, g⟩ (fun r => ∀ c : Dev nD,
      r.2.mem ((c.tc : Thread nD τ).loc main_v12_2) = meanArr m hI c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨res_mean m hI r h.1.1 c, h.2.1 c⟩) (θ_run_and (run_main m g hI) (frame m g hI))

open Cert.GateUpReferenceIdeal in
/-- The reference run: what its lines leave in the means, and its arguments. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v48) = Ref.W m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).2 main_v48 (Pipeline.mem_restRefs_of main_v48 (by decide) (by decide)), h.2 c⟩)
    (θ_run_and (Gen.run_main m g) (Gen.unchanged m g))

/-- THE VALUE CLAIM: from equal arguments whose groups lie inside the rows the kernel and the reference leave equal means. -/
theorem algebraic [hP : Cert.Pre_groups_inside.Facts] :
    Cert.algebraic_GateUpIdeal_GateUpReferenceIdeal (hGateUpIdeal := Cert.GateUpIdeal.Gen.facts) (hGateUpReferenceIdeal := Cert.GateUpReferenceIdeal.Gen.facts) :=
  fun m g m' g' hp h =>
    have hI : Cert.GateUpIdeal.Inside m := Cert.GateUpIdeal.inside_of_pre m (hp 0)
    ⟨fun c => Cert.GateUpIdeal.meanArr m hI c, kernel_run m g hI,
     (θ_run _ _ _).mono (fun r hr c =>
      ⟨(hr c).1.trans (mean_eq m m' c (h c).1 (h c).2.1 (h c).2.2.1 (h c).2.2.2.1 (h c).2.2.2.2.1 (h c).2.2.2.2.2.1 (h c).2.2.2.2.2.2 hI), (hr c).2⟩) (reference_run m' g')⟩

end Cert.GateUpEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Loops
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Loops
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.Pre_offsets_nonneg
public import proofs.«01_k».proof.Proof.Gen.GateUp
public import proofs.«01_k».proof.Proof.Gen.GateUp.Skeleton
public import proofs.«01_k».proof.Proof.Gen.GateUp.Launch
public import proofs.«01_k».proof.Proof.Gen.GateUp.Loops
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Loops
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.Pre_groups_inside
public import proofs.«01_k».proof.Proof.Frames
public import proofs.«01_k».proof.Proof.HinIdeal.Launch
public import proofs.«01_k».proof.Proof.Equation
public import proofs.«01_k».proof.Proof.DownEquation
public import proofs.«01_k».proof.Proof.GateUpEquation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.GateUp.Gen.facts, Cert.GateUpIdeal.Gen.facts, Cert.GateUpReferenceIdeal.Gen.facts, Cert.Pre_offsets_nonneg.Gen.facts, Cert.Pre_groups_inside.Gen.facts,
  Cert.Frames.hin, fun m ρ _ => Cert.KernelIdeal.Hin.frame m ρ, fun m ρ _ => Cert.ReferenceIdeal.Gen.frame m ρ,
  Cert.Frames.down,
  fun m ρ h => Cert.DownIdeal.Gen.frame m ρ (Cert.DownIdeal.ok m) (Cert.DownIdeal.hyps (Cert.DownIdeal.nonneg_of_pre (h 0))),
  fun m ρ _ => Cert.DownReferenceIdeal.Gen.frame m ρ, fun m ρ _ => Cert.DownReferenceIdeal.Gen.frame m ρ,
  Cert.Frames.gateUp,
  fun m ρ h => Cert.GateUpIdeal.frame m ρ (Cert.GateUpIdeal.inside_of_pre m (h 0)),
  fun m ρ _ => Cert.GateUpReferenceIdeal.Gen.frame m ρ, fun m ρ _ => Cert.GateUpReferenceIdeal.Gen.frame m ρ,
  trivial, Cert.Equation.algebraic, trivial, Cert.DownEquation.algebraic, trivial, Cert.GateUpEquation.algebraic⟩

end Cert.Proof

end
